-- ==== Defs.lean ====
def Pre_Kernel [hPre_group_sizes_fit : Cert.Pre_group_sizes_fit.Facts] (m : (ℓ : Loc Cert.Kernel.nD Cert.Kernel.τ Cert.Kernel.sig) → Buf (Elt Bits) ℓ) : Prop :=
  ∀ c : Dev Cert.Kernel.nD,
    (Cert.Pre_group_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_group_sizes_fit : Cert.Pre_group_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_group_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_group_sizes_fit_and_finite [hPre_group_sizes_fit_and_finite : Cert.Pre_group_sizes_fit_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_group_sizes_fit_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_group_sizes_fit_and_finite [hPre_group_sizes_fit_and_finite : Cert.Pre_group_sizes_fit_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_group_sizes_fit_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_group_sizes_fit : Cert.Pre_group_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_group_sizes_fit : Cert.Pre_group_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_group_sizes_fit_and_finite [hKernelIdeal : Cert.KernelIdeal.Facts] [hPre_group_sizes_fit_and_finite : Cert.Pre_group_sizes_fit_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_group_sizes_fit_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_group_sizes_fit_and_finite [hReferenceIdeal : Cert.ReferenceIdeal.Facts] [hPre_group_sizes_fit_and_finite : Cert.Pre_group_sizes_fit_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_group_sizes_fit_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_group_sizes_fit_and_finite [hKernelIdeal : Cert.KernelIdeal.Facts] [hReferenceIdeal : Cert.ReferenceIdeal.Facts] [hPre_group_sizes_fit_and_finite : Cert.Pre_group_sizes_fit_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_group_sizes_fit_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_group_sizes_fit : Cert.Pre_group_sizes_fit.Facts) (hPre_group_sizes_fit_and_finite : Cert.Pre_group_sizes_fit_and_finite.Facts),
    quiescent_Kernel (hKernel := hKernel) (hPre_group_sizes_fit := hPre_group_sizes_fit)
    ∧ quiescent_KernelIdeal (hKernelIdeal := hKernelIdeal) (hPre_group_sizes_fit := hPre_group_sizes_fit)
    ∧ quiescent_KernelIdeal_pre_group_sizes_fit_and_finite (hKernelIdeal := hKernelIdeal) (hPre_group_sizes_fit_and_finite := hPre_group_sizes_fit_and_finite)
    ∧ quiescent_ReferenceIdeal (hReferenceIdeal := hReferenceIdeal)
    ∧ quiescent_ReferenceIdeal_pre_group_sizes_fit_and_finite (hReferenceIdeal := hReferenceIdeal) (hPre_group_sizes_fit_and_finite := hPre_group_sizes_fit_and_finite)
    ∧ preserves_Kernel_KernelIdeal
    ∧ algebraic_KernelIdeal_ReferenceIdeal_pre_group_sizes_fit_and_finite (hKernelIdeal := hKernelIdeal) (hReferenceIdeal := hReferenceIdeal) (hPre_group_sizes_fit_and_finite := hPre_group_sizes_fit_and_finite)
-- ==== Pre_group_sizes_fit.lean ====
abbrev S512x2816 : Shape := ⟨2, ![512, 2816]⟩
abbrev S32 : Shape := ⟨1, ![32]⟩
abbrev S32x1408x2816 : Shape := ⟨3, ![32, 1408, 2816]⟩
abbrev S32x22x2816 : Shape := ⟨3, ![32, 22, 2816]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S512x2816 .bf16) (main_arg1 : IVec S32 32) (main_arg2 : IVec S32x1408x2816 8) (main_arg3 : FVec F S32x22x2816 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 512#32
  let main_v3 : IVec S32 32 := broadcastInDim S32 ![] bcast_S_S32 main_c_1
  let main_v4 : IVec S32 1 := cmpi .sle main_arg1 main_v3
  let main_c_2 : IVec S_ 1 := constantI S_ 1 1#1
  let main_v5 : IVec S_ 1 := (fun x v => Host.reduce IntOp.andi x v reducesTo_S32_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S32_S_d0 h_S_) main_arg1 main_c_3
  let main_c_4 : IVec S_ 32 := constantI S_ 32 512#32
  let main_v8 : IVec S_ 1 := cmpi .sle main_v7 main_c_4
  let main_v9 : IVec S_ 1 := andi main_v6 main_v8
  main_v9
-- ==== Pre_group_sizes_fit_and_finite.lean ====
abbrev S512x2816 : Shape := ⟨2, ![512, 2816]⟩
abbrev S32 : Shape := ⟨1, ![32]⟩
abbrev S32x1408x2816 : Shape := ⟨3, ![32, 1408, 2816]⟩
abbrev S32x22x2816 : Shape := ⟨3, ![32, 22, 2816]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bitsLt_bf16_f32 : FTy.bits .bf16 < FTy.bits .f32
  bcast_S_S512x2816 : S_.BroadcastsInDim S512x2816 (![] : Fin 0 → Fin S512x2816.rank)
  reducesTo_S512x2816_S_d0_1 : S512x2816.ReducesTo [0, 1] S_

variable [Facts]

def fn {F : FTy → Type} [FloatOps F] (main_arg0 : FVec F S512x2816 .bf16) (main_arg1 : IVec S32 32) (main_arg2 : IVec S32x1408x2816 8) (main_arg3 : FVec F S32x22x2816 .f32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 512#32
  let main_v3 : IVec S32 32 := broadcastInDim S32 ![] bcast_S_S32 main_c_1
  let main_v4 : IVec S32 1 := cmpi .sle main_arg1 main_v3
  let main_c_2 : IVec S_ 1 := constantI S_ 1 1#1
  let main_v5 : IVec S_ 1 := (fun x v => Host.reduce IntOp.andi x v reducesTo_S32_S_d0 h_S_) main_v4 main_c_2
  let main_v6 : FVec F S512x2816 .f32 := (extf .f32 · bitsLt_bf16_f32) main_arg0
  let main_v7 : FVec F S512x2816 .f32 := Host.absf main_v6
  let main_cst : FVec F S_ .f32 := constant S_ .f32 0x7F7F0000#32
  let main_v8 : FVec F S512x2816 .f32 := broadcastInDim S512x2816 ![] bcast_S_S512x2816 main_cst
  let main_v9 : IVec S512x2816 1 := cmpf .ole main_v7 main_v8
  let main_c_3 : IVec S_ 1 := constantI S_ 1 1#1
  let main_v10 : IVec S_ 1 := (fun x v => Host.reduce IntOp.andi x v reducesTo_S512x2816_S_d0_1 h_S_) main_v9 main_c_3
  let main_v11 : IVec S_ 1 := andi main_v2 main_v5
  let main_c_4 : IVec S_ 32 := constantI S_ 32 0#32
  let main_v12 : IVec S_ 32 := (fun x v => Host.reduce IntOp.addi x v reducesTo_S32_S_d0 h_S_) main_arg1 main_c_4
  let main_c_5 : IVec S_ 32 := constantI S_ 32 512#32
  let main_v13 : IVec S_ 1 := cmpi .eq main_v12 main_c_5
  let main_v14 : IVec S_ 1 := andi main_v11 main_v13
  let main_v15 : IVec S_ 1 := andi main_v14 main_v10
  main_v15
-- ==== Kernel.lean ====
abbrev S512x2816 : Shape := ⟨2, ![512, 2816]⟩
abbrev S32 : Shape := ⟨1, ![32]⟩
abbrev S32x1408x2816 : Shape := ⟨3, ![32, 1408, 2816]⟩
abbrev S32x22x2816 : Shape := ⟨3, ![32, 22, 2816]⟩
abbrev S1024x2816 : Shape := ⟨2, ![1024, 2816]⟩
abbrev S3x1408x2816 : Shape := ⟨3, ![3, 1408, 2816]⟩
abbrev S3x22x2816 : Shape := ⟨3, ![3, 22, 2816]⟩
abbrev S33 : Shape := ⟨1, ![33]⟩
abbrev S_ : Shape := ⟨0, ![]⟩
abbrev S3 : Shape := ⟨1, ![3]⟩
abbrev S1 : Shape := ⟨1, ![1]⟩
abbrev S1x1408x2816 : Shape := ⟨3, ![1, 1408, 2816]⟩
abbrev S1408x2816 : Shape := ⟨2, ![1408, 2816]⟩
abbrev S1x22x2816 : Shape := ⟨3, ![1, 22, 2816]⟩
abbrev S22x2816 : Shape := ⟨2, ![22, 2816]⟩
abbrev S16x2816 : Shape := ⟨2, ![16, 2816]⟩
abbrev S16x128 : Shape := ⟨2, ![16, 128]⟩
abbrev S16 : Shape := ⟨1, ![16]⟩
abbrev S16x1 : Shape := ⟨2, ![16, 1]⟩
abbrev S1x128x256 : Shape := ⟨3, ![1, 128, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x256 : Shape := ⟨3, ![1, 1, 256]⟩
abbrev S1x256 : Shape := ⟨2, ![1, 256]⟩
abbrev S16x256 : Shape := ⟨2, ![16, 256]⟩
abbrev S8x16x256 : Shape := ⟨3, ![8, 16, 256]⟩
abbrev S1x16x256 : Shape := ⟨3, ![1, 16, 256]⟩
abbrev S32x256 : Shape := ⟨2, ![32, 256]⟩

abbrev nBuf : Space → Nat
  | .hbm => 5
  | .vmem => 5
  | .smem => 3
  | _ => 0

abbrev bufTy : (tb : Table) → Fin (tcTables nBuf tb) → BufTy
  | .hbm, ⟨0, _⟩ => ⟨S512x2816, .bf16⟩
  | .hbm, ⟨1, _⟩ => ⟨S32, .i32⟩
  | .hbm, ⟨2, _⟩ => ⟨S32x1408x2816, .i8⟩
  | .hbm, ⟨3, _⟩ => ⟨S32x22x2816, .f32⟩
  | .hbm, ⟨4, _⟩ => ⟨S512x2816, .bf16⟩
  | .local _ .vmem, ⟨0, _⟩ => ⟨S512x2816, .bf16⟩
  | .local _ .vmem, ⟨1, _⟩ => ⟨S1024x2816, .bf16⟩
  | .local _ .vmem, ⟨2, _⟩ => ⟨S1024x2816, .bf16⟩
  | .local _ .vmem, ⟨3, _⟩ => ⟨S3x1408x2816, .i8⟩
  | .local _ .vmem, ⟨4, _⟩ => ⟨S3x22x2816, .f32⟩
  | .local _ .smem, ⟨0, _⟩ => ⟨S32, .i32⟩
  | .local _ .smem, ⟨1, _⟩ => ⟨S33, .i32⟩
  | .local _ .smem, ⟨2, _⟩ => ⟨S33, .i32⟩
  | _, _ => ⟨S512x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_scratch5 : Ref sig .tc := ⟨.smem, 1, rfl⟩
abbrev cc0_scratch6 : Ref sig .tc := ⟨.smem, 2, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_1_r0 : BitVec 32 := 0#32
  let c32_i32_r0 : BitVec 32 := 32#32
  let v0_r0 : BitVec 32 := Scalar.addi c0_i32_1_r0 c32_i32_r0
  let c1_i32_r0 : BitVec 32 := 1#32
  ⟨c0_i32_1_r0, v0_r0, c1_i32_r0⟩
def k0_off1 (k0_t1 : Fin k0_t1_loop.trips) : Fin 1 → Nat :=
  let c0_i32_1_r0 : BitVec 32 := 0#32
  let c1_i32_r0 : BitVec 32 := 1#32
  let arg16_r0 : BitVec 32 := Scf.iv c0_i32_1_r0 c1_i32_r0 k0_t1
  let v28_r0 : Index := Scalar.indexCast arg16_r0
  ![v28_r0.toNat]
def k0_off2 (arg17_r0 : BitVec 32) : Fin 1 → Nat :=
  let v40_r0 : Index := Scalar.indexCast arg17_r0
  ![v40_r0.toNat]
def k0_cond1 (v29_r0 : BitVec 32) : BitVec 1 :=
  let c0_i32_30_r0 : BitVec 32 := 0#32
  let v30_r0 : BitVec 1 := Scalar.cmpi .sgt v29_r0 c0_i32_30_r0
  let v31_r0 : BitVec 32 := Scalar.extui v30_r0
  let c0_i32_31_r0 : BitVec 32 := 0#32
  let v32_r0 : BitVec 1 := Scalar.cmpi .ne v31_r0 c0_i32_31_r0
  v32_r0

def k0_off3 (arg17_r0 : BitVec 32) (v29_r0 : BitVec 32) : Fin 1 → Nat :=
  let c0_i32_32_r0 : BitVec 32 := 0#32
  let v33_r0 : BitVec 1 := Scalar.cmpi .sgt v29_r0 c0_i32_32_r0
  let v34_r0 : BitVec 32 := Scalar.extui v33_r0
  let v35_r0 : BitVec 32 := Scalar.addi arg17_r0 v34_r0
  let v37_r0 : Index := Scalar.indexCast v35_r0
  ![v37_r0.toNat]

def k0_chk1 (arg17_r0 : BitVec 32) (v29_r0 : BitVec 32) : Prop :=
  (∀ (k0_h1 : k0_cond1 v29_r0 = 1#1), ∀ a, (k0_off2 arg17_r0) a + S1.size a ≤ S33.size a) ∧
  (∀ a, (k0_off3 arg17_r0 v29_r0) a + S1.size a ≤ S33.size a)
theorem k0_off2_inb : ∀ (arg17_r0 : BitVec 32) (v29_r0 : BitVec 32) (k0_hw1 : k0_chk1 arg17_r0 v29_r0), ∀ (k0_h1 : k0_cond1 v29_r0 = 1#1), ∀ a, (k0_off2 arg17_r0) a + S1.size a ≤ S33.size a := fun arg17_r0 v29_r0 k0_hw1 k0_h1 => k0_hw1.1 k0_h1
theorem k0_off3_inb : ∀ (arg17_r0 : BitVec 32) (v29_r0 : BitVec 32) (k0_hw1 : k0_chk1 arg17_r0 v29_r0), ∀ a, (k0_off3 arg17_r0 v29_r0) a + S1.size a ≤ S33.size a := fun arg17_r0 v29_r0 k0_hw1 => k0_hw1.2

def k0_off4 : Fin 1 → Nat :=
  let c0_i32_4_r0 : BitVec 32 := 0#32
  let c3_i32_r0 : BitVec 32 := 3#32
  let v28_r0 : BitVec 32 := Scalar.remsi c0_i32_4_r0 c3_i32_r0
  ![v28_r0.toNat]
def k0_off5 : Fin 3 → Nat :=
  let c0_i32_4_r0 : BitVec 32 := 0#32
  let c3_i32_r0 : BitVec 32 := 3#32
  let v28_r0 : BitVec 32 := Scalar.remsi c0_i32_4_r0 c3_i32_r0
  let c0_i32_30_r0 : BitVec 32 := 0#32
  let c0_i32_31_r0 : BitVec 32 := 0#32
  ![v28_r0.toNat, 0, 0]
def k0_off6 (v30_r0 : BitVec 32) : Fin 3 → Nat :=
  let c0_i32_32_r0 : BitVec 32 := 0#32
  let c0_i32_33_r0 : BitVec 32 := 0#32
  ![v30_r0.toNat, 0, 0]
def k0_cond2 (v1_0_r0 : BitVec 32) : BitVec 1 :=
  let c0_i32_3_r0 : BitVec 32 := 0#32
  let v2_r0 : BitVec 1 := Scalar.cmpi .slt c0_i32_3_r0 v1_0_r0
  let v3_r0 : BitVec 32 := Scalar.extui v2_r0
  let c0_i32_5_r0 : BitVec 32 := 0#32
  let v4_r0 : BitVec 1 := Scalar.cmpi .ne v3_r0 c0_i32_5_r0
  v4_r0

def k0_off7 : Fin 1 → Nat :=
  let c0_i32_4_r0 : BitVec 32 := 0#32
  let c3_i32_r0 : BitVec 32 := 3#32
  let v28_r0 : BitVec 32 := Scalar.remsi c0_i32_4_r0 c3_i32_r0
  ![v28_r0.toNat]
def k0_off8 : Fin 3 → Nat :=
  let c0_i32_4_r0 : BitVec 32 := 0#32
  let c3_i32_r0 : BitVec 32 := 3#32
  let v28_r0 : BitVec 32 := Scalar.remsi c0_i32_4_r0 c3_i32_r0
  let c0_i32_34_r0 : BitVec 32 := 0#32
  let c0_i32_35_r0 : BitVec 32 := 0#32
  ![v28_r0.toNat, 0, 0]
def k0_off9 (v30_r0 : BitVec 32) : Fin 3 → Nat :=
  let c0_i32_36_r0 : BitVec 32 := 0#32
  let c0_i32_37_r0 : BitVec 32 := 0#32
  ![v30_r0.toNat, 0, 0]

def k0_chk2 (v1_0_r0 : BitVec 32) (v30_r0 : BitVec 32) : Prop :=
  (∀ (k0_h2 : k0_cond2 v1_0_r0 = 1#1), ∀ a, (k0_off6 v30_r0) a + S1x1408x2816.size a ≤ S32x1408x2816.size a) ∧
  (∀ (k0_h2 : k0_cond2 v1_0_r0 = 1#1), ∀ (hinb : ∀ a, (k0_off6 v30_r0) a + S1x1408x2816.size a ≤ S32x1408x2816.size a), (Rect.unit (s := S32x1408x2816) (k0_off6 v30_r0) S1x1408x2816.size hinb).WholeWords (EltTy.packing .i8)) ∧
  (∀ (k0_h2 : k0_cond2 v1_0_r0 = 1#1), ∀ a, (k0_off9 v30_r0) a + S1x22x2816.size a ≤ S32x22x2816.size a)
theorem k0_off6_inb : ∀ (v1_0_r0 : BitVec 32) (v30_r0 : BitVec 32) (k0_hw2 : k0_chk2 v1_0_r0 v30_r0), ∀ (k0_h2 : k0_cond2 v1_0_r0 = 1#1), ∀ a, (k0_off6 v30_r0) a + S1x1408x2816.size a ≤ S32x1408x2816.size a := fun v1_0_r0 v30_r0 k0_hw2 k0_h2 => k0_hw2.1 k0_h2
theorem k0_off6_wordsi8 : ∀ (v1_0_r0 : BitVec 32) (v30_r0 : BitVec 32) (k0_hw2 : k0_chk2 v1_0_r0 v30_r0), ∀ (k0_h2 : k0_cond2 v1_0_r0 = 1#1), (Rect.unit (s := S32x1408x2816) (k0_off6 v30_r0) S1x1408x2816.size (k0_off6_inb v1_0_r0 v30_r0 k0_hw2 k0_h2)).WholeWords (EltTy.packing .i8) := fun v1_0_r0 v30_r0 k0_hw2 k0_h2 => k0_hw2.2.1 k0_h2 (k0_off6_inb v1_0_r0 v30_r0 k0_hw2 k0_h2)
theorem k0_off9_inb : ∀ (v1_0_r0 : BitVec 32) (v30_r0 : BitVec 32) (k0_hw2 : k0_chk2 v1_0_r0 v30_r0), ∀ (k0_h2 : k0_cond2 v1_0_r0 = 1#1), ∀ a, (k0_off9 v30_r0) a + S1x22x2816.size a ≤ S32x22x2816.size a := fun v1_0_r0 v30_r0 k0_hw2 k0_h2 => k0_hw2.2.2 k0_h2

def k0_off10 : Fin 1 → Nat :=
  let c1_i32_7_r0 : BitVec 32 := 1#32
  let c3_i32_r0 : BitVec 32 := 3#32
  let v28_r0 : BitVec 32 := Scalar.remsi c1_i32_7_r0 c3_i32_r0
  ![v28_r0.toNat]
def k0_off11 : Fin 3 → Nat :=
  let c1_i32_7_r0 : BitVec 32 := 1#32
  let c3_i32_r0 : BitVec 32 := 3#32
  let v28_r0 : BitVec 32 := Scalar.remsi c1_i32_7_r0 c3_i32_r0
  let c0_i32_30_r0 : BitVec 32 := 0#32
  let c0_i32_31_r0 : BitVec 32 := 0#32
  ![v28_r0.toNat, 0, 0]
def k0_off12 (v30_r0 : BitVec 32) : Fin 3 → Nat :=
  let c0_i32_32_r0 : BitVec 32 := 0#32
  let c0_i32_33_r0 : BitVec 32 := 0#32
  ![v30_r0.toNat, 0, 0]
def k0_cond3 (v1_0_r0 : BitVec 32) : BitVec 1 :=
  let c1_i32_6_r0 : BitVec 32 := 1#32
  let v5_r0 : BitVec 1 := Scalar.cmpi .slt c1_i32_6_r0 v1_0_r0
  let v6_r0 : BitVec 32 := Scalar.extui v5_r0
  let c0_i32_8_r0 : BitVec 32 := 0#32
  let v7_r0 : BitVec 1 := Scalar.cmpi .ne v6_r0 c0_i32_8_r0
  v7_r0

def k0_off13 : Fin 1 → Nat :=
  let c1_i32_7_r0 : BitVec 32 := 1#32
  let c3_i32_r0 : BitVec 32 := 3#32
  let v28_r0 : BitVec 32 := Scalar.remsi c1_i32_7_r0 c3_i32_r0
  ![v28_r0.toNat]
def k0_off14 : Fin 3 → Nat :=
  let c1_i32_7_r0 : BitVec 32 := 1#32
  let c3_i32_r0 : BitVec 32 := 3#32
  let v28_r0 : BitVec 32 := Scalar.remsi c1_i32_7_r0 c3_i32_r0
  let c0_i32_34_r0 : BitVec 32 := 0#32
  let c0_i32_35_r0 : BitVec 32 := 0#32
  ![v28_r0.toNat, 0, 0]
def k0_off15 (v30_r0 : BitVec 32) : Fin 3 → Nat :=
  let c0_i32_36_r0 : BitVec 32 := 0#32
  let c0_i32_37_r0 : BitVec 32 := 0#32
  ![v30_r0.toNat, 0, 0]

def k0_chk3 (v1_0_r0 : BitVec 32) (v30_r0 : BitVec 32) : Prop :=
  (∀ (k0_h3 : k0_cond3 v1_0_r0 = 1#1), ∀ a, (k0_off12 v30_r0) a + S1x1408x2816.size a ≤ S32x1408x2816.size a) ∧
  (∀ (k0_h3 : k0_cond3 v1_0_r0 = 1#1), ∀ (hinb : ∀ a, (k0_off12 v30_r0) a + S1x1408x2816.size a ≤ S32x1408x2816.size a), (Rect.unit (s := S32x1408x2816) (k0_off12 v30_r0) S1x1408x2816.size hinb).WholeWords (EltTy.packing .i8)) ∧
  (∀ (k0_h3 : k0_cond3 v1_0_r0 = 1#1), ∀ a, (k0_off15 v30_r0) a + S1x22x2816.size a ≤ S32x22x2816.size a)
theorem k0_off12_inb : ∀ (v1_0_r0 : BitVec 32) (v30_r0 : BitVec 32) (k0_hw3 : k0_chk3 v1_0_r0 v30_r0), ∀ (k0_h3 : k0_cond3 v1_0_r0 = 1#1), ∀ a, (k0_off12 v30_r0) a + S1x1408x2816.size a ≤ S32x1408x2816.size a := fun v1_0_r0 v30_r0 k0_hw3 k0_h3 => k0_hw3.1 k0_h3
theorem k0_off12_wordsi8 : ∀ (v1_0_r0 : BitVec 32) (v30_r0 : BitVec 32) (k0_hw3 : k0_chk3 v1_0_r0 v30_r0), ∀ (k0_h3 : k0_cond3 v1_0_r0 = 1#1), (Rect.unit (s := S32x1408x2816) (k0_off12 v30_r0) S1x1408x2816.size (k0_off12_inb v1_0_r0 v30_r0 k0_hw3 k0_h3)).WholeWords (EltTy.packing .i8) := fun v1_0_r0 v30_r0 k0_hw3 k0_h3 => k0_hw3.2.1 k0_h3 (k0_off12_inb v1_0_r0 v30_r0 k0_hw3 k0_h3)
theorem k0_off15_inb : ∀ (v1_0_r0 : BitVec 32) (v30_r0 : BitVec 32) (k0_hw3 : k0_chk3 v1_0_r0 v30_r0), ∀ (k0_h3 : k0_cond3 v1_0_r0 = 1#1), ∀ a, (k0_off15 v30_r0) a + S1x22x2816.size a ≤ S32x22x2816.size a := fun v1_0_r0 v30_r0 k0_hw3 k0_h3 => k0_hw3.2.2 k0_h3

@[reducible] def k0_t2_loop : Scf.Loop 32 :=
  let c0_i32_9_r0 : BitVec 32 := 0#32
  let c32_i32_10_r0 : BitVec 32 := 32#32
  let v8_r0 : BitVec 32 := Scalar.addi c0_i32_9_r0 c32_i32_10_r0
  let c1_i32_11_r0 : BitVec 32 := 1#32
  ⟨c0_i32_9_r0, v8_r0, c1_i32_11_r0⟩
def k0_mult1 (k0_t2 : Fin k0_t2_loop.trips) : BitVec 32 :=
  let c0_i32_31_r0 : BitVec 32 := 0#32
  let c0_i32_9_r0 : BitVec 32 := 0#32
  let c1_i32_11_r0 : BitVec 32 := 1#32
  let arg16_r0 : BitVec 32 := Scf.iv c0_i32_9_r0 c1_i32_11_r0 k0_t2
  let c1_i32_30_r0 : BitVec 32 := 1#32
  let v28_r0 : BitVec 32 := Scalar.muli arg16_r0 c1_i32_30_r0
  let v29_r0 : BitVec 32 := Scalar.addi c0_i32_31_r0 v28_r0
  let c16_i32_r0 : BitVec 32 := 16#32
  let v30_r0 : BitVec 32 := Scalar.muli v29_r0 c16_i32_r0
  v30_r0
def k0_off16 (k0_t2 : Fin k0_t2_loop.trips) : Fin 2 → Nat :=
  let c0_i32_31_r0 : BitVec 32 := 0#32
  let c0_i32_9_r0 : BitVec 32 := 0#32
  let c1_i32_11_r0 : BitVec 32 := 1#32
  let arg16_r0 : BitVec 32 := Scf.iv c0_i32_9_r0 c1_i32_11_r0 k0_t2
  let c1_i32_30_r0 : BitVec 32 := 1#32
  let v28_r0 : BitVec 32 := Scalar.muli arg16_r0 c1_i32_30_r0
  let v29_r0 : BitVec 32 := Scalar.addi c0_i32_31_r0 v28_r0
  let c16_i32_r0 : BitVec 32 := 16#32
  let v30_r0 : BitVec 32 := Scalar.muli v29_r0 c16_i32_r0
  let v31_r0 : BitVec 32 := v30_r0
  let v32_r0 : Index := Scalar.indexCast v31_r0
  let c0_32_r0 : Index := 0#32
  ![v32_r0.toNat, 0]
def k0_off17 (k0_t2 : Fin k0_t2_loop.trips) : Fin 2 → Nat :=
  let c0_i32_31_r0 : BitVec 32 := 0#32
  let c0_i32_9_r0 : BitVec 32 := 0#32
  let c1_i32_11_r0 : BitVec 32 := 1#32
  let arg16_r0 : BitVec 32 := Scf.iv c0_i32_9_r0 c1_i32_11_r0 k0_t2
  let c1_i32_30_r0 : BitVec 32 := 1#32
  let v28_r0 : BitVec 32 := Scalar.muli arg16_r0 c1_i32_30_r0
  let v29_r0 : BitVec 32 := Scalar.addi c0_i32_31_r0 v28_r0
  let c16_i32_r0 : BitVec 32 := 16#32
  let v30_r0 : BitVec 32 := Scalar.muli v29_r0 c16_i32_r0
  let v31_r0 : BitVec 32 := v30_r0
  let v1069_r0 : Index := Scalar.indexCast v31_r0
  let c0_360_r0 : Index := 0#32
  ![v1069_r0.toNat, 0]
@[reducible] def k0_t3_loop (v1_0_r0 : BitVec 32) : Scf.Loop 32 :=
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_24_r0 : BitVec 32 := 1#32
  ⟨c0_i32_22_r0, v25_r0, c1_i32_24_r0⟩

def k0_off18 (v1_0_r0 : BitVec 32) (k0_t3 : Fin (k0_t3_loop v1_0_r0).trips) : Fin 1 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let v32_r0 : Index := Scalar.indexCast v29_r0
  ![v32_r0.toNat]
def k0_off19 (v1_0_r0 : BitVec 32) (k0_t3 : Fin (k0_t3_loop v1_0_r0).trips) : Fin 1 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_30_r0 : BitVec 32 := 3#32
  let v31_r0 : BitVec 32 := Scalar.remsi v29_r0 c3_i32_30_r0
  ![v31_r0.toNat]
def k0_off20 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_30_r0 : BitVec 32 := 3#32
  let v31_r0 : BitVec 32 := Scalar.remsi v29_r0 c3_i32_30_r0
  let c0_i32_31_r0 : BitVec 32 := 0#32
  let c0_i32_32_r0 : BitVec 32 := 0#32
  ![v31_r0.toNat, 0, 0]
def k0_off21 (v33_r0 : BitVec 32) : Fin 3 → Nat :=
  let c0_i32_33_r0 : BitVec 32 := 0#32
  let c0_i32_34_r0 : BitVec 32 := 0#32
  ![v33_r0.toNat, 0, 0]

def k0_off22 (v1_0_r0 : BitVec 32) (k0_t3 : Fin (k0_t3_loop v1_0_r0).trips) : Fin 1 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_30_r0 : BitVec 32 := 3#32
  let v31_r0 : BitVec 32 := Scalar.remsi v29_r0 c3_i32_30_r0
  ![v31_r0.toNat]
def k0_off23 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_30_r0 : BitVec 32 := 3#32
  let v31_r0 : BitVec 32 := Scalar.remsi v29_r0 c3_i32_30_r0
  let c0_i32_35_r0 : BitVec 32 := 0#32
  let c0_i32_36_r0 : BitVec 32 := 0#32
  ![v31_r0.toNat, 0, 0]
def k0_off24 (v33_r0 : BitVec 32) : Fin 3 → Nat :=
  let c0_i32_37_r0 : BitVec 32 := 0#32
  let c0_i32_38_r0 : BitVec 32 := 0#32
  ![v33_r0.toNat, 0, 0]

def k0_chk5 (v33_r0 : BitVec 32) : Prop :=
  (∀ a, (k0_off21 v33_r0) a + S1x1408x2816.size a ≤ S32x1408x2816.size a) ∧
  (∀ (hinb : ∀ a, (k0_off21 v33_r0) a + S1x1408x2816.size a ≤ S32x1408x2816.size a), (Rect.unit (s := S32x1408x2816) (k0_off21 v33_r0) S1x1408x2816.size hinb).WholeWords (EltTy.packing .i8)) ∧
  (∀ a, (k0_off24 v33_r0) a + S1x22x2816.size a ≤ S32x22x2816.size a)
theorem k0_off21_inb : ∀ (v33_r0 : BitVec 32) (k0_hw5 : k0_chk5 v33_r0), ∀ a, (k0_off21 v33_r0) a + S1x1408x2816.size a ≤ S32x1408x2816.size a := fun v33_r0 k0_hw5 => k0_hw5.1
theorem k0_off21_wordsi8 : ∀ (v33_r0 : BitVec 32) (k0_hw5 : k0_chk5 v33_r0), (Rect.unit (s := S32x1408x2816) (k0_off21 v33_r0) S1x1408x2816.size (k0_off21_inb v33_r0 k0_hw5)).WholeWords (EltTy.packing .i8) := fun v33_r0 k0_hw5 => k0_hw5.2.1 (k0_off21_inb v33_r0 k0_hw5)
theorem k0_off24_inb : ∀ (v33_r0 : BitVec 32) (k0_hw5 : k0_chk5 v33_r0), ∀ a, (k0_off24 v33_r0) a + S1x22x2816.size a ≤ S32x22x2816.size a := fun v33_r0 k0_hw5 => k0_hw5.2.2

def k0_off25 (v1_0_r0 : BitVec 32) (k0_t3 : Fin (k0_t3_loop v1_0_r0).trips) : Fin 1 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let v63_r0 : Index := Scalar.indexCast v46_r0
  ![v63_r0.toNat]
def k0_cond4 (v1_0_r0 : BitVec 32) (k0_t3 : Fin (k0_t3_loop v1_0_r0).trips) : BitVec 1 :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let v47_r0 : BitVec 1 := Scalar.cmpi .slt v46_r0 v1_0_r0
  let v48_r0 : BitVec 32 := Scalar.extui v47_r0
  let c0_i32_39_r0 : BitVec 32 := 0#32
  let v49_r0 : BitVec 1 := Scalar.cmpi .ne v48_r0 c0_i32_39_r0
  v49_r0

def k0_off26 (v1_0_r0 : BitVec 32) (k0_t3 : Fin (k0_t3_loop v1_0_r0).trips) : Fin 1 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let c3_i32_43_r0 : BitVec 32 := 3#32
  let v62_r0 : BitVec 32 := Scalar.remsi v46_r0 c3_i32_43_r0
  ![v62_r0.toNat]
def k0_off27 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let c3_i32_43_r0 : BitVec 32 := 3#32
  let v62_r0 : BitVec 32 := Scalar.remsi v46_r0 c3_i32_43_r0
  let c0_i32_44_r0 : BitVec 32 := 0#32
  let c0_i32_45_r0 : BitVec 32 := 0#32
  ![v62_r0.toNat, 0, 0]
def k0_off28 (v64_r0 : BitVec 32) : Fin 3 → Nat :=
  let c0_i32_46_r0 : BitVec 32 := 0#32
  let c0_i32_47_r0 : BitVec 32 := 0#32
  ![v64_r0.toNat, 0, 0]

def k0_off29 (v1_0_r0 : BitVec 32) (k0_t3 : Fin (k0_t3_loop v1_0_r0).trips) : Fin 1 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let c3_i32_43_r0 : BitVec 32 := 3#32
  let v62_r0 : BitVec 32 := Scalar.remsi v46_r0 c3_i32_43_r0
  ![v62_r0.toNat]
def k0_off30 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let c3_i32_43_r0 : BitVec 32 := 3#32
  let v62_r0 : BitVec 32 := Scalar.remsi v46_r0 c3_i32_43_r0
  let c0_i32_48_r0 : BitVec 32 := 0#32
  let c0_i32_49_r0 : BitVec 32 := 0#32
  ![v62_r0.toNat, 0, 0]
def k0_off31 (v64_r0 : BitVec 32) : Fin 3 → Nat :=
  let c0_i32_50_r0 : BitVec 32 := 0#32
  let c0_i32_51_r0 : BitVec 32 := 0#32
  ![v64_r0.toNat, 0, 0]

def k0_chk6 (v1_0_r0 : BitVec 32) (k0_t3 : Fin (k0_t3_loop v1_0_r0).trips) (v64_r0 : BitVec 32) : Prop :=
  (∀ (k0_h4 : k0_cond4 v1_0_r0 k0_t3 = 1#1), ∀ a, (k0_off28 v64_r0) a + S1x1408x2816.size a ≤ S32x1408x2816.size a) ∧
  (∀ (k0_h4 : k0_cond4 v1_0_r0 k0_t3 = 1#1), ∀ (hinb : ∀ a, (k0_off28 v64_r0) a + S1x1408x2816.size a ≤ S32x1408x2816.size a), (Rect.unit (s := S32x1408x2816) (k0_off28 v64_r0) S1x1408x2816.size hinb).WholeWords (EltTy.packing .i8)) ∧
  (∀ (k0_h4 : k0_cond4 v1_0_r0 k0_t3 = 1#1), ∀ a, (k0_off31 v64_r0) a + S1x22x2816.size a ≤ S32x22x2816.size a)
theorem k0_off28_inb : ∀ (v1_0_r0 : BitVec 32) (k0_t3 : Fin (k0_t3_loop v1_0_r0).trips) (v64_r0 : BitVec 32) (k0_hw6 : k0_chk6 v1_0_r0 k0_t3 v64_r0), ∀ (k0_h4 : k0_cond4 v1_0_r0 k0_t3 = 1#1), ∀ a, (k0_off28 v64_r0) a + S1x1408x2816.size a ≤ S32x1408x2816.size a := fun v1_0_r0 k0_t3 v64_r0 k0_hw6 k0_h4 => k0_hw6.1 k0_h4
theorem k0_off28_wordsi8 : ∀ (v1_0_r0 : BitVec 32) (k0_t3 : Fin (k0_t3_loop v1_0_r0).trips) (v64_r0 : BitVec 32) (k0_hw6 : k0_chk6 v1_0_r0 k0_t3 v64_r0), ∀ (k0_h4 : k0_cond4 v1_0_r0 k0_t3 = 1#1), (Rect.unit (s := S32x1408x2816) (k0_off28 v64_r0) S1x1408x2816.size (k0_off28_inb v1_0_r0 k0_t3 v64_r0 k0_hw6 k0_h4)).WholeWords (EltTy.packing .i8) := fun v1_0_r0 k0_t3 v64_r0 k0_hw6 k0_h4 => k0_hw6.2.1 k0_h4 (k0_off28_inb v1_0_r0 k0_t3 v64_r0 k0_hw6 k0_h4)
theorem k0_off31_inb : ∀ (v1_0_r0 : BitVec 32) (k0_t3 : Fin (k0_t3_loop v1_0_r0).trips) (v64_r0 : BitVec 32) (k0_hw6 : k0_chk6 v1_0_r0 k0_t3 v64_r0), ∀ (k0_h4 : k0_cond4 v1_0_r0 k0_t3 = 1#1), ∀ a, (k0_off31 v64_r0) a + S1x22x2816.size a ≤ S32x22x2816.size a := fun v1_0_r0 k0_t3 v64_r0 k0_hw6 k0_h4 => k0_hw6.2.2 k0_h4

def k0_off32 (v1_0_r0 : BitVec 32) (k0_t3 : Fin (k0_t3_loop v1_0_r0).trips) : Fin 1 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let v50_r0 : Index := Scalar.indexCast v29_r0
  ![v50_r0.toNat]
def k0_off33 (v1_0_r0 : BitVec 32) (k0_t3 : Fin (k0_t3_loop v1_0_r0).trips) : Fin 1 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c1_i32_40_r0 : BitVec 32 := 1#32
  let v52_r0 : BitVec 32 := Scalar.addi v29_r0 c1_i32_40_r0
  let v53_r0 : Index := Scalar.indexCast v52_r0
  ![v53_r0.toNat]
def k0_mult2 (v51_r0 : BitVec 32) : BitVec 32 :=
  let c16_i32_r0 : BitVec 32 := 16#32
  let v55_r0 : BitVec 32 := Scalar.remsi v51_r0 c16_i32_r0
  let v56_r0 : BitVec 32 := Scalar.subi v51_r0 v55_r0
  v56_r0

def k0_chk7 (v51_r0 : BitVec 32) : Prop :=
  (16 ∣ (k0_mult2 v51_r0).toNat)
theorem k0_mult2_dvd : ∀ (v51_r0 : BitVec 32) (k0_hw7 : k0_chk7 v51_r0), 16 ∣ (k0_mult2 v51_r0).toNat := fun v51_r0 k0_hw7 => k0_hw7

@[reducible] def k0_t4_loop : Scf.Loop 32 :=
  let c0_i32_43_r0 : BitVec 32 := 0#32
  let c5_i32_r0 : BitVec 32 := 5#32
  let v62_r0 : BitVec 32 := Scalar.addi c0_i32_43_r0 c5_i32_r0
  let c1_i32_44_r0 : BitVec 32 := 1#32
  ⟨c0_i32_43_r0, v62_r0, c1_i32_44_r0⟩
def k0_mult3 (k0_t4 : Fin k0_t4_loop.trips) : BitVec 32 :=
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  v1237_r0
def k0_off34 (v1_0_r0 : BitVec 32) (k0_t3 : Fin (k0_t3_loop v1_0_r0).trips) (k0_t4 : Fin k0_t4_loop.trips) (c0_i32_494_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1240_r0 : Index := Scalar.indexCast v30_r0
  let c0_495_r0 : Index := 0#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1239_r0 : BitVec 32 := Scalar.addi v1238_r0 c0_i32_494_r0
  let v1241_r0 : Index := Scalar.indexCast v1239_r0
  ![v1240_r0.toNat, 0, v1241_r0.toNat]
def k0_cond5 (v51_r0 : BitVec 32) (v54_r0 : BitVec 32) : BitVec 1 :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v58_r0 : BitVec 32 := Scalar.subi v54_r0 v57_r0
  let c0_i32_41_r0 : BitVec 32 := 0#32
  let v59_r0 : BitVec 1 := Scalar.cmpi .sgt v58_r0 c0_i32_41_r0
  let v60_r0 : BitVec 32 := Scalar.extui v59_r0
  let c0_i32_42_r0 : BitVec 32 := 0#32
  let v61_r0 : BitVec 1 := Scalar.cmpi .ne v60_r0 c0_i32_42_r0
  v61_r0

def k0_off35 (v1_0_r0 : BitVec 32) (k0_t3 : Fin (k0_t3_loop v1_0_r0).trips) (k0_t4 : Fin k0_t4_loop.trips) (c0_i32_494_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1260_r0 : Index := Scalar.indexCast v30_r0
  let c0_500_r0 : Index := 0#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1239_r0 : BitVec 32 := Scalar.addi v1238_r0 c0_i32_494_r0
  let v1261_r0 : Index := Scalar.indexCast v1239_r0
  ![v1260_r0.toNat, 0, v1261_r0.toNat]
def k0_off36 (v1_0_r0 : BitVec 32) (k0_t3 : Fin (k0_t3_loop v1_0_r0).trips) (k0_t4 : Fin k0_t4_loop.trips) (c0_i32_494_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1273_r0 : Index := Scalar.indexCast v30_r0
  let c1_501_r0 : Index := 1#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1239_r0 : BitVec 32 := Scalar.addi v1238_r0 c0_i32_494_r0
  let v1274_r0 : Index := Scalar.indexCast v1239_r0
  ![v1273_r0.toNat, 1, v1274_r0.toNat]
def k0_off37 (v51_r0 : BitVec 32) (c0_i32_502_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1287_r0 : BitVec 32 := Scalar.addi v57_r0 c0_i32_502_r0
  let v1288_r0 : Index := Scalar.indexCast v1287_r0
  let c0_503_r0 : Index := 0#32
  ![v1288_r0.toNat, 0]
def k0_off38 (v1_0_r0 : BitVec 32) (k0_t3 : Fin (k0_t3_loop v1_0_r0).trips) (k0_t4 : Fin k0_t4_loop.trips) (c0_i32_574_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1432_r0 : Index := Scalar.indexCast v30_r0
  let c128_575_r0 : Index := 128#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1431_r0 : BitVec 32 := Scalar.addi v1238_r0 c0_i32_574_r0
  let v1433_r0 : Index := Scalar.indexCast v1431_r0
  ![v1432_r0.toNat, 128, v1433_r0.toNat]
def k0_off39 (v1_0_r0 : BitVec 32) (k0_t3 : Fin (k0_t3_loop v1_0_r0).trips) (k0_t4 : Fin k0_t4_loop.trips) (c0_i32_574_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1452_r0 : Index := Scalar.indexCast v30_r0
  let c2_580_r0 : Index := 2#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1431_r0 : BitVec 32 := Scalar.addi v1238_r0 c0_i32_574_r0
  let v1453_r0 : Index := Scalar.indexCast v1431_r0
  ![v1452_r0.toNat, 2, v1453_r0.toNat]
def k0_off40 (v1_0_r0 : BitVec 32) (k0_t3 : Fin (k0_t3_loop v1_0_r0).trips) (k0_t4 : Fin k0_t4_loop.trips) (c0_i32_574_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1465_r0 : Index := Scalar.indexCast v30_r0
  let c3_581_r0 : Index := 3#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1431_r0 : BitVec 32 := Scalar.addi v1238_r0 c0_i32_574_r0
  let v1466_r0 : Index := Scalar.indexCast v1431_r0
  ![v1465_r0.toNat, 3, v1466_r0.toNat]
def k0_off41 (v51_r0 : BitVec 32) (c0_i32_582_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1479_r0 : BitVec 32 := Scalar.addi v57_r0 c0_i32_582_r0
  let v1480_r0 : Index := Scalar.indexCast v1479_r0
  let c256_583_r0 : Index := 256#32
  ![v1480_r0.toNat, 256]
def k0_off42 (v1_0_r0 : BitVec 32) (k0_t3 : Fin (k0_t3_loop v1_0_r0).trips) (k0_t4 : Fin k0_t4_loop.trips) (c0_i32_654_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1624_r0 : Index := Scalar.indexCast v30_r0
  let c256_655_r0 : Index := 256#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1623_r0 : BitVec 32 := Scalar.addi v1238_r0 c0_i32_654_r0
  let v1625_r0 : Index := Scalar.indexCast v1623_r0
  ![v1624_r0.toNat, 256, v1625_r0.toNat]
def k0_off43 (v1_0_r0 : BitVec 32) (k0_t3 : Fin (k0_t3_loop v1_0_r0).trips) (k0_t4 : Fin k0_t4_loop.trips) (c0_i32_654_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1644_r0 : Index := Scalar.indexCast v30_r0
  let c4_660_r0 : Index := 4#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1623_r0 : BitVec 32 := Scalar.addi v1238_r0 c0_i32_654_r0
  let v1645_r0 : Index := Scalar.indexCast v1623_r0
  ![v1644_r0.toNat, 4, v1645_r0.toNat]
def k0_off44 (v1_0_r0 : BitVec 32) (k0_t3 : Fin (k0_t3_loop v1_0_r0).trips) (k0_t4 : Fin k0_t4_loop.trips) (c0_i32_654_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1657_r0 : Index := Scalar.indexCast v30_r0
  let c5_661_r0 : Index := 5#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1623_r0 : BitVec 32 := Scalar.addi v1238_r0 c0_i32_654_r0
  let v1658_r0 : Index := Scalar.indexCast v1623_r0
  ![v1657_r0.toNat, 5, v1658_r0.toNat]
def k0_off45 (v51_r0 : BitVec 32) (c0_i32_662_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1671_r0 : BitVec 32 := Scalar.addi v57_r0 c0_i32_662_r0
  let v1672_r0 : Index := Scalar.indexCast v1671_r0
  let c512_663_r0 : Index := 512#32
  ![v1672_r0.toNat, 512]
def k0_off46 (v1_0_r0 : BitVec 32) (k0_t3 : Fin (k0_t3_loop v1_0_r0).trips) (k0_t4 : Fin k0_t4_loop.trips) (c0_i32_734_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1816_r0 : Index := Scalar.indexCast v30_r0
  let c384_735_r0 : Index := 384#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1815_r0 : BitVec 32 := Scalar.addi v1238_r0 c0_i32_734_r0
  let v1817_r0 : Index := Scalar.indexCast v1815_r0
  ![v1816_r0.toNat, 384, v1817_r0.toNat]
def k0_off47 (v1_0_r0 : BitVec 32) (k0_t3 : Fin (k0_t3_loop v1_0_r0).trips) (k0_t4 : Fin k0_t4_loop.trips) (c0_i32_734_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1836_r0 : Index := Scalar.indexCast v30_r0
  let c6_740_r0 : Index := 6#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1815_r0 : BitVec 32 := Scalar.addi v1238_r0 c0_i32_734_r0
  let v1837_r0 : Index := Scalar.indexCast v1815_r0
  ![v1836_r0.toNat, 6, v1837_r0.toNat]
def k0_off48 (v1_0_r0 : BitVec 32) (k0_t3 : Fin (k0_t3_loop v1_0_r0).trips) (k0_t4 : Fin k0_t4_loop.trips) (c0_i32_734_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1849_r0 : Index := Scalar.indexCast v30_r0
  let c7_741_r0 : Index := 7#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1815_r0 : BitVec 32 := Scalar.addi v1238_r0 c0_i32_734_r0
  let v1850_r0 : Index := Scalar.indexCast v1815_r0
  ![v1849_r0.toNat, 7, v1850_r0.toNat]
def k0_off49 (v51_r0 : BitVec 32) (c0_i32_742_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1863_r0 : BitVec 32 := Scalar.addi v57_r0 c0_i32_742_r0
  let v1864_r0 : Index := Scalar.indexCast v1863_r0
  let c768_743_r0 : Index := 768#32
  ![v1864_r0.toNat, 768]
def k0_off50 (v1_0_r0 : BitVec 32) (k0_t3 : Fin (k0_t3_loop v1_0_r0).trips) (k0_t4 : Fin k0_t4_loop.trips) (c0_i32_814_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2008_r0 : Index := Scalar.indexCast v30_r0
  let c512_815_r0 : Index := 512#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2007_r0 : BitVec 32 := Scalar.addi v1238_r0 c0_i32_814_r0
  let v2009_r0 : Index := Scalar.indexCast v2007_r0
  ![v2008_r0.toNat, 512, v2009_r0.toNat]
def k0_off51 (v1_0_r0 : BitVec 32) (k0_t3 : Fin (k0_t3_loop v1_0_r0).trips) (k0_t4 : Fin k0_t4_loop.trips) (c0_i32_814_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2028_r0 : Index := Scalar.indexCast v30_r0
  let c8_820_r0 : Index := 8#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2007_r0 : BitVec 32 := Scalar.addi v1238_r0 c0_i32_814_r0
  let v2029_r0 : Index := Scalar.indexCast v2007_r0
  ![v2028_r0.toNat, 8, v2029_r0.toNat]
def k0_off52 (v1_0_r0 : BitVec 32) (k0_t3 : Fin (k0_t3_loop v1_0_r0).trips) (k0_t4 : Fin k0_t4_loop.trips) (c0_i32_814_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2041_r0 : Index := Scalar.indexCast v30_r0
  let c9_821_r0 : Index := 9#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2007_r0 : BitVec 32 := Scalar.addi v1238_r0 c0_i32_814_r0
  let v2042_r0 : Index := Scalar.indexCast v2007_r0
  ![v2041_r0.toNat, 9, v2042_r0.toNat]
def k0_off53 (v51_r0 : BitVec 32) (c0_i32_822_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2055_r0 : BitVec 32 := Scalar.addi v57_r0 c0_i32_822_r0
  let v2056_r0 : Index := Scalar.indexCast v2055_r0
  let c1024_823_r0 : Index := 1024#32
  ![v2056_r0.toNat, 1024]
def k0_off54 (v1_0_r0 : BitVec 32) (k0_t3 : Fin (k0_t3_loop v1_0_r0).trips) (k0_t4 : Fin k0_t4_loop.trips) (c0_i32_894_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2200_r0 : Index := Scalar.indexCast v30_r0
  let c640_895_r0 : Index := 640#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2199_r0 : BitVec 32 := Scalar.addi v1238_r0 c0_i32_894_r0
  let v2201_r0 : Index := Scalar.indexCast v2199_r0
  ![v2200_r0.toNat, 640, v2201_r0.toNat]
def k0_off55 (v1_0_r0 : BitVec 32) (k0_t3 : Fin (k0_t3_loop v1_0_r0).trips) (k0_t4 : Fin k0_t4_loop.trips) (c0_i32_894_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2220_r0 : Index := Scalar.indexCast v30_r0
  let c10_900_r0 : Index := 10#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2199_r0 : BitVec 32 := Scalar.addi v1238_r0 c0_i32_894_r0
  let v2221_r0 : Index := Scalar.indexCast v2199_r0
  ![v2220_r0.toNat, 10, v2221_r0.toNat]
def k0_off56 (v1_0_r0 : BitVec 32) (k0_t3 : Fin (k0_t3_loop v1_0_r0).trips) (k0_t4 : Fin k0_t4_loop.trips) (c0_i32_894_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2233_r0 : Index := Scalar.indexCast v30_r0
  let c11_901_r0 : Index := 11#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2199_r0 : BitVec 32 := Scalar.addi v1238_r0 c0_i32_894_r0
  let v2234_r0 : Index := Scalar.indexCast v2199_r0
  ![v2233_r0.toNat, 11, v2234_r0.toNat]
def k0_off57 (v51_r0 : BitVec 32) (c0_i32_902_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2247_r0 : BitVec 32 := Scalar.addi v57_r0 c0_i32_902_r0
  let v2248_r0 : Index := Scalar.indexCast v2247_r0
  let c1280_903_r0 : Index := 1280#32
  ![v2248_r0.toNat, 1280]
def k0_off58 (v1_0_r0 : BitVec 32) (k0_t3 : Fin (k0_t3_loop v1_0_r0).trips) (k0_t4 : Fin k0_t4_loop.trips) (c0_i32_974_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2392_r0 : Index := Scalar.indexCast v30_r0
  let c768_975_r0 : Index := 768#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2391_r0 : BitVec 32 := Scalar.addi v1238_r0 c0_i32_974_r0
  let v2393_r0 : Index := Scalar.indexCast v2391_r0
  ![v2392_r0.toNat, 768, v2393_r0.toNat]
def k0_off59 (v1_0_r0 : BitVec 32) (k0_t3 : Fin (k0_t3_loop v1_0_r0).trips) (k0_t4 : Fin k0_t4_loop.trips) (c0_i32_974_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2412_r0 : Index := Scalar.indexCast v30_r0
  let c12_980_r0 : Index := 12#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2391_r0 : BitVec 32 := Scalar.addi v1238_r0 c0_i32_974_r0
  let v2413_r0 : Index := Scalar.indexCast v2391_r0
  ![v2412_r0.toNat, 12, v2413_r0.toNat]
def k0_off60 (v1_0_r0 : BitVec 32) (k0_t3 : Fin (k0_t3_loop v1_0_r0).trips) (k0_t4 : Fin k0_t4_loop.trips) (c0_i32_974_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2425_r0 : Index := Scalar.indexCast v30_r0
  let c13_981_r0 : Index := 13#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2391_r0 : BitVec 32 := Scalar.addi v1238_r0 c0_i32_974_r0
  let v2426_r0 : Index := Scalar.indexCast v2391_r0
  ![v2425_r0.toNat, 13, v2426_r0.toNat]
def k0_off61 (v51_r0 : BitVec 32) (c0_i32_982_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2439_r0 : BitVec 32 := Scalar.addi v57_r0 c0_i32_982_r0
  let v2440_r0 : Index := Scalar.indexCast v2439_r0
  let c1536_983_r0 : Index := 1536#32
  ![v2440_r0.toNat, 1536]
def k0_off62 (v1_0_r0 : BitVec 32) (k0_t3 : Fin (k0_t3_loop v1_0_r0).trips) (k0_t4 : Fin k0_t4_loop.trips) (c0_i32_1054_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2584_r0 : Index := Scalar.indexCast v30_r0
  let c896_1055_r0 : Index := 896#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2583_r0 : BitVec 32 := Scalar.addi v1238_r0 c0_i32_1054_r0
  let v2585_r0 : Index := Scalar.indexCast v2583_r0
  ![v2584_r0.toNat, 896, v2585_r0.toNat]
def k0_off63 (v1_0_r0 : BitVec 32) (k0_t3 : Fin (k0_t3_loop v1_0_r0).trips) (k0_t4 : Fin k0_t4_loop.trips) (c0_i32_1054_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2604_r0 : Index := Scalar.indexCast v30_r0
  let c14_1060_r0 : Index := 14#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2583_r0 : BitVec 32 := Scalar.addi v1238_r0 c0_i32_1054_r0
  let v2605_r0 : Index := Scalar.indexCast v2583_r0
  ![v2604_r0.toNat, 14, v2605_r0.toNat]
def k0_off64 (v1_0_r0 : BitVec 32) (k0_t3 : Fin (k0_t3_loop v1_0_r0).trips) (k0_t4 : Fin k0_t4_loop.trips) (c0_i32_1054_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2617_r0 : Index := Scalar.indexCast v30_r0
  let c15_1061_r0 : Index := 15#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2583_r0 : BitVec 32 := Scalar.addi v1238_r0 c0_i32_1054_r0
  let v2618_r0 : Index := Scalar.indexCast v2583_r0
  ![v2617_r0.toNat, 15, v2618_r0.toNat]
def k0_off65 (v51_r0 : BitVec 32) (c0_i32_1062_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2631_r0 : BitVec 32 := Scalar.addi v57_r0 c0_i32_1062_r0
  let v2632_r0 : Index := Scalar.indexCast v2631_r0
  let c1792_1063_r0 : Index := 1792#32
  ![v2632_r0.toNat, 1792]
def k0_off66 (v1_0_r0 : BitVec 32) (k0_t3 : Fin (k0_t3_loop v1_0_r0).trips) (k0_t4 : Fin k0_t4_loop.trips) (c0_i32_1134_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2776_r0 : Index := Scalar.indexCast v30_r0
  let c1024_1135_r0 : Index := 1024#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2775_r0 : BitVec 32 := Scalar.addi v1238_r0 c0_i32_1134_r0
  let v2777_r0 : Index := Scalar.indexCast v2775_r0
  ![v2776_r0.toNat, 1024, v2777_r0.toNat]
def k0_off67 (v1_0_r0 : BitVec 32) (k0_t3 : Fin (k0_t3_loop v1_0_r0).trips) (k0_t4 : Fin k0_t4_loop.trips) (c0_i32_1134_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2796_r0 : Index := Scalar.indexCast v30_r0
  let c16_1140_r0 : Index := 16#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2775_r0 : BitVec 32 := Scalar.addi v1238_r0 c0_i32_1134_r0
  let v2797_r0 : Index := Scalar.indexCast v2775_r0
  ![v2796_r0.toNat, 16, v2797_r0.toNat]
def k0_off68 (v1_0_r0 : BitVec 32) (k0_t3 : Fin (k0_t3_loop v1_0_r0).trips) (k0_t4 : Fin k0_t4_loop.trips) (c0_i32_1134_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2809_r0 : Index := Scalar.indexCast v30_r0
  let c17_1141_r0 : Index := 17#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2775_r0 : BitVec 32 := Scalar.addi v1238_r0 c0_i32_1134_r0
  let v2810_r0 : Index := Scalar.indexCast v2775_r0
  ![v2809_r0.toNat, 17, v2810_r0.toNat]
def k0_off69 (v51_r0 : BitVec 32) (c0_i32_1142_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2823_r0 : BitVec 32 := Scalar.addi v57_r0 c0_i32_1142_r0
  let v2824_r0 : Index := Scalar.indexCast v2823_r0
  let c2048_1143_r0 : Index := 2048#32
  ![v2824_r0.toNat, 2048]
def k0_off70 (v1_0_r0 : BitVec 32) (k0_t3 : Fin (k0_t3_loop v1_0_r0).trips) (k0_t4 : Fin k0_t4_loop.trips) (c0_i32_1214_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2968_r0 : Index := Scalar.indexCast v30_r0
  let c1152_1215_r0 : Index := 1152#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2967_r0 : BitVec 32 := Scalar.addi v1238_r0 c0_i32_1214_r0
  let v2969_r0 : Index := Scalar.indexCast v2967_r0
  ![v2968_r0.toNat, 1152, v2969_r0.toNat]
def k0_off71 (v1_0_r0 : BitVec 32) (k0_t3 : Fin (k0_t3_loop v1_0_r0).trips) (k0_t4 : Fin k0_t4_loop.trips) (c0_i32_1214_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2988_r0 : Index := Scalar.indexCast v30_r0
  let c18_1220_r0 : Index := 18#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2967_r0 : BitVec 32 := Scalar.addi v1238_r0 c0_i32_1214_r0
  let v2989_r0 : Index := Scalar.indexCast v2967_r0
  ![v2988_r0.toNat, 18, v2989_r0.toNat]
def k0_off72 (v1_0_r0 : BitVec 32) (k0_t3 : Fin (k0_t3_loop v1_0_r0).trips) (k0_t4 : Fin k0_t4_loop.trips) (c0_i32_1214_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v3001_r0 : Index := Scalar.indexCast v30_r0
  let c19_1221_r0 : Index := 19#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2967_r0 : BitVec 32 := Scalar.addi v1238_r0 c0_i32_1214_r0
  let v3002_r0 : Index := Scalar.indexCast v2967_r0
  ![v3001_r0.toNat, 19, v3002_r0.toNat]
def k0_off73 (v51_r0 : BitVec 32) (c0_i32_1222_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v3015_r0 : BitVec 32 := Scalar.addi v57_r0 c0_i32_1222_r0
  let v3016_r0 : Index := Scalar.indexCast v3015_r0
  let c2304_1223_r0 : Index := 2304#32
  ![v3016_r0.toNat, 2304]
def k0_off74 (v1_0_r0 : BitVec 32) (k0_t3 : Fin (k0_t3_loop v1_0_r0).trips) (k0_t4 : Fin k0_t4_loop.trips) (c0_i32_1294_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v3160_r0 : Index := Scalar.indexCast v30_r0
  let c1280_1295_r0 : Index := 1280#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3159_r0 : BitVec 32 := Scalar.addi v1238_r0 c0_i32_1294_r0
  let v3161_r0 : Index := Scalar.indexCast v3159_r0
  ![v3160_r0.toNat, 1280, v3161_r0.toNat]
def k0_off75 (v1_0_r0 : BitVec 32) (k0_t3 : Fin (k0_t3_loop v1_0_r0).trips) (k0_t4 : Fin k0_t4_loop.trips) (c0_i32_1294_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v3180_r0 : Index := Scalar.indexCast v30_r0
  let c20_1300_r0 : Index := 20#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3159_r0 : BitVec 32 := Scalar.addi v1238_r0 c0_i32_1294_r0
  let v3181_r0 : Index := Scalar.indexCast v3159_r0
  ![v3180_r0.toNat, 20, v3181_r0.toNat]
def k0_off76 (v1_0_r0 : BitVec 32) (k0_t3 : Fin (k0_t3_loop v1_0_r0).trips) (k0_t4 : Fin k0_t4_loop.trips) (c0_i32_1294_r0 : BitVec 32) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v3193_r0 : Index := Scalar.indexCast v30_r0
  let c21_1301_r0 : Index := 21#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3159_r0 : BitVec 32 := Scalar.addi v1238_r0 c0_i32_1294_r0
  let v3194_r0 : Index := Scalar.indexCast v3159_r0
  ![v3193_r0.toNat, 21, v3194_r0.toNat]
def k0_off77 (v51_r0 : BitVec 32) (c0_i32_1302_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v3207_r0 : BitVec 32 := Scalar.addi v57_r0 c0_i32_1302_r0
  let v3208_r0 : Index := Scalar.indexCast v3207_r0
  let c2560_1303_r0 : Index := 2560#32
  ![v3208_r0.toNat, 2560]
def k0_off78 (v51_r0 : BitVec 32) (k0_t4 : Fin k0_t4_loop.trips) (c0_i32_1374_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let c0_i32_1375_r0 : BitVec 32 := 0#32
  let v3353_r0 : BitVec 32 := Scalar.addi v57_r0 c0_i32_1375_r0
  let v3360_r0 : Index := Scalar.indexCast v3353_r0
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3351_r0 : BitVec 32 := Scalar.addi v1238_r0 c0_i32_1374_r0
  let v3361_r0 : Index := Scalar.indexCast v3351_r0
  ![v3360_r0.toNat, v3361_r0.toNat]
def k0_off79 (v51_r0 : BitVec 32) (k0_t4 : Fin k0_t4_loop.trips) (c0_i32_1374_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let c0_i32_1375_r0 : BitVec 32 := 0#32
  let v3353_r0 : BitVec 32 := Scalar.addi v57_r0 c0_i32_1375_r0
  let c16_i32_1376_r0 : BitVec 32 := 16#32
  let v3372_r0 : BitVec 32 := Scalar.addi v3353_r0 c16_i32_1376_r0
  let v3373_r0 : Index := Scalar.indexCast v3372_r0
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3351_r0 : BitVec 32 := Scalar.addi v1238_r0 c0_i32_1374_r0
  let v3374_r0 : Index := Scalar.indexCast v3351_r0
  ![v3373_r0.toNat, v3374_r0.toNat]
def k0_off80 (v51_r0 : BitVec 32) (k0_t4 : Fin k0_t4_loop.trips) (c32_i32_1378_r0 : BitVec 32) (c0_i32_1377_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v3380_r0 : BitVec 32 := Scalar.addi v57_r0 c32_i32_1378_r0
  let v3382_r0 : Index := Scalar.indexCast v3380_r0
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t4
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3378_r0 : BitVec 32 := Scalar.addi v1238_r0 c0_i32_1377_r0
  let v3383_r0 : Index := Scalar.indexCast v3378_r0
  ![v3382_r0.toNat, v3383_r0.toNat]
def k0_off81 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v63_r0 : Index := Scalar.indexCast v30_r0
  let c0_46_r0 : Index := 0#32
  let c2560_r0 : Index := 2560#32
  ![v63_r0.toNat, 0, 2560]
def k0_off82 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v82_r0 : Index := Scalar.indexCast v30_r0
  let c0_49_r0 : Index := 0#32
  let c2560_50_r0 : Index := 2560#32
  ![v82_r0.toNat, 0, 2560]
def k0_off83 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v94_r0 : Index := Scalar.indexCast v30_r0
  let c1_r0 : Index := 1#32
  let c2560_51_r0 : Index := 2560#32
  ![v94_r0.toNat, 1, 2560]
def k0_off84 (v51_r0 : BitVec 32) (c0_i32_52_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v107_r0 : BitVec 32 := Scalar.addi v57_r0 c0_i32_52_r0
  let v108_r0 : Index := Scalar.indexCast v107_r0
  let c0_53_r0 : Index := 0#32
  ![v108_r0.toNat, 0]
def k0_off85 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v155_r0 : Index := Scalar.indexCast v30_r0
  let c128_r0 : Index := 128#32
  let c2560_70_r0 : Index := 2560#32
  ![v155_r0.toNat, 128, 2560]
def k0_off86 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v174_r0 : Index := Scalar.indexCast v30_r0
  let c2_r0 : Index := 2#32
  let c2560_75_r0 : Index := 2560#32
  ![v174_r0.toNat, 2, 2560]
def k0_off87 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v186_r0 : Index := Scalar.indexCast v30_r0
  let c3_r0 : Index := 3#32
  let c2560_76_r0 : Index := 2560#32
  ![v186_r0.toNat, 3, 2560]
def k0_off88 (v51_r0 : BitVec 32) (c0_i32_77_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v199_r0 : BitVec 32 := Scalar.addi v57_r0 c0_i32_77_r0
  let v200_r0 : Index := Scalar.indexCast v199_r0
  let c256_r0 : Index := 256#32
  ![v200_r0.toNat, 256]
def k0_off89 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v247_r0 : Index := Scalar.indexCast v30_r0
  let c256_108_r0 : Index := 256#32
  let c2560_109_r0 : Index := 2560#32
  ![v247_r0.toNat, 256, 2560]
def k0_off90 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v266_r0 : Index := Scalar.indexCast v30_r0
  let c4_r0 : Index := 4#32
  let c2560_114_r0 : Index := 2560#32
  ![v266_r0.toNat, 4, 2560]
def k0_off91 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v278_r0 : Index := Scalar.indexCast v30_r0
  let c5_r0 : Index := 5#32
  let c2560_115_r0 : Index := 2560#32
  ![v278_r0.toNat, 5, 2560]
def k0_off92 (v51_r0 : BitVec 32) (c0_i32_116_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v291_r0 : BitVec 32 := Scalar.addi v57_r0 c0_i32_116_r0
  let v292_r0 : Index := Scalar.indexCast v291_r0
  let c512_117_r0 : Index := 512#32
  ![v292_r0.toNat, 512]
def k0_off93 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v339_r0 : Index := Scalar.indexCast v30_r0
  let c384_r0 : Index := 384#32
  let c2560_148_r0 : Index := 2560#32
  ![v339_r0.toNat, 384, 2560]
def k0_off94 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v358_r0 : Index := Scalar.indexCast v30_r0
  let c6_r0 : Index := 6#32
  let c2560_153_r0 : Index := 2560#32
  ![v358_r0.toNat, 6, 2560]
def k0_off95 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v370_r0 : Index := Scalar.indexCast v30_r0
  let c7_r0 : Index := 7#32
  let c2560_154_r0 : Index := 2560#32
  ![v370_r0.toNat, 7, 2560]
def k0_off96 (v51_r0 : BitVec 32) (c0_i32_155_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v383_r0 : BitVec 32 := Scalar.addi v57_r0 c0_i32_155_r0
  let v384_r0 : Index := Scalar.indexCast v383_r0
  let c768_r0 : Index := 768#32
  ![v384_r0.toNat, 768]
def k0_off97 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v431_r0 : Index := Scalar.indexCast v30_r0
  let c512_186_r0 : Index := 512#32
  let c2560_187_r0 : Index := 2560#32
  ![v431_r0.toNat, 512, 2560]
def k0_off98 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v450_r0 : Index := Scalar.indexCast v30_r0
  let c8_r0 : Index := 8#32
  let c2560_192_r0 : Index := 2560#32
  ![v450_r0.toNat, 8, 2560]
def k0_off99 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v462_r0 : Index := Scalar.indexCast v30_r0
  let c9_r0 : Index := 9#32
  let c2560_193_r0 : Index := 2560#32
  ![v462_r0.toNat, 9, 2560]
def k0_off100 (v51_r0 : BitVec 32) (c0_i32_194_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v475_r0 : BitVec 32 := Scalar.addi v57_r0 c0_i32_194_r0
  let v476_r0 : Index := Scalar.indexCast v475_r0
  let c1024_r0 : Index := 1024#32
  ![v476_r0.toNat, 1024]
def k0_off101 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v523_r0 : Index := Scalar.indexCast v30_r0
  let c640_r0 : Index := 640#32
  let c2560_225_r0 : Index := 2560#32
  ![v523_r0.toNat, 640, 2560]
def k0_off102 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v542_r0 : Index := Scalar.indexCast v30_r0
  let c10_r0 : Index := 10#32
  let c2560_230_r0 : Index := 2560#32
  ![v542_r0.toNat, 10, 2560]
def k0_off103 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v554_r0 : Index := Scalar.indexCast v30_r0
  let c11_r0 : Index := 11#32
  let c2560_231_r0 : Index := 2560#32
  ![v554_r0.toNat, 11, 2560]
def k0_off104 (v51_r0 : BitVec 32) (c0_i32_232_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v567_r0 : BitVec 32 := Scalar.addi v57_r0 c0_i32_232_r0
  let v568_r0 : Index := Scalar.indexCast v567_r0
  let c1280_r0 : Index := 1280#32
  ![v568_r0.toNat, 1280]
def k0_off105 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v615_r0 : Index := Scalar.indexCast v30_r0
  let c768_263_r0 : Index := 768#32
  let c2560_264_r0 : Index := 2560#32
  ![v615_r0.toNat, 768, 2560]
def k0_off106 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v634_r0 : Index := Scalar.indexCast v30_r0
  let c12_r0 : Index := 12#32
  let c2560_269_r0 : Index := 2560#32
  ![v634_r0.toNat, 12, 2560]
def k0_off107 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v646_r0 : Index := Scalar.indexCast v30_r0
  let c13_r0 : Index := 13#32
  let c2560_270_r0 : Index := 2560#32
  ![v646_r0.toNat, 13, 2560]
def k0_off108 (v51_r0 : BitVec 32) (c0_i32_271_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v659_r0 : BitVec 32 := Scalar.addi v57_r0 c0_i32_271_r0
  let v660_r0 : Index := Scalar.indexCast v659_r0
  let c1536_r0 : Index := 1536#32
  ![v660_r0.toNat, 1536]
def k0_off109 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v707_r0 : Index := Scalar.indexCast v30_r0
  let c896_r0 : Index := 896#32
  let c2560_302_r0 : Index := 2560#32
  ![v707_r0.toNat, 896, 2560]
def k0_off110 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v726_r0 : Index := Scalar.indexCast v30_r0
  let c14_r0 : Index := 14#32
  let c2560_307_r0 : Index := 2560#32
  ![v726_r0.toNat, 14, 2560]
def k0_off111 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v738_r0 : Index := Scalar.indexCast v30_r0
  let c15_r0 : Index := 15#32
  let c2560_308_r0 : Index := 2560#32
  ![v738_r0.toNat, 15, 2560]
def k0_off112 (v51_r0 : BitVec 32) (c0_i32_309_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v751_r0 : BitVec 32 := Scalar.addi v57_r0 c0_i32_309_r0
  let v752_r0 : Index := Scalar.indexCast v751_r0
  let c1792_r0 : Index := 1792#32
  ![v752_r0.toNat, 1792]
def k0_off113 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v799_r0 : Index := Scalar.indexCast v30_r0
  let c1024_340_r0 : Index := 1024#32
  let c2560_341_r0 : Index := 2560#32
  ![v799_r0.toNat, 1024, 2560]
def k0_off114 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v818_r0 : Index := Scalar.indexCast v30_r0
  let c16_r0 : Index := 16#32
  let c2560_346_r0 : Index := 2560#32
  ![v818_r0.toNat, 16, 2560]
def k0_off115 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v830_r0 : Index := Scalar.indexCast v30_r0
  let c17_r0 : Index := 17#32
  let c2560_347_r0 : Index := 2560#32
  ![v830_r0.toNat, 17, 2560]
def k0_off116 (v51_r0 : BitVec 32) (c0_i32_348_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v843_r0 : BitVec 32 := Scalar.addi v57_r0 c0_i32_348_r0
  let v844_r0 : Index := Scalar.indexCast v843_r0
  let c2048_r0 : Index := 2048#32
  ![v844_r0.toNat, 2048]
def k0_off117 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v891_r0 : Index := Scalar.indexCast v30_r0
  let c1152_r0 : Index := 1152#32
  let c2560_379_r0 : Index := 2560#32
  ![v891_r0.toNat, 1152, 2560]
def k0_off118 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v910_r0 : Index := Scalar.indexCast v30_r0
  let c18_r0 : Index := 18#32
  let c2560_384_r0 : Index := 2560#32
  ![v910_r0.toNat, 18, 2560]
def k0_off119 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v922_r0 : Index := Scalar.indexCast v30_r0
  let c19_r0 : Index := 19#32
  let c2560_385_r0 : Index := 2560#32
  ![v922_r0.toNat, 19, 2560]
def k0_off120 (v51_r0 : BitVec 32) (c0_i32_386_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v935_r0 : BitVec 32 := Scalar.addi v57_r0 c0_i32_386_r0
  let v936_r0 : Index := Scalar.indexCast v935_r0
  let c2304_r0 : Index := 2304#32
  ![v936_r0.toNat, 2304]
def k0_off121 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v983_r0 : Index := Scalar.indexCast v30_r0
  let c1280_417_r0 : Index := 1280#32
  let c2560_418_r0 : Index := 2560#32
  ![v983_r0.toNat, 1280, 2560]
def k0_off122 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1002_r0 : Index := Scalar.indexCast v30_r0
  let c20_r0 : Index := 20#32
  let c2560_423_r0 : Index := 2560#32
  ![v1002_r0.toNat, 20, 2560]
def k0_off123 (v1_0_r0 : BitVec 32) (k0_t3 : Fin (k0_t3_loop v1_0_r0).trips) : Fin 3 → Nat :=
  let c0_i32_21_r0 : BitVec 32 := 0#32
  let c0_i32_22_r0 : BitVec 32 := 0#32
  let c1_i32_24_r0 : BitVec 32 := 1#32
  let arg16_r0 : BitVec 32 := Scf.iv c0_i32_22_r0 c1_i32_24_r0 k0_t3
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1014_r0 : Index := Scalar.indexCast v30_r0
  let c21_r0 : Index := 21#32
  let c2560_424_r0 : Index := 2560#32
  ![v1014_r0.toNat, 21, 2560]
def k0_off124 (v51_r0 : BitVec 32) (c0_i32_425_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1027_r0 : BitVec 32 := Scalar.addi v57_r0 c0_i32_425_r0
  let v1028_r0 : Index := Scalar.indexCast v1027_r0
  let c2560_426_r0 : Index := 2560#32
  ![v1028_r0.toNat, 2560]
def k0_off125 (v51_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let c0_i32_457_r0 : BitVec 32 := 0#32
  let v1078_r0 : BitVec 32 := Scalar.addi v57_r0 c0_i32_457_r0
  let v1085_r0 : Index := Scalar.indexCast v1078_r0
  let c2560_458_r0 : Index := 2560#32
  ![v1085_r0.toNat, 2560]
def k0_off126 (v51_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let c0_i32_457_r0 : BitVec 32 := 0#32
  let v1078_r0 : BitVec 32 := Scalar.addi v57_r0 c0_i32_457_r0
  let c16_i32_460_r0 : BitVec 32 := 16#32
  let v1095_r0 : BitVec 32 := Scalar.addi v1078_r0 c16_i32_460_r0
  let v1096_r0 : Index := Scalar.indexCast v1095_r0
  let c2560_461_r0 : Index := 2560#32
  ![v1096_r0.toNat, 2560]

def k0_chk8_0 (v1_0_r0 : BitVec 32) (k0_t3 : Fin (k0_t3_loop v1_0_r0).trips) (v51_r0 : BitVec 32) (v54_r0 : BitVec 32) : Prop :=
  (∀ k0_t4 : Fin k0_t4_loop.trips, ∀ (k0_h5 : k0_cond5 v51_r0 v54_r0 = 1#1), ∀ (r : Fin 2), ∀ a, (k0_off34 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off35 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off36 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off37 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off38 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off39 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off40 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off41 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off42 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off43 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off44 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off45 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off46 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off47 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off48 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off49 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off50 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off51 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off52 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off53 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off54 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off55 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off56 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off57 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off58 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off59 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off60 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off61 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off62 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off63 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off64 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off65 v51_r0 (BitVec.ofNat 32 (32 * r.val))) a + S32x256.size a ≤ S1024x2816.size a)
def k0_chk8_1 (v1_0_r0 : BitVec 32) (k0_t3 : Fin (k0_t3_loop v1_0_r0).trips) (v51_r0 : BitVec 32) (v54_r0 : BitVec 32) : Prop :=
  (∀ k0_t4 : Fin k0_t4_loop.trips, ∀ (k0_h5 : k0_cond5 v51_r0 v54_r0 = 1#1), ∀ (r : Fin 2), ∀ a, (k0_off66 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off67 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off68 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off69 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off70 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off71 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off72 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off73 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off74 v1_0_r0 k0_t3 k0_t4 (BitVec.ofNat 32 (256 * r.val))) a + S1x128x256.size a ≤ S3x1408x2816.size a) ∧
  (∀ k0_t4 : Fin k0_t4_loop.trips, ∀ (k0_h5 : k0_cond5 v51_r0 v54_r0 = 1#1), ∀ (r : Fin 2), ∀ a, (k0_off75 v1_0_r0 k0_t3 k0_t4 (BitVec.ofNat 32 (256 * r.val))) a + S1x1x256.size a ≤ S3x22x2816.size a) ∧
  (∀ k0_t4 : Fin k0_t4_loop.trips, ∀ (k0_h5 : k0_cond5 v51_r0 v54_r0 = 1#1), ∀ (r : Fin 2), ∀ a, (k0_off76 v1_0_r0 k0_t3 k0_t4 (BitVec.ofNat 32 (256 * r.val))) a + S1x1x256.size a ≤ S3x22x2816.size a) ∧
  (∀ (k0_h5 : k0_cond5 v51_r0 v54_r0 = 1#1), ∀ (r : Fin 16), ∀ a, (k0_off77 v51_r0 (BitVec.ofNat 32 (32 * r.val))) a + S32x256.size a ≤ S1024x2816.size a) ∧
  (∀ k0_t4 : Fin k0_t4_loop.trips, ∀ (k0_h5 : k0_cond5 v51_r0 v54_r0 = 1#1), ∀ (r : Fin 2), ∀ a, (k0_off78 v51_r0 k0_t4 (BitVec.ofNat 32 (256 * r.val))) a + S16x256.size a ≤ S1024x2816.size a) ∧
  (∀ k0_t4 : Fin k0_t4_loop.trips, ∀ (k0_h5 : k0_cond5 v51_r0 v54_r0 = 1#1), ∀ (r : Fin 2), ∀ (hinb : ∀ a, (k0_off78 v51_r0 k0_t4 (BitVec.ofNat 32 (256 * r.val))) a + S16x256.size a ≤ S1024x2816.size a), (Rect.unit (s := S1024x2816) (k0_off78 v51_r0 k0_t4 (BitVec.ofNat 32 (256 * r.val))) S16x256.size hinb).PackedRows (EltTy.packing .bf16)) ∧
  (∀ k0_t4 : Fin k0_t4_loop.trips, ∀ (k0_h5 : k0_cond5 v51_r0 v54_r0 = 1#1), ∀ (r : Fin 2), ∀ a, (k0_off79 v51_r0 k0_t4 (BitVec.ofNat 32 (256 * r.val))) a + S16x256.size a ≤ S1024x2816.size a) ∧
  (∀ k0_t4 : Fin k0_t4_loop.trips, ∀ (k0_h5 : k0_cond5 v51_r0 v54_r0 = 1#1), ∀ (r : Fin 2), ∀ (hinb : ∀ a, (k0_off79 v51_r0 k0_t4 (BitVec.ofNat 32 (256 * r.val))) a + S16x256.size a ≤ S1024x2816.size a), (Rect.unit (s := S1024x2816) (k0_off79 v51_r0 k0_t4 (BitVec.ofNat 32 (256 * r.val))) S16x256.size hinb).PackedRows (EltTy.packing .bf16)) ∧
  (∀ k0_t4 : Fin k0_t4_loop.trips, ∀ (k0_h5 : k0_cond5 v51_r0 v54_r0 = 1#1), ∀ (r₁ : Fin 15) (r₂ : Fin 2), ∀ a, (k0_off80 v51_r0 k0_t4 (BitVec.ofNat 32 (32 + 32 * r₁.val)) (BitVec.ofNat 32 (256 * r₂.val))) a + S32x256.size a ≤ S1024x2816.size a) ∧
  (∀ k0_t4 : Fin k0_t4_loop.trips, ∀ (k0_h5 : k0_cond5 v51_r0 v54_r0 = 1#1), ∀ (r₁ : Fin 15) (r₂ : Fin 2), ∀ (hinb : ∀ a, (k0_off80 v51_r0 k0_t4 (BitVec.ofNat 32 (32 + 32 * r₁.val)) (BitVec.ofNat 32 (256 * r₂.val))) a + S32x256.size a ≤ S1024x2816.size a), (Rect.unit (s := S1024x2816) (k0_off80 v51_r0 k0_t4 (BitVec.ofNat 32 (32 + 32 * r₁.val)) (BitVec.ofNat 32 (256 * r₂.val))) S32x256.size hinb).PackedRows (EltTy.packing .bf16)) ∧
  (∀ (k0_h5 : k0_cond5 v51_r0 v54_r0 = 1#1), ∀ a, (k0_off81 v1_0_r0 k0_t3) a + S1x128x256.size a ≤ S3x1408x2816.size a) ∧
  (∀ (k0_h5 : k0_cond5 v51_r0 v54_r0 = 1#1), ∀ a, (k0_off82 v1_0_r0 k0_t3) a + S1x1x256.size a ≤ S3x22x2816.size a) ∧
  (∀ (k0_h5 : k0_cond5 v51_r0 v54_r0 = 1#1), ∀ a, (k0_off83 v1_0_r0 k0_t3) a + S1x1x256.size a ≤ S3x22x2816.size a) ∧
  (∀ (k0_h5 : k0_cond5 v51_r0 v54_r0 = 1#1), ∀ (r : Fin 16), ∀ a, (k0_off84 v51_r0 (BitVec.ofNat 32 (32 * r.val))) a + S32x256.size a ≤ S1024x2816.size a) ∧
  (∀ (k0_h5 : k0_cond5 v51_r0 v54_r0 = 1#1), ∀ a, (k0_off85 v1_0_r0 k0_t3) a + S1x128x256.size a ≤ S3x1408x2816.size a) ∧
  (∀ (k0_h5 : k0_cond5 v51_r0 v54_r0 = 1#1), ∀ a, (k0_off86 v1_0_r0 k0_t3) a + S1x1x256.size a ≤ S3x22x2816.size a) ∧
  (∀ (k0_h5 : k0_cond5 v51_r0 v54_r0 = 1#1), ∀ a, (k0_off87 v1_0_r0 k0_t3) a + S1x1x256.size a ≤ S3x22x2816.size a) ∧
  (∀ (k0_h5 : k0_cond5 v51_r0 v54_r0 = 1#1), ∀ (r : Fin 16), ∀ a, (k0_off88 v51_r0 (BitVec.ofNat 32 (32 * r.val))) a + S32x256.size a ≤ S1024x2816.size a) ∧
  (∀ (k0_h5 : k0_cond5 v51_r0 v54_r0 = 1#1), ∀ a, (k0_off89 v1_0_r0 k0_t3) a + S1x128x256.size a ≤ S3x1408x2816.size a) ∧
  (∀ (k0_h5 : k0_cond5 v51_r0 v54_r0 = 1#1), ∀ a, (k0_off90 v1_0_r0 k0_t3) a + S1x1x256.size a ≤ S3x22x2816.size a) ∧
  (∀ (k0_h5 : k0_cond5 v51_r0 v54_r0 = 1#1), ∀ a, (k0_off91 v1_0_r0 k0_t3) a + S1x1x256.size a ≤ S3x22x2816.size a) ∧
  (∀ (k0_h5 : k0_cond5 v51_r0 v54_r0 = 1#1), ∀ (r : Fin 16), ∀ a, (k0_off92 v51_r0 (BitVec.ofNat 32 (32 * r.val))) a + S32x256.size a ≤ S1024x2816.size a) ∧
  (∀ (k0_h5 : k0_cond5 v51_r0 v54_r0 = 1#1), ∀ a, (k0_off93 v1_0_r0 k0_t3) a + S1x128x256.size a ≤ S3x1408x2816.size a) ∧
  (∀ (k0_h5 : k0_cond5 v51_r0 v54_r0 = 1#1), ∀ a, (k0_off94 v1_0_r0 k0_t3) a + S1x1x256.size a ≤ S3x22x2816.size a)
def k0_chk8_2 (v1_0_r0 : BitVec 32) (k0_t3 : Fin (k0_t3_loop v1_0_r0).trips) (v51_r0 : BitVec 32) (v54_r0 : BitVec 32) : Prop :=
  (∀ (k0_h5 : k0_cond5 v51_r0 v54_r0 = 1#1), ∀ a, (k0_off95 v1_0_r0 k0_t3) a + S1x1x256.size a ≤ S3x22x2816.size a) ∧
  (∀ (k0_h5 : k0_cond5 v51_r0 v54_r0 = 1#1), ∀ (r : Fin 16), ∀ a, (k0_off96 v51_r0 (BitVec.ofNat 32 (32 * r.val))) a + S32x256.size a ≤ S1024x2816.size a) ∧
  (∀ (k0_h5 : k0_cond5 v51_r0 v54_r0 = 1#1), ∀ a, (k0_off97 v1_0_r0 k0_t3) a + S1x128x256.size a ≤ S3x1408x2816.size a) ∧
  (∀ (k0_h5 : k0_cond5 v51_r0 v54_r0 = 1#1), ∀ a, (k0_off98 v1_0_r0 k0_t3) a + S1x1x256.size a ≤ S3x22x2816.size a) ∧
  (∀ (k0_h5 : k0_cond5 v51_r0 v54_r0 = 1#1), ∀ a, (k0_off99 v1_0_r0 k0_t3) a + S1x1x256.size a ≤ S3x22x2816.size a) ∧
  (∀ (k0_h5 : k0_cond5 v51_r0 v54_r0 = 1#1), ∀ (r : Fin 16), ∀ a, (k0_off100 v51_r0 (BitVec.ofNat 32 (32 * r.val))) a + S32x256.size a ≤ S1024x2816.size a) ∧
  (∀ (k0_h5 : k0_cond5 v51_r0 v54_r0 = 1#1), ∀ a, (k0_off101 v1_0_r0 k0_t3) a + S1x128x256.size a ≤ S3x1408x2816.size a) ∧
  (∀ (k0_h5 : k0_cond5 v51_r0 v54_r0 = 1#1), ∀ a, (k0_off102 v1_0_r0 k0_t3) a + S1x1x256.size a ≤ S3x22x2816.size a) ∧
  (∀ (k0_h5 : k0_cond5 v51_r0 v54_r0 = 1#1), ∀ a, (k0_off103 v1_0_r0 k0_t3) a + S1x1x256.size a ≤ S3x22x2816.size a) ∧
  (∀ (k0_h5 : k0_cond5 v51_r0 v54_r0 = 1#1), ∀ (r : Fin 16), ∀ a, (k0_off104 v51_r0 (BitVec.ofNat 32 (32 * r.val))) a + S32x256.size a ≤ S1024x2816.size a) ∧
  (∀ (k0_h5 : k0_cond5 v51_r0 v54_r0 = 1#1), ∀ a, (k0_off105 v1_0_r0 k0_t3) a + S1x128x256.size a ≤ S3x1408x2816.size a) ∧
  (∀ (k0_h5 : k0_cond5 v51_r0 v54_r0 = 1#1), ∀ a, (k0_off106 v1_0_r0 k0_t3) a + S1x1x256.size a ≤ S3x22x2816.size a) ∧
  (∀ (k0_h5 : k0_cond5 v51_r0 v54_r0 = 1#1), ∀ a, (k0_off107 v1_0_r0 k0_t3) a + S1x1x256.size a ≤ S3x22x2816.size a) ∧
  (∀ (k0_h5 : k0_cond5 v51_r0 v54_r0 = 1#1), ∀ (r : Fin 16), ∀ a, (k0_off108 v51_r0 (BitVec.ofNat 32 (32 * r.val))) a + S32x256.size a ≤ S1024x2816.size a) ∧
  (∀ (k0_h5 : k0_cond5 v51_r0 v54_r0 = 1#1), ∀ a, (k0_off109 v1_0_r0 k0_t3) a + S1x128x256.size a ≤ S3x1408x2816.size a) ∧
  (∀ (k0_h5 : k0_cond5 v51_r0 v54_r0 = 1#1), ∀ a, (k0_off110 v1_0_r0 k0_t3) a + S1x1x256.size a ≤ S3x22x2816.size a) ∧
  (∀ (k0_h5 : k0_cond5 v51_r0 v54_r0 = 1#1), ∀ a, (k0_off111 v1_0_r0 k0_t3) a + S1x1x256.size a ≤ S3x22x2816.size a) ∧
  (∀ (k0_h5 : k0_cond5 v51_r0 v54_r0 = 1#1), ∀ (r : Fin 16), ∀ a, (k0_off112 v51_r0 (BitVec.ofNat 32 (32 * r.val))) a + S32x256.size a ≤ S1024x2816.size a) ∧
  (∀ (k0_h5 : k0_cond5 v51_r0 v54_r0 = 1#1), ∀ a, (k0_off113 v1_0_r0 k0_t3) a + S1x128x256.size a ≤ S3x1408x2816.size a) ∧
  (∀ (k0_h5 : k0_cond5 v51_r0 v54_r0 = 1#1), ∀ a, (k0_off114 v1_0_r0 k0_t3) a + S1x1x256.size a ≤ S3x22x2816.size a) ∧
  (∀ (k0_h5 : k0_cond5 v51_r0 v54_r0 = 1#1), ∀ a, (k0_off115 v1_0_r0 k0_t3) a + S1x1x256.size a ≤ S3x22x2816.size a) ∧
  (∀ (k0_h5 : k0_cond5 v51_r0 v54_r0 = 1#1), ∀ (r : Fin 16), ∀ a, (k0_off116 v51_r0 (BitVec.ofNat 32 (32 * r.val))) a + S32x256.size a ≤ S1024x2816.size a) ∧
  (∀ (k0_h5 : k0_cond5 v51_r0 v54_r0 = 1#1), ∀ a, (k0_off117 v1_0_r0 k0_t3) a + S1x128x256.size a ≤ S3x1408x2816.size a) ∧
  (∀ (k0_h5 : k0_cond5 v51_r0 v54_r0 = 1#1), ∀ a, (k0_off118 v1_0_r0 k0_t3) a + S1x1x256.size a ≤ S3x22x2816.size a) ∧
  (∀ (k0_h5 : k0_cond5 v51_r0 v54_r0 = 1#1), ∀ a, (k0_off119 v1_0_r0 k0_t3) a + S1x1x256.size a ≤ S3x22x2816.size a) ∧
  (∀ (k0_h5 : k0_cond5 v51_r0 v54_r0 = 1#1), ∀ (r : Fin 16), ∀ a, (k0_off120 v51_r0 (BitVec.ofNat 32 (32 * r.val))) a + S32x256.size a ≤ S1024x2816.size a) ∧
  (∀ (k0_h5 : k0_cond5 v51_r0 v54_r0 = 1#1), ∀ a, (k0_off121 v1_0_r0 k0_t3) a + S1x128x256.size a ≤ S3x1408x2816.size a) ∧
  (∀ (k0_h5 : k0_cond5 v51_r0 v54_r0 = 1#1), ∀ a, (k0_off122 v1_0_r0 k0_t3) a + S1x1x256.size a ≤ S3x22x2816.size a) ∧
  (∀ (k0_h5 : k0_cond5 v51_r0 v54_r0 = 1#1), ∀ a, (k0_off123 v1_0_r0 k0_t3) a + S1x1x256.size a ≤ S3x22x2816.size a) ∧
  (∀ (k0_h5 : k0_cond5 v51_r0 v54_r0 = 1#1), ∀ (r : Fin 16), ∀ a, (k0_off124 v51_r0 (BitVec.ofNat 32 (32 * r.val))) a + S32x256.size a ≤ S1024x2816.size a) ∧
  (∀ (k0_h5 : k0_cond5 v51_r0 v54_r0 = 1#1), ∀ a, (k0_off125 v51_r0) a + S16x256.size a ≤ S1024x2816.size a) ∧
  (∀ (k0_h5 : k0_cond5 v51_r0 v54_r0 = 1#1), ∀ (hinb : ∀ a, (k0_off125 v51_r0) a + S16x256.size a ≤ S1024x2816.size a), (Rect.unit (s := S1024x2816) (k0_off125 v51_r0) S16x256.size hinb).PackedRows (EltTy.packing .bf16))
def k0_chk8_3 (v1_0_r0 : BitVec 32) (k0_t3 : Fin (k0_t3_loop v1_0_r0).trips) (v51_r0 : BitVec 32) (v54_r0 : BitVec 32) : Prop :=
  (∀ (k0_h5 : k0_cond5 v51_r0 v54_r0 = 1#1), ∀ a, (k0_off126 v51_r0) a + S16x256.size a ≤ S1024x2816.size a) ∧
  (∀ (k0_h5 : k0_cond5 v51_r0 v54_r0 = 1#1), ∀ (hinb : ∀ a, (k0_off126 v51_r0) a + S16x256.size a ≤ S1024x2816.size a), (Rect.unit (s := S1024x2816) (k0_off126 v51_r0) S16x256.size hinb).PackedRows (EltTy.packing .bf16)) ∧
  (∀ (k0_h5 : k0_cond5 v51_r0 v54_r0 = 1#1), ∀ (r : Fin 16), ∀ (hinb : ∀ a, (k0_off124 v51_r0 (BitVec.ofNat 32 (32 * r.val))) a + S32x256.size a ≤ S1024x2816.size a), (Rect.unit (s := S1024x2816) (k0_off124 v51_r0 (BitVec.ofNat 32 (32 * r.val))) S32x256.size hinb).PackedRows (EltTy.packing .bf16))
def k0_chk8 (v1_0_r0 : BitVec 32) (k0_t3 : Fin (k0_t3_loop v1_0_r0).trips) (v51_r0 : BitVec 32) (v54_r0 : BitVec 32) : Prop :=
  k0_chk8_0 v1_0_r0 k0_t3 v51_r0 v54_r0 ∧
  k0_chk8_1 v1_0_r0 k0_t3 v51_r0 v54_r0 ∧
  k0_chk8_2 v1_0_r0 k0_t3 v51_r0 v54_r0 ∧
  k0_chk8_3 v1_0_r0 k0_t3 v51_r0 v54_r0
theorem k0_off34_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off34 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.1.1 k0_t4 k0_h5 r
theorem k0_off35_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off35 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.1 k0_t4 k0_h5 r
theorem k0_off36_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off36 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.1 k0_t4 k0_h5 r
theorem k0_off37_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off37 v51_r0 (BitVec.ofNat 32 (32 * r.val))) a + S32x256.size a ≤ S1024x2816.size a := fun v1_0_r0 k0_t3 v51_r0 v54_r0 k0_hw8 k0_h5 r => k0_hw8.1.2.2.2.1 k0_h5 r
theorem k0_off38_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off38 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.1.2.2.2.2.1 k0_t4 k0_h5 r
theorem k0_off39_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off39 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.1 k0_t4 k0_h5 r
theorem k0_off40_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off40 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.1 k0_t4 k0_h5 r
theorem k0_off41_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off41 v51_r0 (BitVec.ofNat 32 (32 * r.val))) a + S32x256.size a ≤ S1024x2816.size a := fun v1_0_r0 k0_t3 v51_r0 v54_r0 k0_hw8 k0_h5 r => k0_hw8.1.2.2.2.2.2.2.2.1 k0_h5 r
theorem k0_off42_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off42 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.1.2.2.2.2.2.2.2.2.1 k0_t4 k0_h5 r
theorem k0_off43_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off43 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.1 k0_t4 k0_h5 r
theorem k0_off44_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off44 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.1 k0_t4 k0_h5 r
theorem k0_off45_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off45 v51_r0 (BitVec.ofNat 32 (32 * r.val))) a + S32x256.size a ≤ S1024x2816.size a := fun v1_0_r0 k0_t3 v51_r0 v54_r0 k0_hw8 k0_h5 r => k0_hw8.1.2.2.2.2.2.2.2.2.2.2.2.1 k0_h5 r
theorem k0_off46_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off46 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.1.2.2.2.2.2.2.2.2.2.2.2.2.1 k0_t4 k0_h5 r
theorem k0_off47_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off47 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.1 k0_t4 k0_h5 r
theorem k0_off48_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off48 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.2.1 k0_t4 k0_h5 r
theorem k0_off49_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off49 v51_r0 (BitVec.ofNat 32 (32 * r.val))) a + S32x256.size a ≤ S1024x2816.size a := fun v1_0_r0 k0_t3 v51_r0 v54_r0 k0_hw8 k0_h5 r => k0_hw8.1.2.2.2.2.2.2.2.2.2.2.2.2.2.2.2.1 k0_h5 r
theorem k0_off50_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off50 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.1.2.2.2.2.2.2.2.2.2.2.2.2.2.2.2.2.1 k0_t4 k0_h5 r
theorem k0_off51_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off51 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.2.2.2.2.1 k0_t4 k0_h5 r
theorem k0_off52_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off52 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.2.2.2.2.2.1 k0_t4 k0_h5 r
theorem k0_off53_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off53 v51_r0 (BitVec.ofNat 32 (32 * r.val))) a + S32x256.size a ≤ S1024x2816.size a := fun v1_0_r0 k0_t3 v51_r0 v54_r0 k0_hw8 k0_h5 r => k0_hw8.1.2.2.2.2.2.2.2.2.2.2.2.2.2.2.2.2.2.2.2.1 k0_h5 r
theorem k0_off54_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off54 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.1.2.2.2.2.2.2.2.2.2.2.2.2.2.2.2.2.2.2.2.2.1 k0_t4 k0_h5 r
theorem k0_off55_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off55 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.2.2.2.2.2.2.2.2.1 k0_t4 k0_h5 r
theorem k0_off56_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off56 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.2.2.2.2.2.2.2.2.2.1 k0_t4 k0_h5 r
theorem k0_off57_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off57 v51_r0 (BitVec.ofNat 32 (32 * r.val))) a + S32x256.size a ≤ S1024x2816.size a := fun v1_0_r0 k0_t3 v51_r0 v54_r0 k0_hw8 k0_h5 r => k0_hw8.1.2.2.2.2.2.2.2.2.2.2.2.2.2.2.2.2.2.2.2.2.2.2.2.1 k0_h5 r
theorem k0_off58_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off58 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.1.2.2.2.2.2.2.2.2.2.2.2.2.2.2.2.2.2.2.2.2.2.2.2.2.1 k0_t4 k0_h5 r
theorem k0_off59_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off59 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.2.2.2.2.2.2.2.2.2.2.2.2.1 k0_t4 k0_h5 r
theorem k0_off60_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off60 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.2.2.2.2.2.2.2.2.2.2.2.2.2.1 k0_t4 k0_h5 r
theorem k0_off61_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off61 v51_r0 (BitVec.ofNat 32 (32 * r.val))) a + S32x256.size a ≤ S1024x2816.size a := fun v1_0_r0 k0_t3 v51_r0 v54_r0 k0_hw8 k0_h5 r => k0_hw8.1.2.2.2.2.2.2.2.2.2.2.2.2.2.2.2.2.2.2.2.2.2.2.2.2.2.2.2.1 k0_h5 r
theorem k0_off62_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off62 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.1.2.2.2.2.2.2.2.2.2.2.2.2.2.2.2.2.2.2.2.2.2.2.2.2.2.2.2.2.1 k0_t4 k0_h5 r
theorem k0_off63_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off63 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.2.2.2.2.2.2.2.2.2.2.2.2.2.2.2.2.1 k0_t4 k0_h5 r
theorem k0_off64_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off64 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.1.2.2.2.2.2.2.2.2.2.2.2.2.2.2.2.2.2.2.2.2.2.2.2.2.2.2.2.2.2.2.1 k0_t4 k0_h5 r
theorem k0_off65_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off65 v51_r0 (BitVec.ofNat 32 (32 * r.val))) a + S32x256.size a ≤ S1024x2816.size a := fun v1_0_r0 k0_t3 v51_r0 v54_r0 k0_hw8 k0_h5 r => k0_hw8.1.2.2.2.2.2.2.2.2.2.2.2.2.2.2.2.2.2.2.2.2.2.2.2.2.2.2.2.2.2.2.2 k0_h5 r
theorem k0_off66_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off66 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.2.1.1 k0_t4 k0_h5 r
theorem k0_off67_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off67 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.2.1.2.1 k0_t4 k0_h5 r
theorem k0_off68_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off68 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.2.1.2.2.1 k0_t4 k0_h5 r
theorem k0_off69_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off69 v51_r0 (BitVec.ofNat 32 (32 * r.val))) a + S32x256.size a ≤ S1024x2816.size a := fun v1_0_r0 k0_t3 v51_r0 v54_r0 k0_hw8 k0_h5 r => k0_hw8.2.1.2.2.2.1 k0_h5 r
theorem k0_off70_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off70 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.2.1.2.2.2.2.1 k0_t4 k0_h5 r
theorem k0_off71_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off71 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.2.1.2.2.2.2.2.1 k0_t4 k0_h5 r
theorem k0_off72_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off72 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.2.1.2.2.2.2.2.2.1 k0_t4 k0_h5 r
theorem k0_off73_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off73 v51_r0 (BitVec.ofNat 32 (32 * r.val))) a + S32x256.size a ≤ S1024x2816.size a := fun v1_0_r0 k0_t3 v51_r0 v54_r0 k0_hw8 k0_h5 r => k0_hw8.2.1.2.2.2.2.2.2.2.1 k0_h5 r
theorem k0_off74_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off74 v1_0_r0 k0_t3 k0_t4 (BitVec.ofNat 32 (256 * r.val))) a + S1x128x256.size a ≤ S3x1408x2816.size a := fun v1_0_r0 k0_t3 v51_r0 v54_r0 k0_hw8 k0_t4 k0_h5 r => k0_hw8.2.1.2.2.2.2.2.2.2.2.1 k0_t4 k0_h5 r
theorem k0_off75_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off75 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.2.1.2.2.2.2.2.2.2.2.2.1 k0_t4 k0_h5 r
theorem k0_off76_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off76 v1_0_r0 k0_t3 k0_t4 (BitVec.ofNat 32 (256 * r.val))) a + S1x1x256.size a ≤ S3x22x2816.size a := fun v1_0_r0 k0_t3 v51_r0 v54_r0 k0_hw8 k0_t4 k0_h5 r => k0_hw8.2.1.2.2.2.2.2.2.2.2.2.2.1 k0_t4 k0_h5 r
theorem k0_off77_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off77 v51_r0 (BitVec.ofNat 32 (32 * r.val))) a + S32x256.size a ≤ S1024x2816.size a := fun v1_0_r0 k0_t3 v51_r0 v54_r0 k0_hw8 k0_h5 r => k0_hw8.2.1.2.2.2.2.2.2.2.2.2.2.2.1 k0_h5 r
theorem k0_off78_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off78 v51_r0 k0_t4 (BitVec.ofNat 32 (256 * r.val))) a + S16x256.size a ≤ S1024x2816.size a := fun v1_0_r0 k0_t3 v51_r0 v54_r0 k0_hw8 k0_t4 k0_h5 r => k0_hw8.2.1.2.2.2.2.2.2.2.2.2.2.2.2.1 k0_t4 k0_h5 r
theorem k0_off78_packedbf16 : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), (Rect.unit (s := S1024x2816) (k0_off78 v51_r0 k0_t4 (BitVec.ofNat 32 (256 * r.val))) S16x256.size (k0_off78_inb v1_0_r0 k0_t3 v51_r0 v54_r0 k0_hw8 k0_t4 k0_h5 r)).PackedRows (EltTy.packing .bf16) := fun v1_0_r0 k0_t3 v51_r0 v54_r0 k0_hw8 k0_t4 k0_h5 r => k0_hw8.2.1.2.2.2.2.2.2.2.2.2.2.2.2.2.1 k0_t4 k0_h5 r (k0_off78_inb v1_0_r0 k0_t3 v51_r0 v54_r0 k0_hw8 k0_t4 k0_h5 r)
theorem k0_off79_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), ∀ a, (k0_off79 v51_r0 k0_t4 (BitVec.ofNat 32 (256 * r.val))) a + S16x256.size a ≤ S1024x2816.size a := fun v1_0_r0 k0_t3 v51_r0 v54_r0 k0_hw8 k0_t4 k0_h5 r => k0_hw8.2.1.2.2.2.2.2.2.2.2.2.2.2.2.2.2.1 k0_t4 k0_h5 r
theorem k0_off79_packedbf16 : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r : Fin 2), (Rect.unit (s := S1024x2816) (k0_off79 v51_r0 k0_t4 (BitVec.ofNat 32 (256 * r.val))) S16x256.size (k0_off79_inb v1_0_r0 k0_t3 v51_r0 v54_r0 k0_hw8 k0_t4 k0_h5 r)).PackedRows (EltTy.packing .bf16) := fun v1_0_r0 k0_t3 v51_r0 v54_r0 k0_hw8 k0_t4 k0_h5 r => k0_hw8.2.1.2.2.2.2.2.2.2.2.2.2.2.2.2.2.2.1 k0_t4 k0_h5 r (k0_off79_inb v1_0_r0 k0_t3 v51_r0 v54_r0 k0_hw8 k0_t4 k0_h5 r)
theorem k0_off80_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r₁ : Fin 15) (r₂ : Fin 2), ∀ a, (k0_off80 v51_r0 k0_t4 (BitVec.ofNat 32 (32 + 32 * r₁.val)) (BitVec.ofNat 32 (256 * r₂.val))) a + S32x256.size a ≤ S1024x2816.size a := fun v1_0_r0 k0_t3 v51_r0 v54_r0 k0_hw8 k0_t4 k0_h5 r₁ r₂ => k0_hw8.2.1.2.2.2.2.2.2.2.2.2.2.2.2.2.2.2.2.1 k0_t4 k0_h5 r₁ r₂
theorem k0_off80_packedbf16 : ∀ (v1_0_r0 : BitVec 32) (k0_t3 : Fin (k0_t3_loop v1_0_r0).trips) (v51_r0 : BitVec 32) (v54_r0 : BitVec 32) (k0_hw8 : k0_chk8 v1_0_r0 k0_t3 v51_r0 v54_r0) (k0_t4 : Fin k0_t4_loop.trips), ∀ (k0_h5 : k0_cond5 v51_r0 v54_r0 = 1#1), ∀ (r₁ : Fin 15) (r₂ : Fin 2), (Rect.unit (s := S1024x2816) (k0_off80 v51_r0 k0_t4 (BitVec.ofNat 32 (32 + 32 * r₁.val)) (BitVec.ofNat 32 (256 * r₂.val))) S32x256.size (k0_off80_inb v1_0_r0 k0_t3 v51_r0 v54_r0 k0_hw8 k0_t4 k0_h5 r₁ r₂)).PackedRows (EltTy.packing .bf16) := fun v1_0_r0 k0_t3 v51_r0 v54_r0 k0_hw8 k0_t4 k0_h5 r₁ r₂ => k0_hw8.2.1.2.2.2.2.2.2.2.2.2.2.2.2.2.2.2.2.2.1 k0_t4 k0_h5 r₁ r₂ (k0_off80_inb v1_0_r0 k0_t3 v51_r0 v54_r0 k0_hw8 k0_t4 k0_h5 r₁ r₂)
theorem k0_off81_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off81 v1_0_r0 k0_t3) a + S1x128x256.size a ≤ S3x1408x2816.size a := fun v1_0_r0 k0_t3 v51_r0 v54_r0 k0_hw8 k0_h5 => k0_hw8.2.1.2.2.2.2.2.2.2.2.2.2.2.2.2.2.2.2.2.2.1 k0_h5
theorem k0_off82_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off82 v1_0_r0 k0_t3) a + S1x1x256.size a ≤ S3x22x2816.size a := fun v1_0_r0 k0_t3 v51_r0 v54_r0 k0_hw8 k0_h5 => k0_hw8.2.1.2.2.2.2.2.2.2.2.2.2.2.2.2.2.2.2.2.2.2.1 k0_h5
theorem k0_off83_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off83 v1_0_r0 k0_t3) a + S1x1x256.size a ≤ S3x22x2816.size a := fun v1_0_r0 k0_t3 v51_r0 v54_r0 k0_hw8 k0_h5 => k0_hw8.2.1.2.2.2.2.2.2.2.2.2.2.2.2.2.2.2.2.2.2.2.2.1 k0_h5
theorem k0_off84_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off84 v51_r0 (BitVec.ofNat 32 (32 * r.val))) a + S32x256.size a ≤ S1024x2816.size a := fun v1_0_r0 k0_t3 v51_r0 v54_r0 k0_hw8 k0_h5 r => k0_hw8.2.1.2.2.2.2.2.2.2.2.2.2.2.2.2.2.2.2.2.2.2.2.2.1 k0_h5 r
theorem k0_off85_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off85 v1_0_r0 k0_t3) a + S1x128x256.size a ≤ S3x1408x2816.size a := fun v1_0_r0 k0_t3 v51_r0 v54_r0 k0_hw8 k0_h5 => k0_hw8.2.1.2.2.2.2.2.2.2.2.2.2.2.2.2.2.2.2.2.2.2.2.2.2.1 k0_h5
theorem k0_off86_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off86 v1_0_r0 k0_t3) a + S1x1x256.size a ≤ S3x22x2816.size a := fun v1_0_r0 k0_t3 v51_r0 v54_r0 k0_hw8 k0_h5 => k0_hw8.2.1.2.2.2.2.2.2.2.2.2.2.2.2.2.2.2.2.2.2.2.2.2.2.2.1 k0_h5
theorem k0_off87_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off87 v1_0_r0 k0_t3) a + S1x1x256.size a ≤ S3x22x2816.size a := fun v1_0_r0 k0_t3 v51_r0 v54_r0 k0_hw8 k0_h5 => k0_hw8.2.1.2.2.2.2.2.2.2.2.2.2.2.2.2.2.2.2.2.2.2.2.2.2.2.2.1 k0_h5
theorem k0_off88_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off88 v51_r0 (BitVec.ofNat 32 (32 * r.val))) a + S32x256.size a ≤ S1024x2816.size a := fun v1_0_r0 k0_t3 v51_r0 v54_r0 k0_hw8 k0_h5 r => k0_hw8.2.1.2.2.2.2.2.2.2.2.2.2.2.2.2.2.2.2.2.2.2.2.2.2.2.2.2.1 k0_h5 r
theorem k0_off89_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off89 v1_0_r0 k0_t3) a + S1x128x256.size a ≤ S3x1408x2816.size a := fun v1_0_r0 k0_t3 v51_r0 v54_r0 k0_hw8 k0_h5 => k0_hw8.2.1.2.2.2.2.2.2.2.2.2.2.2.2.2.2.2.2.2.2.2.2.2.2.2.2.2.2.1 k0_h5
theorem k0_off90_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off90 v1_0_r0 k0_t3) a + S1x1x256.size a ≤ S3x22x2816.size a := fun v1_0_r0 k0_t3 v51_r0 v54_r0 k0_hw8 k0_h5 => k0_hw8.2.1.2.2.2.2.2.2.2.2.2.2.2.2.2.2.2.2.2.2.2.2.2.2.2.2.2.2.2.1 k0_h5
theorem k0_off91_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off91 v1_0_r0 k0_t3) a + S1x1x256.size a ≤ S3x22x2816.size a := fun v1_0_r0 k0_t3 v51_r0 v54_r0 k0_hw8 k0_h5 => k0_hw8.2.1.2.2.2.2.2.2.2.2.2.2.2.2.2.2.2.2.2.2.2.2.2.2.2.2.2.2.2.2.1 k0_h5
theorem k0_off92_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off92 v51_r0 (BitVec.ofNat 32 (32 * r.val))) a + S32x256.size a ≤ S1024x2816.size a := fun v1_0_r0 k0_t3 v51_r0 v54_r0 k0_hw8 k0_h5 r => k0_hw8.2.1.2.2.2.2.2.2.2.2.2.2.2.2.2.2.2.2.2.2.2.2.2.2.2.2.2.2.2.2.2.1 k0_h5 r
theorem k0_off93_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off93 v1_0_r0 k0_t3) a + S1x128x256.size a ≤ S3x1408x2816.size a := fun v1_0_r0 k0_t3 v51_r0 v54_r0 k0_hw8 k0_h5 => k0_hw8.2.1.2.2.2.2.2.2.2.2.2.2.2.2.2.2.2.2.2.2.2.2.2.2.2.2.2.2.2.2.2.2.1 k0_h5
theorem k0_off94_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off94 v1_0_r0 k0_t3) a + S1x1x256.size a ≤ S3x22x2816.size a := fun v1_0_r0 k0_t3 v51_r0 v54_r0 k0_hw8 k0_h5 => k0_hw8.2.1.2.2.2.2.2.2.2.2.2.2.2.2.2.2.2.2.2.2.2.2.2.2.2.2.2.2.2.2.2.2.2 k0_h5
theorem k0_off95_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off95 v1_0_r0 k0_t3) a + S1x1x256.size a ≤ S3x22x2816.size a := fun v1_0_r0 k0_t3 v51_r0 v54_r0 k0_hw8 k0_h5 => k0_hw8.2.2.1.1 k0_h5
theorem k0_off96_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off96 v51_r0 (BitVec.ofNat 32 (32 * r.val))) a + S32x256.size a ≤ S1024x2816.size a := fun v1_0_r0 k0_t3 v51_r0 v54_r0 k0_hw8 k0_h5 r => k0_hw8.2.2.1.2.1 k0_h5 r
theorem k0_off97_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off97 v1_0_r0 k0_t3) a + S1x128x256.size a ≤ S3x1408x2816.size a := fun v1_0_r0 k0_t3 v51_r0 v54_r0 k0_hw8 k0_h5 => k0_hw8.2.2.1.2.2.1 k0_h5
theorem k0_off98_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off98 v1_0_r0 k0_t3) a + S1x1x256.size a ≤ S3x22x2816.size a := fun v1_0_r0 k0_t3 v51_r0 v54_r0 k0_hw8 k0_h5 => k0_hw8.2.2.1.2.2.2.1 k0_h5
theorem k0_off99_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off99 v1_0_r0 k0_t3) a + S1x1x256.size a ≤ S3x22x2816.size a := fun v1_0_r0 k0_t3 v51_r0 v54_r0 k0_hw8 k0_h5 => k0_hw8.2.2.1.2.2.2.2.1 k0_h5
theorem k0_off100_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off100 v51_r0 (BitVec.ofNat 32 (32 * r.val))) a + S32x256.size a ≤ S1024x2816.size a := fun v1_0_r0 k0_t3 v51_r0 v54_r0 k0_hw8 k0_h5 r => k0_hw8.2.2.1.2.2.2.2.2.1 k0_h5 r
theorem k0_off101_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off101 v1_0_r0 k0_t3) a + S1x128x256.size a ≤ S3x1408x2816.size a := fun v1_0_r0 k0_t3 v51_r0 v54_r0 k0_hw8 k0_h5 => k0_hw8.2.2.1.2.2.2.2.2.2.1 k0_h5
theorem k0_off102_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off102 v1_0_r0 k0_t3) a + S1x1x256.size a ≤ S3x22x2816.size a := fun v1_0_r0 k0_t3 v51_r0 v54_r0 k0_hw8 k0_h5 => k0_hw8.2.2.1.2.2.2.2.2.2.2.1 k0_h5
theorem k0_off103_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off103 v1_0_r0 k0_t3) a + S1x1x256.size a ≤ S3x22x2816.size a := fun v1_0_r0 k0_t3 v51_r0 v54_r0 k0_hw8 k0_h5 => k0_hw8.2.2.1.2.2.2.2.2.2.2.2.1 k0_h5
theorem k0_off104_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off104 v51_r0 (BitVec.ofNat 32 (32 * r.val))) a + S32x256.size a ≤ S1024x2816.size a := fun v1_0_r0 k0_t3 v51_r0 v54_r0 k0_hw8 k0_h5 r => k0_hw8.2.2.1.2.2.2.2.2.2.2.2.2.1 k0_h5 r
theorem k0_off105_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off105 v1_0_r0 k0_t3) a + S1x128x256.size a ≤ S3x1408x2816.size a := fun v1_0_r0 k0_t3 v51_r0 v54_r0 k0_hw8 k0_h5 => k0_hw8.2.2.1.2.2.2.2.2.2.2.2.2.2.1 k0_h5
theorem k0_off106_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off106 v1_0_r0 k0_t3) a + S1x1x256.size a ≤ S3x22x2816.size a := fun v1_0_r0 k0_t3 v51_r0 v54_r0 k0_hw8 k0_h5 => k0_hw8.2.2.1.2.2.2.2.2.2.2.2.2.2.2.1 k0_h5
theorem k0_off107_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off107 v1_0_r0 k0_t3) a + S1x1x256.size a ≤ S3x22x2816.size a := fun v1_0_r0 k0_t3 v51_r0 v54_r0 k0_hw8 k0_h5 => k0_hw8.2.2.1.2.2.2.2.2.2.2.2.2.2.2.2.1 k0_h5
theorem k0_off108_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off108 v51_r0 (BitVec.ofNat 32 (32 * r.val))) a + S32x256.size a ≤ S1024x2816.size a := fun v1_0_r0 k0_t3 v51_r0 v54_r0 k0_hw8 k0_h5 r => k0_hw8.2.2.1.2.2.2.2.2.2.2.2.2.2.2.2.2.1 k0_h5 r
theorem k0_off109_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off109 v1_0_r0 k0_t3) a + S1x128x256.size a ≤ S3x1408x2816.size a := fun v1_0_r0 k0_t3 v51_r0 v54_r0 k0_hw8 k0_h5 => k0_hw8.2.2.1.2.2.2.2.2.2.2.2.2.2.2.2.2.2.1 k0_h5
theorem k0_off110_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off110 v1_0_r0 k0_t3) a + S1x1x256.size a ≤ S3x22x2816.size a := fun v1_0_r0 k0_t3 v51_r0 v54_r0 k0_hw8 k0_h5 => k0_hw8.2.2.1.2.2.2.2.2.2.2.2.2.2.2.2.2.2.2.1 k0_h5
theorem k0_off111_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off111 v1_0_r0 k0_t3) a + S1x1x256.size a ≤ S3x22x2816.size a := fun v1_0_r0 k0_t3 v51_r0 v54_r0 k0_hw8 k0_h5 => k0_hw8.2.2.1.2.2.2.2.2.2.2.2.2.2.2.2.2.2.2.2.1 k0_h5
theorem k0_off112_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off112 v51_r0 (BitVec.ofNat 32 (32 * r.val))) a + S32x256.size a ≤ S1024x2816.size a := fun v1_0_r0 k0_t3 v51_r0 v54_r0 k0_hw8 k0_h5 r => k0_hw8.2.2.1.2.2.2.2.2.2.2.2.2.2.2.2.2.2.2.2.2.1 k0_h5 r
theorem k0_off113_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off113 v1_0_r0 k0_t3) a + S1x128x256.size a ≤ S3x1408x2816.size a := fun v1_0_r0 k0_t3 v51_r0 v54_r0 k0_hw8 k0_h5 => k0_hw8.2.2.1.2.2.2.2.2.2.2.2.2.2.2.2.2.2.2.2.2.2.1 k0_h5
theorem k0_off114_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off114 v1_0_r0 k0_t3) a + S1x1x256.size a ≤ S3x22x2816.size a := fun v1_0_r0 k0_t3 v51_r0 v54_r0 k0_hw8 k0_h5 => k0_hw8.2.2.1.2.2.2.2.2.2.2.2.2.2.2.2.2.2.2.2.2.2.2.1 k0_h5
theorem k0_off115_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off115 v1_0_r0 k0_t3) a + S1x1x256.size a ≤ S3x22x2816.size a := fun v1_0_r0 k0_t3 v51_r0 v54_r0 k0_hw8 k0_h5 => k0_hw8.2.2.1.2.2.2.2.2.2.2.2.2.2.2.2.2.2.2.2.2.2.2.2.1 k0_h5
theorem k0_off116_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off116 v51_r0 (BitVec.ofNat 32 (32 * r.val))) a + S32x256.size a ≤ S1024x2816.size a := fun v1_0_r0 k0_t3 v51_r0 v54_r0 k0_hw8 k0_h5 r => k0_hw8.2.2.1.2.2.2.2.2.2.2.2.2.2.2.2.2.2.2.2.2.2.2.2.2.1 k0_h5 r
theorem k0_off117_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off117 v1_0_r0 k0_t3) a + S1x128x256.size a ≤ S3x1408x2816.size a := fun v1_0_r0 k0_t3 v51_r0 v54_r0 k0_hw8 k0_h5 => k0_hw8.2.2.1.2.2.2.2.2.2.2.2.2.2.2.2.2.2.2.2.2.2.2.2.2.2.1 k0_h5
theorem k0_off118_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off118 v1_0_r0 k0_t3) a + S1x1x256.size a ≤ S3x22x2816.size a := fun v1_0_r0 k0_t3 v51_r0 v54_r0 k0_hw8 k0_h5 => k0_hw8.2.2.1.2.2.2.2.2.2.2.2.2.2.2.2.2.2.2.2.2.2.2.2.2.2.2.1 k0_h5
theorem k0_off119_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off119 v1_0_r0 k0_t3) a + S1x1x256.size a ≤ S3x22x2816.size a := fun v1_0_r0 k0_t3 v51_r0 v54_r0 k0_hw8 k0_h5 => k0_hw8.2.2.1.2.2.2.2.2.2.2.2.2.2.2.2.2.2.2.2.2.2.2.2.2.2.2.2.1 k0_h5
theorem k0_off120_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off120 v51_r0 (BitVec.ofNat 32 (32 * r.val))) a + S32x256.size a ≤ S1024x2816.size a := fun v1_0_r0 k0_t3 v51_r0 v54_r0 k0_hw8 k0_h5 r => k0_hw8.2.2.1.2.2.2.2.2.2.2.2.2.2.2.2.2.2.2.2.2.2.2.2.2.2.2.2.2.1 k0_h5 r
theorem k0_off121_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off121 v1_0_r0 k0_t3) a + S1x128x256.size a ≤ S3x1408x2816.size a := fun v1_0_r0 k0_t3 v51_r0 v54_r0 k0_hw8 k0_h5 => k0_hw8.2.2.1.2.2.2.2.2.2.2.2.2.2.2.2.2.2.2.2.2.2.2.2.2.2.2.2.2.2.1 k0_h5
theorem k0_off122_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off122 v1_0_r0 k0_t3) a + S1x1x256.size a ≤ S3x22x2816.size a := fun v1_0_r0 k0_t3 v51_r0 v54_r0 k0_hw8 k0_h5 => k0_hw8.2.2.1.2.2.2.2.2.2.2.2.2.2.2.2.2.2.2.2.2.2.2.2.2.2.2.2.2.2.2.1 k0_h5
theorem k0_off123_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off123 v1_0_r0 k0_t3) a + S1x1x256.size a ≤ S3x22x2816.size a := fun v1_0_r0 k0_t3 v51_r0 v54_r0 k0_hw8 k0_h5 => k0_hw8.2.2.1.2.2.2.2.2.2.2.2.2.2.2.2.2.2.2.2.2.2.2.2.2.2.2.2.2.2.2.2.1 k0_h5
theorem k0_off124_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), ∀ a, (k0_off124 v51_r0 (BitVec.ofNat 32 (32 * r.val))) a + S32x256.size a ≤ S1024x2816.size a := fun v1_0_r0 k0_t3 v51_r0 v54_r0 k0_hw8 k0_h5 r => k0_hw8.2.2.1.2.2.2.2.2.2.2.2.2.2.2.2.2.2.2.2.2.2.2.2.2.2.2.2.2.2.2.2.2.1 k0_h5 r
theorem k0_off125_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off125 v51_r0) a + S16x256.size a ≤ S1024x2816.size a := fun v1_0_r0 k0_t3 v51_r0 v54_r0 k0_hw8 k0_h5 => k0_hw8.2.2.1.2.2.2.2.2.2.2.2.2.2.2.2.2.2.2.2.2.2.2.2.2.2.2.2.2.2.2.2.2.2.1 k0_h5
theorem k0_off125_packedbf16 : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), (Rect.unit (s := S1024x2816) (k0_off125 v51_r0) S16x256.size (k0_off125_inb v1_0_r0 k0_t3 v51_r0 v54_r0 k0_hw8 k0_h5)).PackedRows (EltTy.packing .bf16) := fun v1_0_r0 k0_t3 v51_r0 v54_r0 k0_hw8 k0_h5 => k0_hw8.2.2.1.2.2.2.2.2.2.2.2.2.2.2.2.2.2.2.2.2.2.2.2.2.2.2.2.2.2.2.2.2.2.2 k0_h5 (k0_off125_inb v1_0_r0 k0_t3 v51_r0 v54_r0 k0_hw8 k0_h5)
theorem k0_off126_inb : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ a, (k0_off126 v51_r0) a + S16x256.size a ≤ S1024x2816.size a := fun v1_0_r0 k0_t3 v51_r0 v54_r0 k0_hw8 k0_h5 => k0_hw8.2.2.2.1 k0_h5
theorem k0_off126_packedbf16 : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), (Rect.unit (s := S1024x2816) (k0_off126 v51_r0) S16x256.size (k0_off126_inb v1_0_r0 k0_t3 v51_r0 v54_r0 k0_hw8 k0_h5)).PackedRows (EltTy.packing .bf16) := fun v1_0_r0 k0_t3 v51_r0 v54_r0 k0_hw8 k0_h5 => k0_hw8.2.2.2.2.1 k0_h5 (k0_off126_inb v1_0_r0 k0_t3 v51_r0 v54_r0 k0_hw8 k0_h5)
theorem k0_off124_packedbf16 : ∀ (v1_0_r0 : BitVec 32) (k0_t3 : Fin (k0_t3_loop v1_0_r0).trips) (v51_r0 : BitVec 32) (v54_r0 : BitVec 32) (k0_hw8 : k0_chk8 v1_0_r0 k0_t3 v51_r0 v54_r0), ∀ (k0_h5 : k0_cond5 v51_r0 v54_r0 = 1#1), ∀ (r : Fin 16), (Rect.unit (s := S1024x2816) (k0_off124 v51_r0 (BitVec.ofNat 32 (32 * r.val))) S32x256.size (k0_off124_inb v1_0_r0 k0_t3 v51_r0 v54_r0 k0_hw8 k0_h5 r)).PackedRows (EltTy.packing .bf16) := fun v1_0_r0 k0_t3 v51_r0 v54_r0 k0_hw8 k0_h5 r => k0_hw8.2.2.2.2.2 k0_h5 r (k0_off124_inb v1_0_r0 k0_t3 v51_r0 v54_r0 k0_hw8 k0_h5 r)

@[reducible] def k0_t5_loop (v1_0_r0 : BitVec 32) : Scf.Loop 32 :=
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let v22_r0 : BitVec 32 := Scalar.addi c0_i32_22_r0 v21_r0
  let c1_i32_25_r0 : BitVec 32 := 1#32
  ⟨v25_r0, v22_r0, c1_i32_25_r0⟩
def k0_off127 (v1_0_r0 : BitVec 32) (k0_t5 : Fin (k0_t5_loop v1_0_r0).trips) : Fin 1 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let v32_r0 : Index := Scalar.indexCast v29_r0
  ![v32_r0.toNat]
def k0_off128 (v1_0_r0 : BitVec 32) (k0_t5 : Fin (k0_t5_loop v1_0_r0).trips) : Fin 1 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_30_r0 : BitVec 32 := 3#32
  let v31_r0 : BitVec 32 := Scalar.remsi v29_r0 c3_i32_30_r0
  ![v31_r0.toNat]
def k0_off129 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_30_r0 : BitVec 32 := 3#32
  let v31_r0 : BitVec 32 := Scalar.remsi v29_r0 c3_i32_30_r0
  let c0_i32_31_r0 : BitVec 32 := 0#32
  let c0_i32_32_r0 : BitVec 32 := 0#32
  ![v31_r0.toNat, 0, 0]
def k0_off130 (v33_r0 : BitVec 32) : Fin 3 → Nat :=
  let c0_i32_33_r0 : BitVec 32 := 0#32
  let c0_i32_34_r0 : BitVec 32 := 0#32
  ![v33_r0.toNat, 0, 0]

def k0_off131 (v1_0_r0 : BitVec 32) (k0_t5 : Fin (k0_t5_loop v1_0_r0).trips) : Fin 1 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_30_r0 : BitVec 32 := 3#32
  let v31_r0 : BitVec 32 := Scalar.remsi v29_r0 c3_i32_30_r0
  ![v31_r0.toNat]
def k0_off132 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_30_r0 : BitVec 32 := 3#32
  let v31_r0 : BitVec 32 := Scalar.remsi v29_r0 c3_i32_30_r0
  let c0_i32_35_r0 : BitVec 32 := 0#32
  let c0_i32_36_r0 : BitVec 32 := 0#32
  ![v31_r0.toNat, 0, 0]
def k0_off133 (v33_r0 : BitVec 32) : Fin 3 → Nat :=
  let c0_i32_37_r0 : BitVec 32 := 0#32
  let c0_i32_38_r0 : BitVec 32 := 0#32
  ![v33_r0.toNat, 0, 0]

def k0_chk9 (v33_r0 : BitVec 32) : Prop :=
  (∀ a, (k0_off130 v33_r0) a + S1x1408x2816.size a ≤ S32x1408x2816.size a) ∧
  (∀ (hinb : ∀ a, (k0_off130 v33_r0) a + S1x1408x2816.size a ≤ S32x1408x2816.size a), (Rect.unit (s := S32x1408x2816) (k0_off130 v33_r0) S1x1408x2816.size hinb).WholeWords (EltTy.packing .i8)) ∧
  (∀ a, (k0_off133 v33_r0) a + S1x22x2816.size a ≤ S32x22x2816.size a)
theorem k0_off130_inb : ∀ (v33_r0 : BitVec 32) (k0_hw9 : k0_chk9 v33_r0), ∀ a, (k0_off130 v33_r0) a + S1x1408x2816.size a ≤ S32x1408x2816.size a := fun v33_r0 k0_hw9 => k0_hw9.1
theorem k0_off130_wordsi8 : ∀ (v33_r0 : BitVec 32) (k0_hw9 : k0_chk9 v33_r0), (Rect.unit (s := S32x1408x2816) (k0_off130 v33_r0) S1x1408x2816.size (k0_off130_inb v33_r0 k0_hw9)).WholeWords (EltTy.packing .i8) := fun v33_r0 k0_hw9 => k0_hw9.2.1 (k0_off130_inb v33_r0 k0_hw9)
theorem k0_off133_inb : ∀ (v33_r0 : BitVec 32) (k0_hw9 : k0_chk9 v33_r0), ∀ a, (k0_off133 v33_r0) a + S1x22x2816.size a ≤ S32x22x2816.size a := fun v33_r0 k0_hw9 => k0_hw9.2.2

def k0_off134 (v1_0_r0 : BitVec 32) (k0_t5 : Fin (k0_t5_loop v1_0_r0).trips) : Fin 1 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let v63_r0 : Index := Scalar.indexCast v46_r0
  ![v63_r0.toNat]
def k0_cond6 (v1_0_r0 : BitVec 32) (k0_t5 : Fin (k0_t5_loop v1_0_r0).trips) : BitVec 1 :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let v47_r0 : BitVec 1 := Scalar.cmpi .slt v46_r0 v1_0_r0
  let v48_r0 : BitVec 32 := Scalar.extui v47_r0
  let c0_i32_39_r0 : BitVec 32 := 0#32
  let v49_r0 : BitVec 1 := Scalar.cmpi .ne v48_r0 c0_i32_39_r0
  v49_r0

def k0_off135 (v1_0_r0 : BitVec 32) (k0_t5 : Fin (k0_t5_loop v1_0_r0).trips) : Fin 1 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let c3_i32_43_r0 : BitVec 32 := 3#32
  let v62_r0 : BitVec 32 := Scalar.remsi v46_r0 c3_i32_43_r0
  ![v62_r0.toNat]
def k0_off136 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let c3_i32_43_r0 : BitVec 32 := 3#32
  let v62_r0 : BitVec 32 := Scalar.remsi v46_r0 c3_i32_43_r0
  let c0_i32_44_r0 : BitVec 32 := 0#32
  let c0_i32_45_r0 : BitVec 32 := 0#32
  ![v62_r0.toNat, 0, 0]
def k0_off137 (v64_r0 : BitVec 32) : Fin 3 → Nat :=
  let c0_i32_46_r0 : BitVec 32 := 0#32
  let c0_i32_47_r0 : BitVec 32 := 0#32
  ![v64_r0.toNat, 0, 0]

def k0_off138 (v1_0_r0 : BitVec 32) (k0_t5 : Fin (k0_t5_loop v1_0_r0).trips) : Fin 1 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let c3_i32_43_r0 : BitVec 32 := 3#32
  let v62_r0 : BitVec 32 := Scalar.remsi v46_r0 c3_i32_43_r0
  ![v62_r0.toNat]
def k0_off139 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c2_i32_r0 : BitVec 32 := 2#32
  let v46_r0 : BitVec 32 := Scalar.addi v29_r0 c2_i32_r0
  let c3_i32_43_r0 : BitVec 32 := 3#32
  let v62_r0 : BitVec 32 := Scalar.remsi v46_r0 c3_i32_43_r0
  let c0_i32_48_r0 : BitVec 32 := 0#32
  let c0_i32_49_r0 : BitVec 32 := 0#32
  ![v62_r0.toNat, 0, 0]
def k0_off140 (v64_r0 : BitVec 32) : Fin 3 → Nat :=
  let c0_i32_50_r0 : BitVec 32 := 0#32
  let c0_i32_51_r0 : BitVec 32 := 0#32
  ![v64_r0.toNat, 0, 0]

def k0_chk10 (v1_0_r0 : BitVec 32) (k0_t5 : Fin (k0_t5_loop v1_0_r0).trips) (v64_r0 : BitVec 32) : Prop :=
  (∀ (k0_h6 : k0_cond6 v1_0_r0 k0_t5 = 1#1), ∀ a, (k0_off137 v64_r0) a + S1x1408x2816.size a ≤ S32x1408x2816.size a) ∧
  (∀ (k0_h6 : k0_cond6 v1_0_r0 k0_t5 = 1#1), ∀ (hinb : ∀ a, (k0_off137 v64_r0) a + S1x1408x2816.size a ≤ S32x1408x2816.size a), (Rect.unit (s := S32x1408x2816) (k0_off137 v64_r0) S1x1408x2816.size hinb).WholeWords (EltTy.packing .i8)) ∧
  (∀ (k0_h6 : k0_cond6 v1_0_r0 k0_t5 = 1#1), ∀ a, (k0_off140 v64_r0) a + S1x22x2816.size a ≤ S32x22x2816.size a)
theorem k0_off137_inb : ∀ (v1_0_r0 : BitVec 32) (k0_t5 : Fin (k0_t5_loop v1_0_r0).trips) (v64_r0 : BitVec 32) (k0_hw10 : k0_chk10 v1_0_r0 k0_t5 v64_r0), ∀ (k0_h6 : k0_cond6 v1_0_r0 k0_t5 = 1#1), ∀ a, (k0_off137 v64_r0) a + S1x1408x2816.size a ≤ S32x1408x2816.size a := fun v1_0_r0 k0_t5 v64_r0 k0_hw10 k0_h6 => k0_hw10.1 k0_h6
theorem k0_off137_wordsi8 : ∀ (v1_0_r0 : BitVec 32) (k0_t5 : Fin (k0_t5_loop v1_0_r0).trips) (v64_r0 : BitVec 32) (k0_hw10 : k0_chk10 v1_0_r0 k0_t5 v64_r0), ∀ (k0_h6 : k0_cond6 v1_0_r0 k0_t5 = 1#1), (Rect.unit (s := S32x1408x2816) (k0_off137 v64_r0) S1x1408x2816.size (k0_off137_inb v1_0_r0 k0_t5 v64_r0 k0_hw10 k0_h6)).WholeWords (EltTy.packing .i8) := fun v1_0_r0 k0_t5 v64_r0 k0_hw10 k0_h6 => k0_hw10.2.1 k0_h6 (k0_off137_inb v1_0_r0 k0_t5 v64_r0 k0_hw10 k0_h6)
theorem k0_off140_inb : ∀ (v1_0_r0 : BitVec 32) (k0_t5 : Fin (k0_t5_loop v1_0_r0).trips) (v64_r0 : BitVec 32) (k0_hw10 : k0_chk10 v1_0_r0 k0_t5 v64_r0), ∀ (k0_h6 : k0_cond6 v1_0_r0 k0_t5 = 1#1), ∀ a, (k0_off140 v64_r0) a + S1x22x2816.size a ≤ S32x22x2816.size a := fun v1_0_r0 k0_t5 v64_r0 k0_hw10 k0_h6 => k0_hw10.2.2 k0_h6

def k0_off141 (v1_0_r0 : BitVec 32) (k0_t5 : Fin (k0_t5_loop v1_0_r0).trips) : Fin 1 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let v50_r0 : Index := Scalar.indexCast v29_r0
  ![v50_r0.toNat]
def k0_off142 (v1_0_r0 : BitVec 32) (k0_t5 : Fin (k0_t5_loop v1_0_r0).trips) : Fin 1 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c1_i32_40_r0 : BitVec 32 := 1#32
  let v52_r0 : BitVec 32 := Scalar.addi v29_r0 c1_i32_40_r0
  let v53_r0 : Index := Scalar.indexCast v52_r0
  ![v53_r0.toNat]

def k0_chk4 (v1_0_r0 : BitVec 32) : Prop :=
  ((k0_t3_loop v1_0_r0).OK) ∧
  (∀ k0_t3 : Fin (k0_t3_loop v1_0_r0).trips, ∀ a, (k0_off18 v1_0_r0 k0_t3) a + S1.size a ≤ S33.size a) ∧
  (∀ k0_t3 : Fin (k0_t3_loop v1_0_r0).trips, ∀ a, (k0_off19 v1_0_r0 k0_t3) a + S1.size a ≤ S3.size a) ∧
  (∀ k0_t3 : Fin (k0_t3_loop v1_0_r0).trips, ∀ a, (k0_off20 v1_0_r0 k0_t3) a + S1x1408x2816.size a ≤ S3x1408x2816.size a) ∧
  (∀ k0_t3 : Fin (k0_t3_loop v1_0_r0).trips, ∀ (hinb : ∀ a, (k0_off20 v1_0_r0 k0_t3) a + S1x1408x2816.size a ≤ S3x1408x2816.size a), (Rect.unit (s := S3x1408x2816) (k0_off20 v1_0_r0 k0_t3) S1x1408x2816.size hinb).WholeWords (EltTy.packing .i8)) ∧
  (∀ k0_t3 : Fin (k0_t3_loop v1_0_r0).trips, ∀ a, (k0_off22 v1_0_r0 k0_t3) a + S1.size a ≤ S3.size a) ∧
  (∀ k0_t3 : Fin (k0_t3_loop v1_0_r0).trips, ∀ a, (k0_off23 v1_0_r0 k0_t3) a + S1x22x2816.size a ≤ S3x22x2816.size a) ∧
  (∀ k0_t3 : Fin (k0_t3_loop v1_0_r0).trips, ∀ (k0_h4 : k0_cond4 v1_0_r0 k0_t3 = 1#1), ∀ a, (k0_off25 v1_0_r0 k0_t3) a + S1.size a ≤ S33.size a) ∧
  (∀ k0_t3 : Fin (k0_t3_loop v1_0_r0).trips, ∀ (k0_h4 : k0_cond4 v1_0_r0 k0_t3 = 1#1), ∀ a, (k0_off26 v1_0_r0 k0_t3) a + S1.size a ≤ S3.size a) ∧
  (∀ k0_t3 : Fin (k0_t3_loop v1_0_r0).trips, ∀ (k0_h4 : k0_cond4 v1_0_r0 k0_t3 = 1#1), ∀ a, (k0_off27 v1_0_r0 k0_t3) a + S1x1408x2816.size a ≤ S3x1408x2816.size a) ∧
  (∀ k0_t3 : Fin (k0_t3_loop v1_0_r0).trips, ∀ (k0_h4 : k0_cond4 v1_0_r0 k0_t3 = 1#1), ∀ (hinb : ∀ a, (k0_off27 v1_0_r0 k0_t3) a + S1x1408x2816.size a ≤ S3x1408x2816.size a), (Rect.unit (s := S3x1408x2816) (k0_off27 v1_0_r0 k0_t3) S1x1408x2816.size hinb).WholeWords (EltTy.packing .i8)) ∧
  (∀ k0_t3 : Fin (k0_t3_loop v1_0_r0).trips, ∀ (k0_h4 : k0_cond4 v1_0_r0 k0_t3 = 1#1), ∀ a, (k0_off29 v1_0_r0 k0_t3) a + S1.size a ≤ S3.size a) ∧
  (∀ k0_t3 : Fin (k0_t3_loop v1_0_r0).trips, ∀ (k0_h4 : k0_cond4 v1_0_r0 k0_t3 = 1#1), ∀ a, (k0_off30 v1_0_r0 k0_t3) a + S1x22x2816.size a ≤ S3x22x2816.size a) ∧
  (∀ k0_t3 : Fin (k0_t3_loop v1_0_r0).trips, ∀ a, (k0_off32 v1_0_r0 k0_t3) a + S1.size a ≤ S33.size a) ∧
  (∀ k0_t3 : Fin (k0_t3_loop v1_0_r0).trips, ∀ a, (k0_off33 v1_0_r0 k0_t3) a + S1.size a ≤ S33.size a) ∧
  ((k0_t5_loop v1_0_r0).OK) ∧
  (∀ k0_t5 : Fin (k0_t5_loop v1_0_r0).trips, ∀ a, (k0_off127 v1_0_r0 k0_t5) a + S1.size a ≤ S33.size a) ∧
  (∀ k0_t5 : Fin (k0_t5_loop v1_0_r0).trips, ∀ a, (k0_off128 v1_0_r0 k0_t5) a + S1.size a ≤ S3.size a) ∧
  (∀ k0_t5 : Fin (k0_t5_loop v1_0_r0).trips, ∀ a, (k0_off129 v1_0_r0 k0_t5) a + S1x1408x2816.size a ≤ S3x1408x2816.size a) ∧
  (∀ k0_t5 : Fin (k0_t5_loop v1_0_r0).trips, ∀ (hinb : ∀ a, (k0_off129 v1_0_r0 k0_t5) a + S1x1408x2816.size a ≤ S3x1408x2816.size a), (Rect.unit (s := S3x1408x2816) (k0_off129 v1_0_r0 k0_t5) S1x1408x2816.size hinb).WholeWords (EltTy.packing .i8)) ∧
  (∀ k0_t5 : Fin (k0_t5_loop v1_0_r0).trips, ∀ a, (k0_off131 v1_0_r0 k0_t5) a + S1.size a ≤ S3.size a) ∧
  (∀ k0_t5 : Fin (k0_t5_loop v1_0_r0).trips, ∀ a, (k0_off132 v1_0_r0 k0_t5) a + S1x22x2816.size a ≤ S3x22x2816.size a) ∧
  (∀ k0_t5 : Fin (k0_t5_loop v1_0_r0).trips, ∀ (k0_h6 : k0_cond6 v1_0_r0 k0_t5 = 1#1), ∀ a, (k0_off134 v1_0_r0 k0_t5) a + S1.size a ≤ S33.size a) ∧
  (∀ k0_t5 : Fin (k0_t5_loop v1_0_r0).trips, ∀ (k0_h6 : k0_cond6 v1_0_r0 k0_t5 = 1#1), ∀ a, (k0_off135 v1_0_r0 k0_t5) a + S1.size a ≤ S3.size a) ∧
  (∀ k0_t5 : Fin (k0_t5_loop v1_0_r0).trips, ∀ (k0_h6 : k0_cond6 v1_0_r0 k0_t5 = 1#1), ∀ a, (k0_off136 v1_0_r0 k0_t5) a + S1x1408x2816.size a ≤ S3x1408x2816.size a) ∧
  (∀ k0_t5 : Fin (k0_t5_loop v1_0_r0).trips, ∀ (k0_h6 : k0_cond6 v1_0_r0 k0_t5 = 1#1), ∀ (hinb : ∀ a, (k0_off136 v1_0_r0 k0_t5) a + S1x1408x2816.size a ≤ S3x1408x2816.size a), (Rect.unit (s := S3x1408x2816) (k0_off136 v1_0_r0 k0_t5) S1x1408x2816.size hinb).WholeWords (EltTy.packing .i8)) ∧
  (∀ k0_t5 : Fin (k0_t5_loop v1_0_r0).trips, ∀ (k0_h6 : k0_cond6 v1_0_r0 k0_t5 = 1#1), ∀ a, (k0_off138 v1_0_r0 k0_t5) a + S1.size a ≤ S3.size a) ∧
  (∀ k0_t5 : Fin (k0_t5_loop v1_0_r0).trips, ∀ (k0_h6 : k0_cond6 v1_0_r0 k0_t5 = 1#1), ∀ a, (k0_off139 v1_0_r0 k0_t5) a + S1x22x2816.size a ≤ S3x22x2816.size a) ∧
  (∀ k0_t5 : Fin (k0_t5_loop v1_0_r0).trips, ∀ a, (k0_off141 v1_0_r0 k0_t5) a + S1.size a ≤ S33.size a) ∧
  (∀ k0_t5 : Fin (k0_t5_loop v1_0_r0).trips, ∀ a, (k0_off142 v1_0_r0 k0_t5) a + S1.size a ≤ S33.size a)
theorem k0_t3_ok : ∀ (v1_0_r0 : BitVec 32) (k0_hw4 : k0_chk4 v1_0_r0), (k0_t3_loop v1_0_r0).OK := fun v1_0_r0 k0_hw4 => k0_hw4.1
theorem k0_off18_inb : ∀ (v1_0_r0 : BitVec 32) (k0_hw4 : k0_chk4 v1_0_r0) (k0_t3 : Fin (k0_t3_loop v1_0_r0).trips), ∀ a, (k0_off18 v1_0_r0 k0_t3) a + S1.size a ≤ S33.size a := fun v1_0_r0 k0_hw4 k0_t3 => k0_hw4.2.1 k0_t3
theorem k0_off19_inb : ∀ (v1_0_r0 : BitVec 32) (k0_hw4 : k0_chk4 v1_0_r0) (k0_t3 : Fin (k0_t3_loop v1_0_r0).trips), ∀ a, (k0_off19 v1_0_r0 k0_t3) a + S1.size a ≤ S3.size a := fun v1_0_r0 k0_hw4 k0_t3 => k0_hw4.2.2.1 k0_t3
theorem k0_off20_inb : ∀ (v1_0_r0 : BitVec 32) (k0_hw4 : k0_chk4 v1_0_r0) (k0_t3 : Fin (k0_t3_loop v1_0_r0).trips), ∀ a, (k0_off20 v1_0_r0 k0_t3) a + S1x1408x2816.size a ≤ S3x1408x2816.size a := fun v1_0_r0 k0_hw4 k0_t3 => k0_hw4.2.2.2.1 k0_t3
theorem k0_off20_wordsi8 : ∀ (v1_0_r0 : BitVec 32) (k0_hw4 : k0_chk4 v1_0_r0) (k0_t3 : Fin (k0_t3_loop v1_0_r0).trips), (Rect.unit (s := S3x1408x2816) (k0_off20 v1_0_r0 k0_t3) S1x1408x2816.size (k0_off20_inb v1_0_r0 k0_hw4 k0_t3)).WholeWords (EltTy.packing .i8) := fun v1_0_r0 k0_hw4 k0_t3 => k0_hw4.2.2.2.2.1 k0_t3 (k0_off20_inb v1_0_r0 k0_hw4 k0_t3)
theorem k0_off22_inb : ∀ (v1_0_r0 : BitVec 32) (k0_hw4 : k0_chk4 v1_0_r0) (k0_t3 : Fin (k0_t3_loop v1_0_r0).trips), ∀ a, (k0_off22 v1_0_r0 k0_t3) a + S1.size a ≤ S3.size a := fun v1_0_r0 k0_hw4 k0_t3 => k0_hw4.2.2.2.2.2.1 k0_t3
theorem k0_off23_inb : ∀ (v1_0_r0 : BitVec 32) (k0_hw4 : k0_chk4 v1_0_r0) (k0_t3 : Fin (k0_t3_loop v1_0_r0).trips), ∀ a, (k0_off23 v1_0_r0 k0_t3) a + S1x22x2816.size a ≤ S3x22x2816.size a := fun v1_0_r0 k0_hw4 k0_t3 => k0_hw4.2.2.2.2.2.2.1 k0_t3
theorem k0_off25_inb : ∀ (v1_0_r0 : BitVec 32) (k0_hw4 : k0_chk4 v1_0_r0) (k0_t3 : Fin (k0_t3_loop v1_0_r0).trips), ∀ (k0_h4 : k0_cond4 v1_0_r0 k0_t3 = 1#1), ∀ a, (k0_off25 v1_0_r0 k0_t3) a + S1.size a ≤ S33.size a := fun v1_0_r0 k0_hw4 k0_t3 k0_h4 => k0_hw4.2.2.2.2.2.2.2.1 k0_t3 k0_h4
theorem k0_off26_inb : ∀ (v1_0_r0 : BitVec 32) (k0_hw4 : k0_chk4 v1_0_r0) (k0_t3 : Fin (k0_t3_loop v1_0_r0).trips), ∀ (k0_h4 : k0_cond4 v1_0_r0 k0_t3 = 1#1), ∀ a, (k0_off26 v1_0_r0 k0_t3) a + S1.size a ≤ S3.size a := fun v1_0_r0 k0_hw4 k0_t3 k0_h4 => k0_hw4.2.2.2.2.2.2.2.2.1 k0_t3 k0_h4
theorem k0_off27_inb : ∀ (v1_0_r0 : BitVec 32) (k0_hw4 : k0_chk4 v1_0_r0) (k0_t3 : Fin (k0_t3_loop v1_0_r0).trips), ∀ (k0_h4 : k0_cond4 v1_0_r0 k0_t3 = 1#1), ∀ a, (k0_off27 v1_0_r0 k0_t3) a + S1x1408x2816.size a ≤ S3x1408x2816.size a := fun v1_0_r0 k0_hw4 k0_t3 k0_h4 => k0_hw4.2.2.2.2.2.2.2.2.2.1 k0_t3 k0_h4
theorem k0_off27_wordsi8 : ∀ (v1_0_r0 : BitVec 32) (k0_hw4 : k0_chk4 v1_0_r0) (k0_t3 : Fin (k0_t3_loop v1_0_r0).trips), ∀ (k0_h4 : k0_cond4 v1_0_r0 k0_t3 = 1#1), (Rect.unit (s := S3x1408x2816) (k0_off27 v1_0_r0 k0_t3) S1x1408x2816.size (k0_off27_inb v1_0_r0 k0_hw4 k0_t3 k0_h4)).WholeWords (EltTy.packing .i8) := fun v1_0_r0 k0_hw4 k0_t3 k0_h4 => k0_hw4.2.2.2.2.2.2.2.2.2.2.1 k0_t3 k0_h4 (k0_off27_inb v1_0_r0 k0_hw4 k0_t3 k0_h4)
theorem k0_off29_inb : ∀ (v1_0_r0 : BitVec 32) (k0_hw4 : k0_chk4 v1_0_r0) (k0_t3 : Fin (k0_t3_loop v1_0_r0).trips), ∀ (k0_h4 : k0_cond4 v1_0_r0 k0_t3 = 1#1), ∀ a, (k0_off29 v1_0_r0 k0_t3) a + S1.size a ≤ S3.size a := fun v1_0_r0 k0_hw4 k0_t3 k0_h4 => k0_hw4.2.2.2.2.2.2.2.2.2.2.2.1 k0_t3 k0_h4
theorem k0_off30_inb : ∀ (v1_0_r0 : BitVec 32) (k0_hw4 : k0_chk4 v1_0_r0) (k0_t3 : Fin (k0_t3_loop v1_0_r0).trips), ∀ (k0_h4 : k0_cond4 v1_0_r0 k0_t3 = 1#1), ∀ a, (k0_off30 v1_0_r0 k0_t3) a + S1x22x2816.size a ≤ S3x22x2816.size a := fun v1_0_r0 k0_hw4 k0_t3 k0_h4 => k0_hw4.2.2.2.2.2.2.2.2.2.2.2.2.1 k0_t3 k0_h4
theorem k0_off32_inb : ∀ (v1_0_r0 : BitVec 32) (k0_hw4 : k0_chk4 v1_0_r0) (k0_t3 : Fin (k0_t3_loop v1_0_r0).trips), ∀ a, (k0_off32 v1_0_r0 k0_t3) a + S1.size a ≤ S33.size a := fun v1_0_r0 k0_hw4 k0_t3 => k0_hw4.2.2.2.2.2.2.2.2.2.2.2.2.2.1 k0_t3
theorem k0_off33_inb : ∀ (v1_0_r0 : BitVec 32) (k0_hw4 : k0_chk4 v1_0_r0) (k0_t3 : Fin (k0_t3_loop v1_0_r0).trips), ∀ a, (k0_off33 v1_0_r0 k0_t3) a + S1.size a ≤ S33.size a := fun v1_0_r0 k0_hw4 k0_t3 => k0_hw4.2.2.2.2.2.2.2.2.2.2.2.2.2.2.1 k0_t3
theorem k0_t5_ok : ∀ (v1_0_r0 : BitVec 32) (k0_hw4 : k0_chk4 v1_0_r0), (k0_t5_loop v1_0_r0).OK := fun v1_0_r0 k0_hw4 => k0_hw4.2.2.2.2.2.2.2.2.2.2.2.2.2.2.2.1
theorem k0_off127_inb : ∀ (v1_0_r0 : BitVec 32) (k0_hw4 : k0_chk4 v1_0_r0) (k0_t5 : Fin (k0_t5_loop v1_0_r0).trips), ∀ a, (k0_off127 v1_0_r0 k0_t5) a + S1.size a ≤ S33.size a := fun v1_0_r0 k0_hw4 k0_t5 => k0_hw4.2.2.2.2.2.2.2.2.2.2.2.2.2.2.2.2.1 k0_t5
theorem k0_off128_inb : ∀ (v1_0_r0 : BitVec 32) (k0_hw4 : k0_chk4 v1_0_r0) (k0_t5 : Fin (k0_t5_loop v1_0_r0).trips), ∀ a, (k0_off128 v1_0_r0 k0_t5) a + S1.size a ≤ S3.size a := fun v1_0_r0 k0_hw4 k0_t5 => k0_hw4.2.2.2.2.2.2.2.2.2.2.2.2.2.2.2.2.2.1 k0_t5
theorem k0_off129_inb : ∀ (v1_0_r0 : BitVec 32) (k0_hw4 : k0_chk4 v1_0_r0) (k0_t5 : Fin (k0_t5_loop v1_0_r0).trips), ∀ a, (k0_off129 v1_0_r0 k0_t5) a + S1x1408x2816.size a ≤ S3x1408x2816.size a := fun v1_0_r0 k0_hw4 k0_t5 => k0_hw4.2.2.2.2.2.2.2.2.2.2.2.2.2.2.2.2.2.2.1 k0_t5
theorem k0_off129_wordsi8 : ∀ (v1_0_r0 : BitVec 32) (k0_hw4 : k0_chk4 v1_0_r0) (k0_t5 : Fin (k0_t5_loop v1_0_r0).trips), (Rect.unit (s := S3x1408x2816) (k0_off129 v1_0_r0 k0_t5) S1x1408x2816.size (k0_off129_inb v1_0_r0 k0_hw4 k0_t5)).WholeWords (EltTy.packing .i8) := fun v1_0_r0 k0_hw4 k0_t5 => k0_hw4.2.2.2.2.2.2.2.2.2.2.2.2.2.2.2.2.2.2.2.1 k0_t5 (k0_off129_inb v1_0_r0 k0_hw4 k0_t5)
theorem k0_off131_inb : ∀ (v1_0_r0 : BitVec 32) (k0_hw4 : k0_chk4 v1_0_r0) (k0_t5 : Fin (k0_t5_loop v1_0_r0).trips), ∀ a, (k0_off131 v1_0_r0 k0_t5) a + S1.size a ≤ S3.size a := fun v1_0_r0 k0_hw4 k0_t5 => k0_hw4.2.2.2.2.2.2.2.2.2.2.2.2.2.2.2.2.2.2.2.2.1 k0_t5
theorem k0_off132_inb : ∀ (v1_0_r0 : BitVec 32) (k0_hw4 : k0_chk4 v1_0_r0) (k0_t5 : Fin (k0_t5_loop v1_0_r0).trips), ∀ a, (k0_off132 v1_0_r0 k0_t5) a + S1x22x2816.size a ≤ S3x22x2816.size a := fun v1_0_r0 k0_hw4 k0_t5 => k0_hw4.2.2.2.2.2.2.2.2.2.2.2.2.2.2.2.2.2.2.2.2.2.1 k0_t5
theorem k0_off134_inb : ∀ (v1_0_r0 : BitVec 32) (k0_hw4 : k0_chk4 v1_0_r0) (k0_t5 : Fin (k0_t5_loop v1_0_r0).trips), ∀ (k0_h6 : k0_cond6 v1_0_r0 k0_t5 = 1#1), ∀ a, (k0_off134 v1_0_r0 k0_t5) a + S1.size a ≤ S33.size a := fun v1_0_r0 k0_hw4 k0_t5 k0_h6 => k0_hw4.2.2.2.2.2.2.2.2.2.2.2.2.2.2.2.2.2.2.2.2.2.2.1 k0_t5 k0_h6
theorem k0_off135_inb : ∀ (v1_0_r0 : BitVec 32) (k0_hw4 : k0_chk4 v1_0_r0) (k0_t5 : Fin (k0_t5_loop v1_0_r0).trips), ∀ (k0_h6 : k0_cond6 v1_0_r0 k0_t5 = 1#1), ∀ a, (k0_off135 v1_0_r0 k0_t5) a + S1.size a ≤ S3.size a := fun v1_0_r0 k0_hw4 k0_t5 k0_h6 => k0_hw4.2.2.2.2.2.2.2.2.2.2.2.2.2.2.2.2.2.2.2.2.2.2.2.1 k0_t5 k0_h6
theorem k0_off136_inb : ∀ (v1_0_r0 : BitVec 32) (k0_hw4 : k0_chk4 v1_0_r0) (k0_t5 : Fin (k0_t5_loop v1_0_r0).trips), ∀ (k0_h6 : k0_cond6 v1_0_r0 k0_t5 = 1#1), ∀ a, (k0_off136 v1_0_r0 k0_t5) a + S1x1408x2816.size a ≤ S3x1408x2816.size a := fun v1_0_r0 k0_hw4 k0_t5 k0_h6 => k0_hw4.2.2.2.2.2.2.2.2.2.2.2.2.2.2.2.2.2.2.2.2.2.2.2.2.1 k0_t5 k0_h6
theorem k0_off136_wordsi8 : ∀ (v1_0_r0 : BitVec 32) (k0_hw4 : k0_chk4 v1_0_r0) (k0_t5 : Fin (k0_t5_loop v1_0_r0).trips), ∀ (k0_h6 : k0_cond6 v1_0_r0 k0_t5 = 1#1), (Rect.unit (s := S3x1408x2816) (k0_off136 v1_0_r0 k0_t5) S1x1408x2816.size (k0_off136_inb v1_0_r0 k0_hw4 k0_t5 k0_h6)).WholeWords (EltTy.packing .i8) := fun v1_0_r0 k0_hw4 k0_t5 k0_h6 => k0_hw4.2.2.2.2.2.2.2.2.2.2.2.2.2.2.2.2.2.2.2.2.2.2.2.2.2.1 k0_t5 k0_h6 (k0_off136_inb v1_0_r0 k0_hw4 k0_t5 k0_h6)
theorem k0_off138_inb : ∀ (v1_0_r0 : BitVec 32) (k0_hw4 : k0_chk4 v1_0_r0) (k0_t5 : Fin (k0_t5_loop v1_0_r0).trips), ∀ (k0_h6 : k0_cond6 v1_0_r0 k0_t5 = 1#1), ∀ a, (k0_off138 v1_0_r0 k0_t5) a + S1.size a ≤ S3.size a := fun v1_0_r0 k0_hw4 k0_t5 k0_h6 => k0_hw4.2.2.2.2.2.2.2.2.2.2.2.2.2.2.2.2.2.2.2.2.2.2.2.2.2.2.1 k0_t5 k0_h6
theorem k0_off139_inb : ∀ (v1_0_r0 : BitVec 32) (k0_hw4 : k0_chk4 v1_0_r0) (k0_t5 : Fin (k0_t5_loop v1_0_r0).trips), ∀ (k0_h6 : k0_cond6 v1_0_r0 k0_t5 = 1#1), ∀ a, (k0_off139 v1_0_r0 k0_t5) a + S1x22x2816.size a ≤ S3x22x2816.size a := fun v1_0_r0 k0_hw4 k0_t5 k0_h6 => k0_hw4.2.2.2.2.2.2.2.2.2.2.2.2.2.2.2.2.2.2.2.2.2.2.2.2.2.2.2.1 k0_t5 k0_h6
theorem k0_off141_inb : ∀ (v1_0_r0 : BitVec 32) (k0_hw4 : k0_chk4 v1_0_r0) (k0_t5 : Fin (k0_t5_loop v1_0_r0).trips), ∀ a, (k0_off141 v1_0_r0 k0_t5) a + S1.size a ≤ S33.size a := fun v1_0_r0 k0_hw4 k0_t5 => k0_hw4.2.2.2.2.2.2.2.2.2.2.2.2.2.2.2.2.2.2.2.2.2.2.2.2.2.2.2.2.1 k0_t5
theorem k0_off142_inb : ∀ (v1_0_r0 : BitVec 32) (k0_hw4 : k0_chk4 v1_0_r0) (k0_t5 : Fin (k0_t5_loop v1_0_r0).trips), ∀ a, (k0_off142 v1_0_r0 k0_t5) a + S1.size a ≤ S33.size a := fun v1_0_r0 k0_hw4 k0_t5 => k0_hw4.2.2.2.2.2.2.2.2.2.2.2.2.2.2.2.2.2.2.2.2.2.2.2.2.2.2.2.2.2 k0_t5

def k0_mult4 (v51_r0 : BitVec 32) : BitVec 32 :=
  let c16_i32_r0 : BitVec 32 := 16#32
  let v55_r0 : BitVec 32 := Scalar.remsi v51_r0 c16_i32_r0
  let v56_r0 : BitVec 32 := Scalar.subi v51_r0 v55_r0
  v56_r0

def k0_chk11 (v51_r0 : BitVec 32) : Prop :=
  (16 ∣ (k0_mult4 v51_r0).toNat)
theorem k0_mult4_dvd : ∀ (v51_r0 : BitVec 32) (k0_hw11 : k0_chk11 v51_r0), 16 ∣ (k0_mult4 v51_r0).toNat := fun v51_r0 k0_hw11 => k0_hw11

@[reducible] def k0_t6_loop : Scf.Loop 32 :=
  let c0_i32_43_r0 : BitVec 32 := 0#32
  let c5_i32_r0 : BitVec 32 := 5#32
  let v62_r0 : BitVec 32 := Scalar.addi c0_i32_43_r0 c5_i32_r0
  let c1_i32_44_r0 : BitVec 32 := 1#32
  ⟨c0_i32_43_r0, v62_r0, c1_i32_44_r0⟩
def k0_mult5 (k0_t6 : Fin k0_t6_loop.trips) : BitVec 32 :=
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  v1237_r0
def k0_off143 (v1_0_r0 : BitVec 32) (k0_t5 : Fin (k0_t5_loop v1_0_r0).trips) (k0_t6 : Fin k0_t6_loop.trips) (c0_i32_494_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1240_r0 : Index := Scalar.indexCast v30_r0
  let c0_495_r0 : Index := 0#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1239_r0 : BitVec 32 := Scalar.addi v1238_r0 c0_i32_494_r0
  let v1241_r0 : Index := Scalar.indexCast v1239_r0
  ![v1240_r0.toNat, 0, v1241_r0.toNat]
def k0_cond7 (v51_r0 : BitVec 32) (v54_r0 : BitVec 32) : BitVec 1 :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v58_r0 : BitVec 32 := Scalar.subi v54_r0 v57_r0
  let c0_i32_41_r0 : BitVec 32 := 0#32
  let v59_r0 : BitVec 1 := Scalar.cmpi .sgt v58_r0 c0_i32_41_r0
  let v60_r0 : BitVec 32 := Scalar.extui v59_r0
  let c0_i32_42_r0 : BitVec 32 := 0#32
  let v61_r0 : BitVec 1 := Scalar.cmpi .ne v60_r0 c0_i32_42_r0
  v61_r0

def k0_off144 (v1_0_r0 : BitVec 32) (k0_t5 : Fin (k0_t5_loop v1_0_r0).trips) (k0_t6 : Fin k0_t6_loop.trips) (c0_i32_494_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1260_r0 : Index := Scalar.indexCast v30_r0
  let c0_500_r0 : Index := 0#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1239_r0 : BitVec 32 := Scalar.addi v1238_r0 c0_i32_494_r0
  let v1261_r0 : Index := Scalar.indexCast v1239_r0
  ![v1260_r0.toNat, 0, v1261_r0.toNat]
def k0_off145 (v1_0_r0 : BitVec 32) (k0_t5 : Fin (k0_t5_loop v1_0_r0).trips) (k0_t6 : Fin k0_t6_loop.trips) (c0_i32_494_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1273_r0 : Index := Scalar.indexCast v30_r0
  let c1_501_r0 : Index := 1#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1239_r0 : BitVec 32 := Scalar.addi v1238_r0 c0_i32_494_r0
  let v1274_r0 : Index := Scalar.indexCast v1239_r0
  ![v1273_r0.toNat, 1, v1274_r0.toNat]
def k0_off146 (v51_r0 : BitVec 32) (c0_i32_502_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1287_r0 : BitVec 32 := Scalar.addi v57_r0 c0_i32_502_r0
  let v1288_r0 : Index := Scalar.indexCast v1287_r0
  let c0_503_r0 : Index := 0#32
  ![v1288_r0.toNat, 0]
def k0_off147 (v1_0_r0 : BitVec 32) (k0_t5 : Fin (k0_t5_loop v1_0_r0).trips) (k0_t6 : Fin k0_t6_loop.trips) (c0_i32_574_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1432_r0 : Index := Scalar.indexCast v30_r0
  let c128_575_r0 : Index := 128#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1431_r0 : BitVec 32 := Scalar.addi v1238_r0 c0_i32_574_r0
  let v1433_r0 : Index := Scalar.indexCast v1431_r0
  ![v1432_r0.toNat, 128, v1433_r0.toNat]
def k0_off148 (v1_0_r0 : BitVec 32) (k0_t5 : Fin (k0_t5_loop v1_0_r0).trips) (k0_t6 : Fin k0_t6_loop.trips) (c0_i32_574_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1452_r0 : Index := Scalar.indexCast v30_r0
  let c2_580_r0 : Index := 2#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1431_r0 : BitVec 32 := Scalar.addi v1238_r0 c0_i32_574_r0
  let v1453_r0 : Index := Scalar.indexCast v1431_r0
  ![v1452_r0.toNat, 2, v1453_r0.toNat]
def k0_off149 (v1_0_r0 : BitVec 32) (k0_t5 : Fin (k0_t5_loop v1_0_r0).trips) (k0_t6 : Fin k0_t6_loop.trips) (c0_i32_574_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1465_r0 : Index := Scalar.indexCast v30_r0
  let c3_581_r0 : Index := 3#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1431_r0 : BitVec 32 := Scalar.addi v1238_r0 c0_i32_574_r0
  let v1466_r0 : Index := Scalar.indexCast v1431_r0
  ![v1465_r0.toNat, 3, v1466_r0.toNat]
def k0_off150 (v51_r0 : BitVec 32) (c0_i32_582_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1479_r0 : BitVec 32 := Scalar.addi v57_r0 c0_i32_582_r0
  let v1480_r0 : Index := Scalar.indexCast v1479_r0
  let c256_583_r0 : Index := 256#32
  ![v1480_r0.toNat, 256]
def k0_off151 (v1_0_r0 : BitVec 32) (k0_t5 : Fin (k0_t5_loop v1_0_r0).trips) (k0_t6 : Fin k0_t6_loop.trips) (c0_i32_654_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1624_r0 : Index := Scalar.indexCast v30_r0
  let c256_655_r0 : Index := 256#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1623_r0 : BitVec 32 := Scalar.addi v1238_r0 c0_i32_654_r0
  let v1625_r0 : Index := Scalar.indexCast v1623_r0
  ![v1624_r0.toNat, 256, v1625_r0.toNat]
def k0_off152 (v1_0_r0 : BitVec 32) (k0_t5 : Fin (k0_t5_loop v1_0_r0).trips) (k0_t6 : Fin k0_t6_loop.trips) (c0_i32_654_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1644_r0 : Index := Scalar.indexCast v30_r0
  let c4_660_r0 : Index := 4#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1623_r0 : BitVec 32 := Scalar.addi v1238_r0 c0_i32_654_r0
  let v1645_r0 : Index := Scalar.indexCast v1623_r0
  ![v1644_r0.toNat, 4, v1645_r0.toNat]
def k0_off153 (v1_0_r0 : BitVec 32) (k0_t5 : Fin (k0_t5_loop v1_0_r0).trips) (k0_t6 : Fin k0_t6_loop.trips) (c0_i32_654_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1657_r0 : Index := Scalar.indexCast v30_r0
  let c5_661_r0 : Index := 5#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1623_r0 : BitVec 32 := Scalar.addi v1238_r0 c0_i32_654_r0
  let v1658_r0 : Index := Scalar.indexCast v1623_r0
  ![v1657_r0.toNat, 5, v1658_r0.toNat]
def k0_off154 (v51_r0 : BitVec 32) (c0_i32_662_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1671_r0 : BitVec 32 := Scalar.addi v57_r0 c0_i32_662_r0
  let v1672_r0 : Index := Scalar.indexCast v1671_r0
  let c512_663_r0 : Index := 512#32
  ![v1672_r0.toNat, 512]
def k0_off155 (v1_0_r0 : BitVec 32) (k0_t5 : Fin (k0_t5_loop v1_0_r0).trips) (k0_t6 : Fin k0_t6_loop.trips) (c0_i32_734_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1816_r0 : Index := Scalar.indexCast v30_r0
  let c384_735_r0 : Index := 384#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1815_r0 : BitVec 32 := Scalar.addi v1238_r0 c0_i32_734_r0
  let v1817_r0 : Index := Scalar.indexCast v1815_r0
  ![v1816_r0.toNat, 384, v1817_r0.toNat]
def k0_off156 (v1_0_r0 : BitVec 32) (k0_t5 : Fin (k0_t5_loop v1_0_r0).trips) (k0_t6 : Fin k0_t6_loop.trips) (c0_i32_734_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1836_r0 : Index := Scalar.indexCast v30_r0
  let c6_740_r0 : Index := 6#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1815_r0 : BitVec 32 := Scalar.addi v1238_r0 c0_i32_734_r0
  let v1837_r0 : Index := Scalar.indexCast v1815_r0
  ![v1836_r0.toNat, 6, v1837_r0.toNat]
def k0_off157 (v1_0_r0 : BitVec 32) (k0_t5 : Fin (k0_t5_loop v1_0_r0).trips) (k0_t6 : Fin k0_t6_loop.trips) (c0_i32_734_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1849_r0 : Index := Scalar.indexCast v30_r0
  let c7_741_r0 : Index := 7#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v1815_r0 : BitVec 32 := Scalar.addi v1238_r0 c0_i32_734_r0
  let v1850_r0 : Index := Scalar.indexCast v1815_r0
  ![v1849_r0.toNat, 7, v1850_r0.toNat]
def k0_off158 (v51_r0 : BitVec 32) (c0_i32_742_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1863_r0 : BitVec 32 := Scalar.addi v57_r0 c0_i32_742_r0
  let v1864_r0 : Index := Scalar.indexCast v1863_r0
  let c768_743_r0 : Index := 768#32
  ![v1864_r0.toNat, 768]
def k0_off159 (v1_0_r0 : BitVec 32) (k0_t5 : Fin (k0_t5_loop v1_0_r0).trips) (k0_t6 : Fin k0_t6_loop.trips) (c0_i32_814_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2008_r0 : Index := Scalar.indexCast v30_r0
  let c512_815_r0 : Index := 512#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2007_r0 : BitVec 32 := Scalar.addi v1238_r0 c0_i32_814_r0
  let v2009_r0 : Index := Scalar.indexCast v2007_r0
  ![v2008_r0.toNat, 512, v2009_r0.toNat]
def k0_off160 (v1_0_r0 : BitVec 32) (k0_t5 : Fin (k0_t5_loop v1_0_r0).trips) (k0_t6 : Fin k0_t6_loop.trips) (c0_i32_814_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2028_r0 : Index := Scalar.indexCast v30_r0
  let c8_820_r0 : Index := 8#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2007_r0 : BitVec 32 := Scalar.addi v1238_r0 c0_i32_814_r0
  let v2029_r0 : Index := Scalar.indexCast v2007_r0
  ![v2028_r0.toNat, 8, v2029_r0.toNat]
def k0_off161 (v1_0_r0 : BitVec 32) (k0_t5 : Fin (k0_t5_loop v1_0_r0).trips) (k0_t6 : Fin k0_t6_loop.trips) (c0_i32_814_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2041_r0 : Index := Scalar.indexCast v30_r0
  let c9_821_r0 : Index := 9#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2007_r0 : BitVec 32 := Scalar.addi v1238_r0 c0_i32_814_r0
  let v2042_r0 : Index := Scalar.indexCast v2007_r0
  ![v2041_r0.toNat, 9, v2042_r0.toNat]
def k0_off162 (v51_r0 : BitVec 32) (c0_i32_822_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2055_r0 : BitVec 32 := Scalar.addi v57_r0 c0_i32_822_r0
  let v2056_r0 : Index := Scalar.indexCast v2055_r0
  let c1024_823_r0 : Index := 1024#32
  ![v2056_r0.toNat, 1024]
def k0_off163 (v1_0_r0 : BitVec 32) (k0_t5 : Fin (k0_t5_loop v1_0_r0).trips) (k0_t6 : Fin k0_t6_loop.trips) (c0_i32_894_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2200_r0 : Index := Scalar.indexCast v30_r0
  let c640_895_r0 : Index := 640#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2199_r0 : BitVec 32 := Scalar.addi v1238_r0 c0_i32_894_r0
  let v2201_r0 : Index := Scalar.indexCast v2199_r0
  ![v2200_r0.toNat, 640, v2201_r0.toNat]
def k0_off164 (v1_0_r0 : BitVec 32) (k0_t5 : Fin (k0_t5_loop v1_0_r0).trips) (k0_t6 : Fin k0_t6_loop.trips) (c0_i32_894_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2220_r0 : Index := Scalar.indexCast v30_r0
  let c10_900_r0 : Index := 10#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2199_r0 : BitVec 32 := Scalar.addi v1238_r0 c0_i32_894_r0
  let v2221_r0 : Index := Scalar.indexCast v2199_r0
  ![v2220_r0.toNat, 10, v2221_r0.toNat]
def k0_off165 (v1_0_r0 : BitVec 32) (k0_t5 : Fin (k0_t5_loop v1_0_r0).trips) (k0_t6 : Fin k0_t6_loop.trips) (c0_i32_894_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2233_r0 : Index := Scalar.indexCast v30_r0
  let c11_901_r0 : Index := 11#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2199_r0 : BitVec 32 := Scalar.addi v1238_r0 c0_i32_894_r0
  let v2234_r0 : Index := Scalar.indexCast v2199_r0
  ![v2233_r0.toNat, 11, v2234_r0.toNat]
def k0_off166 (v51_r0 : BitVec 32) (c0_i32_902_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2247_r0 : BitVec 32 := Scalar.addi v57_r0 c0_i32_902_r0
  let v2248_r0 : Index := Scalar.indexCast v2247_r0
  let c1280_903_r0 : Index := 1280#32
  ![v2248_r0.toNat, 1280]
def k0_off167 (v1_0_r0 : BitVec 32) (k0_t5 : Fin (k0_t5_loop v1_0_r0).trips) (k0_t6 : Fin k0_t6_loop.trips) (c0_i32_974_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2392_r0 : Index := Scalar.indexCast v30_r0
  let c768_975_r0 : Index := 768#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2391_r0 : BitVec 32 := Scalar.addi v1238_r0 c0_i32_974_r0
  let v2393_r0 : Index := Scalar.indexCast v2391_r0
  ![v2392_r0.toNat, 768, v2393_r0.toNat]
def k0_off168 (v1_0_r0 : BitVec 32) (k0_t5 : Fin (k0_t5_loop v1_0_r0).trips) (k0_t6 : Fin k0_t6_loop.trips) (c0_i32_974_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2412_r0 : Index := Scalar.indexCast v30_r0
  let c12_980_r0 : Index := 12#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2391_r0 : BitVec 32 := Scalar.addi v1238_r0 c0_i32_974_r0
  let v2413_r0 : Index := Scalar.indexCast v2391_r0
  ![v2412_r0.toNat, 12, v2413_r0.toNat]
def k0_off169 (v1_0_r0 : BitVec 32) (k0_t5 : Fin (k0_t5_loop v1_0_r0).trips) (k0_t6 : Fin k0_t6_loop.trips) (c0_i32_974_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2425_r0 : Index := Scalar.indexCast v30_r0
  let c13_981_r0 : Index := 13#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2391_r0 : BitVec 32 := Scalar.addi v1238_r0 c0_i32_974_r0
  let v2426_r0 : Index := Scalar.indexCast v2391_r0
  ![v2425_r0.toNat, 13, v2426_r0.toNat]
def k0_off170 (v51_r0 : BitVec 32) (c0_i32_982_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2439_r0 : BitVec 32 := Scalar.addi v57_r0 c0_i32_982_r0
  let v2440_r0 : Index := Scalar.indexCast v2439_r0
  let c1536_983_r0 : Index := 1536#32
  ![v2440_r0.toNat, 1536]
def k0_off171 (v1_0_r0 : BitVec 32) (k0_t5 : Fin (k0_t5_loop v1_0_r0).trips) (k0_t6 : Fin k0_t6_loop.trips) (c0_i32_1054_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2584_r0 : Index := Scalar.indexCast v30_r0
  let c896_1055_r0 : Index := 896#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2583_r0 : BitVec 32 := Scalar.addi v1238_r0 c0_i32_1054_r0
  let v2585_r0 : Index := Scalar.indexCast v2583_r0
  ![v2584_r0.toNat, 896, v2585_r0.toNat]
def k0_off172 (v1_0_r0 : BitVec 32) (k0_t5 : Fin (k0_t5_loop v1_0_r0).trips) (k0_t6 : Fin k0_t6_loop.trips) (c0_i32_1054_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2604_r0 : Index := Scalar.indexCast v30_r0
  let c14_1060_r0 : Index := 14#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2583_r0 : BitVec 32 := Scalar.addi v1238_r0 c0_i32_1054_r0
  let v2605_r0 : Index := Scalar.indexCast v2583_r0
  ![v2604_r0.toNat, 14, v2605_r0.toNat]
def k0_off173 (v1_0_r0 : BitVec 32) (k0_t5 : Fin (k0_t5_loop v1_0_r0).trips) (k0_t6 : Fin k0_t6_loop.trips) (c0_i32_1054_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2617_r0 : Index := Scalar.indexCast v30_r0
  let c15_1061_r0 : Index := 15#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2583_r0 : BitVec 32 := Scalar.addi v1238_r0 c0_i32_1054_r0
  let v2618_r0 : Index := Scalar.indexCast v2583_r0
  ![v2617_r0.toNat, 15, v2618_r0.toNat]
def k0_off174 (v51_r0 : BitVec 32) (c0_i32_1062_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2631_r0 : BitVec 32 := Scalar.addi v57_r0 c0_i32_1062_r0
  let v2632_r0 : Index := Scalar.indexCast v2631_r0
  let c1792_1063_r0 : Index := 1792#32
  ![v2632_r0.toNat, 1792]
def k0_off175 (v1_0_r0 : BitVec 32) (k0_t5 : Fin (k0_t5_loop v1_0_r0).trips) (k0_t6 : Fin k0_t6_loop.trips) (c0_i32_1134_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2776_r0 : Index := Scalar.indexCast v30_r0
  let c1024_1135_r0 : Index := 1024#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2775_r0 : BitVec 32 := Scalar.addi v1238_r0 c0_i32_1134_r0
  let v2777_r0 : Index := Scalar.indexCast v2775_r0
  ![v2776_r0.toNat, 1024, v2777_r0.toNat]
def k0_off176 (v1_0_r0 : BitVec 32) (k0_t5 : Fin (k0_t5_loop v1_0_r0).trips) (k0_t6 : Fin k0_t6_loop.trips) (c0_i32_1134_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2796_r0 : Index := Scalar.indexCast v30_r0
  let c16_1140_r0 : Index := 16#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2775_r0 : BitVec 32 := Scalar.addi v1238_r0 c0_i32_1134_r0
  let v2797_r0 : Index := Scalar.indexCast v2775_r0
  ![v2796_r0.toNat, 16, v2797_r0.toNat]
def k0_off177 (v1_0_r0 : BitVec 32) (k0_t5 : Fin (k0_t5_loop v1_0_r0).trips) (k0_t6 : Fin k0_t6_loop.trips) (c0_i32_1134_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2809_r0 : Index := Scalar.indexCast v30_r0
  let c17_1141_r0 : Index := 17#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2775_r0 : BitVec 32 := Scalar.addi v1238_r0 c0_i32_1134_r0
  let v2810_r0 : Index := Scalar.indexCast v2775_r0
  ![v2809_r0.toNat, 17, v2810_r0.toNat]
def k0_off178 (v51_r0 : BitVec 32) (c0_i32_1142_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v2823_r0 : BitVec 32 := Scalar.addi v57_r0 c0_i32_1142_r0
  let v2824_r0 : Index := Scalar.indexCast v2823_r0
  let c2048_1143_r0 : Index := 2048#32
  ![v2824_r0.toNat, 2048]
def k0_off179 (v1_0_r0 : BitVec 32) (k0_t5 : Fin (k0_t5_loop v1_0_r0).trips) (k0_t6 : Fin k0_t6_loop.trips) (c0_i32_1214_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2968_r0 : Index := Scalar.indexCast v30_r0
  let c1152_1215_r0 : Index := 1152#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2967_r0 : BitVec 32 := Scalar.addi v1238_r0 c0_i32_1214_r0
  let v2969_r0 : Index := Scalar.indexCast v2967_r0
  ![v2968_r0.toNat, 1152, v2969_r0.toNat]
def k0_off180 (v1_0_r0 : BitVec 32) (k0_t5 : Fin (k0_t5_loop v1_0_r0).trips) (k0_t6 : Fin k0_t6_loop.trips) (c0_i32_1214_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v2988_r0 : Index := Scalar.indexCast v30_r0
  let c18_1220_r0 : Index := 18#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2967_r0 : BitVec 32 := Scalar.addi v1238_r0 c0_i32_1214_r0
  let v2989_r0 : Index := Scalar.indexCast v2967_r0
  ![v2988_r0.toNat, 18, v2989_r0.toNat]
def k0_off181 (v1_0_r0 : BitVec 32) (k0_t5 : Fin (k0_t5_loop v1_0_r0).trips) (k0_t6 : Fin k0_t6_loop.trips) (c0_i32_1214_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v3001_r0 : Index := Scalar.indexCast v30_r0
  let c19_1221_r0 : Index := 19#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v2967_r0 : BitVec 32 := Scalar.addi v1238_r0 c0_i32_1214_r0
  let v3002_r0 : Index := Scalar.indexCast v2967_r0
  ![v3001_r0.toNat, 19, v3002_r0.toNat]
def k0_off182 (v51_r0 : BitVec 32) (c0_i32_1222_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v3015_r0 : BitVec 32 := Scalar.addi v57_r0 c0_i32_1222_r0
  let v3016_r0 : Index := Scalar.indexCast v3015_r0
  let c2304_1223_r0 : Index := 2304#32
  ![v3016_r0.toNat, 2304]
def k0_off183 (v1_0_r0 : BitVec 32) (k0_t5 : Fin (k0_t5_loop v1_0_r0).trips) (k0_t6 : Fin k0_t6_loop.trips) (c0_i32_1294_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v3160_r0 : Index := Scalar.indexCast v30_r0
  let c1280_1295_r0 : Index := 1280#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3159_r0 : BitVec 32 := Scalar.addi v1238_r0 c0_i32_1294_r0
  let v3161_r0 : Index := Scalar.indexCast v3159_r0
  ![v3160_r0.toNat, 1280, v3161_r0.toNat]
def k0_off184 (v1_0_r0 : BitVec 32) (k0_t5 : Fin (k0_t5_loop v1_0_r0).trips) (k0_t6 : Fin k0_t6_loop.trips) (c0_i32_1294_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v3180_r0 : Index := Scalar.indexCast v30_r0
  let c20_1300_r0 : Index := 20#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3159_r0 : BitVec 32 := Scalar.addi v1238_r0 c0_i32_1294_r0
  let v3181_r0 : Index := Scalar.indexCast v3159_r0
  ![v3180_r0.toNat, 20, v3181_r0.toNat]
def k0_off185 (v1_0_r0 : BitVec 32) (k0_t5 : Fin (k0_t5_loop v1_0_r0).trips) (k0_t6 : Fin k0_t6_loop.trips) (c0_i32_1294_r0 : BitVec 32) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v3193_r0 : Index := Scalar.indexCast v30_r0
  let c21_1301_r0 : Index := 21#32
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3159_r0 : BitVec 32 := Scalar.addi v1238_r0 c0_i32_1294_r0
  let v3194_r0 : Index := Scalar.indexCast v3159_r0
  ![v3193_r0.toNat, 21, v3194_r0.toNat]
def k0_off186 (v51_r0 : BitVec 32) (c0_i32_1302_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v3207_r0 : BitVec 32 := Scalar.addi v57_r0 c0_i32_1302_r0
  let v3208_r0 : Index := Scalar.indexCast v3207_r0
  let c2560_1303_r0 : Index := 2560#32
  ![v3208_r0.toNat, 2560]
def k0_off187 (v51_r0 : BitVec 32) (k0_t6 : Fin k0_t6_loop.trips) (c0_i32_1374_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let c0_i32_1375_r0 : BitVec 32 := 0#32
  let v3353_r0 : BitVec 32 := Scalar.addi v57_r0 c0_i32_1375_r0
  let v3360_r0 : Index := Scalar.indexCast v3353_r0
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3351_r0 : BitVec 32 := Scalar.addi v1238_r0 c0_i32_1374_r0
  let v3361_r0 : Index := Scalar.indexCast v3351_r0
  ![v3360_r0.toNat, v3361_r0.toNat]
def k0_off188 (v51_r0 : BitVec 32) (k0_t6 : Fin k0_t6_loop.trips) (c0_i32_1374_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let c0_i32_1375_r0 : BitVec 32 := 0#32
  let v3353_r0 : BitVec 32 := Scalar.addi v57_r0 c0_i32_1375_r0
  let c16_i32_1376_r0 : BitVec 32 := 16#32
  let v3372_r0 : BitVec 32 := Scalar.addi v3353_r0 c16_i32_1376_r0
  let v3373_r0 : Index := Scalar.indexCast v3372_r0
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3351_r0 : BitVec 32 := Scalar.addi v1238_r0 c0_i32_1374_r0
  let v3374_r0 : Index := Scalar.indexCast v3351_r0
  ![v3373_r0.toNat, v3374_r0.toNat]
def k0_off189 (v51_r0 : BitVec 32) (k0_t6 : Fin k0_t6_loop.trips) (c32_i32_1378_r0 : BitVec 32) (c0_i32_1377_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v3380_r0 : BitVec 32 := Scalar.addi v57_r0 c32_i32_1378_r0
  let v3382_r0 : Index := Scalar.indexCast v3380_r0
  let c0_i32_493_r0 : BitVec 32 := 0#32
  let c0_i32_43_r0 : BitVec 32 := 0#32
  let c1_i32_44_r0 : BitVec 32 := 1#32
  let arg17_r0 : BitVec 32 := Scf.iv c0_i32_43_r0 c1_i32_44_r0 k0_t6
  let c1_i32_492_r0 : BitVec 32 := 1#32
  let v1235_r0 : BitVec 32 := Scalar.muli arg17_r0 c1_i32_492_r0
  let v1236_r0 : BitVec 32 := Scalar.addi c0_i32_493_r0 v1235_r0
  let c512_i32_r0 : BitVec 32 := 512#32
  let v1237_r0 : BitVec 32 := Scalar.muli v1236_r0 c512_i32_r0
  let v1238_r0 : BitVec 32 := v1237_r0
  let v3378_r0 : BitVec 32 := Scalar.addi v1238_r0 c0_i32_1377_r0
  let v3383_r0 : Index := Scalar.indexCast v3378_r0
  ![v3382_r0.toNat, v3383_r0.toNat]
def k0_off190 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v63_r0 : Index := Scalar.indexCast v30_r0
  let c0_46_r0 : Index := 0#32
  let c2560_r0 : Index := 2560#32
  ![v63_r0.toNat, 0, 2560]
def k0_off191 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v82_r0 : Index := Scalar.indexCast v30_r0
  let c0_49_r0 : Index := 0#32
  let c2560_50_r0 : Index := 2560#32
  ![v82_r0.toNat, 0, 2560]
def k0_off192 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v94_r0 : Index := Scalar.indexCast v30_r0
  let c1_r0 : Index := 1#32
  let c2560_51_r0 : Index := 2560#32
  ![v94_r0.toNat, 1, 2560]
def k0_off193 (v51_r0 : BitVec 32) (c0_i32_52_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v107_r0 : BitVec 32 := Scalar.addi v57_r0 c0_i32_52_r0
  let v108_r0 : Index := Scalar.indexCast v107_r0
  let c0_53_r0 : Index := 0#32
  ![v108_r0.toNat, 0]
def k0_off194 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v155_r0 : Index := Scalar.indexCast v30_r0
  let c128_r0 : Index := 128#32
  let c2560_70_r0 : Index := 2560#32
  ![v155_r0.toNat, 128, 2560]
def k0_off195 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v174_r0 : Index := Scalar.indexCast v30_r0
  let c2_r0 : Index := 2#32
  let c2560_75_r0 : Index := 2560#32
  ![v174_r0.toNat, 2, 2560]
def k0_off196 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v186_r0 : Index := Scalar.indexCast v30_r0
  let c3_r0 : Index := 3#32
  let c2560_76_r0 : Index := 2560#32
  ![v186_r0.toNat, 3, 2560]
def k0_off197 (v51_r0 : BitVec 32) (c0_i32_77_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v199_r0 : BitVec 32 := Scalar.addi v57_r0 c0_i32_77_r0
  let v200_r0 : Index := Scalar.indexCast v199_r0
  let c256_r0 : Index := 256#32
  ![v200_r0.toNat, 256]
def k0_off198 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v247_r0 : Index := Scalar.indexCast v30_r0
  let c256_108_r0 : Index := 256#32
  let c2560_109_r0 : Index := 2560#32
  ![v247_r0.toNat, 256, 2560]
def k0_off199 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v266_r0 : Index := Scalar.indexCast v30_r0
  let c4_r0 : Index := 4#32
  let c2560_114_r0 : Index := 2560#32
  ![v266_r0.toNat, 4, 2560]
def k0_off200 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v278_r0 : Index := Scalar.indexCast v30_r0
  let c5_r0 : Index := 5#32
  let c2560_115_r0 : Index := 2560#32
  ![v278_r0.toNat, 5, 2560]
def k0_off201 (v51_r0 : BitVec 32) (c0_i32_116_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v291_r0 : BitVec 32 := Scalar.addi v57_r0 c0_i32_116_r0
  let v292_r0 : Index := Scalar.indexCast v291_r0
  let c512_117_r0 : Index := 512#32
  ![v292_r0.toNat, 512]
def k0_off202 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v339_r0 : Index := Scalar.indexCast v30_r0
  let c384_r0 : Index := 384#32
  let c2560_148_r0 : Index := 2560#32
  ![v339_r0.toNat, 384, 2560]
def k0_off203 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v358_r0 : Index := Scalar.indexCast v30_r0
  let c6_r0 : Index := 6#32
  let c2560_153_r0 : Index := 2560#32
  ![v358_r0.toNat, 6, 2560]
def k0_off204 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v370_r0 : Index := Scalar.indexCast v30_r0
  let c7_r0 : Index := 7#32
  let c2560_154_r0 : Index := 2560#32
  ![v370_r0.toNat, 7, 2560]
def k0_off205 (v51_r0 : BitVec 32) (c0_i32_155_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v383_r0 : BitVec 32 := Scalar.addi v57_r0 c0_i32_155_r0
  let v384_r0 : Index := Scalar.indexCast v383_r0
  let c768_r0 : Index := 768#32
  ![v384_r0.toNat, 768]
def k0_off206 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v431_r0 : Index := Scalar.indexCast v30_r0
  let c512_186_r0 : Index := 512#32
  let c2560_187_r0 : Index := 2560#32
  ![v431_r0.toNat, 512, 2560]
def k0_off207 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v450_r0 : Index := Scalar.indexCast v30_r0
  let c8_r0 : Index := 8#32
  let c2560_192_r0 : Index := 2560#32
  ![v450_r0.toNat, 8, 2560]
def k0_off208 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v462_r0 : Index := Scalar.indexCast v30_r0
  let c9_r0 : Index := 9#32
  let c2560_193_r0 : Index := 2560#32
  ![v462_r0.toNat, 9, 2560]
def k0_off209 (v51_r0 : BitVec 32) (c0_i32_194_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v475_r0 : BitVec 32 := Scalar.addi v57_r0 c0_i32_194_r0
  let v476_r0 : Index := Scalar.indexCast v475_r0
  let c1024_r0 : Index := 1024#32
  ![v476_r0.toNat, 1024]
def k0_off210 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v523_r0 : Index := Scalar.indexCast v30_r0
  let c640_r0 : Index := 640#32
  let c2560_225_r0 : Index := 2560#32
  ![v523_r0.toNat, 640, 2560]
def k0_off211 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v542_r0 : Index := Scalar.indexCast v30_r0
  let c10_r0 : Index := 10#32
  let c2560_230_r0 : Index := 2560#32
  ![v542_r0.toNat, 10, 2560]
def k0_off212 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v554_r0 : Index := Scalar.indexCast v30_r0
  let c11_r0 : Index := 11#32
  let c2560_231_r0 : Index := 2560#32
  ![v554_r0.toNat, 11, 2560]
def k0_off213 (v51_r0 : BitVec 32) (c0_i32_232_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v567_r0 : BitVec 32 := Scalar.addi v57_r0 c0_i32_232_r0
  let v568_r0 : Index := Scalar.indexCast v567_r0
  let c1280_r0 : Index := 1280#32
  ![v568_r0.toNat, 1280]
def k0_off214 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v615_r0 : Index := Scalar.indexCast v30_r0
  let c768_263_r0 : Index := 768#32
  let c2560_264_r0 : Index := 2560#32
  ![v615_r0.toNat, 768, 2560]
def k0_off215 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v634_r0 : Index := Scalar.indexCast v30_r0
  let c12_r0 : Index := 12#32
  let c2560_269_r0 : Index := 2560#32
  ![v634_r0.toNat, 12, 2560]
def k0_off216 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v646_r0 : Index := Scalar.indexCast v30_r0
  let c13_r0 : Index := 13#32
  let c2560_270_r0 : Index := 2560#32
  ![v646_r0.toNat, 13, 2560]
def k0_off217 (v51_r0 : BitVec 32) (c0_i32_271_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v659_r0 : BitVec 32 := Scalar.addi v57_r0 c0_i32_271_r0
  let v660_r0 : Index := Scalar.indexCast v659_r0
  let c1536_r0 : Index := 1536#32
  ![v660_r0.toNat, 1536]
def k0_off218 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v707_r0 : Index := Scalar.indexCast v30_r0
  let c896_r0 : Index := 896#32
  let c2560_302_r0 : Index := 2560#32
  ![v707_r0.toNat, 896, 2560]
def k0_off219 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v726_r0 : Index := Scalar.indexCast v30_r0
  let c14_r0 : Index := 14#32
  let c2560_307_r0 : Index := 2560#32
  ![v726_r0.toNat, 14, 2560]
def k0_off220 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v738_r0 : Index := Scalar.indexCast v30_r0
  let c15_r0 : Index := 15#32
  let c2560_308_r0 : Index := 2560#32
  ![v738_r0.toNat, 15, 2560]
def k0_off221 (v51_r0 : BitVec 32) (c0_i32_309_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v751_r0 : BitVec 32 := Scalar.addi v57_r0 c0_i32_309_r0
  let v752_r0 : Index := Scalar.indexCast v751_r0
  let c1792_r0 : Index := 1792#32
  ![v752_r0.toNat, 1792]
def k0_off222 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v799_r0 : Index := Scalar.indexCast v30_r0
  let c1024_340_r0 : Index := 1024#32
  let c2560_341_r0 : Index := 2560#32
  ![v799_r0.toNat, 1024, 2560]
def k0_off223 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v818_r0 : Index := Scalar.indexCast v30_r0
  let c16_r0 : Index := 16#32
  let c2560_346_r0 : Index := 2560#32
  ![v818_r0.toNat, 16, 2560]
def k0_off224 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v830_r0 : Index := Scalar.indexCast v30_r0
  let c17_r0 : Index := 17#32
  let c2560_347_r0 : Index := 2560#32
  ![v830_r0.toNat, 17, 2560]
def k0_off225 (v51_r0 : BitVec 32) (c0_i32_348_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v843_r0 : BitVec 32 := Scalar.addi v57_r0 c0_i32_348_r0
  let v844_r0 : Index := Scalar.indexCast v843_r0
  let c2048_r0 : Index := 2048#32
  ![v844_r0.toNat, 2048]
def k0_off226 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v891_r0 : Index := Scalar.indexCast v30_r0
  let c1152_r0 : Index := 1152#32
  let c2560_379_r0 : Index := 2560#32
  ![v891_r0.toNat, 1152, 2560]
def k0_off227 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v910_r0 : Index := Scalar.indexCast v30_r0
  let c18_r0 : Index := 18#32
  let c2560_384_r0 : Index := 2560#32
  ![v910_r0.toNat, 18, 2560]
def k0_off228 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v922_r0 : Index := Scalar.indexCast v30_r0
  let c19_r0 : Index := 19#32
  let c2560_385_r0 : Index := 2560#32
  ![v922_r0.toNat, 19, 2560]
def k0_off229 (v51_r0 : BitVec 32) (c0_i32_386_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v935_r0 : BitVec 32 := Scalar.addi v57_r0 c0_i32_386_r0
  let v936_r0 : Index := Scalar.indexCast v935_r0
  let c2304_r0 : Index := 2304#32
  ![v936_r0.toNat, 2304]
def k0_off230 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v983_r0 : Index := Scalar.indexCast v30_r0
  let c1280_417_r0 : Index := 1280#32
  let c2560_418_r0 : Index := 2560#32
  ![v983_r0.toNat, 1280, 2560]
def k0_off231 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1002_r0 : Index := Scalar.indexCast v30_r0
  let c20_r0 : Index := 20#32
  let c2560_423_r0 : Index := 2560#32
  ![v1002_r0.toNat, 20, 2560]
def k0_off232 (v1_0_r0 : BitVec 32) (k0_t5 : Fin (k0_t5_loop v1_0_r0).trips) : Fin 3 → Nat :=
  let c0_i32_21_r0 : BitVec 32 := 0#32
  let c0_i32_22_r0 : BitVec 32 := 0#32
  let c0_i32_16_r0 : BitVec 32 := 0#32
  let v17_r0 : BitVec 32 := Scalar.subi v1_0_r0 c0_i32_16_r0
  let c1_i32_17_r0 : BitVec 32 := 1#32
  let c1_i32_18_r0 : BitVec 32 := 1#32
  let v18_r0 : BitVec 32 := Scalar.subi c1_i32_17_r0 c1_i32_18_r0
  let v19_r0 : BitVec 32 := Scalar.addi v17_r0 v18_r0
  let c1_i32_19_r0 : BitVec 32 := 1#32
  let v20_r0 : BitVec 32 := Scalar.divsi v19_r0 c1_i32_19_r0
  let v21_r0 : BitVec 32 := Scalar.subi v20_r0 c0_i32_22_r0
  let c1_i32_23_r0 : BitVec 32 := 1#32
  let v23_r0 : BitVec 32 := Scalar.divsi v21_r0 c1_i32_23_r0
  let v24_r0 : BitVec 32 := Scalar.muli v23_r0 c1_i32_23_r0
  let v25_r0 : BitVec 32 := Scalar.addi c0_i32_22_r0 v24_r0
  let c1_i32_25_r0 : BitVec 32 := 1#32
  let arg16_r0 : BitVec 32 := Scf.iv v25_r0 c1_i32_25_r0 k0_t5
  let c1_i32_20_r0 : BitVec 32 := 1#32
  let v28_r0 : BitVec 32 := Scalar.muli arg16_r0 c1_i32_20_r0
  let v29_r0 : BitVec 32 := Scalar.addi c0_i32_21_r0 v28_r0
  let c3_i32_r0 : BitVec 32 := 3#32
  let v30_r0 : BitVec 32 := Scalar.remsi v29_r0 c3_i32_r0
  let v1014_r0 : Index := Scalar.indexCast v30_r0
  let c21_r0 : Index := 21#32
  let c2560_424_r0 : Index := 2560#32
  ![v1014_r0.toNat, 21, 2560]
def k0_off233 (v51_r0 : BitVec 32) (c0_i32_425_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let v1027_r0 : BitVec 32 := Scalar.addi v57_r0 c0_i32_425_r0
  let v1028_r0 : Index := Scalar.indexCast v1027_r0
  let c2560_426_r0 : Index := 2560#32
  ![v1028_r0.toNat, 2560]
def k0_off234 (v51_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let c0_i32_457_r0 : BitVec 32 := 0#32
  let v1078_r0 : BitVec 32 := Scalar.addi v57_r0 c0_i32_457_r0
  let v1085_r0 : Index := Scalar.indexCast v1078_r0
  let c2560_458_r0 : Index := 2560#32
  ![v1085_r0.toNat, 2560]
def k0_off235 (v51_r0 : BitVec 32) : Fin 2 → Nat :=
  let c16_i32_r0 : BitVec 32 := 16#32
  let v55_r0 : BitVec 32 := Scalar.remsi v51_r0 c16_i32_r0
  let v56_r0 : BitVec 32 := Scalar.subi v51_r0 v55_r0
  let v57_r0 : BitVec 32 := v56_r0
  let c0_i32_457_r0 : BitVec 32 := 0#32
  let v1078_r0 : BitVec 32 := Scalar.addi v57_r0 c0_i32_457_r0
  let c16_i32_460_r0 : BitVec 32 := 16#32
  let v1095_r0 : BitVec 32 := Scalar.addi v1078_r0 c16_i32_460_r0
  let v1096_r0 : Index := Scalar.indexCast v1095_r0
  let c2560_461_r0 : Index := 2560#32
  ![v1096_r0.toNat, 2560]

def k0_chk12_0 (v1_0_r0 : BitVec 32) (k0_t5 : Fin (k0_t5_loop v1_0_r0).trips) (v51_r0 : BitVec 32) (v54_r0 : BitVec 32) : Prop :=
  (∀ k0_t6 : Fin k0_t6_loop.trips, ∀ (k0_h7 : k0_cond7 v51_r0 v54_r0 = 1#1), ∀ (r : Fin 2), ∀ a, (k0_off143 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off144 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off145 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off146 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off147 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off148 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off149 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off150 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off151 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off152 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off153 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off154 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off155 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off156 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off157 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off158 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off159 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off160 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off161 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off162 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off163 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off164 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off165 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off166 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off167 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off168 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off169 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off170 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off171 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off172 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off173 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off174 v51_r0 (BitVec.ofNat 32 (32 * r.val))) a + S32x256.size a ≤ S1024x2816.size a)
def k0_chk12_1 (v1_0_r0 : BitVec 32) (k0_t5 : Fin (k0_t5_loop v1_0_r0).trips) (v51_r0 : BitVec 32) (v54_r0 : BitVec 32) : Prop :=
  (∀ k0_t6 : Fin k0_t6_loop.trips, ∀ (k0_h7 : k0_cond7 v51_r0 v54_r0 = 1#1), ∀ (r : Fin 2), ∀ a, (k0_off175 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off176 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off177 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off178 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off179 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off180 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off181 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off182 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off183 v1_0_r0 k0_t5 k0_t6 (BitVec.ofNat 32 (256 * r.val))) a + S1x128x256.size a ≤ S3x1408x2816.size a) ∧
  (∀ k0_t6 : Fin k0_t6_loop.trips, ∀ (k0_h7 : k0_cond7 v51_r0 v54_r0 = 1#1), ∀ (r : Fin 2), ∀ a, (k0_off184 v1_0_r0 k0_t5 k0_t6 (BitVec.ofNat 32 (256 * r.val))) a + S1x1x256.size a ≤ S3x22x2816.size a) ∧
  (∀ k0_t6 : Fin k0_t6_loop.trips, ∀ (k0_h7 : k0_cond7 v51_r0 v54_r0 = 1#1), ∀ (r : Fin 2), ∀ a, (k0_off185 v1_0_r0 k0_t5 k0_t6 (BitVec.ofNat 32 (256 * r.val))) a + S1x1x256.size a ≤ S3x22x2816.size a) ∧
  (∀ (k0_h7 : k0_cond7 v51_r0 v54_r0 = 1#1), ∀ (r : Fin 16), ∀ a, (k0_off186 v51_r0 (BitVec.ofNat 32 (32 * r.val))) a + S32x256.size a ≤ S1024x2816.size a) ∧
  (∀ k0_t6 : Fin k0_t6_loop.trips, ∀ (k0_h7 : k0_cond7 v51_r0 v54_r0 = 1#1), ∀ (r : Fin 2), ∀ a, (k0_off187 v51_r0 k0_t6 (BitVec.ofNat 32 (256 * r.val))) a + S16x256.size a ≤ S1024x2816.size a) ∧
  (∀ k0_t6 : Fin k0_t6_loop.trips, ∀ (k0_h7 : k0_cond7 v51_r0 v54_r0 = 1#1), ∀ (r : Fin 2), ∀ (hinb : ∀ a, (k0_off187 v51_r0 k0_t6 (BitVec.ofNat 32 (256 * r.val))) a + S16x256.size a ≤ S1024x2816.size a), (Rect.unit (s := S1024x2816) (k0_off187 v51_r0 k0_t6 (BitVec.ofNat 32 (256 * r.val))) S16x256.size hinb).PackedRows (EltTy.packing .bf16)) ∧
  (∀ k0_t6 : Fin k0_t6_loop.trips, ∀ (k0_h7 : k0_cond7 v51_r0 v54_r0 = 1#1), ∀ (r : Fin 2), ∀ a, (k0_off188 v51_r0 k0_t6 (BitVec.ofNat 32 (256 * r.val))) a + S16x256.size a ≤ S1024x2816.size a) ∧
  (∀ k0_t6 : Fin k0_t6_loop.trips, ∀ (k0_h7 : k0_cond7 v51_r0 v54_r0 = 1#1), ∀ (r : Fin 2), ∀ (hinb : ∀ a, (k0_off188 v51_r0 k0_t6 (BitVec.ofNat 32 (256 * r.val))) a + S16x256.size a ≤ S1024x2816.size a), (Rect.unit (s := S1024x2816) (k0_off188 v51_r0 k0_t6 (BitVec.ofNat 32 (256 * r.val))) S16x256.size hinb).PackedRows (EltTy.packing .bf16)) ∧
  (∀ k0_t6 : Fin k0_t6_loop.trips, ∀ (k0_h7 : k0_cond7 v51_r0 v54_r0 = 1#1), ∀ (r₁ : Fin 15) (r₂ : Fin 2), ∀ a, (k0_off189 v51_r0 k0_t6 (BitVec.ofNat 32 (32 + 32 * r₁.val)) (BitVec.ofNat 32 (256 * r₂.val))) a + S32x256.size a ≤ S1024x2816.size a) ∧
  (∀ k0_t6 : Fin k0_t6_loop.trips, ∀ (k0_h7 : k0_cond7 v51_r0 v54_r0 = 1#1), ∀ (r₁ : Fin 15) (r₂ : Fin 2), ∀ (hinb : ∀ a, (k0_off189 v51_r0 k0_t6 (BitVec.ofNat 32 (32 + 32 * r₁.val)) (BitVec.ofNat 32 (256 * r₂.val))) a + S32x256.size a ≤ S1024x2816.size a), (Rect.unit (s := S1024x2816) (k0_off189 v51_r0 k0_t6 (BitVec.ofNat 32 (32 + 32 * r₁.val)) (BitVec.ofNat 32 (256 * r₂.val))) S32x256.size hinb).PackedRows (EltTy.packing .bf16)) ∧
  (∀ (k0_h7 : k0_cond7 v51_r0 v54_r0 = 1#1), ∀ a, (k0_off190 v1_0_r0 k0_t5) a + S1x128x256.size a ≤ S3x1408x2816.size a) ∧
  (∀ (k0_h7 : k0_cond7 v51_r0 v54_r0 = 1#1), ∀ a, (k0_off191 v1_0_r0 k0_t5) a + S1x1x256.size a ≤ S3x22x2816.size a) ∧
  (∀ (k0_h7 : k0_cond7 v51_r0 v54_r0 = 1#1), ∀ a, (k0_off192 v1_0_r0 k0_t5) a + S1x1x256.size a ≤ S3x22x2816.size a) ∧
  (∀ (k0_h7 : k0_cond7 v51_r0 v54_r0 = 1#1), ∀ (r : Fin 16), ∀ a, (k0_off193 v51_r0 (BitVec.ofNat 32 (32 * r.val))) a + S32x256.size a ≤ S1024x2816.size a) ∧
  (∀ (k0_h7 : k0_cond7 v51_r0 v54_r0 = 1#1), ∀ a, (k0_off194 v1_0_r0 k0_t5) a + S1x128x256.size a ≤ S3x1408x2816.size a) ∧
  (∀ (k0_h7 : k0_cond7 v51_r0 v54_r0 = 1#1), ∀ a, (k0_off195 v1_0_r0 k0_t5) a + S1x1x256.size a ≤ S3x22x2816.size a) ∧
  (∀ (k0_h7 : k0_cond7 v51_r0 v54_r0 = 1#1), ∀ a, (k0_off196 v1_0_r0 k0_t5) a + S1x1x256.size a ≤ S3x22x2816.size a) ∧
  (∀ (k0_h7 : k0_cond7 v51_r0 v54_r0 = 1#1), ∀ (r : Fin 16), ∀ a, (k0_off197 v51_r0 (BitVec.ofNat 32 (32 * r.val))) a + S32x256.size a ≤ S1024x2816.size a) ∧
  (∀ (k0_h7 : k0_cond7 v51_r0 v54_r0 = 1#1), ∀ a, (k0_off198 v1_0_r0 k0_t5) a + S1x128x256.size a ≤ S3x1408x2816.size a) ∧
  (∀ (k0_h7 : k0_cond7 v51_r0 v54_r0 = 1#1), ∀ a, (k0_off199 v1_0_r0 k0_t5) a + S1x1x256.size a ≤ S3x22x2816.size a) ∧
  (∀ (k0_h7 : k0_cond7 v51_r0 v54_r0 = 1#1), ∀ a, (k0_off200 v1_0_r0 k0_t5) a + S1x1x256.size a ≤ S3x22x2816.size a) ∧
  (∀ (k0_h7 : k0_cond7 v51_r0 v54_r0 = 1#1), ∀ (r : Fin 16), ∀ a, (k0_off201 v51_r0 (BitVec.ofNat 32 (32 * r.val))) a + S32x256.size a ≤ S1024x2816.size a) ∧
  (∀ (k0_h7 : k0_cond7 v51_r0 v54_r0 = 1#1), ∀ a, (k0_off202 v1_0_r0 k0_t5) a + S1x128x256.size a ≤ S3x1408x2816.size a) ∧
  (∀ (k0_h7 : k0_cond7 v51_r0 v54_r0 = 1#1), ∀ a, (k0_off203 v1_0_r0 k0_t5) a + S1x1x256.size a ≤ S3x22x2816.size a)
def k0_chk12_2 (v1_0_r0 : BitVec 32) (k0_t5 : Fin (k0_t5_loop v1_0_r0).trips) (v51_r0 : BitVec 32) (v54_r0 : BitVec 32) : Prop :=
  (∀ (k0_h7 : k0_cond7 v51_r0 v54_r0 = 1#1), ∀ a, (k0_off204 v1_0_r0 k0_t5) a + S1x1x256.size a ≤ S3x22x2816.size a) ∧
  (∀ (k0_h7 : k0_cond7 v51_r0 v54_r0 = 1#1), ∀ (r : Fin 16), ∀ a, (k0_off205 v51_r0 (BitVec.ofNat 32 (32 * r.val))) a + S32x256.size a ≤ S1024x2816.size a) ∧
  (∀ (k0_h7 : k0_cond7 v51_r0 v54_r0 = 1#1), ∀ a, (k0_off206 v1_0_r0 k0_t5) a + S1x128x256.size a ≤ S3x1408x2816.size a) ∧
  (∀ (k0_h7 : k0_cond7 v51_r0 v54_r0 = 1#1), ∀ a, (k0_off207 v1_0_r0 k0_t5) a + S1x1x256.size a ≤ S3x22x2816.size a) ∧
  (∀ (k0_h7 : k0_cond7 v51_r0 v54_r0 = 1#1), ∀ a, (k0_off208 v1_0_r0 k0_t5) a + S1x1x256.size a ≤ S3x22x2816.size a) ∧
  (∀ (k0_h7 : k0_cond7 v51_r0 v54_r0 = 1#1), ∀ (r : Fin 16), ∀ a, (k0_off209 v51_r0 (BitVec.ofNat 32 (32 * r.val))) a + S32x256.size a ≤ S1024x2816.size a) ∧
  (∀ (k0_h7 : k0_cond7 v51_r0 v54_r0 = 1#1), ∀ a, (k0_off210 v1_0_r0 k0_t5) a + S1x128x256.size a ≤ S3x1408x2816.size a) ∧
  (∀ (k0_h7 : k0_cond7 v51_r0 v54_r0 = 1#1), ∀ a, (k0_off211 v1_0_r0 k0_t5) a + S1x1x256.size a ≤ S3x22x2816.size a) ∧
  (∀ (k0_h7 : k0_cond7 v51_r0 v54_r0 = 1#1), ∀ a, (k0_off212 v1_0_r0 k0_t5) a + S1x1x256.size a ≤ S3x22x2816.size a) ∧
  (∀ (k0_h7 : k0_cond7 v51_r0 v54_r0 = 1#1), ∀ (r : Fin 16), ∀ a, (k0_off213 v51_r0 (BitVec.ofNat 32 (32 * r.val))) a + S32x256.size a ≤ S1024x2816.size a) ∧
  (∀ (k0_h7 : k0_cond7 v51_r0 v54_r0 = 1#1), ∀ a, (k0_off214 v1_0_r0 k0_t5) a + S1x128x256.size a ≤ S3x1408x2816.size a) ∧
  (∀ (k0_h7 : k0_cond7 v51_r0 v54_r0 = 1#1), ∀ a, (k0_off215 v1_0_r0 k0_t5) a + S1x1x256.size a ≤ S3x22x2816.size a) ∧
  (∀ (k0_h7 : k0_cond7 v51_r0 v54_r0 = 1#1), ∀ a, (k0_off216 v1_0_r0 k0_t5) a + S1x1x256.size a ≤ S3x22x2816.size a) ∧
  (∀ (k0_h7 : k0_cond7 v51_r0 v54_r0 = 1#1), ∀ (r : Fin 16), ∀ a, (k0_off217 v51_r0 (BitVec.ofNat 32 (32 * r.val))) a + S32x256.size a ≤ S1024x2816.size a) ∧
  (∀ (k0_h7 : k0_cond7 v51_r0 v54_r0 = 1#1), ∀ a, (k0_off218 v1_0_r0 k0_t5) a + S1x128x256.size a ≤ S3x1408x2816.size a) ∧
  (∀ (k0_h7 : k0_cond7 v51_r0 v54_r0 = 1#1), ∀ a, (k0_off219 v1_0_r0 k0_t5) a + S1x1x256.size a ≤ S3x22x2816.size a) ∧
  (∀ (k0_h7 : k0_cond7 v51_r0 v54_r0 = 1#1), ∀ a, (k0_off220 v1_0_r0 k0_t5) a + S1x1x256.size a ≤ S3x22x2816.size a) ∧
  (∀ (k0_h7 : k0_cond7 v51_r0 v54_r0 = 1#1), ∀ (r : Fin 16), ∀ a, (k0_off221 v51_r0 (BitVec.ofNat 32 (32 * r.val))) a + S32x256.size a ≤ S1024x2816.size a) ∧
  (∀ (k0_h7 : k0_cond7 v51_r0 v54_r0 = 1#1), ∀ a, (k0_off222 v1_0_r0 k0_t5) a + S1x128x256.size a ≤ S3x1408x2816.size a) ∧
  (∀ (k0_h7 : k0_cond7 v51_r0 v54_r0 = 1#1), ∀ a, (k0_off223 v1_0_r0 k0_t5) a + S1x1x256.size a ≤ S3x22x2816.size a) ∧
  (∀ (k0_h7 : k0_cond7 v51_r0 v54_r0 = 1#1), ∀ a, (k0_off224 v1_0_r0 k0_t5) a + S1x1x256.size a ≤ S3x22x2816.size a) ∧
  (∀ (k0_h7 : k0_cond7 v51_r0 v54_r0 = 1#1), ∀ (r : Fin 16), ∀ a, (k0_off225 v51_r0 (BitVec.ofNat 32 (32 * r.val))) a + S32x256.size a ≤ S1024x2816.size a) ∧
  (∀ (k0_h7 : k0_cond7 v51_r0 v54_r0 = 1#1), ∀ a, (k0_off226 v1_0_r0 k0_t5) a + S1x128x256.size a ≤ S3x1408x2816.size a) ∧
  (∀ (k0_h7 : k0_cond7 v51_r0 v54_r0 = 1#1), ∀ a, (k0_off227 v1_0_r0 k0_t5) a + S1x1x256.size a ≤ S3x22x2816.size a) ∧
  (∀ (k0_h7 : k0_cond7 v51_r0 v54_r0 = 1#1), ∀ a, (k0_off228 v1_0_r0 k0_t5) a + S1x1x256.size a ≤ S3x22x2816.size a) ∧
  (∀ (k0_h7 : k0_cond7 v51_r0 v54_r0 = 1#1), ∀ (r : Fin 16), ∀ a, (k0_off229 v51_r0 (BitVec.ofNat 32 (32 * r.val))) a + S32x256.size a ≤ S1024x2816.size a) ∧
  (∀ (k0_h7 : k0_cond7 v51_r0 v54_r0 = 1#1), ∀ a, (k0_off230 v1_0_r0 k0_t5) a + S1x128x256.size a ≤ S3x1408x2816.size a) ∧
  (∀ (k0_h7 : k0_cond7 v51_r0 v54_r0 = 1#1), ∀ a, (k0_off231 v1_0_r0 k0_t5) a + S1x1x256.size a ≤ S3x22x2816.size a) ∧
  (∀ (k0_h7 : k0_cond7 v51_r0 v54_r0 = 1#1), ∀ a, (k0_off232 v1_0_r0 k0_t5) a + S1x1x256.size a ≤ S3x22x2816.size a) ∧
  (∀ (k0_h7 : k0_cond7 v51_r0 v54_r0 = 1#1), ∀ (r : Fin 16), ∀ a, (k0_off233 v51_r0 (BitVec.ofNat 32 (32 * r.val))) a + S32x256.size a ≤ S1024x2816.size a) ∧
  (∀ (k0_h7 : k0_cond7 v51_r0 v54_r0 = 1#1), ∀ a, (k0_off234 v51_r0) a + S16x256.size a ≤ S1024x2816.size a) ∧
  (∀ (k0_h7 : k0_cond7 v51_r0 v54_r0 = 1#1), ∀ (hinb : ∀ a, (k0_off234 v51_r0) a + S16x256.size a ≤ S1024x2816.size a), (Rect.unit (s := S1024x2816) (k0_off234 v51_r0) S16x256.size hinb).PackedRows (EltTy.packing .bf16))
def k0_chk12_3 (v1_0_r0 : BitVec 32) (k0_t5 : Fin (k0_t5_loop v1_0_r0).trips) (v51_r0 : BitVec 32) (v54_r0 : BitVec 32) : Prop :=
  (∀ (k0_h7 : k0_cond7 v51_r0 v54_r0 = 1#1), ∀ a, (k0_off235 v51_r0) a + S16x256.size a ≤ S1024x2816.size a) ∧
  (∀ (k0_h7 : k0_cond7 v51_r0 v54_r0 = 1#1), ∀ (hinb : ∀ a, (k0_off235 v51_r0) a + S16x256.size a ≤ S1024x2816.size a), (Rect.unit (s := S1024x2816) (k0_off235 v51_r0) S16x256.size hinb).PackedRows (EltTy.packing .bf16)) ∧
  (∀ (k0_h7 : k0_cond7 v51_r0 v54_r0 = 1#1), ∀ (r : Fin 16), ∀ (hinb : ∀ a, (k0_off233 v51_r0 (BitVec.ofNat 32 (32 * r.val))) a + S32x256.size a ≤ S1024x2816.size a), (Rect.unit (s := S1024x2816) (k0_off233 v51_r0 (BitVec.ofNat 32 (32 * r.val))) S32x256.size hinb).PackedRows (EltTy.packing .bf16))
def k0_chk12 (v1_0_r0 : BitVec 32) (k0_t5 : Fin (k0_t5_loop v1_0_r0).trips) (v51_r0 : BitVec 32) (v54_r0 : BitVec 32) : Prop :=
  k0_chk12_0 v1_0_r0 k0_t5 v51_r0 v54_r0 ∧
  k0_chk12_1 v1_0_r0 k0_t5 v51_r0 v54_r0 ∧
  k0_chk12_2 v1_0_r0 k0_t5 v51_r0 v54_r0 ∧
  k0_chk12_3 v1_0_r0 k0_t5 v51_r0 v54_r0
theorem k0_off143_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off143 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.1.1 k0_t6 k0_h7 r
theorem k0_off144_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off144 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.1 k0_t6 k0_h7 r
theorem k0_off145_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off145 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.1 k0_t6 k0_h7 r
theorem k0_off146_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off146 v51_r0 (BitVec.ofNat 32 (32 * r.val))) a + S32x256.size a ≤ S1024x2816.size a := fun v1_0_r0 k0_t5 v51_r0 v54_r0 k0_hw12 k0_h7 r => k0_hw12.1.2.2.2.1 k0_h7 r
theorem k0_off147_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off147 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.1.2.2.2.2.1 k0_t6 k0_h7 r
theorem k0_off148_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off148 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.1 k0_t6 k0_h7 r
theorem k0_off149_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off149 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.1 k0_t6 k0_h7 r
theorem k0_off150_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off150 v51_r0 (BitVec.ofNat 32 (32 * r.val))) a + S32x256.size a ≤ S1024x2816.size a := fun v1_0_r0 k0_t5 v51_r0 v54_r0 k0_hw12 k0_h7 r => k0_hw12.1.2.2.2.2.2.2.2.1 k0_h7 r
theorem k0_off151_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off151 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.1.2.2.2.2.2.2.2.2.1 k0_t6 k0_h7 r
theorem k0_off152_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off152 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.1 k0_t6 k0_h7 r
theorem k0_off153_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off153 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.1 k0_t6 k0_h7 r
theorem k0_off154_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off154 v51_r0 (BitVec.ofNat 32 (32 * r.val))) a + S32x256.size a ≤ S1024x2816.size a := fun v1_0_r0 k0_t5 v51_r0 v54_r0 k0_hw12 k0_h7 r => k0_hw12.1.2.2.2.2.2.2.2.2.2.2.2.1 k0_h7 r
theorem k0_off155_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off155 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.1.2.2.2.2.2.2.2.2.2.2.2.2.1 k0_t6 k0_h7 r
theorem k0_off156_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off156 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.1 k0_t6 k0_h7 r
theorem k0_off157_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off157 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.2.1 k0_t6 k0_h7 r
theorem k0_off158_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off158 v51_r0 (BitVec.ofNat 32 (32 * r.val))) a + S32x256.size a ≤ S1024x2816.size a := fun v1_0_r0 k0_t5 v51_r0 v54_r0 k0_hw12 k0_h7 r => k0_hw12.1.2.2.2.2.2.2.2.2.2.2.2.2.2.2.2.1 k0_h7 r
theorem k0_off159_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off159 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.1.2.2.2.2.2.2.2.2.2.2.2.2.2.2.2.2.1 k0_t6 k0_h7 r
theorem k0_off160_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off160 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.2.2.2.2.1 k0_t6 k0_h7 r
theorem k0_off161_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off161 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.2.2.2.2.2.1 k0_t6 k0_h7 r
theorem k0_off162_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off162 v51_r0 (BitVec.ofNat 32 (32 * r.val))) a + S32x256.size a ≤ S1024x2816.size a := fun v1_0_r0 k0_t5 v51_r0 v54_r0 k0_hw12 k0_h7 r => k0_hw12.1.2.2.2.2.2.2.2.2.2.2.2.2.2.2.2.2.2.2.2.1 k0_h7 r
theorem k0_off163_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off163 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.1.2.2.2.2.2.2.2.2.2.2.2.2.2.2.2.2.2.2.2.2.1 k0_t6 k0_h7 r
theorem k0_off164_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off164 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.2.2.2.2.2.2.2.2.1 k0_t6 k0_h7 r
theorem k0_off165_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off165 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.2.2.2.2.2.2.2.2.2.1 k0_t6 k0_h7 r
theorem k0_off166_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off166 v51_r0 (BitVec.ofNat 32 (32 * r.val))) a + S32x256.size a ≤ S1024x2816.size a := fun v1_0_r0 k0_t5 v51_r0 v54_r0 k0_hw12 k0_h7 r => k0_hw12.1.2.2.2.2.2.2.2.2.2.2.2.2.2.2.2.2.2.2.2.2.2.2.2.1 k0_h7 r
theorem k0_off167_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off167 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.1.2.2.2.2.2.2.2.2.2.2.2.2.2.2.2.2.2.2.2.2.2.2.2.2.1 k0_t6 k0_h7 r
theorem k0_off168_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off168 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.2.2.2.2.2.2.2.2.2.2.2.2.1 k0_t6 k0_h7 r
theorem k0_off169_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off169 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.2.2.2.2.2.2.2.2.2.2.2.2.2.1 k0_t6 k0_h7 r
theorem k0_off170_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off170 v51_r0 (BitVec.ofNat 32 (32 * r.val))) a + S32x256.size a ≤ S1024x2816.size a := fun v1_0_r0 k0_t5 v51_r0 v54_r0 k0_hw12 k0_h7 r => k0_hw12.1.2.2.2.2.2.2.2.2.2.2.2.2.2.2.2.2.2.2.2.2.2.2.2.2.2.2.2.1 k0_h7 r
theorem k0_off171_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off171 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.1.2.2.2.2.2.2.2.2.2.2.2.2.2.2.2.2.2.2.2.2.2.2.2.2.2.2.2.2.1 k0_t6 k0_h7 r
theorem k0_off172_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off172 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.2.2.2.2.2.2.2.2.2.2.2.2.2.2.2.2.1 k0_t6 k0_h7 r
theorem k0_off173_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off173 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.1.2.2.2.2.2.2.2.2.2.2.2.2.2.2.2.2.2.2.2.2.2.2.2.2.2.2.2.2.2.2.1 k0_t6 k0_h7 r
theorem k0_off174_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off174 v51_r0 (BitVec.ofNat 32 (32 * r.val))) a + S32x256.size a ≤ S1024x2816.size a := fun v1_0_r0 k0_t5 v51_r0 v54_r0 k0_hw12 k0_h7 r => k0_hw12.1.2.2.2.2.2.2.2.2.2.2.2.2.2.2.2.2.2.2.2.2.2.2.2.2.2.2.2.2.2.2.2 k0_h7 r
theorem k0_off175_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off175 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.2.1.1 k0_t6 k0_h7 r
theorem k0_off176_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off176 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.2.1.2.1 k0_t6 k0_h7 r
theorem k0_off177_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off177 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.2.1.2.2.1 k0_t6 k0_h7 r
theorem k0_off178_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off178 v51_r0 (BitVec.ofNat 32 (32 * r.val))) a + S32x256.size a ≤ S1024x2816.size a := fun v1_0_r0 k0_t5 v51_r0 v54_r0 k0_hw12 k0_h7 r => k0_hw12.2.1.2.2.2.1 k0_h7 r
theorem k0_off179_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off179 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.2.1.2.2.2.2.1 k0_t6 k0_h7 r
theorem k0_off180_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off180 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.2.1.2.2.2.2.2.1 k0_t6 k0_h7 r
theorem k0_off181_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off181 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.2.1.2.2.2.2.2.2.1 k0_t6 k0_h7 r
theorem k0_off182_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off182 v51_r0 (BitVec.ofNat 32 (32 * r.val))) a + S32x256.size a ≤ S1024x2816.size a := fun v1_0_r0 k0_t5 v51_r0 v54_r0 k0_hw12 k0_h7 r => k0_hw12.2.1.2.2.2.2.2.2.2.1 k0_h7 r
theorem k0_off183_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off183 v1_0_r0 k0_t5 k0_t6 (BitVec.ofNat 32 (256 * r.val))) a + S1x128x256.size a ≤ S3x1408x2816.size a := fun v1_0_r0 k0_t5 v51_r0 v54_r0 k0_hw12 k0_t6 k0_h7 r => k0_hw12.2.1.2.2.2.2.2.2.2.2.1 k0_t6 k0_h7 r
theorem k0_off184_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off184 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.2.1.2.2.2.2.2.2.2.2.2.1 k0_t6 k0_h7 r
theorem k0_off185_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off185 v1_0_r0 k0_t5 k0_t6 (BitVec.ofNat 32 (256 * r.val))) a + S1x1x256.size a ≤ S3x22x2816.size a := fun v1_0_r0 k0_t5 v51_r0 v54_r0 k0_hw12 k0_t6 k0_h7 r => k0_hw12.2.1.2.2.2.2.2.2.2.2.2.2.1 k0_t6 k0_h7 r
theorem k0_off186_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off186 v51_r0 (BitVec.ofNat 32 (32 * r.val))) a + S32x256.size a ≤ S1024x2816.size a := fun v1_0_r0 k0_t5 v51_r0 v54_r0 k0_hw12 k0_h7 r => k0_hw12.2.1.2.2.2.2.2.2.2.2.2.2.2.1 k0_h7 r
theorem k0_off187_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off187 v51_r0 k0_t6 (BitVec.ofNat 32 (256 * r.val))) a + S16x256.size a ≤ S1024x2816.size a := fun v1_0_r0 k0_t5 v51_r0 v54_r0 k0_hw12 k0_t6 k0_h7 r => k0_hw12.2.1.2.2.2.2.2.2.2.2.2.2.2.2.1 k0_t6 k0_h7 r
theorem k0_off187_packedbf16 : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), (Rect.unit (s := S1024x2816) (k0_off187 v51_r0 k0_t6 (BitVec.ofNat 32 (256 * r.val))) S16x256.size (k0_off187_inb v1_0_r0 k0_t5 v51_r0 v54_r0 k0_hw12 k0_t6 k0_h7 r)).PackedRows (EltTy.packing .bf16) := fun v1_0_r0 k0_t5 v51_r0 v54_r0 k0_hw12 k0_t6 k0_h7 r => k0_hw12.2.1.2.2.2.2.2.2.2.2.2.2.2.2.2.1 k0_t6 k0_h7 r (k0_off187_inb v1_0_r0 k0_t5 v51_r0 v54_r0 k0_hw12 k0_t6 k0_h7 r)
theorem k0_off188_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), ∀ a, (k0_off188 v51_r0 k0_t6 (BitVec.ofNat 32 (256 * r.val))) a + S16x256.size a ≤ S1024x2816.size a := fun v1_0_r0 k0_t5 v51_r0 v54_r0 k0_hw12 k0_t6 k0_h7 r => k0_hw12.2.1.2.2.2.2.2.2.2.2.2.2.2.2.2.2.1 k0_t6 k0_h7 r
theorem k0_off188_packedbf16 : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r : Fin 2), (Rect.unit (s := S1024x2816) (k0_off188 v51_r0 k0_t6 (BitVec.ofNat 32 (256 * r.val))) S16x256.size (k0_off188_inb v1_0_r0 k0_t5 v51_r0 v54_r0 k0_hw12 k0_t6 k0_h7 r)).PackedRows (EltTy.packing .bf16) := fun v1_0_r0 k0_t5 v51_r0 v54_r0 k0_hw12 k0_t6 k0_h7 r => k0_hw12.2.1.2.2.2.2.2.2.2.2.2.2.2.2.2.2.2.1 k0_t6 k0_h7 r (k0_off188_inb v1_0_r0 k0_t5 v51_r0 v54_r0 k0_hw12 k0_t6 k0_h7 r)
theorem k0_off189_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r₁ : Fin 15) (r₂ : Fin 2), ∀ a, (k0_off189 v51_r0 k0_t6 (BitVec.ofNat 32 (32 + 32 * r₁.val)) (BitVec.ofNat 32 (256 * r₂.val))) a + S32x256.size a ≤ S1024x2816.size a := fun v1_0_r0 k0_t5 v51_r0 v54_r0 k0_hw12 k0_t6 k0_h7 r₁ r₂ => k0_hw12.2.1.2.2.2.2.2.2.2.2.2.2.2.2.2.2.2.2.1 k0_t6 k0_h7 r₁ r₂
theorem k0_off189_packedbf16 : ∀ (v1_0_r0 : BitVec 32) (k0_t5 : Fin (k0_t5_loop v1_0_r0).trips) (v51_r0 : BitVec 32) (v54_r0 : BitVec 32) (k0_hw12 : k0_chk12 v1_0_r0 k0_t5 v51_r0 v54_r0) (k0_t6 : Fin k0_t6_loop.trips), ∀ (k0_h7 : k0_cond7 v51_r0 v54_r0 = 1#1), ∀ (r₁ : Fin 15) (r₂ : Fin 2), (Rect.unit (s := S1024x2816) (k0_off189 v51_r0 k0_t6 (BitVec.ofNat 32 (32 + 32 * r₁.val)) (BitVec.ofNat 32 (256 * r₂.val))) S32x256.size (k0_off189_inb v1_0_r0 k0_t5 v51_r0 v54_r0 k0_hw12 k0_t6 k0_h7 r₁ r₂)).PackedRows (EltTy.packing .bf16) := fun v1_0_r0 k0_t5 v51_r0 v54_r0 k0_hw12 k0_t6 k0_h7 r₁ r₂ => k0_hw12.2.1.2.2.2.2.2.2.2.2.2.2.2.2.2.2.2.2.2.1 k0_t6 k0_h7 r₁ r₂ (k0_off189_inb v1_0_r0 k0_t5 v51_r0 v54_r0 k0_hw12 k0_t6 k0_h7 r₁ r₂)
theorem k0_off190_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off190 v1_0_r0 k0_t5) a + S1x128x256.size a ≤ S3x1408x2816.size a := fun v1_0_r0 k0_t5 v51_r0 v54_r0 k0_hw12 k0_h7 => k0_hw12.2.1.2.2.2.2.2.2.2.2.2.2.2.2.2.2.2.2.2.2.1 k0_h7
theorem k0_off191_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off191 v1_0_r0 k0_t5) a + S1x1x256.size a ≤ S3x22x2816.size a := fun v1_0_r0 k0_t5 v51_r0 v54_r0 k0_hw12 k0_h7 => k0_hw12.2.1.2.2.2.2.2.2.2.2.2.2.2.2.2.2.2.2.2.2.2.1 k0_h7
theorem k0_off192_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off192 v1_0_r0 k0_t5) a + S1x1x256.size a ≤ S3x22x2816.size a := fun v1_0_r0 k0_t5 v51_r0 v54_r0 k0_hw12 k0_h7 => k0_hw12.2.1.2.2.2.2.2.2.2.2.2.2.2.2.2.2.2.2.2.2.2.2.1 k0_h7
theorem k0_off193_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off193 v51_r0 (BitVec.ofNat 32 (32 * r.val))) a + S32x256.size a ≤ S1024x2816.size a := fun v1_0_r0 k0_t5 v51_r0 v54_r0 k0_hw12 k0_h7 r => k0_hw12.2.1.2.2.2.2.2.2.2.2.2.2.2.2.2.2.2.2.2.2.2.2.2.1 k0_h7 r
theorem k0_off194_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off194 v1_0_r0 k0_t5) a + S1x128x256.size a ≤ S3x1408x2816.size a := fun v1_0_r0 k0_t5 v51_r0 v54_r0 k0_hw12 k0_h7 => k0_hw12.2.1.2.2.2.2.2.2.2.2.2.2.2.2.2.2.2.2.2.2.2.2.2.2.1 k0_h7
theorem k0_off195_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off195 v1_0_r0 k0_t5) a + S1x1x256.size a ≤ S3x22x2816.size a := fun v1_0_r0 k0_t5 v51_r0 v54_r0 k0_hw12 k0_h7 => k0_hw12.2.1.2.2.2.2.2.2.2.2.2.2.2.2.2.2.2.2.2.2.2.2.2.2.2.1 k0_h7
theorem k0_off196_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off196 v1_0_r0 k0_t5) a + S1x1x256.size a ≤ S3x22x2816.size a := fun v1_0_r0 k0_t5 v51_r0 v54_r0 k0_hw12 k0_h7 => k0_hw12.2.1.2.2.2.2.2.2.2.2.2.2.2.2.2.2.2.2.2.2.2.2.2.2.2.2.1 k0_h7
theorem k0_off197_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off197 v51_r0 (BitVec.ofNat 32 (32 * r.val))) a + S32x256.size a ≤ S1024x2816.size a := fun v1_0_r0 k0_t5 v51_r0 v54_r0 k0_hw12 k0_h7 r => k0_hw12.2.1.2.2.2.2.2.2.2.2.2.2.2.2.2.2.2.2.2.2.2.2.2.2.2.2.2.1 k0_h7 r
theorem k0_off198_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off198 v1_0_r0 k0_t5) a + S1x128x256.size a ≤ S3x1408x2816.size a := fun v1_0_r0 k0_t5 v51_r0 v54_r0 k0_hw12 k0_h7 => k0_hw12.2.1.2.2.2.2.2.2.2.2.2.2.2.2.2.2.2.2.2.2.2.2.2.2.2.2.2.2.1 k0_h7
theorem k0_off199_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off199 v1_0_r0 k0_t5) a + S1x1x256.size a ≤ S3x22x2816.size a := fun v1_0_r0 k0_t5 v51_r0 v54_r0 k0_hw12 k0_h7 => k0_hw12.2.1.2.2.2.2.2.2.2.2.2.2.2.2.2.2.2.2.2.2.2.2.2.2.2.2.2.2.2.1 k0_h7
theorem k0_off200_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off200 v1_0_r0 k0_t5) a + S1x1x256.size a ≤ S3x22x2816.size a := fun v1_0_r0 k0_t5 v51_r0 v54_r0 k0_hw12 k0_h7 => k0_hw12.2.1.2.2.2.2.2.2.2.2.2.2.2.2.2.2.2.2.2.2.2.2.2.2.2.2.2.2.2.2.1 k0_h7
theorem k0_off201_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off201 v51_r0 (BitVec.ofNat 32 (32 * r.val))) a + S32x256.size a ≤ S1024x2816.size a := fun v1_0_r0 k0_t5 v51_r0 v54_r0 k0_hw12 k0_h7 r => k0_hw12.2.1.2.2.2.2.2.2.2.2.2.2.2.2.2.2.2.2.2.2.2.2.2.2.2.2.2.2.2.2.2.1 k0_h7 r
theorem k0_off202_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off202 v1_0_r0 k0_t5) a + S1x128x256.size a ≤ S3x1408x2816.size a := fun v1_0_r0 k0_t5 v51_r0 v54_r0 k0_hw12 k0_h7 => k0_hw12.2.1.2.2.2.2.2.2.2.2.2.2.2.2.2.2.2.2.2.2.2.2.2.2.2.2.2.2.2.2.2.2.1 k0_h7
theorem k0_off203_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off203 v1_0_r0 k0_t5) a + S1x1x256.size a ≤ S3x22x2816.size a := fun v1_0_r0 k0_t5 v51_r0 v54_r0 k0_hw12 k0_h7 => k0_hw12.2.1.2.2.2.2.2.2.2.2.2.2.2.2.2.2.2.2.2.2.2.2.2.2.2.2.2.2.2.2.2.2.2 k0_h7
theorem k0_off204_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off204 v1_0_r0 k0_t5) a + S1x1x256.size a ≤ S3x22x2816.size a := fun v1_0_r0 k0_t5 v51_r0 v54_r0 k0_hw12 k0_h7 => k0_hw12.2.2.1.1 k0_h7
theorem k0_off205_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off205 v51_r0 (BitVec.ofNat 32 (32 * r.val))) a + S32x256.size a ≤ S1024x2816.size a := fun v1_0_r0 k0_t5 v51_r0 v54_r0 k0_hw12 k0_h7 r => k0_hw12.2.2.1.2.1 k0_h7 r
theorem k0_off206_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off206 v1_0_r0 k0_t5) a + S1x128x256.size a ≤ S3x1408x2816.size a := fun v1_0_r0 k0_t5 v51_r0 v54_r0 k0_hw12 k0_h7 => k0_hw12.2.2.1.2.2.1 k0_h7
theorem k0_off207_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off207 v1_0_r0 k0_t5) a + S1x1x256.size a ≤ S3x22x2816.size a := fun v1_0_r0 k0_t5 v51_r0 v54_r0 k0_hw12 k0_h7 => k0_hw12.2.2.1.2.2.2.1 k0_h7
theorem k0_off208_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off208 v1_0_r0 k0_t5) a + S1x1x256.size a ≤ S3x22x2816.size a := fun v1_0_r0 k0_t5 v51_r0 v54_r0 k0_hw12 k0_h7 => k0_hw12.2.2.1.2.2.2.2.1 k0_h7
theorem k0_off209_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off209 v51_r0 (BitVec.ofNat 32 (32 * r.val))) a + S32x256.size a ≤ S1024x2816.size a := fun v1_0_r0 k0_t5 v51_r0 v54_r0 k0_hw12 k0_h7 r => k0_hw12.2.2.1.2.2.2.2.2.1 k0_h7 r
theorem k0_off210_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off210 v1_0_r0 k0_t5) a + S1x128x256.size a ≤ S3x1408x2816.size a := fun v1_0_r0 k0_t5 v51_r0 v54_r0 k0_hw12 k0_h7 => k0_hw12.2.2.1.2.2.2.2.2.2.1 k0_h7
theorem k0_off211_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off211 v1_0_r0 k0_t5) a + S1x1x256.size a ≤ S3x22x2816.size a := fun v1_0_r0 k0_t5 v51_r0 v54_r0 k0_hw12 k0_h7 => k0_hw12.2.2.1.2.2.2.2.2.2.2.1 k0_h7
theorem k0_off212_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off212 v1_0_r0 k0_t5) a + S1x1x256.size a ≤ S3x22x2816.size a := fun v1_0_r0 k0_t5 v51_r0 v54_r0 k0_hw12 k0_h7 => k0_hw12.2.2.1.2.2.2.2.2.2.2.2.1 k0_h7
theorem k0_off213_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off213 v51_r0 (BitVec.ofNat 32 (32 * r.val))) a + S32x256.size a ≤ S1024x2816.size a := fun v1_0_r0 k0_t5 v51_r0 v54_r0 k0_hw12 k0_h7 r => k0_hw12.2.2.1.2.2.2.2.2.2.2.2.2.1 k0_h7 r
theorem k0_off214_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off214 v1_0_r0 k0_t5) a + S1x128x256.size a ≤ S3x1408x2816.size a := fun v1_0_r0 k0_t5 v51_r0 v54_r0 k0_hw12 k0_h7 => k0_hw12.2.2.1.2.2.2.2.2.2.2.2.2.2.1 k0_h7
theorem k0_off215_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off215 v1_0_r0 k0_t5) a + S1x1x256.size a ≤ S3x22x2816.size a := fun v1_0_r0 k0_t5 v51_r0 v54_r0 k0_hw12 k0_h7 => k0_hw12.2.2.1.2.2.2.2.2.2.2.2.2.2.2.1 k0_h7
theorem k0_off216_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off216 v1_0_r0 k0_t5) a + S1x1x256.size a ≤ S3x22x2816.size a := fun v1_0_r0 k0_t5 v51_r0 v54_r0 k0_hw12 k0_h7 => k0_hw12.2.2.1.2.2.2.2.2.2.2.2.2.2.2.2.1 k0_h7
theorem k0_off217_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off217 v51_r0 (BitVec.ofNat 32 (32 * r.val))) a + S32x256.size a ≤ S1024x2816.size a := fun v1_0_r0 k0_t5 v51_r0 v54_r0 k0_hw12 k0_h7 r => k0_hw12.2.2.1.2.2.2.2.2.2.2.2.2.2.2.2.2.1 k0_h7 r
theorem k0_off218_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off218 v1_0_r0 k0_t5) a + S1x128x256.size a ≤ S3x1408x2816.size a := fun v1_0_r0 k0_t5 v51_r0 v54_r0 k0_hw12 k0_h7 => k0_hw12.2.2.1.2.2.2.2.2.2.2.2.2.2.2.2.2.2.1 k0_h7
theorem k0_off219_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off219 v1_0_r0 k0_t5) a + S1x1x256.size a ≤ S3x22x2816.size a := fun v1_0_r0 k0_t5 v51_r0 v54_r0 k0_hw12 k0_h7 => k0_hw12.2.2.1.2.2.2.2.2.2.2.2.2.2.2.2.2.2.2.1 k0_h7
theorem k0_off220_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off220 v1_0_r0 k0_t5) a + S1x1x256.size a ≤ S3x22x2816.size a := fun v1_0_r0 k0_t5 v51_r0 v54_r0 k0_hw12 k0_h7 => k0_hw12.2.2.1.2.2.2.2.2.2.2.2.2.2.2.2.2.2.2.2.1 k0_h7
theorem k0_off221_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off221 v51_r0 (BitVec.ofNat 32 (32 * r.val))) a + S32x256.size a ≤ S1024x2816.size a := fun v1_0_r0 k0_t5 v51_r0 v54_r0 k0_hw12 k0_h7 r => k0_hw12.2.2.1.2.2.2.2.2.2.2.2.2.2.2.2.2.2.2.2.2.1 k0_h7 r
theorem k0_off222_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off222 v1_0_r0 k0_t5) a + S1x128x256.size a ≤ S3x1408x2816.size a := fun v1_0_r0 k0_t5 v51_r0 v54_r0 k0_hw12 k0_h7 => k0_hw12.2.2.1.2.2.2.2.2.2.2.2.2.2.2.2.2.2.2.2.2.2.1 k0_h7
theorem k0_off223_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off223 v1_0_r0 k0_t5) a + S1x1x256.size a ≤ S3x22x2816.size a := fun v1_0_r0 k0_t5 v51_r0 v54_r0 k0_hw12 k0_h7 => k0_hw12.2.2.1.2.2.2.2.2.2.2.2.2.2.2.2.2.2.2.2.2.2.2.1 k0_h7
theorem k0_off224_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off224 v1_0_r0 k0_t5) a + S1x1x256.size a ≤ S3x22x2816.size a := fun v1_0_r0 k0_t5 v51_r0 v54_r0 k0_hw12 k0_h7 => k0_hw12.2.2.1.2.2.2.2.2.2.2.2.2.2.2.2.2.2.2.2.2.2.2.2.1 k0_h7
theorem k0_off225_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off225 v51_r0 (BitVec.ofNat 32 (32 * r.val))) a + S32x256.size a ≤ S1024x2816.size a := fun v1_0_r0 k0_t5 v51_r0 v54_r0 k0_hw12 k0_h7 r => k0_hw12.2.2.1.2.2.2.2.2.2.2.2.2.2.2.2.2.2.2.2.2.2.2.2.2.1 k0_h7 r
theorem k0_off226_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off226 v1_0_r0 k0_t5) a + S1x128x256.size a ≤ S3x1408x2816.size a := fun v1_0_r0 k0_t5 v51_r0 v54_r0 k0_hw12 k0_h7 => k0_hw12.2.2.1.2.2.2.2.2.2.2.2.2.2.2.2.2.2.2.2.2.2.2.2.2.2.1 k0_h7
theorem k0_off227_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off227 v1_0_r0 k0_t5) a + S1x1x256.size a ≤ S3x22x2816.size a := fun v1_0_r0 k0_t5 v51_r0 v54_r0 k0_hw12 k0_h7 => k0_hw12.2.2.1.2.2.2.2.2.2.2.2.2.2.2.2.2.2.2.2.2.2.2.2.2.2.2.1 k0_h7
theorem k0_off228_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off228 v1_0_r0 k0_t5) a + S1x1x256.size a ≤ S3x22x2816.size a := fun v1_0_r0 k0_t5 v51_r0 v54_r0 k0_hw12 k0_h7 => k0_hw12.2.2.1.2.2.2.2.2.2.2.2.2.2.2.2.2.2.2.2.2.2.2.2.2.2.2.2.1 k0_h7
theorem k0_off229_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off229 v51_r0 (BitVec.ofNat 32 (32 * r.val))) a + S32x256.size a ≤ S1024x2816.size a := fun v1_0_r0 k0_t5 v51_r0 v54_r0 k0_hw12 k0_h7 r => k0_hw12.2.2.1.2.2.2.2.2.2.2.2.2.2.2.2.2.2.2.2.2.2.2.2.2.2.2.2.2.1 k0_h7 r
theorem k0_off230_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off230 v1_0_r0 k0_t5) a + S1x128x256.size a ≤ S3x1408x2816.size a := fun v1_0_r0 k0_t5 v51_r0 v54_r0 k0_hw12 k0_h7 => k0_hw12.2.2.1.2.2.2.2.2.2.2.2.2.2.2.2.2.2.2.2.2.2.2.2.2.2.2.2.2.2.1 k0_h7
theorem k0_off231_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off231 v1_0_r0 k0_t5) a + S1x1x256.size a ≤ S3x22x2816.size a := fun v1_0_r0 k0_t5 v51_r0 v54_r0 k0_hw12 k0_h7 => k0_hw12.2.2.1.2.2.2.2.2.2.2.2.2.2.2.2.2.2.2.2.2.2.2.2.2.2.2.2.2.2.2.1 k0_h7
theorem k0_off232_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off232 v1_0_r0 k0_t5) a + S1x1x256.size a ≤ S3x22x2816.size a := fun v1_0_r0 k0_t5 v51_r0 v54_r0 k0_hw12 k0_h7 => k0_hw12.2.2.1.2.2.2.2.2.2.2.2.2.2.2.2.2.2.2.2.2.2.2.2.2.2.2.2.2.2.2.2.1 k0_h7
theorem k0_off233_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), ∀ a, (k0_off233 v51_r0 (BitVec.ofNat 32 (32 * r.val))) a + S32x256.size a ≤ S1024x2816.size a := fun v1_0_r0 k0_t5 v51_r0 v54_r0 k0_hw12 k0_h7 r => k0_hw12.2.2.1.2.2.2.2.2.2.2.2.2.2.2.2.2.2.2.2.2.2.2.2.2.2.2.2.2.2.2.2.2.1 k0_h7 r
theorem k0_off234_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off234 v51_r0) a + S16x256.size a ≤ S1024x2816.size a := fun v1_0_r0 k0_t5 v51_r0 v54_r0 k0_hw12 k0_h7 => k0_hw12.2.2.1.2.2.2.2.2.2.2.2.2.2.2.2.2.2.2.2.2.2.2.2.2.2.2.2.2.2.2.2.2.2.1 k0_h7
theorem k0_off234_packedbf16 : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), (Rect.unit (s := S1024x2816) (k0_off234 v51_r0) S16x256.size (k0_off234_inb v1_0_r0 k0_t5 v51_r0 v54_r0 k0_hw12 k0_h7)).PackedRows (EltTy.packing .bf16) := fun v1_0_r0 k0_t5 v51_r0 v54_r0 k0_hw12 k0_h7 => k0_hw12.2.2.1.2.2.2.2.2.2.2.2.2.2.2.2.2.2.2.2.2.2.2.2.2.2.2.2.2.2.2.2.2.2.2 k0_h7 (k0_off234_inb v1_0_r0 k0_t5 v51_r0 v54_r0 k0_hw12 k0_h7)
theorem k0_off235_inb : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ a, (k0_off235 v51_r0) a + S16x256.size a ≤ S1024x2816.size a := fun v1_0_r0 k0_t5 v51_r0 v54_r0 k0_hw12 k0_h7 => k0_hw12.2.2.2.1 k0_h7
theorem k0_off235_packedbf16 : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), (Rect.unit (s := S1024x2816) (k0_off235 v51_r0) S16x256.size (k0_off235_inb v1_0_r0 k0_t5 v51_r0 v54_r0 k0_hw12 k0_h7)).PackedRows (EltTy.packing .bf16) := fun v1_0_r0 k0_t5 v51_r0 v54_r0 k0_hw12 k0_h7 => k0_hw12.2.2.2.2.1 k0_h7 (k0_off235_inb v1_0_r0 k0_t5 v51_r0 v54_r0 k0_hw12 k0_h7)
theorem k0_off233_packedbf16 : ∀ (v1_0_r0 : BitVec 32) (k0_t5 : Fin (k0_t5_loop v1_0_r0).trips) (v51_r0 : BitVec 32) (v54_r0 : BitVec 32) (k0_hw12 : k0_chk12 v1_0_r0 k0_t5 v51_r0 v54_r0), ∀ (k0_h7 : k0_cond7 v51_r0 v54_r0 = 1#1), ∀ (r : Fin 16), (Rect.unit (s := S1024x2816) (k0_off233 v51_r0 (BitVec.ofNat 32 (32 * r.val))) S32x256.size (k0_off233_inb v1_0_r0 k0_t5 v51_r0 v54_r0 k0_hw12 k0_h7 r)).PackedRows (EltTy.packing .bf16) := fun v1_0_r0 k0_t5 v51_r0 v54_r0 k0_hw12 k0_h7 r => k0_hw12.2.2.2.2.2 k0_h7 r (k0_off233_inb v1_0_r0 k0_t5 v51_r0 v54_r0 k0_hw12 k0_h7 r)

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x2816 : Shape := ⟨2, ![512, 2816]⟩
abbrev S32 : Shape := ⟨1, ![32]⟩
abbrev S32x1408x2816 : Shape := ⟨3, ![32, 1408, 2816]⟩
abbrev S32x22x2816 : Shape := ⟨3, ![32, 22, 2816]⟩
abbrev S512x22x128 : Shape := ⟨3, ![512, 22, 128]⟩
abbrev S_ : Shape := ⟨0, ![]⟩
abbrev S512x22 : Shape := ⟨2, ![512, 22]⟩
abbrev S512x22x1 : Shape := ⟨3, ![512, 22, 1]⟩
abbrev S512x1408 : Shape := ⟨2, ![512, 1408]⟩
abbrev S32x22x1x2816 : Shape := ⟨4, ![32, 22, 1, 2816]⟩
abbrev S32x22x64x2816 : Shape := ⟨4, ![32, 22, 64, 2816]⟩
abbrev S512 : Shape := ⟨1, ![512]⟩
abbrev S1x32 : Shape := ⟨2, ![1, 32]⟩
abbrev S32x1 : Shape := ⟨2, ![32, 1]⟩
abbrev S32x32 : Shape := ⟨2, ![32, 32]⟩
abbrev S512x1 : Shape := ⟨2, ![512, 1]⟩
abbrev S512x32 : Shape := ⟨2, ![512, 32]⟩
abbrev S512x32x2816 : Shape := ⟨3, ![512, 32, 2816]⟩
abbrev S512x32x1 : Shape := ⟨3, ![512, 32, 1]⟩

abbrev nBuf : Space → Nat
  | .hbm => 163
  | .vmem => 0
  | .smem => 0
  | _ => 0

abbrev hbmTy0_0 (i : Nat) : BufTy := match i % 128 with
  | 0 => ⟨S512x2816, .bf16⟩
  | 1 => ⟨S32, .i32⟩
  | 2 => ⟨S32x1408x2816, .i8⟩
  | 3 => ⟨S32x22x2816, .f32⟩
  | 4 => ⟨S512x2816, .f32⟩
  | 5 => ⟨S512x22x128, .f32⟩
  | 6 => ⟨S512x22x128, .f32⟩
  | 7 => ⟨S_, .f32⟩
  | 8 => ⟨S512x22, .f32⟩
  | 9 => ⟨S_, .f32⟩
  | 10 => ⟨S512x22, .f32⟩
  | 11 => ⟨S512x22, .f32⟩
  | 12 => ⟨S512x22, .f32⟩
  | 13 => ⟨S_, .f32⟩
  | 14 => ⟨S512x22, .f32⟩
  | 15 => ⟨S512x22, .f32⟩
  | 16 => ⟨S512x22, .f32⟩
  | 17 => ⟨S_, .f32⟩
  | 18 => ⟨S512x22, .f32⟩
  | 19 => ⟨S512x22, .i1⟩
  | 20 => ⟨S512x22, .f32⟩
  | 21 => ⟨S_, .f32⟩
  | 22 => ⟨S512x22, .f32⟩
  | 23 => ⟨S512x22, .f32⟩
  | 24 => ⟨S_, .f32⟩
  | 25 => ⟨S_, .f32⟩
  | 26 => ⟨S512x22, .f32⟩
  | 27 => ⟨S512x22, .f32⟩
  | 28 => ⟨S_, .f32⟩
  | 29 => ⟨S512x22, .f32⟩
  | 30 => ⟨S512x22, .f32⟩
  | 31 => ⟨S512x22, .f32⟩
  | 32 => ⟨S_, .f32⟩
  | 33 => ⟨S512x22, .f32⟩
  | 34 => ⟨S512x22, .f32⟩
  | 35 => ⟨S512x22x1, .f32⟩
  | 36 => ⟨S512x22x128, .f32⟩
  | 37 => ⟨S512x22x128, .f32⟩
  | 38 => ⟨S_, .f32⟩
  | 39 => ⟨S_, .f32⟩
  | 40 => ⟨S_, .f32⟩
  | 41 => ⟨S512x22x128, .f32⟩
  | 42 => ⟨S512x22x128, .f32⟩
  | 43 => ⟨S_, .f32⟩
  | 44 => ⟨S512x22x128, .f32⟩
  | 45 => ⟨S512x22x128, .f32⟩
  | 46 => ⟨S512x22x128, .bf16⟩
  | 47 => ⟨S512x22, .bf16⟩
  | 48 => ⟨S512x22x1, .bf16⟩
  | 49 => ⟨S512x22x128, .bf16⟩
  | 50 => ⟨S512x22x128, .bf16⟩
  | 51 => ⟨S512x2816, .bf16⟩
  | 52 => ⟨S512x1408, .bf16⟩
  | 53 => ⟨S512x1408, .bf16⟩
  | 54 => ⟨S32x1408x2816, .i32⟩
  | 55 => ⟨S_, .i32⟩
  | 56 => ⟨S32x1408x2816, .i32⟩
  | 57 => ⟨S32x1408x2816, .i32⟩
  | 58 => ⟨S_, .i32⟩
  | 59 => ⟨S32x1408x2816, .i32⟩
  | 60 => ⟨S32x1408x2816, .i1⟩
  | 61 => ⟨S_, .i32⟩
  | 62 => ⟨S32x1408x2816, .i32⟩
  | 63 => ⟨S32x1408x2816, .i32⟩
  | 64 => ⟨S32x1408x2816, .i32⟩
  | 65 => ⟨S32x22x2816, .bf16⟩
  | 66 => ⟨S32x22x1x2816, .bf16⟩
  | 67 => ⟨S32x1408x2816, .bf16⟩
  | 68 => ⟨S32x22x64x2816, .bf16⟩
  | 69 => ⟨S32x22x64x2816, .bf16⟩
  | 70 => ⟨S32x22x64x2816, .bf16⟩
  | 71 => ⟨S32x1408x2816, .bf16⟩
  | 72 => ⟨S_, .i32⟩
  | 73 => ⟨S32x1408x2816, .i32⟩
  | 74 => ⟨S32x1408x2816, .i32⟩
  | 75 => ⟨S_, .i32⟩
  | 76 => ⟨S32x1408x2816, .i32⟩
  | 77 => ⟨S32x1408x2816, .i1⟩
  | 78 => ⟨S_, .i32⟩
  | 79 => ⟨S32x1408x2816, .i32⟩
  | 80 => ⟨S32x1408x2816, .i32⟩
  | 81 => ⟨S32x1408x2816, .i32⟩
  | 82 => ⟨S32x22x2816, .bf16⟩
  | 83 => ⟨S32x22x1x2816, .bf16⟩
  | 84 => ⟨S32x1408x2816, .bf16⟩
  | 85 => ⟨S32x22x64x2816, .bf16⟩
  | 86 => ⟨S32x22x64x2816, .bf16⟩
  | 87 => ⟨S32x22x64x2816, .bf16⟩
  | 88 => ⟨S32x1408x2816, .bf16⟩
  | 89 => ⟨S512, .i32⟩
  | 90 => ⟨S32, .i32⟩
  | 91 => ⟨S1x32, .i32⟩
  | 92 => ⟨S32x1, .i32⟩
  | 93 => ⟨S32x32, .i32⟩
  | 94 => ⟨S32x32, .i32⟩
  | 95 => ⟨S32x32, .i1⟩
  | 96 => ⟨S1x32, .i32⟩
  | 97 => ⟨S_, .i32⟩
  | 98 => ⟨S_, .i32⟩
  | 99 => ⟨S32x32, .i32⟩
  | 100 => ⟨S32x32, .i32⟩
  | 101 => ⟨S32x32, .i32⟩
  | 102 => ⟨S_, .i32⟩
  | 103 => ⟨S32, .i32⟩
  | 104 => ⟨S512x1, .i32⟩
  | 105 => ⟨S32, .i32⟩
  | 106 => ⟨S1x32, .i32⟩
  | 107 => ⟨S512x32, .i32⟩
  | 108 => ⟨S512x32, .i32⟩
  | 109 => ⟨S512x32, .i1⟩
  | 110 => ⟨S512x1, .i32⟩
  | 111 => ⟨S1x32, .i32⟩
  | 112 => ⟨S512x32, .i32⟩
  | 113 => ⟨S512x32, .i32⟩
  | 114 => ⟨S512x32, .i1⟩
  | 115 => ⟨S512x32, .i1⟩
  | 116 => ⟨S512x32x2816, .f32⟩
  | 117 => ⟨S512x32x1, .i1⟩
  | 118 => ⟨S_, .f32⟩
  | 119 => ⟨S_, .f32⟩
  | 120 => ⟨S512x32x2816, .i1⟩
  | 121 => ⟨S512x32x2816, .f32⟩
  | 122 => ⟨S512x32x2816, .f32⟩
  | 123 => ⟨S_, .f32⟩
  | 124 => ⟨S512x2816, .f32⟩
  | 125 => ⟨S512, .i32⟩
  | 126 => ⟨S32, .i32⟩
  | 127 => ⟨S1x32, .i32⟩
  | _ => ⟨S512x2816, .bf16⟩

abbrev hbmTy0_1 (i : Nat) : BufTy := match i % 128 with
  | 0 => ⟨S32x1, .i32⟩
  | 1 => ⟨S32x32, .i32⟩
  | 2 => ⟨S32x32, .i32⟩
  | 3 => ⟨S32x32, .i1⟩
  | 4 => ⟨S1x32, .i32⟩
  | 5 => ⟨S_, .i32⟩
  | 6 => ⟨S_, .i32⟩
  | 7 => ⟨S32x32, .i32⟩
  | 8 => ⟨S32x32, .i32⟩
  | 9 => ⟨S32x32, .i32⟩
  | 10 => ⟨S_, .i32⟩
  | 11 => ⟨S32, .i32⟩
  | 12 => ⟨S512x1, .i32⟩
  | 13 => ⟨S32, .i32⟩
  | 14 => ⟨S1x32, .i32⟩
  | 15 => ⟨S512x32, .i32⟩
  | 16 => ⟨S512x32, .i32⟩
  | 17 => ⟨S512x32, .i1⟩
  | 18 => ⟨S512x1, .i32⟩
  | 19 => ⟨S1x32, .i32⟩
  | 20 => ⟨S512x32, .i32⟩
  | 21 => ⟨S512x32, .i32⟩
  | 22 => ⟨S512x32, .i1⟩
  | 23 => ⟨S512x32, .i1⟩
  | 24 => ⟨S512x32x2816, .f32⟩
  | 25 => ⟨S512x32x1, .i1⟩
  | 26 => ⟨S_, .f32⟩
  | 27 => ⟨S_, .f32⟩
  | 28 => ⟨S512x32x2816, .i1⟩
  | 29 => ⟨S512x32x2816, .f32⟩
  | 30 => ⟨S512x32x2816, .f32⟩
  | 31 => ⟨S_, .f32⟩
  | 32 => ⟨S512x2816, .f32⟩
  | 33 => ⟨S512x2816, .f32⟩
  | 34 => ⟨S512x2816, .bf16⟩
  | _ => ⟨S512x2816, .bf16⟩

abbrev hbmTy (i : Nat) : BufTy := match i / 128 with
  | 0 => hbmTy0_0 i
  | 1 => hbmTy0_1 i
  | _ => ⟨S512x2816, .bf16⟩

abbrev bufTy : (tb : Table) → Fin (tcTables nBuf tb) → BufTy
  | .hbm, ⟨i, _⟩ => hbmTy i
  | _, _ => ⟨S512x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_c_10 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_c_12 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_16 : Ref sig .tc := ⟨.hbm, 118, rfl⟩
abbrev main_call5_v0 : Ref sig .tc := ⟨.hbm, 119, rfl⟩
abbrev main_call5_v1 : Ref sig .tc := ⟨.hbm, 120, rfl⟩
abbrev main_call5_v2 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_18 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v96 : Ref sig .tc := ⟨.hbm, 137, rfl⟩
abbrev main_c_19 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_20 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_v112 : Ref sig .tc := ⟨.hbm, 158, rfl⟩
abbrev main_cst_21 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩

abbrev nD : Nat := 1
abbrev τ : Topo := Topo.v7x

variable {F : FTy → Type} [FloatOps F]
-- ==== Proof.Expert.lean ====
/- One expert's share of the kernel, written as recursion over contraction tiles, columns and chunks of rows. -/
module

public import proofs.«01_k».proof.KernelIdeal
public import Idealize.ShloMosaic.Lib.Tactic

@[expose] public section

set_option maxRecDepth 16384

noncomputable section

namespace Cert.KernelIdeal.Hand

open Idealize.ShloMosaic Idealize.SL.Sem
open Cert.KernelIdeal

variable {F : FTy → Type} [FloatOps F]
variable [Facts]
open Facts₀ Facts

/-- A program of the kernel's TensorCore. -/
abbrev Prg (F : FTy → Type) [FloatOps F] (α : Type) := Prog (TpuEff nD τ sig (Elt F) Λ₀ .tc) α

/-- Two int4 codes per byte, scaled group by group: the 256 by 256 weight tile of a packed tile and two rows of scales. -/
def weightTile (p : Vec F S1x128x256 .i8) (s0 s1 : Vec F S1x1x256 .f32) : FVec F S256x256 .bf16 :=
  have v1243 : IVec S128x256 8 := shapeCast S128x256 p shapeCasts_S1x128x256_S128x256
  have v1244 : IVec S128x256 32 := extui 32 v1243 natLt_8_32
  have v1245 : IVec S128x1x256 32 := shapeCast S128x1x256 v1244 shapeCasts_S128x256_S128x1x256
  have v1246 : IVec S128x1x256 32 := shapeCast S128x1x256 v1245 shapeCasts_S128x1x256_S128x1x256
  have v1247 : IVec S128x2x256 32 := broadcastTo S128x2x256 v1246 broadcasts_S128x1x256_S128x2x256
  have v1248 : IVec S256x256 32 := shapeCast S256x256 v1247 shapeCasts_S128x2x256_S256x256
  have v1249 : IVec S256x256 32 := iota .tc S256x256 32 [0] iota_S256x256_d0_w32
  have v1250 : IVec S256x256 32 := broadcast S256x256 1#32
  have v1251 : IVec S256x256 32 := andi v1249 v1250
  have v1252 : IVec S256x256 32 := broadcast S256x256 4#32
  have v1253 : IVec S256x256 32 := muli v1252 v1251
  have v1254 : IVec S256x256 32 := broadcast S256x256 28#32
  have v1255 : IVec S256x256 32 := subi v1254 v1253
  have v1256 : IVec S256x256 32 := shli v1248 v1255
  have v1257 : IVec S256x256 32 := broadcast S256x256 28#32
  have v1258 : IVec S256x256 32 := shrsi v1256 v1257
  have v1259 : FVec F S256x256 .bf16 := sitofp .bf16 v1258
  have v1263 : FVec F S1x256 .f32 := shapeCast S1x256 s0 shapeCasts_S1x1x256_S1x256
  have v1264 : FVec F S1x256 .f32 := shapeCast S1x256 v1263 shapeCasts_S1x256_S1x256
  have v1265 : FVec F S16x256 .f32 := broadcastTo S16x256 v1264 broadcasts_S1x256_S16x256
  have v1266 : FVec F S16x256 .bf16 := truncf .bf16 v1265 bitsLt_bf16_f32
  have v1267 : FVec F S128x256 .bf16 := extractStridedSlice S128x256 ![0, 0] v1259 slices_S256x256_o0_0_S128x256
  have v1268 : FVec F S8x16x256 .bf16 := shapeCast S8x16x256 v1267 shapeCasts_S128x256_S8x16x256
  have v1269 : FVec F S1x16x256 .bf16 := shapeCast S1x16x256 v1266 shapeCasts_S16x256_S1x16x256
  have v1270 : FVec F S8x16x256 .bf16 := broadcastTo S8x16x256 v1269 broadcasts_S1x16x256_S8x16x256
  have v1271 : FVec F S8x16x256 .bf16 := mulf v1268 v1270
  have v1272 : FVec F S128x256 .bf16 := shapeCast S128x256 v1271 shapeCasts_S8x16x256_S128x256
  have v1276 : FVec F S1x256 .f32 := shapeCast S1x256 s1 shapeCasts_S1x1x256_S1x256
  have v1277 : FVec F S1x256 .f32 := shapeCast S1x256 v1276 shapeCasts_S1x256_S1x256
  have v1278 : FVec F S16x256 .f32 := broadcastTo S16x256 v1277 broadcasts_S1x256_S16x256
  have v1279 : FVec F S16x256 .bf16 := truncf .bf16 v1278 bitsLt_bf16_f32
  have v1280 : FVec F S128x256 .bf16 := extractStridedSlice S128x256 ![128, 0] v1259 slices_S256x256_o128_0_S128x256
  have v1281 : FVec F S8x16x256 .bf16 := shapeCast S8x16x256 v1280 shapeCasts_S128x256_S8x16x256
  have v1282 : FVec F S1x16x256 .bf16 := shapeCast S1x16x256 v1279 shapeCasts_S16x256_S1x16x256
  have v1283 : FVec F S8x16x256 .bf16 := broadcastTo S8x16x256 v1282 broadcasts_S1x16x256_S8x16x256
  have v1284 : FVec F S8x16x256 .bf16 := mulf v1281 v1283
  have v1285 : FVec F S128x256 .bf16 := shapeCast S128x256 v1284 shapeCasts_S8x16x256_S128x256
  concatenate S256x256 0 [⟨S128x256, v1272⟩, ⟨S128x256, v1285⟩] concatenates_S128x256_S128x256_S256x256_d0

/-- Where the text reads and writes: the ring slot, the first row, how many rows of it belong to the expert before. -/
structure At where
  slot : BitVec 32
  row0 : BitVec 32
  skip : BitVec 32

/-- The word of a chunk's first row. -/
abbrev At.rowW (p : At) (c : Nat) : BitVec 32 := Scalar.addi p.row0 (BitVec.ofNat 32 (32 * c))

abbrev offW (slot : BitVec 32) (k : Nat) (col : Nat) : Fin 3 → Nat := ![(Scalar.indexCast slot : Index).toNat, 128 * k, col]
abbrev offS (slot : BitVec 32) (g : Nat) (col : Nat) : Fin 3 → Nat := ![(Scalar.indexCast slot : Index).toNat, g, col]
abbrev offX (p : At) (c k : Nat) : Fin 2 → Nat := ![(Scalar.indexCast (p.rowW c) : Index).toNat, 256 * k]
abbrev offY (p : At) (c : Nat) (col : Nat) : Fin 2 → Nat := ![(Scalar.indexCast (p.rowW c) : Index).toNat, col]
abbrev offY16 (p : At) (col : Nat) : Fin 2 → Nat := ![(Scalar.indexCast (Scalar.addi (p.rowW 0) 16#32) : Index).toNat, col]

/-- What makes every access of the text lie inside its buffer and on whole words. -/
structure At.Ok (p : At) : Prop where
  inbW : ∀ k col, k < 11 → col ≤ 2560 → ∀ a, offW p.slot k col a + S1x128x256.size a ≤ S3x1408x2816.size a
  inbS : ∀ g col, g < 22 → col ≤ 2560 → ∀ a, offS p.slot g col a + S1x1x256.size a ≤ S3x22x2816.size a
  inbX : ∀ c k, c < 16 → k < 11 → ∀ a, offX p c k a + S32x256.size a ≤ S1024x2816.size a
  inbY : ∀ c col, c < 16 → col ≤ 2560 → ∀ a, offY p c col a + S32x256.size a ≤ S1024x2816.size a
  inbY0 : ∀ col, col ≤ 2560 → ∀ a, offY p 0 col a + S16x256.size a ≤ S1024x2816.size a
  inbY16 : ∀ col, col ≤ 2560 → ∀ a, offY16 p col a + S16x256.size a ≤ S1024x2816.size a
  packY : ∀ c col, c < 16 → col % 128 = 0 → ∀ (h : ∀ a, offY p c col a + S32x256.size a ≤ S1024x2816.size a), (Rect.unit (s := S1024x2816) (offY p c col) S32x256.size h).PackedRows (EltTy.packing .bf16)
  packY0 : ∀ col, col % 128 = 0 → ∀ (h : ∀ a, offY p 0 col a + S16x256.size a ≤ S1024x2816.size a), (Rect.unit (s := S1024x2816) (offY p 0 col) S16x256.size h).PackedRows (EltTy.packing .bf16)
  packY16 : ∀ col, col % 128 = 0 → ∀ (h : ∀ a, offY16 p col a + S16x256.size a ≤ S1024x2816.size a), (Rect.unit (s := S1024x2816) (offY16 p col) S16x256.size h).PackedRows (EltTy.packing .bf16)

theorem fits (A c : Nat) (hA : A = 0 ∨ A = 128) (hc : c < 16) : Mxu.Fits (A + 8 * c) 32 := by
  unfold Mxu.Fits; omega

/-- The four buffers the text reads and writes. -/
structure Bufs where
  xs : Memref sig .tc .vmem S1024x2816 .bf16
  y : Memref sig .tc .vmem S1024x2816 .bf16
  hy : y.IsWhole
  w : Memref sig .tc .vmem S3x1408x2816 .i8
  s : Memref sig .tc .vmem S3x22x2816 .f32

variable (b : Bufs) (p : At) (hp : p.Ok)

/-- The weight tile of contraction tile `k` and the 256 columns from `col`, read out of the slot. -/
def readWeights (k : Fin 11) (col : Nat) (hc : col ≤ 2560) : Prg F (FVec F S256x256 .bf16) := do
  let w : Vec F S1x128x256 .i8 ← Prog.lift (.load b.w (Rect.unit (s := S3x1408x2816) (offW p.slot k col) S1x128x256.size (hp.inbW k col k.2 hc)).toLoadRect (View.loadsAt_vmem h_S1x128x256))
  let s0 : Vec F S1x1x256 .f32 ← Prog.lift (.load b.s (Rect.unit (s := S3x22x2816) (offS p.slot (2 * k) col) S1x1x256.size (hp.inbS (2 * k) col (by omega) hc)).toLoadRect (View.loadsAt_vmem h_S1x1x256))
  let s1 : Vec F S1x1x256 .f32 ← Prog.lift (.load b.s (Rect.unit (s := S3x22x2816) (offS p.slot (2 * k + 1) col) S1x1x256.size (hp.inbS (2 * k + 1) col (by omega) hc)).toLoadRect (View.loadsAt_vmem h_S1x1x256))
  pure (weightTile w s0 s1)

/-- Thirty-two rows of the activations in contraction tile `k`. -/
def readRows (c : Fin 16) (k : Fin 11) : Prg F (Vec F S32x256 .bf16) :=
  Prog.lift (.load b.xs (Rect.unit (s := S1024x2816) (offX p c k) S32x256.size (hp.inbX c k c.2 k.2)).toLoadRect (View.loadsAt_vmem h_S32x256))

/-- The chunks after the first, each multiplied by the tile the unit holds. -/
def feed (q : Fin 2) (A : Nat) (hA : A = 0 ∨ A = 128) (k : Fin 11) : List (Fin 16) → Mxu F → Prg F (Mxu F)
  | [], m => pure m
  | c :: cs, m => do
    let x ← readRows b p hp c k
    let m ← m.accLhsLoaded q (A + 8 * c) x (fits A c hA c.2)
    feed q A hA k cs m

/-- The chunks after the first. -/
def laterChunks : List (Fin 16) := [1, 2, 3, 4, 5, 6, 7, 8, 9, 10, 11, 12, 13, 14, 15]

/-- Push one weight tile and accumulate every chunk of rows against it. -/
def accumulate (q r : Fin 2) (A : Nat) (hA : A = 0 ∨ A = 128) (k : Fin 11) (col : Nat) (hc : col ≤ 2560) (m : Mxu F) : Prg F (Mxu F) := do
  let w ← readWeights b p hp k col hc
  let m ← m.pushRhs q r false w
  let x ← readRows b p hp 0 k
  feed b p hp q A hA k laterChunks (m.accLhs q r (A + 8 * 0) x (fits A 0 hA (by decide)))

/-- Both units' tiles of every contraction tile. -/
def pairLoop (c0 c1 : Nat) (h0 : c0 ≤ 2560) (h1 : c1 ≤ 2560) : List (Fin 11) → Mxu F → Prg F (Mxu F)
  | [], m => pure m
  | k :: ks, m => do
    let m ← accumulate b p hp 0 (Fin.ofNat 2 k) 0 (.inl rfl) k c0 h0 m
    let m ← accumulate b p hp 1 (Fin.ofNat 2 k) 0 (.inl rfl) k c1 h1 m
    pairLoop c0 c1 h0 h1 ks m

/-- The contraction tiles in order. -/
def tiles : List (Fin 11) := [0, 1, 2, 3, 4, 5, 6, 7, 8, 9, 10]

/-- The first chunk of a column's result: the rows that belong to the expert before are kept. -/
def storeFirst (col : Nat) (hc : col ≤ 2560) (hm : col % 128 = 0) (v : FVec F S32x256 .f32) : Prg F PUnit := do
  have v3354 : FVec F S32x256 .bf16 := truncf .bf16 v bitsLt_bf16_f32
  have v3355 : IVec S16x256 32 := iota .tc S16x256 32 [0] iota_S16x256_d0_w32
  have v3356 : IVec S16x256 32 := broadcast S16x256 p.skip
  have v3357 : IVec S16x256 1 := cmpi .sge v3355 v3356
  have v3358 : FVec F S16x256 .bf16 := extractStridedSlice S16x256 ![0, 0] v3354 slices_S32x256_o0_0_S16x256
  have v3359 : FVec F S16x256 .f32 := extf .f32 v3358 bitsLt_bf16_f32
  let v3362 : Vec F S16x256 .bf16 ← Prog.lift (.load b.y (Rect.unit (s := S1024x2816) (offY p 0 col) S16x256.size (hp.inbY0 col hc)).toLoadRect (View.loadsAt_vmem h_S16x256))
  have v3363 : FVec F S16x256 .f32 := extf .f32 v3362 bitsLt_bf16_f32
  have v3364 : FVec F S16x256 .f32 := select v3357 v3359 v3363
  have v3365 : FVec F S16x256 .bf16 := truncf .bf16 v3364 bitsLt_bf16_f32
  let v3368 : Vec F S16x256 .bf16 ← Prog.lift (.load b.y (Rect.unit (s := S1024x2816) (offY p 0 col) S16x256.size (hp.inbY0 col hc)).toLoadRect (View.loadsAt_vmem h_S16x256))
  have v3370 : FVec F S16x256 .bf16 := shapeCast S16x256 v3365 shapeCasts_S16x256_S16x256
  Prog.lift (.store b.y (Rect.unit (s := S1024x2816) (offY p 0 col) S16x256.size (hp.inbY0 col hc)) v3370 Finset.univ (View.stores_vmem h_S16x256 (b.hy.storeExact_slice rfl _ (hp.packY0 col hm (hp.inbY0 col hc))) (fun _ => rfl)) (.inl rfl))
  have v3371 : FVec F S16x256 .bf16 := extractStridedSlice S16x256 ![16, 0] v3354 slices_S32x256_o16_0_S16x256
  let v3375 : Vec F S16x256 .bf16 ← Prog.lift (.load b.y (Rect.unit (s := S1024x2816) (offY16 p col) S16x256.size (hp.inbY16 col hc)).toLoadRect (View.loadsAt_vmem h_S16x256))
  have v3377 : FVec F S16x256 .bf16 := shapeCast S16x256 v3371 shapeCasts_S16x256_S16x256
  Prog.lift (.store b.y (Rect.unit (s := S1024x2816) (offY16 p col) S16x256.size (hp.inbY16 col hc)) v3377 Finset.univ (View.stores_vmem h_S16x256 (b.hy.storeExact_slice rfl _ (hp.packY16 col hm (hp.inbY16 col hc))) (fun _ => rfl)) (.inl rfl))

/-- A later chunk of a column's result. -/
def storeLater (c : Fin 16) (col : Nat) (hc : col ≤ 2560) (hm : col % 128 = 0) (v : FVec F S32x256 .f32) : Prg F PUnit := do
  have v3381 : FVec F S32x256 .bf16 := truncf .bf16 v bitsLt_bf16_f32
  let v3384 : Vec F S32x256 .bf16 ← Prog.lift (.load b.y (Rect.unit (s := S1024x2816) (offY p c col) S32x256.size (hp.inbY c col c.2 hc)).toLoadRect (View.loadsAt_vmem h_S32x256))
  have v3386 : FVec F S32x256 .bf16 := shapeCast S32x256 v3381 shapeCasts_S32x256_S32x256
  Prog.lift (.store b.y (Rect.unit (s := S1024x2816) (offY p c col) S32x256.size (hp.inbY c col c.2 hc)) v3386 Finset.univ (View.stores_vmem h_S32x256 (b.hy.storeExact_slice rfl _ (hp.packY c col c.2 hm (hp.inbY c col c.2 hc))) (fun _ => rfl)) (.inl rfl))

/-- Pop and store the later chunks of one unit. -/
def drainLater (q : Fin 2) (col : Nat) (hc : col ≤ 2560) (hm : col % 128 = 0) : List (Fin 16) → Mxu F → Prg F (Mxu F)
  | [], m => pure m
  | c :: cs, m => do
    storeLater b p hp c col hc hm (m.read q (0 + 8 * c) (fits 0 c (.inl rfl) c.2))
    drainLater q col hc hm cs (m.pop q (0 + 8 * c) 32 (fits 0 c (.inl rfl) c.2))

/-- Pop and store one unit's whole result. -/
def drain (q : Fin 2) (col : Nat) (hc : col ≤ 2560) (hm : col % 128 = 0) (m : Mxu F) : Prg F (Mxu F) := do
  storeFirst b p hp col hc hm (m.read q (0 + 8 * 0) (fits 0 0 (.inl rfl) (by decide)))
  drainLater b p hp q col hc hm laterChunks (m.pop q (0 + 8 * 0) 32 (fits 0 0 (.inl rfl) (by decide)))

/-- One trip of the loop over pairs of column blocks. -/
def pairBody (c0 c1 : Nat) (h0 : c0 ≤ 2560) (h1 : c1 ≤ 2560) (m0 : c0 % 128 = 0) (m1 : c1 % 128 = 0) (m : Mxu F) : Prg F (Mxu F) := do
  let m ← pairLoop b p hp c0 c1 h0 h1 tiles m
  let m ← drain b p hp 0 c0 h0 m0 m
  drain b p hp 1 c1 h1 m1 m

/-- The last column block: the contraction tiles alternate between the units. -/
def lastLoop : List (Fin 11) → Mxu F → Prg F (Mxu F)
  | [], m => pure m
  | k :: ks, m => do
    let m ← accumulate b p hp (Fin.ofNat 2 k) (Fin.ofNat 2 (k / 2)) 128 (.inr rfl) k 2560 le_rfl m
    lastLoop ks m

/-- The two units' sum of one chunk of the last column block. -/
def readBoth (c : Fin 16) (m : Mxu F) : FVec F S32x256 .f32 :=
  addf (m.read 0 (128 + 8 * c) (fits 128 c (.inr rfl) c.2)) ((m.pop 0 (128 + 8 * c) 32 (fits 128 c (.inr rfl) c.2)).read 1 (128 + 8 * c) (fits 128 c (.inr rfl) c.2))

def popBoth (c : Fin 16) (m : Mxu F) : Mxu F :=
  (m.pop 0 (128 + 8 * c) 32 (fits 128 c (.inr rfl) c.2)).pop 1 (128 + 8 * c) 32 (fits 128 c (.inr rfl) c.2)

def lastDrainLater : List (Fin 16) → Mxu F → Prg F (Mxu F)
  | [], m => pure m
  | c :: cs, m => do
    storeLater b p hp c 2560 le_rfl (by decide) (readBoth c m)
    lastDrainLater cs (popBoth c m)

/-- The last column block. -/
def lastColumn (m : Mxu F) : Prg F (Mxu F) := do
  let m ← lastLoop b p hp tiles m
  storeFirst b p hp 2560 le_rfl (by decide) (readBoth 0 m)
  lastDrainLater b p hp laterChunks (popBoth 0 m)

end Cert.KernelIdeal.Hand
-- ==== Proof.Printed.lean ====
/- The printed text of one expert's share is the recursion of `Expert`. -/
module

public import proofs.«01_k».proof.Proof.Expert
public import Idealize.ShloMosaic.Lib.Tactic

@[expose] public section

set_option maxRecDepth 16384

noncomputable section

namespace Cert.KernelIdeal.Hand

open Idealize.ShloMosaic Idealize.SL.Sem
open Cert.KernelIdeal

variable {F : FTy → Type} [FloatOps F]
variable [Facts]
open Facts₀ Facts

/-- The ring slot of trip `t`. -/
abbrev slotW (n : BitVec 32) (t : Fin (k0_t3_loop n).trips) : BitVec 32 :=
  Scalar.remsi (Scalar.addi 0#32 (Scalar.muli (Scf.iv 0#32 1#32 t) 1#32)) 3#32

/-- Where trip `t` works when its expert's first row is `r`. -/
abbrev place (n : BitVec 32) (t : Fin (k0_t3_loop n).trips) (r : BitVec 32) : At :=
  ⟨slotW n t, Scalar.subi r (Scalar.remsi r 16#32), Scalar.remsi r 16#32⟩

/-- The word of a column block of trip `t` of the loop over pairs. -/
abbrev colW (t : Fin k0_t4_loop.trips) (o : BitVec 32) : Nat :=
  (Scalar.indexCast (Scalar.addi (k0_mult3 t) o) : Index).toNat

theorem colW_spec : ∀ t : Fin k0_t4_loop.trips, colW t 0#32 = 512 * t.val ∧ colW t 256#32 = 512 * t.val + 256 ∧ t.val < 5 := by
  decide +kernel

theorem col0_le (t) : colW t 0#32 ≤ 2560 := by have := colW_spec t; omega
theorem col1_le (t) : colW t 256#32 ≤ 2560 := by have := colW_spec t; omega
theorem col0_mod (t) : colW t 0#32 % 128 = 0 := by have := colW_spec t; omega
theorem col1_mod (t) : colW t 256#32 % 128 = 0 := by have := colW_spec t; omega

section
variable (arg0 : Memref sig .tc .smem S32 .i32)
  (harg0 : arg0.IsWhole)
  (arg1 : Memref sig .tc .hbm S512x2816 .bf16)
  (harg1 : arg1.IsWhole)
  (arg2 : Memref sig .tc .hbm S32x1408x2816 .i8)
  (harg2 : arg2.IsWhole)
  (arg3 : Memref sig .tc .hbm S32x22x2816 .f32)
  (harg3 : arg3.IsWhole)
  (arg4 : Memref sig .tc .hbm S512x2816 .bf16)
  (harg4 : arg4.IsWhole)
  (arg5 : Memref sig .tc .vmem S512x2816 .bf16)
  (harg5 : arg5.IsWhole)
  (arg6 : Memref sig .tc .vmem S1024x2816 .bf16)
  (harg6 : arg6.IsWhole)
  (arg7 : Memref sig .tc .vmem S1024x2816 .bf16)
  (harg7 : arg7.IsWhole)
  (arg8 : Memref sig .tc .vmem S3x1408x2816 .i8)
  (harg8 : arg8.IsWhole)
  (arg9 : Memref sig .tc .vmem S3x22x2816 .f32)
  (harg9 : arg9.IsWhole)
  (arg10 : Memref sig .tc .smem S33 .i32)
  (harg10 : arg10.IsWhole)
  (arg11 : Memref sig .tc .smem S33 .i32)
  (harg11 : arg11.IsWhole)
  (arg12 : DmaSems sig S_)
  (arg13 : DmaSems sig S_)
  (arg14 : DmaSems sig S3)
  (arg15 : DmaSems sig S3)
  (v1_0 : BitVec 32) (k0_t3 : Fin (k0_t3_loop v1_0).trips) (k0_mxu2 : Mxu F) (v51 : Elt F .i32) (v54 : Elt F .i32)
  (k0_hw8 : k0_chk8 v1_0 k0_t3 v51 v54) (k0_h5 : k0_cond5 v51 v54 = 1#1)
  (hp : (place v1_0 k0_t3 v51).Ok)

/-- The buffers of the launch. -/
abbrev bufs (arg6 : Memref sig .tc .vmem S1024x2816 .bf16) (arg7 : Memref sig .tc .vmem S1024x2816 .bf16) (harg7 : arg7.IsWhole)
    (arg8 : Memref sig .tc .vmem S3x1408x2816 .i8) (arg9 : Memref sig .tc .vmem S3x22x2816 .f32) : Bufs :=
  ⟨arg6, arg7, harg7, arg8, arg9⟩

theorem first_window :
    k0_part88 arg0 harg0 arg1 harg1 arg2 harg2 arg3 harg3 arg4 harg4 arg5 harg5 arg6 harg6 arg7 harg7 arg8 harg8 arg9 harg9 arg10 harg10 arg11 harg11 arg12 arg13 arg14 arg15 v1_0 k0_t3 k0_mxu2 (slotW v1_0 k0_t3) v51 v54 k0_hw8 (Scalar.remsi v51 16#32) (Scalar.subi v51 (Scalar.remsi v51 16#32)) k0_h5
      = (do
        let m ← Scf.Loop.for k0_t4_loop k0_t4_ok k0_mxu2 fun t m =>
          pairBody (bufs arg6 arg7 harg7 arg8 arg9) (place v1_0 k0_t3 v51) hp (colW t 0#32) (colW t 256#32) (col0_le t) (col1_le t) (col0_mod t) (col1_mod t) m
        let w ← readWeights (bufs arg6 arg7 harg7 arg8 arg9) (place v1_0 k0_t3 v51) hp 0 2560 le_rfl
        pure ⟨m, w⟩) := by
  sl_kernel_rfl

/-- One expert's share: the loop over pairs of column blocks, then the last one. -/
def expert (b : Bufs) (p : At) (hp : p.Ok) (m : Mxu F) : Prg F (Mxu F) := do
  let m ← Scf.Loop.for k0_t4_loop k0_t4_ok m fun t m =>
    pairBody b p hp (colW t 0#32) (colW t 256#32) (col0_le t) (col1_le t) (col0_mod t) (col1_mod t) m
  lastColumn b p hp m

theorem expert_printed :
    (do
      let ⟨k0_mxu629, v1219, c448_i32_488⟩ : Σ' (k0_mxu629 : Mxu F) (v1219 : FVec F S32x256 .f32), BitVec 32 ← k0_part119 arg0 harg0 arg1 harg1 arg2 harg2 arg3 harg3 arg4 harg4 arg5 harg5 arg6 harg6 arg7 harg7 arg8 harg8 arg9 harg9 arg10 harg10 arg11 harg11 arg12 arg13 arg14 arg15 v1_0 k0_t3 k0_mxu2 (slotW v1_0 k0_t3) v51 v54 k0_hw8 (Scalar.remsi v51 16#32) (Scalar.subi v51 (Scalar.remsi v51 16#32)) k0_h5
      let v1220 : BitVec 32 := Scalar.addi (Scalar.subi v51 (Scalar.remsi v51 16#32)) c448_i32_488
      have v1221 : FVec F S32x256 .bf16 := truncf .bf16 v1219 bitsLt_bf16_f32
      let v1222 : Index := Scalar.indexCast v1220
      let c2560_489 : Index := 2560#32
      let v1223 : Vec F S32x256 .bf16 ← Prog.lift (.load arg7 (Rect.unit (s := S1024x2816) (k0_off124 v51 448#32) S32x256.size (k0_off124_inb v1_0 k0_t3 v51 v54 k0_hw8 k0_h5 14)).toLoadRect (View.loadsAt_vmem h_S32x256))
      have v1224 : FVec F S32x256 .bf16 := shapeCast S32x256 v1223 shapeCasts_S32x256_S32x256
      have v1225 : FVec F S32x256 .bf16 := shapeCast S32x256 v1221 shapeCasts_S32x256_S32x256
      Prog.lift (.store arg7 (Rect.unit (s := S1024x2816) (k0_off124 v51 448#32) S32x256.size (k0_off124_inb v1_0 k0_t3 v51 v54 k0_hw8 k0_h5 14)) v1225 Finset.univ (View.stores_vmem h_S32x256 (harg7.storeExact_slice rfl _ (k0_off124_packedbf16 v1_0 k0_t3 v51 v54 k0_hw8 k0_h5 14)) (fun _ => rfl)) (.inl rfl))
      have v1226 : FVec F S32x256 .f32 := k0_mxu629.read 0 248 fits_248_32
      have k0_mxu630 : Mxu F := k0_mxu629.pop 0 248 32 fits_248_32
      have v1227 : FVec F S32x256 .f32 := k0_mxu630.read 1 248 fits_248_32
      have k0_mxu631 : Mxu F := k0_mxu630.pop 1 248 32 fits_248_32
      have v1228 : FVec F S32x256 .f32 := addf v1226 v1227
      let c480_i32_490 : BitVec 32 := 480#32
      let v1229 : BitVec 32 := Scalar.addi (Scalar.subi v51 (Scalar.remsi v51 16#32)) c480_i32_490
      have v1230 : FVec F S32x256 .bf16 := truncf .bf16 v1228 bitsLt_bf16_f32
      let v1231 : Index := Scalar.indexCast v1229
      let c2560_491 : Index := 2560#32
      let v1232 : Vec F S32x256 .bf16 ← Prog.lift (.load arg7 (Rect.unit (s := S1024x2816) (k0_off124 v51 480#32) S32x256.size (k0_off124_inb v1_0 k0_t3 v51 v54 k0_hw8 k0_h5 15)).toLoadRect (View.loadsAt_vmem h_S32x256))
      have v1233 : FVec F S32x256 .bf16 := shapeCast S32x256 v1232 shapeCasts_S32x256_S32x256
      have v1234 : FVec F S32x256 .bf16 := shapeCast S32x256 v1230 shapeCasts_S32x256_S32x256
      Prog.lift (.store arg7 (Rect.unit (s := S1024x2816) (k0_off124 v51 480#32) S32x256.size (k0_off124_inb v1_0 k0_t3 v51 v54 k0_hw8 k0_h5 15)) v1234 Finset.univ (View.stores_vmem h_S32x256 (harg7.storeExact_slice rfl _ (k0_off124_packedbf16 v1_0 k0_t3 v51 v54 k0_hw8 k0_h5 15)) (fun _ => rfl)) (.inl rfl))
      pure k0_mxu631
      : Prg F (Mxu F)) = expert (bufs arg6 arg7 harg7 arg8 arg9) (place v1_0 k0_t3 v51) hp k0_mxu2 := by
  delta k0_part119
  rw [bind_assoc, first_window (hp := hp), bind_assoc]
  refine congrArg (Bind.bind _) (funext fun m => ?_)
  sl_kernel_rfl

end

end Cert.KernelIdeal.Hand
-- ==== Proof.Stages.lean ====
/- The kernel body cut into its stages, each under a name of its own: the scan of the group sizes, a fetch of one
   expert's weights and scales into a slot of the ring, the wait for one, the quantising of the activations, one expert's
   turn, and the copy out. The whole is the printed body, by computation. -/
module

public import proofs.«01_k».proof.Proof.Printed
public import proofs.«01_k».proof.Proof.Gen.KernelIdeal.Points

@[expose] public section

set_option maxRecDepth 16384

noncomputable section

namespace Cert.KernelIdeal.Hand

open Idealize.ShloMosaic Idealize.ShloMosaic.TcCoe Idealize.ShloMosaic.Tactic
open Idealize.SL.Sem
open Cert.KernelIdeal

variable {F : FTy → Type} [FloatOps F]
variable [Facts]
open Facts₀ Facts

/-! ## The buffers -/

abbrev xIn : Memref sig .tc .hbm S512x2816 .bf16 := Memref.whole main_arg0
abbrev wIn : Memref sig .tc .hbm S32x1408x2816 .i8 := Memref.whole main_arg2
abbrev sIn : Memref sig .tc .hbm S32x22x2816 .f32 := Memref.whole main_arg3
abbrev yOut : Memref sig .tc .hbm S512x2816 .bf16 := Memref.whole main_v0
abbrev xBuf : Memref sig .tc .vmem S512x2816 .bf16 := Memref.whole cc0_scratch0
abbrev qBuf : Memref sig .tc .vmem S1024x2816 .bf16 := Memref.whole cc0_scratch1
abbrev yBuf : Memref sig .tc .vmem S1024x2816 .bf16 := Memref.whole cc0_scratch2
abbrev wBuf : Memref sig .tc .vmem S3x1408x2816 .i8 := Memref.whole cc0_scratch3
abbrev sBuf : Memref sig .tc .vmem S3x22x2816 .f32 := Memref.whole cc0_scratch4
abbrev eTab : Memref sig .tc .smem S33 .i32 := Memref.whole cc0_scratch5
abbrev rTab : Memref sig .tc .smem S33 .i32 := Memref.whole cc0_scratch6
theorem xIn_whole : (xIn).IsWhole := Memref.isWhole_whole main_arg0
theorem wIn_whole : (wIn).IsWhole := Memref.isWhole_whole main_arg2
theorem sIn_whole : (sIn).IsWhole := Memref.isWhole_whole main_arg3
theorem yOut_whole : (yOut).IsWhole := Memref.isWhole_whole main_v0
theorem xBuf_whole : (xBuf).IsWhole := Memref.isWhole_whole cc0_scratch0
theorem qBuf_whole : (qBuf).IsWhole := Memref.isWhole_whole cc0_scratch1
theorem yBuf_whole : (yBuf).IsWhole := Memref.isWhole_whole cc0_scratch2
theorem wBuf_whole : (wBuf).IsWhole := Memref.isWhole_whole cc0_scratch3
theorem sBuf_whole : (sBuf).IsWhole := Memref.isWhole_whole cc0_scratch4
theorem eTab_whole : (eTab).IsWhole := Memref.isWhole_whole cc0_scratch5
theorem rTab_whole : (rTab).IsWhole := Memref.isWhole_whole cc0_scratch6

/-- Slot `o` of the ring of weights. -/
abbrev slotMemW (o : Fin 3 → Nat) (h : ∀ a, o a + S1x1408x2816.size a ≤ S3x1408x2816.size a) : Memref sig .tc .vmem S1408x2816 .i8 :=
  (wBuf.slice (Rect.unit (s := S3x1408x2816) o S1x1408x2816.size h) (fun _ => rfl)).squeeze S1408x2816 squeezes_S1x1408x2816_S1408x2816
/-- Slot `o` of the ring of scales. -/
abbrev slotMemS (o : Fin 3 → Nat) (h : ∀ a, o a + S1x22x2816.size a ≤ S3x22x2816.size a) : Memref sig .tc .vmem S22x2816 .f32 :=
  (sBuf.slice (Rect.unit (s := S3x22x2816) o S1x22x2816.size h) (fun _ => rfl)).squeeze S22x2816 squeezes_S1x22x2816_S22x2816
/-- The weights of the expert at `o`. -/
abbrev homeW (o : Fin 3 → Nat) (h : ∀ a, o a + S1x1408x2816.size a ≤ S32x1408x2816.size a) : Memref sig .tc .hbm S1408x2816 .i8 :=
  (wIn.slice (Rect.unit (s := S32x1408x2816) o S1x1408x2816.size h) (fun _ => rfl)).squeeze S1408x2816 squeezes_S1x1408x2816_S1408x2816
/-- The scales of the expert at `o`. -/
abbrev homeS (o : Fin 3 → Nat) (h : ∀ a, o a + S1x22x2816.size a ≤ S32x22x2816.size a) : Memref sig .tc .hbm S22x2816 .f32 :=
  (sIn.slice (Rect.unit (s := S32x22x2816) o S1x22x2816.size h) (fun _ => rfl)).squeeze S22x2816 squeezes_S1x22x2816_S22x2816
/-- The semaphore of a slot's weights. -/
abbrev semW (o : Fin 1 → Nat) (h : ∀ a, o a + S1.size a ≤ S3.size a) : DmaSem sig :=
  ((cc0_scratch9.slice (Rect.unit (s := S3) o S1.size h)).squeeze S_ squeezes_S1_S_).sem
/-- The semaphore of a slot's scales. -/
abbrev semS (o : Fin 1 → Nat) (h : ∀ a, o a + S1.size a ≤ S3.size a) : DmaSem sig :=
  ((cc0_scratch10.slice (Rect.unit (s := S3) o S1.size h)).squeeze S_ squeezes_S1_S_).sem

/-- Start the copies of an expert's weights and scales into a slot. -/
def fetch {oW oV : Fin 1 → Nat} {dW dV eW eV : Fin 3 → Nat} (hoW : ∀ a, oW a + S1.size a ≤ S3.size a) (hoV : ∀ a, oV a + S1.size a ≤ S3.size a)
    (hdW : ∀ a, dW a + S1x1408x2816.size a ≤ S3x1408x2816.size a) (hdV : ∀ a, dV a + S1x22x2816.size a ≤ S3x22x2816.size a)
    (heW : ∀ a, eW a + S1x1408x2816.size a ≤ S32x1408x2816.size a) (heV : ∀ a, eV a + S1x22x2816.size a ≤ S32x22x2816.size a)
    (x1 : (homeW eW heW).view.WordExact) (x2 : (slotMemW dW hdW).view.WordExact) : Prg F PUnit :=
  .op (.enqueueDma (homeW eW heW) (.here (slotMemW dW hdW)) (.dma (semW oW hoW)) x1 x2 ⟨Or.inl rfl, trivial⟩) fun _ =>
  .op (.enqueueDma (homeS eV heV) (.here (slotMemS dV hdV)) (.dma (semS oV hoV)) ((View.wordExact_bits rfl).reshape _ _) ((View.wordExact_bits rfl).reshape _ _) ⟨Or.inl rfl, trivial⟩) fun _ =>
  .ret ⟨⟩

/-- Wait for both copies into a slot. -/
def collect {oW oV : Fin 1 → Nat} {dW dV eW eV : Fin 3 → Nat} (hoW : ∀ a, oW a + S1.size a ≤ S3.size a) (hoV : ∀ a, oV a + S1.size a ≤ S3.size a)
    (hdW : ∀ a, dW a + S1x1408x2816.size a ≤ S3x1408x2816.size a) (hdV : ∀ a, dV a + S1x22x2816.size a ≤ S3x22x2816.size a)
    (heW : ∀ a, eW a + S1x1408x2816.size a ≤ S32x1408x2816.size a) (heV : ∀ a, eV a + S1x22x2816.size a ≤ S32x22x2816.size a)
    (x1 : (homeW eW heW).view.WordExact) (x2 : (slotMemW dW hdW).view.WordExact) : Prg F PUnit :=
  .op (.waitDma2 (semW oW hoW) (homeW eW heW) (slotMemW dW hdW) x1 x2) fun _ =>
  .op (.waitDma2 (semS oV hoV) (homeS eV heV) (slotMemS dV hdV) ((View.wordExact_bits rfl).reshape _ _) ((View.wordExact_bits rfl).reshape _ _)) fun _ =>
  .ret ⟨⟩

/-! ## The scan of the group sizes -/

/-- One word of a table. -/
abbrev look (m : Memref sig .tc .smem S33 .i32) (o : Fin 1 → Nat) (h : ∀ a, o a + S1.size a ≤ S33.size a) : Prg F (Elt F .i32) :=
  smemLoad m (Rect.unit (s := S33) o S1.size h) numel1_S1 rfl
/-- Write one word of a table. -/
abbrev put (m : Memref sig .tc .smem S33 .i32) (o : Fin 1 → Nat) (h : ∀ a, o a + S1.size a ≤ S33.size a) (v : BitVec 32) : Prg F PUnit :=
  Prog.lift (.store m (Rect.unit (s := S33) o S1.size h) (fun _ => v) Finset.univ (View.stores_smem_one rfl numel1_S1) (.inl rfl))

variable (gs : Memref sig .tc .smem S32 .i32) (hgs : gs.IsWhole)

/-- One group size: a group with rows is listed with its first row, and the row after its last becomes the next start. -/
def scanStep (t : Fin k0_t1_loop.trips) (a : BitVec 32 × BitVec 32) : Prg F (BitVec 32 × BitVec 32) := do
  let v : Elt F .i32 ← smemLoad gs (Rect.unit (s := S32) (k0_off1 t) S1.size (k0_off1_inb t)) numel1_S1 rfl
  have hw : k0_chk1 a.1 v := (← Prog.lift (TpuEff.assume (k0_chk1 a.1 v) (k0_chk1.dec a.1 v))).down
  if h : k0_cond1 v = 1#1 then do
    let _ : Elt F .i32 ← look eTab (k0_off2 a.1) (k0_off2_inb a.1 v hw h)
    put eTab (k0_off2 a.1) (k0_off2_inb a.1 v hw h) (Scf.iv 0#32 1#32 t)
    let _ : Elt F .i32 ← look rTab (k0_off2 a.1) (k0_off2_inb a.1 v hw h)
    put rTab (k0_off2 a.1) (k0_off2_inb a.1 v hw h) a.2
    pure ⟨⟩
  else do
    pure ⟨⟩
  let _ : Elt F .i32 ← look rTab (k0_off3 a.1 v) (k0_off3_inb a.1 v hw)
  put rTab (k0_off3 a.1 v) (k0_off3_inb a.1 v hw) (Scalar.addi a.2 v)
  pure (Scalar.addi a.1 (Scalar.extui (Scalar.cmpi .sgt v 0#32)), Scalar.addi a.2 v)

/-! ## The first fetches -/

def fetch0 {α : Type} (n : BitVec 32) (K : Prg F α) : Prg F α :=
  if h : k0_cond2 n = 1#1 then do
    let e : Elt F .i32 ← look eTab ![0] inb_S33_S1_0
    have hw : k0_chk2 n e := (← Prog.lift (TpuEff.assume (k0_chk2 n e) (k0_chk2.dec n e))).down
    fetch k0_off4_inb k0_off7_inb k0_off5_inb k0_off8_inb (k0_off6_inb n e hw h) (k0_off9_inb n e hw h)
      ((wIn_whole.wordExact_slice rfl _ (k0_off6_wordsi8 n e hw h)).reshape _ _) ((wBuf_whole.wordExact_slice rfl _ k0_off5_wordsi8).reshape _ _)
    K
  else K

def fetch1 {α : Type} (n : BitVec 32) (K : Prg F α) : Prg F α :=
  if h : k0_cond3 n = 1#1 then do
    let e : Elt F .i32 ← look eTab ![1] inb_S33_S1_1
    have hw : k0_chk3 n e := (← Prog.lift (TpuEff.assume (k0_chk3 n e) (k0_chk3.dec n e))).down
    fetch k0_off10_inb k0_off13_inb k0_off11_inb k0_off14_inb (k0_off12_inb n e hw h) (k0_off15_inb n e hw h)
      ((wIn_whole.wordExact_slice rfl _ (k0_off12_wordsi8 n e hw h)).reshape _ _) ((wBuf_whole.wordExact_slice rfl _ k0_off11_wordsi8).reshape _ _)
    K
  else K

/-! ## The activations -/

/-- The exponent of a row block: 0 for a zero row, else the one its largest magnitude over 448 has. -/
def blockExp (v : FVec F S16x128 .bf16) : IVec S16x1 32 :=
  let a : FVec F S16x1 .f32 := shapeCast S16x1 (multiReduction .maximumf [1] S16 (extf .f32 (absf v) bitsLt_bf16_f32) 0xFF800000#32 reduces_S16x128_S16 (.inl rfl) rfl) shapeCasts_S16_S16x1
  select (cmpf .oeq a (broadcast S16x1 (Scalar.ofBits .f32 0x00000000#32 : F .f32))) (broadcast S16x1 0#32)
    (subi (addi (fptosi 32 (minimumf (broadcast S16x1 (Scalar.ofBits .f32 0x43000000#32 : F .f32)) (maximumf (broadcast S16x1 (Scalar.ofBits .f32 0xC2FE0000#32 : F .f32))
      (floor (divf (log (mulf a (broadcast S16x1 (Scalar.ofBits .f32 0x3B124925#32 : F .f32)))) (log (broadcast S16x1 (Scalar.ofBits .f32 0x40000000#32 : F .f32)))))))) (broadcast S16x1 127#32)) (broadcast S16x1 126#32))

/-- A row block scaled, clipped, rounded to eight bits and scaled back. -/
def blockCodes (v : FVec F S16x128 .bf16) : FVec F S16x128 .bf16 :=
  let e : IVec S16x1 32 := blockExp v
  let scale : FVec F S16x1 .f32 := bitcastToFloat .f32 (shli (addi e (broadcast S16x1 127#32)) (broadcast S16x1 23#32))
  let inv : FVec F S16x1 .f32 := bitcastToFloat .f32 (shli (subi (broadcast S16x1 127#32) e) (broadcast S16x1 23#32))
  mulf (extf .bf16 (truncf .fp8e4m3 (minimumf (broadcast S16x128 (Scalar.ofBits .f32 0x43E00000#32 : F .f32)) (maximumf (broadcast S16x128 (Scalar.ofBits .f32 0xC3E00000#32 : F .f32))
      (mulf (extf .f32 v bitsLt_bf16_f32) (broadcastTo S16x128 inv broadcasts_S16x1_S16x128)))) bitsLt_fp8e4m3_f32) bitsLt_fp8e4m3_bf16)
    (broadcastTo S16x128 (truncf .bf16 scale bitsLt_bf16_f32) broadcasts_S16x1_S16x128)

/-- Sixteen rows quantised block by block. -/
def rowCodes (v : Vec F S16x2816 .bf16) : FVec F S16x2816 .bf16 :=
  concatenate S16x2816 1 [⟨S16x128, blockCodes (extractStridedSlice S16x128 ![0, 0] v slices_S16x2816_o0_0_S16x128)⟩,
    ⟨S16x128, blockCodes (extractStridedSlice S16x128 ![0, 128] v slices_S16x2816_o0_128_S16x128)⟩,
    ⟨S16x128, blockCodes (extractStridedSlice S16x128 ![0, 256] v slices_S16x2816_o0_256_S16x128)⟩,
    ⟨S16x128, blockCodes (extractStridedSlice S16x128 ![0, 384] v slices_S16x2816_o0_384_S16x128)⟩,
    ⟨S16x128, blockCodes (extractStridedSlice S16x128 ![0, 512] v slices_S16x2816_o0_512_S16x128)⟩,
    ⟨S16x128, blockCodes (extractStridedSlice S16x128 ![0, 640] v slices_S16x2816_o0_640_S16x128)⟩,
    ⟨S16x128, blockCodes (extractStridedSlice S16x128 ![0, 768] v slices_S16x2816_o0_768_S16x128)⟩,
    ⟨S16x128, blockCodes (extractStridedSlice S16x128 ![0, 896] v slices_S16x2816_o0_896_S16x128)⟩,
    ⟨S16x128, blockCodes (extractStridedSlice S16x128 ![0, 1024] v slices_S16x2816_o0_1024_S16x128)⟩,
    ⟨S16x128, blockCodes (extractStridedSlice S16x128 ![0, 1152] v slices_S16x2816_o0_1152_S16x128)⟩,
    ⟨S16x128, blockCodes (extractStridedSlice S16x128 ![0, 1280] v slices_S16x2816_o0_1280_S16x128)⟩,
    ⟨S16x128, blockCodes (extractStridedSlice S16x128 ![0, 1408] v slices_S16x2816_o0_1408_S16x128)⟩,
    ⟨S16x128, blockCodes (extractStridedSlice S16x128 ![0, 1536] v slices_S16x2816_o0_1536_S16x128)⟩,
    ⟨S16x128, blockCodes (extractStridedSlice S16x128 ![0, 1664] v slices_S16x2816_o0_1664_S16x128)⟩,
    ⟨S16x128, blockCodes (extractStridedSlice S16x128 ![0, 1792] v slices_S16x2816_o0_1792_S16x128)⟩,
    ⟨S16x128, blockCodes (extractStridedSlice S16x128 ![0, 1920] v slices_S16x2816_o0_1920_S16x128)⟩,
    ⟨S16x128, blockCodes (extractStridedSlice S16x128 ![0, 2048] v slices_S16x2816_o0_2048_S16x128)⟩,
    ⟨S16x128, blockCodes (extractStridedSlice S16x128 ![0, 2176] v slices_S16x2816_o0_2176_S16x128)⟩,
    ⟨S16x128, blockCodes (extractStridedSlice S16x128 ![0, 2304] v slices_S16x2816_o0_2304_S16x128)⟩,
    ⟨S16x128, blockCodes (extractStridedSlice S16x128 ![0, 2432] v slices_S16x2816_o0_2432_S16x128)⟩,
    ⟨S16x128, blockCodes (extractStridedSlice S16x128 ![0, 2560] v slices_S16x2816_o0_2560_S16x128)⟩,
    ⟨S16x128, blockCodes (extractStridedSlice S16x128 ![0, 2688] v slices_S16x2816_o0_2688_S16x128)⟩] concatenates_S16x128_S16x128_S16x128_S16x128_S16x128_S16x128_S16x128_S16x128_S16x128_S16x128_S16x128_S16x128_S16x128_S16x128_S16x128_S16x128_S16x128_S16x128_S16x128_S16x128_S16x128_S16x128_S16x2816_d1

abbrev rectX (t : Fin k0_t2_loop.trips) : Rect S512x2816 := Rect.unit (s := S512x2816) (k0_off16 t) S16x2816.size (k0_off16_inb t)
abbrev rectQ (t : Fin k0_t2_loop.trips) : Rect S1024x2816 := Rect.unit (s := S1024x2816) (k0_off17 t) S16x2816.size (k0_off17_inb t)

/-- Quantise the rows of block `t`. -/
def quantStep (t : Fin k0_t2_loop.trips) : Prg F PUnit :=
  .op (.load xBuf (rectX t).toLoadRect (View.loadsAt_vmem h_S16x2816)) fun v =>
  .op (.load qBuf (rectQ t).toLoadRect (View.loadsAt_vmem h_S16x2816)) fun _ =>
  .op (.store qBuf (rectQ t) (shapeCast S16x2816 (rowCodes v) shapeCasts_S16x2816_S16x2816) Finset.univ (View.stores_vmem h_S16x2816 (qBuf_whole.storeExact_slice rfl _ (k0_off17_packedbf16 t)) (fun _ => rfl)) (.inl rfl)) fun _ =>
  .ret ⟨⟩

abbrev rectLow : Rect S1024x2816 := Rect.unit (s := S1024x2816) ![512, 0] S512x2816.size inb_S1024x2816_S512x2816_512_0
abbrev rectAll : Rect S1024x2816 := Rect.unit (s := S1024x2816) ![0, 0] S1024x2816.size inb_S1024x2816_S1024x2816_0_0

/-- Zero the rows after the activations and all rows of the result. -/
def zeros : Prg F PUnit :=
  .op (.load qBuf rectLow.toLoadRect (View.loadsAt_vmem h_S512x2816)) fun _ =>
  .op (.store qBuf rectLow (shapeCast S512x2816 (broadcast S512x2816 (Scalar.ofBits .bf16 0x0000#16 : F .bf16)) shapeCasts_S512x2816_S512x2816) Finset.univ (View.stores_vmem h_S512x2816 (qBuf_whole.storeExact_slice rfl _ packedbf16_S1024x2816_S512x2816_512_0) (fun _ => rfl)) (.inl rfl)) fun _ =>
  .op (.load yBuf rectAll.toLoadRect (View.loadsAt_vmem h_S1024x2816)) fun _ =>
  .op (.store yBuf rectAll (shapeCast S1024x2816 (broadcast S1024x2816 (Scalar.ofBits .bf16 0x0000#16 : F .bf16)) shapeCasts_S1024x2816_S1024x2816) Finset.univ (View.stores_vmem h_S1024x2816 (yBuf_whole.storeExact_slice rfl _ packedbf16_S1024x2816_S1024x2816_0_0) (fun _ => rfl)) (.inl rfl)) fun _ =>
  .ret ⟨⟩

/-! ## One expert's turn -/

def nextFetch (n : BitVec 32) (hn : k0_chk4 n) {α : Type} (t : Fin (k0_t3_loop n).trips) (K : Prg F α) : Prg F α :=
  if h : k0_cond4 n t = 1#1 then do
    let e : Elt F .i32 ← look eTab (k0_off25 n t) (k0_off25_inb n hn t h)
    have hw : k0_chk6 n t e := (← Prog.lift (TpuEff.assume (k0_chk6 n t e) (k0_chk6.dec n t e))).down
    fetch (k0_off26_inb n hn t h) (k0_off29_inb n hn t h) (k0_off27_inb n hn t h) (k0_off30_inb n hn t h) (k0_off28_inb n t e hw h) (k0_off31_inb n t e hw h)
      ((wIn_whole.wordExact_slice rfl _ (k0_off28_wordsi8 n t e hw h)).reshape _ _) ((wBuf_whole.wordExact_slice rfl _ (k0_off27_wordsi8 n hn t h)).reshape _ _)
    K
  else K

/-- One expert's share as printed. -/
def expertText (n : BitVec 32) (t : Fin (k0_t3_loop n).trips) (m : Mxu F) (v51 v54 : BitVec 32) (k0_hw8 : k0_chk8 n t v51 v54) (k0_h5 : k0_cond5 v51 v54 = 1#1) {α : Type} (K : Mxu F → Prg F α) : Prg F α :=
    (do
      let ⟨k0_mxu629, v1219, c448_i32_488⟩ : Σ' (k0_mxu629 : Mxu F) (v1219 : FVec F S32x256 .f32), BitVec 32 ← k0_part119 gs hgs xIn xIn_whole wIn wIn_whole sIn sIn_whole yOut yOut_whole xBuf xBuf_whole qBuf qBuf_whole yBuf yBuf_whole wBuf wBuf_whole sBuf sBuf_whole eTab eTab_whole rTab rTab_whole cc0_scratch7 cc0_scratch8 cc0_scratch9 cc0_scratch10 n t m (slotW n t) v51 v54 k0_hw8 (Scalar.remsi v51 16#32) (Scalar.subi v51 (Scalar.remsi v51 16#32)) k0_h5
      let v1220 : BitVec 32 := Scalar.addi (Scalar.subi v51 (Scalar.remsi v51 16#32)) c448_i32_488
      have v1221 : FVec F S32x256 .bf16 := truncf .bf16 v1219 bitsLt_bf16_f32
      let v1222 : Index := Scalar.indexCast v1220
      let c2560_489 : Index := 2560#32
      let v1223 : Vec F S32x256 .bf16 ← Prog.lift (.load yBuf (Rect.unit (s := S1024x2816) (k0_off124 v51 448#32) S32x256.size (k0_off124_inb n t v51 v54 k0_hw8 k0_h5 14)).toLoadRect (View.loadsAt_vmem h_S32x256))
      have v1224 : FVec F S32x256 .bf16 := shapeCast S32x256 v1223 shapeCasts_S32x256_S32x256
      have v1225 : FVec F S32x256 .bf16 := shapeCast S32x256 v1221 shapeCasts_S32x256_S32x256
      Prog.lift (.store yBuf (Rect.unit (s := S1024x2816) (k0_off124 v51 448#32) S32x256.size (k0_off124_inb n t v51 v54 k0_hw8 k0_h5 14)) v1225 Finset.univ (View.stores_vmem h_S32x256 (yBuf_whole.storeExact_slice rfl _ (k0_off124_packedbf16 n t v51 v54 k0_hw8 k0_h5 14)) (fun _ => rfl)) (.inl rfl))
      have v1226 : FVec F S32x256 .f32 := k0_mxu629.read 0 248 fits_248_32
      have k0_mxu630 : Mxu F := k0_mxu629.pop 0 248 32 fits_248_32
      have v1227 : FVec F S32x256 .f32 := k0_mxu630.read 1 248 fits_248_32
      have k0_mxu631 : Mxu F := k0_mxu630.pop 1 248 32 fits_248_32
      have v1228 : FVec F S32x256 .f32 := addf v1226 v1227
      let c480_i32_490 : BitVec 32 := 480#32
      let v1229 : BitVec 32 := Scalar.addi (Scalar.subi v51 (Scalar.remsi v51 16#32)) c480_i32_490
      have v1230 : FVec F S32x256 .bf16 := truncf .bf16 v1228 bitsLt_bf16_f32
      let v1231 : Index := Scalar.indexCast v1229
      let c2560_491 : Index := 2560#32
      let v1232 : Vec F S32x256 .bf16 ← Prog.lift (.load yBuf (Rect.unit (s := S1024x2816) (k0_off124 v51 480#32) S32x256.size (k0_off124_inb n t v51 v54 k0_hw8 k0_h5 15)).toLoadRect (View.loadsAt_vmem h_S32x256))
      have v1233 : FVec F S32x256 .bf16 := shapeCast S32x256 v1232 shapeCasts_S32x256_S32x256
      have v1234 : FVec F S32x256 .bf16 := shapeCast S32x256 v1230 shapeCasts_S32x256_S32x256
      Prog.lift (.store yBuf (Rect.unit (s := S1024x2816) (k0_off124 v51 480#32) S32x256.size (k0_off124_inb n t v51 v54 k0_hw8 k0_h5 15)) v1234 Finset.univ (View.stores_vmem h_S32x256 (yBuf_whole.storeExact_slice rfl _ (k0_off124_packedbf16 n t v51 v54 k0_hw8 k0_h5 15)) (fun _ => rfl)) (.inl rfl))
      K k0_mxu631
      )

/-- Trip `t` of the loop over the listed experts. -/
def turn (n : BitVec 32) (hn : k0_chk4 n) (t : Fin (k0_t3_loop n).trips) (m : Mxu F) : Prg F (Mxu F) := do
  let e : Elt F .i32 ← look eTab (k0_off18 n t) (k0_off18_inb n hn t)
  have hw : k0_chk5 e := (← Prog.lift (TpuEff.assume (k0_chk5 e) (k0_chk5.dec e))).down
  collect (k0_off19_inb n hn t) (k0_off22_inb n hn t) (k0_off20_inb n hn t) (k0_off23_inb n hn t) (k0_off21_inb e hw) (k0_off24_inb e hw)
    ((wIn_whole.wordExact_slice rfl _ (k0_off21_wordsi8 e hw)).reshape _ _) ((wBuf_whole.wordExact_slice rfl _ (k0_off20_wordsi8 n hn t)).reshape _ _)
  nextFetch n hn t (do
    let v51 : Elt F .i32 ← look rTab (k0_off32 n t) (k0_off32_inb n hn t)
    have hw7 : k0_chk7 v51 := (← Prog.lift (TpuEff.assume (k0_chk7 v51) (k0_chk7.dec v51))).down
    let v54 : Elt F .i32 ← look rTab (k0_off33 n t) (k0_off33_inb n hn t)
    have hw8 : k0_chk8 n t v51 v54 := (← Prog.lift (TpuEff.assume (k0_chk8 n t v51 v54) (k0_chk8.dec n t v51 v54))).down
    if h : k0_cond5 v51 v54 = 1#1 then expertText gs hgs n t m v51 v54 hw8 h pure else pure m)

/-- The rest of the same loop, which has no trips. -/
def restTurn (n : BitVec 32) (hn : k0_chk4 n) (v25 : BitVec 32) (c1_i32_20 c0_i32_21 c1_i32_25 : BitVec 32) (k0_t5 : Fin (k0_t5_loop n).trips) (k0_mxu632 : Mxu F) : Prg F (Mxu F) := do
  let arg16 : BitVec 32 := Scf.iv v25 c1_i32_25 k0_t5
  let v28 : BitVec 32 := Scalar.muli arg16 c1_i32_20
  let v29 : BitVec 32 := Scalar.addi c0_i32_21 v28
  let c3_i32 : BitVec 32 := 3#32
  let v30 : BitVec 32 := Scalar.remsi v29 c3_i32
  let c3_i32_30 : BitVec 32 := 3#32
  let v31 : BitVec 32 := Scalar.remsi v29 c3_i32_30
  let v32 : Index := Scalar.indexCast v29
  let v33 : Elt F .i32 ← smemLoad eTab (Rect.unit (s := S33) (k0_off127 n k0_t5) S1.size (k0_off127_inb n hn k0_t5)) numel1_S1 rfl
  have k0_hw9 : k0_chk9 v33 := (← Prog.lift (TpuEff.assume (k0_chk9 v33) (k0_chk9.dec v33))).down
  let v34 : DmaSems sig S1 := cc0_scratch9.slice (Rect.unit (s := S3) (k0_off128 n k0_t5) S1.size (k0_off128_inb n hn k0_t5))
  let v35 : DmaSems sig S_ := v34.squeeze S_ squeezes_S1_S_
  let c0_i32_31 : BitVec 32 := 0#32
  let c0_i32_32 : BitVec 32 := 0#32
  let v36 : Memref sig .tc .vmem S1x1408x2816 .i8 := wBuf.slice (Rect.unit (s := S3x1408x2816) (k0_off129 n k0_t5) S1x1408x2816.size (k0_off129_inb n hn k0_t5)) (fun _ => rfl)
  let v37 : Memref sig .tc .vmem S1408x2816 .i8 := v36.squeeze S1408x2816 squeezes_S1x1408x2816_S1408x2816
  let c0_i32_33 : BitVec 32 := 0#32
  let c0_i32_34 : BitVec 32 := 0#32
  let v38 : Memref sig .tc .hbm S1x1408x2816 .i8 := wIn.slice (Rect.unit (s := S32x1408x2816) (k0_off130 v33) S1x1408x2816.size (k0_off130_inb v33 k0_hw9)) (fun _ => rfl)
  let v39 : Memref sig .tc .hbm S1408x2816 .i8 := v38.squeeze S1408x2816 squeezes_S1x1408x2816_S1408x2816
  Prog.lift (.waitDma2 v35.sem v39 v37 ((wIn_whole.wordExact_slice rfl _ (k0_off130_wordsi8 v33 k0_hw9)).reshape _ _) ((wBuf_whole.wordExact_slice rfl _ (k0_off129_wordsi8 n hn k0_t5)).reshape _ _))
  let v40 : DmaSems sig S1 := cc0_scratch10.slice (Rect.unit (s := S3) (k0_off131 n k0_t5) S1.size (k0_off131_inb n hn k0_t5))
  let v41 : DmaSems sig S_ := v40.squeeze S_ squeezes_S1_S_
  let c0_i32_35 : BitVec 32 := 0#32
  let c0_i32_36 : BitVec 32 := 0#32
  let v42 : Memref sig .tc .vmem S1x22x2816 .f32 := sBuf.slice (Rect.unit (s := S3x22x2816) (k0_off132 n k0_t5) S1x22x2816.size (k0_off132_inb n hn k0_t5)) (fun _ => rfl)
  let v43 : Memref sig .tc .vmem S22x2816 .f32 := v42.squeeze S22x2816 squeezes_S1x22x2816_S22x2816
  let c0_i32_37 : BitVec 32 := 0#32
  let c0_i32_38 : BitVec 32 := 0#32
  let v44 : Memref sig .tc .hbm S1x22x2816 .f32 := sIn.slice (Rect.unit (s := S32x22x2816) (k0_off133 v33) S1x22x2816.size (k0_off133_inb v33 k0_hw9)) (fun _ => rfl)
  let v45 : Memref sig .tc .hbm S22x2816 .f32 := v44.squeeze S22x2816 squeezes_S1x22x2816_S22x2816
  Prog.lift (.waitDma2 v41.sem v45 v43 ((View.wordExact_bits rfl).reshape _ _) ((View.wordExact_bits rfl).reshape _ _))
  let c2_i32 : BitVec 32 := 2#32
  let v46 : BitVec 32 := Scalar.addi v29 c2_i32
  let v47 : BitVec 1 := Scalar.cmpi .slt v46 n
  let v48 : BitVec 32 := Scalar.extui v47
  let c0_i32_39 : BitVec 32 := 0#32
  let v49 : BitVec 1 := Scalar.cmpi .ne v48 c0_i32_39
  if k0_h6 : k0_cond6 n k0_t5 = 1#1 then do
    let c3_i32_43 : BitVec 32 := 3#32
    let v62 : BitVec 32 := Scalar.remsi v46 c3_i32_43
    let v63 : Index := Scalar.indexCast v46
    let v64 : Elt F .i32 ← smemLoad eTab (Rect.unit (s := S33) (k0_off134 n k0_t5) S1.size (k0_off134_inb n hn k0_t5 k0_h6)) numel1_S1 rfl
    have k0_hw10 : k0_chk10 n k0_t5 v64 := (← Prog.lift (TpuEff.assume (k0_chk10 n k0_t5 v64) (k0_chk10.dec n k0_t5 v64))).down
    let v65 : DmaSems sig S1 := cc0_scratch9.slice (Rect.unit (s := S3) (k0_off135 n k0_t5) S1.size (k0_off135_inb n hn k0_t5 k0_h6))
    let v66 : DmaSems sig S_ := v65.squeeze S_ squeezes_S1_S_
    let c0_i32_44 : BitVec 32 := 0#32
    let c0_i32_45 : BitVec 32 := 0#32
    let v67 : Memref sig .tc .vmem S1x1408x2816 .i8 := wBuf.slice (Rect.unit (s := S3x1408x2816) (k0_off136 n k0_t5) S1x1408x2816.size (k0_off136_inb n hn k0_t5 k0_h6)) (fun _ => rfl)
    let v68 : Memref sig .tc .vmem S1408x2816 .i8 := v67.squeeze S1408x2816 squeezes_S1x1408x2816_S1408x2816
    let c0_i32_46 : BitVec 32 := 0#32
    let c0_i32_47 : BitVec 32 := 0#32
    let v69 : Memref sig .tc .hbm S1x1408x2816 .i8 := wIn.slice (Rect.unit (s := S32x1408x2816) (k0_off137 v64) S1x1408x2816.size (k0_off137_inb n k0_t5 v64 k0_hw10 k0_h6)) (fun _ => rfl)
    let v70 : Memref sig .tc .hbm S1408x2816 .i8 := v69.squeeze S1408x2816 squeezes_S1x1408x2816_S1408x2816
    Prog.lift (.enqueueDma v70 (.here v68) (.dma v66.sem) ((wIn_whole.wordExact_slice rfl _ (k0_off137_wordsi8 n k0_t5 v64 k0_hw10 k0_h6)).reshape _ _) ((wBuf_whole.wordExact_slice rfl _ (k0_off136_wordsi8 n hn k0_t5 k0_h6)).reshape _ _) ⟨Or.inl rfl, trivial⟩)
    let v71 : DmaSems sig S1 := cc0_scratch10.slice (Rect.unit (s := S3) (k0_off138 n k0_t5) S1.size (k0_off138_inb n hn k0_t5 k0_h6))
    let v72 : DmaSems sig S_ := v71.squeeze S_ squeezes_S1_S_
    let c0_i32_48 : BitVec 32 := 0#32
    let c0_i32_49 : BitVec 32 := 0#32
    let v73 : Memref sig .tc .vmem S1x22x2816 .f32 := sBuf.slice (Rect.unit (s := S3x22x2816) (k0_off139 n k0_t5) S1x22x2816.size (k0_off139_inb n hn k0_t5 k0_h6)) (fun _ => rfl)
    let v74 : Memref sig .tc .vmem S22x2816 .f32 := v73.squeeze S22x2816 squeezes_S1x22x2816_S22x2816
    let c0_i32_50 : BitVec 32 := 0#32
    let c0_i32_51 : BitVec 32 := 0#32
    let v75 : Memref sig .tc .hbm S1x22x2816 .f32 := sIn.slice (Rect.unit (s := S32x22x2816) (k0_off140 v64) S1x22x2816.size (k0_off140_inb n k0_t5 v64 k0_hw10 k0_h6)) (fun _ => rfl)
    let v76 : Memref sig .tc .hbm S22x2816 .f32 := v75.squeeze S22x2816 squeezes_S1x22x2816_S22x2816
    Prog.lift (.enqueueDma v76 (.here v74) (.dma v72.sem) ((View.wordExact_bits rfl).reshape _ _) ((View.wordExact_bits rfl).reshape _ _) ⟨Or.inl rfl, trivial⟩)
    pure ⟨⟩
  else do
    pure ⟨⟩
  let v50 : Index := Scalar.indexCast v29
  let v51 : Elt F .i32 ← smemLoad rTab (Rect.unit (s := S33) (k0_off141 n k0_t5) S1.size (k0_off141_inb n hn k0_t5)) numel1_S1 rfl
  have k0_hw11 : k0_chk11 v51 := (← Prog.lift (TpuEff.assume (k0_chk11 v51) (k0_chk11.dec v51))).down
  let c1_i32_40 : BitVec 32 := 1#32
  let v52 : BitVec 32 := Scalar.addi v29 c1_i32_40
  let v53 : Index := Scalar.indexCast v52
  let v54 : Elt F .i32 ← smemLoad rTab (Rect.unit (s := S33) (k0_off142 n k0_t5) S1.size (k0_off142_inb n hn k0_t5)) numel1_S1 rfl
  have k0_hw12 : k0_chk12 n k0_t5 v51 v54 := (← Prog.lift (TpuEff.assume (k0_chk12 n k0_t5 v51 v54) (k0_chk12.dec n k0_t5 v51 v54))).down
  let c16_i32 : BitVec 32 := 16#32
  let v55 : BitVec 32 := Scalar.remsi v51 c16_i32
  let v56 : BitVec 32 := Scalar.subi v51 v55
  let v57 : BitVec 32 := v56
  let v58 : BitVec 32 := Scalar.subi v54 v57
  let c0_i32_41 : BitVec 32 := 0#32
  let v59 : BitVec 1 := Scalar.cmpi .sgt v58 c0_i32_41
  let v60 : BitVec 32 := Scalar.extui v59
  let c0_i32_42 : BitVec 32 := 0#32
  let v61 : BitVec 1 := Scalar.cmpi .ne v60 c0_i32_42
  let k0_mxu634 : Mxu F ← if k0_h7 : k0_cond7 v51 v54 = 1#1 then do
      let ⟨k0_mxu1259, v1219, c448_i32_488⟩ : Σ' (k0_mxu1259 : Mxu F) (v1219 : FVec F S32x256 .f32), BitVec 32 ← k0_part215 gs hgs xIn xIn_whole wIn wIn_whole sIn sIn_whole yOut yOut_whole xBuf xBuf_whole qBuf qBuf_whole yBuf yBuf_whole wBuf wBuf_whole sBuf sBuf_whole eTab eTab_whole rTab rTab_whole cc0_scratch7 cc0_scratch8 cc0_scratch9 cc0_scratch10 n k0_t5 k0_mxu632 v30 v51 v54 k0_hw12 v55 v57 k0_h7
      let v1220 : BitVec 32 := Scalar.addi v57 c448_i32_488
      have v1221 : FVec F S32x256 .bf16 := truncf .bf16 v1219 bitsLt_bf16_f32
      let v1222 : Index := Scalar.indexCast v1220
      let c2560_489 : Index := 2560#32
      let v1223 : Vec F S32x256 .bf16 ← Prog.lift (.load yBuf (Rect.unit (s := S1024x2816) (k0_off233 v51 448#32) S32x256.size (k0_off233_inb n k0_t5 v51 v54 k0_hw12 k0_h7 14)).toLoadRect (View.loadsAt_vmem h_S32x256))
      have v1224 : FVec F S32x256 .bf16 := shapeCast S32x256 v1223 shapeCasts_S32x256_S32x256
      have v1225 : FVec F S32x256 .bf16 := shapeCast S32x256 v1221 shapeCasts_S32x256_S32x256
      Prog.lift (.store yBuf (Rect.unit (s := S1024x2816) (k0_off233 v51 448#32) S32x256.size (k0_off233_inb n k0_t5 v51 v54 k0_hw12 k0_h7 14)) v1225 Finset.univ (View.stores_vmem h_S32x256 (yBuf_whole.storeExact_slice rfl _ (k0_off233_packedbf16 n k0_t5 v51 v54 k0_hw12 k0_h7 14)) (fun _ => rfl)) (.inl rfl))
      have v1226 : FVec F S32x256 .f32 := k0_mxu1259.read 0 248 fits_248_32
      have k0_mxu1260 : Mxu F := k0_mxu1259.pop 0 248 32 fits_248_32
      have v1227 : FVec F S32x256 .f32 := k0_mxu1260.read 1 248 fits_248_32
      have k0_mxu1261 : Mxu F := k0_mxu1260.pop 1 248 32 fits_248_32
      have v1228 : FVec F S32x256 .f32 := addf v1226 v1227
      let c480_i32_490 : BitVec 32 := 480#32
      let v1229 : BitVec 32 := Scalar.addi v57 c480_i32_490
      have v1230 : FVec F S32x256 .bf16 := truncf .bf16 v1228 bitsLt_bf16_f32
      let v1231 : Index := Scalar.indexCast v1229
      let c2560_491 : Index := 2560#32
      let v1232 : Vec F S32x256 .bf16 ← Prog.lift (.load yBuf (Rect.unit (s := S1024x2816) (k0_off233 v51 480#32) S32x256.size (k0_off233_inb n k0_t5 v51 v54 k0_hw12 k0_h7 15)).toLoadRect (View.loadsAt_vmem h_S32x256))
      have v1233 : FVec F S32x256 .bf16 := shapeCast S32x256 v1232 shapeCasts_S32x256_S32x256
      have v1234 : FVec F S32x256 .bf16 := shapeCast S32x256 v1230 shapeCasts_S32x256_S32x256
      Prog.lift (.store yBuf (Rect.unit (s := S1024x2816) (k0_off233 v51 480#32) S32x256.size (k0_off233_inb n k0_t5 v51 v54 k0_hw12 k0_h7 15)) v1234 Finset.univ (View.stores_vmem h_S32x256 (yBuf_whole.storeExact_slice rfl _ (k0_off233_packedbf16 n k0_t5 v51 v54 k0_hw12 k0_h7 15)) (fun _ => rfl)) (.inl rfl))
      pure k0_mxu1261
    else do
      pure k0_mxu632
  pure k0_mxu634

/-! ## The copy out -/

abbrev yTop : Memref sig .tc .vmem S512x2816 .bf16 := yBuf.slice (Rect.unit (s := S1024x2816) ![0, 0] S512x2816.size inb_S1024x2816_S512x2816_0_0) (fun _ => rfl)

def copyOut (m : Mxu F) : Prg F PUnit :=
  .op (.enqueueDma yTop (.here yOut) (.dma cc0_scratch8.sem) (yBuf_whole.wordExact_slice rfl _ wordsbf16_S1024x2816_S512x2816_0_0) yOut_whole.wordExact ⟨Or.inl rfl, trivial⟩) fun _ =>
  .op (.waitDma2 cc0_scratch8.sem yTop yOut (yBuf_whole.wordExact_slice rfl _ wordsbf16_S1024x2816_S512x2816_0_0) yOut_whole.wordExact) fun _ => do
  m.exit
  pure ⟨⟩

/-- The body up to the loop over the listed experts, and then `K` with their number. -/
def opening {α : Type} (K : (n : BitVec 32) → k0_chk4 n → Prg F α) : Prg F α :=
  .op (.enqueueDma xIn (.here xBuf) (.dma cc0_scratch7.sem) xIn_whole.wordExact xBuf_whole.wordExact ⟨Or.inl rfl, trivial⟩) fun _ => do
  let a ← Scf.Loop.for k0_t1_loop k0_t1_ok ((0#32, 0#32) : BitVec 32 × BitVec 32) fun t a => scanStep gs t a
  let hn : PLift (k0_chk4 a.1) ← Prog.lift (TpuEff.assume (k0_chk4 a.1) (k0_chk4.dec a.1))
  fetch0 a.1 (fetch1 a.1 (do
    Prog.lift (.waitDma2 cc0_scratch7.sem xIn xBuf xIn_whole.wordExact xBuf_whole.wordExact)
    Scf.Loop.for k0_t2_loop k0_t2_ok ⟨⟩ fun t (_ : PUnit) => quantStep t
    zeros
    K a.1 hn.down))

abbrev lastWord (n : BitVec 32) : BitVec 32 :=
  Scalar.subi (Scalar.divsi (Scalar.addi (Scalar.subi n 0#32) (Scalar.subi 1#32 1#32)) 1#32) 0#32

theorem fetch0_bind {α β : Type} (n : BitVec 32) (K : Prg F α) (g : α → Prg F β) : fetch0 n K >>= g = fetch0 n (K >>= g) := by
  unfold fetch0; split <;> simp only [bind_assoc]
theorem fetch1_bind {α β : Type} (n : BitVec 32) (K : Prg F α) (g : α → Prg F β) : fetch1 n K >>= g = fetch1 n (K >>= g) := by
  unfold fetch1; split <;> simp only [bind_assoc]

theorem opening_bind {α β : Type} (K : (n : BitVec 32) → k0_chk4 n → Prg F α) (g : α → Prg F β) :
    opening gs K >>= g = opening gs fun n hn => K n hn >>= g := by
  unfold opening
  rw [Prog.bind_op]
  simp only [bind_assoc, fetch0_bind, fetch1_bind]

set_option maxHeartbeats 4000000 in
theorem opening_printed :
    k0_part216 (F := F) gs hgs xIn xIn_whole wIn wIn_whole sIn sIn_whole yOut yOut_whole xBuf xBuf_whole qBuf qBuf_whole yBuf yBuf_whole
      wBuf wBuf_whole sBuf sBuf_whole eTab eTab_whole rTab rTab_whole cc0_scratch7 cc0_scratch8 cc0_scratch9 cc0_scratch10
      = opening gs fun n hn => pure ⟨Mxu.init, n, hn, 1#32, 0#32, 0#32, lastWord n⟩ := by
  sl_kernel_rfl

/-- The loop over the listed experts and the copy out. -/
def closing (n : BitVec 32) (hn : k0_chk4 n) : Prg F PUnit := do
  let m ← Scf.Loop.for (k0_t3_loop n) (k0_t3_ok n hn) Mxu.init fun t m => turn gs hgs n hn t m
  let m ← Scf.Loop.for (k0_t5_loop n) (k0_t5_ok n hn) m fun t m =>
    restTurn gs hgs n hn (Scalar.addi 0#32 (Scalar.muli (Scalar.divsi (lastWord n) 1#32) 1#32)) 1#32 0#32 1#32 t m
  copyOut m

theorem printed :
    cc0_moe_int4 (F := F) gs hgs xIn xIn_whole wIn wIn_whole sIn sIn_whole yOut yOut_whole xBuf xBuf_whole qBuf qBuf_whole yBuf yBuf_whole
      wBuf wBuf_whole sBuf sBuf_whole eTab eTab_whole rTab rTab_whole cc0_scratch7 cc0_scratch8 cc0_scratch9 cc0_scratch10
      = opening gs (closing gs hgs) := by
  delta cc0_moe_int4
  rw [opening_printed, opening_bind]
  sl_kernel_rfl

end Cert.KernelIdeal.Hand

end
-- ==== Proof.Unit.lean ====
/- What the two matrix units hold while one column of blocks is accumulated: for each unit and each chunk of
   thirty-two rows, either nothing or one 32 by 256 sum. -/
module

public import Idealize.ShloMosaic.Lib.Mxu.Lemmas

@[expose] public section

noncomputable section

namespace Cert.Hand

open Idealize.ShloMosaic Idealize.ShloMosaic.Mxu

variable {F : FTy → Type} [FloatOps F]

/-- A chunk's sum. -/
abbrev Sum (F : FTy → Type) := FVec F (STile 32) .f32

/-- One more pass into a chunk: the first is stored, the later ones are added. -/
def deposited (o : Option (Sum F)) (x : Sum F) : Sum F :=
  match o with
  | none => x
  | some e => addf e x

/-- A list of passes into a chunk, in order. -/
def accum (o : Option (Sum F)) (xs : List (Sum F)) : Option (Sum F) := xs.foldl (fun o x => some (deposited o x)) o

@[simp] theorem accum_nil (o : Option (Sum F)) : accum o [] = o := rfl
@[simp] theorem accum_cons (o : Option (Sum F)) (x : Sum F) (xs : List (Sum F)) :
    accum o (x :: xs) = accum (some (deposited o x)) xs := rfl

/-- The table of sums with one entry replaced. -/
def upd (L : Fin 2 → Fin 16 → Option (Sum F)) (q : Fin 2) (c : Fin 16) (v : Option (Sum F)) : Fin 2 → Fin 16 → Option (Sum F) :=
  fun q' c' => if q' = q ∧ c' = c then v else L q' c'

/-- What an entry says of the unit's rows. -/
def Entry (m : Mxu F) (q : Fin 2) (A : Nat) (h : Fits A 32) : Option (Sum F) → Prop
  | none => ∀ r : Fin 32, m.live q (row h r) = false
  | some v => (∀ r : Fin 32, m.live q (row h r) = true) ∧ m.read q A h = v

/-- The units hold the table `L` of sums, at the addresses from `A`; the staging registers are empty, no other row is live. -/
structure Holds (A : Nat) (m : Mxu F) (L : Fin 2 → Fin 16 → Option (Sum F)) : Prop where
  reg : ∀ q r, m.reg q r = none
  out : ∀ q (R : Fin 1024), m.live q R = true → 4 * A ≤ R.val ∧ R.val < 4 * A + 512
  entry : ∀ q (c : Fin 16) (h : Fits (A + 8 * c) 32), Entry m q (A + 8 * c) h (L q c)

/-- The empty table. -/
def noSums : Fin 2 → Fin 16 → Option (Sum F) := fun _ _ => none

theorem holds_of_drained {m : Mxu F} (h : m.Drained) (A : Nat) : Holds A m noSums where
  reg q r := Option.isNone_iff_eq_none.1 (h.1 q r)
  out q R hl := by rw [h.2] at hl; cases hl
  entry q c hf r := h.2 q _

theorem drained_of_holds {m : Mxu F} {A : Nat} (hA : A = 0 ∨ A = 128) (h : Holds A m noSums) : m.Drained := by
  refine ⟨fun q r => by rw [h.reg]; rfl, fun q R => ?_⟩
  by_contra hne
  rw [Bool.not_eq_false] at hne
  obtain ⟨h1, h2⟩ := h.out q R hne
  have hf : Fits (A + 8 * ((R.val - 4 * A) / 32)) 32 := by unfold Fits; omega
  have := h.entry q ⟨(R.val - 4 * A) / 32, by omega⟩ hf ⟨(R.val - 4 * A) % 32, by omega⟩
  have e : row hf ⟨(R.val - 4 * A) % 32, by omega⟩ = R := Fin.ext (by simp [row]; omega)
  rw [e, hne] at this; cases this

/-- An entry is untouched by what leaves its rows alone. -/
theorem Entry.congr {m m' : Mxu F} {q : Fin 2} {A : Nat} {h : Fits A 32} {o : Option (Sum F)} (he : Entry m q A h o)
    (hl : ∀ r : Fin 32, m'.live q (row h r) = m.live q (row h r)) (hr : m'.read q A h = m.read q A h) : Entry m' q A h o := by
  cases o with
  | none => exact fun r => (hl r).trans (he r)
  | some v => exact ⟨fun r => (hl r).trans (he.1 r), hr.trans he.2⟩

theorem Entry.accBy {m : Mxu F} {q : Fin 2} {A : Nat} {h : Fits A 32} {o : Option (Sum F)} (he : Entry m q A h o)
    (t : Staged F) {φ : FTy} (x : FVec F (STile 32) φ) : Entry (m.accBy q t A x h) q A h (some (deposited o (t.pass x))) := by
  refine ⟨fun r => live_accBy_row _ _ _ _ _ _ _, ?_⟩
  cases o with
  | none => exact read_accBy_of_not_live _ _ _ _ _ _ he
  | some v => rw [read_accBy_of_live _ _ _ _ _ _ he.1, he.2]; rfl

/-- An accumulate into one chunk. -/
theorem Holds.accBy {A : Nat} {m : Mxu F} {L : Fin 2 → Fin 16 → Option (Sum F)} (H : Holds A m L)
    (q : Fin 2) (c : Fin 16) (t : Staged F) {φ : FTy} (x : FVec F (STile 32) φ) (h : Fits (A + 8 * c) 32) :
    Holds A (m.accBy q t (A + 8 * c) x h) (upd L q c (some (deposited (L q c) (t.pass x)))) where
  reg := H.reg
  out q' R hl := by
    rw [live_accBy] at hl
    split at hl
    · rename_i hq; have := c.isLt; omega
    · exact H.out q' R hl
  entry q' c' h' := by
    unfold upd
    split
    · rename_i hq; obtain ⟨rfl, rfl⟩ := hq; exact (H.entry _ _ h).accBy t x
    · rename_i hq
      have hd : q' ≠ q ∨ c'.val ≠ c.val := by
        by_contra hh; push Not at hh; exact hq ⟨hh.1, Fin.ext hh.2⟩
      refine (H.entry q' c' h').congr (fun r => ?_) (read_accBy_ne _ _ _ _ _ _ _ _ _ ?_)
      · rw [live_accBy, if_neg]
        rintro ⟨rfl, h1, h2⟩
        have := r.isLt
        simp only [row] at h1 h2
        rcases hd with hd | hd
        · exact hd rfl
        · omega
      · rcases hd with hd | hd
        · exact .inl hd
        · right; omega

/-- A push of a tile and the accumulate that loads it. -/
theorem Holds.pushAcc {A : Nat} {m : Mxu F} {L : Fin 2 → Fin 16 → Option (Sum F)} (H : Holds A m L)
    (q r : Fin 2) (c : Fin 16) {φ ψ : FTy} (w : FVec F (STile 256) ψ) (x : FVec F (STile 32) φ) (h : Fits (A + 8 * c) 32) :
    Holds A ((m.pushed q r false w).accLhs q r (A + 8 * c) x h)
        (upd L q c (some (deposited (L q c) ((⟨ψ, false, w⟩ : Staged F).pass x))))
      ∧ ((m.pushed q r false w).accLhs q r (A + 8 * c) x h).gmr q = some ⟨ψ, false, w⟩ := by
  have hst : (m.pushed q r false w).staged q r = ⟨ψ, false, w⟩ := by
    rw [staged_eq, reg_pushed_of_none _ _ _ _ _ (H.reg q r)]; rfl
  have hp : Holds A (m.accBy q ⟨ψ, false, w⟩ (A + 8 * c) x h) _ := H.accBy q c ⟨ψ, false, w⟩ x h
  refine ⟨⟨fun q' r' => ?_, fun q' R hl => hp.out q' R ?_, fun q' c' h' => (hp.entry q' c' h').congr (fun r' => ?_) ?_⟩, ?_⟩
  · by_cases hq : q' = q ∧ r' = r
    · obtain ⟨rfl, rfl⟩ := hq; exact reg_accLhs _ _ _ _ _ _
    · rw [reg_accLhs_ne _ _ _ _ _ _ _ _ hq, reg_pushed_ne _ _ _ _ _ _ _ hq]; exact H.reg q' r'
  · rw [live_accLhs, live_pushed] at hl; rw [live_accBy]; exact hl
  · rw [live_accLhs, live_pushed, live_accBy]
  · rw [read_accLhs_eq_accBy, hst]
    unfold Mxu.read Mxu.accBy
    simp only [acc_pushed, live_pushed]
  · rw [gmr_accLhs, hst]

/-- A pop of one chunk. -/
theorem Holds.pop {A : Nat} {m : Mxu F} {L : Fin 2 → Fin 16 → Option (Sum F)} (H : Holds A m L)
    (q : Fin 2) (c : Fin 16) (h : Fits (A + 8 * c) 32) : Holds A (m.pop q (A + 8 * c) 32 h) (upd L q c none) where
  reg := H.reg
  out q' R hl := by
    rw [live_pop] at hl
    split at hl
    · cases hl
    · exact H.out q' R hl
  entry q' c' h' := by
    unfold upd
    split
    · rename_i hq; obtain ⟨rfl, rfl⟩ := hq; exact fun r => live_pop_row _ _ _ _ _
    · rename_i hq
      have hd : q' ≠ q ∨ c'.val ≠ c.val := by
        by_contra hh; push Not at hh; exact hq ⟨hh.1, Fin.ext hh.2⟩
      refine (H.entry q' c' h').congr (fun r => ?_) (read_pop_ne _ _ _ _ _ _ _ ?_)
      · rw [live_pop, if_neg]
        rintro ⟨rfl, h1, h2⟩
        have := r.isLt
        simp only [row] at h1 h2
        rcases hd with hd | hd
        · exact hd rfl
        · omega
      · rcases hd with hd | hd
        · exact .inl hd
        · right; omega

/-- A read of a chunk that holds a sum. -/
theorem Holds.read {A : Nat} {m : Mxu F} {L : Fin 2 → Fin 16 → Option (Sum F)} (H : Holds A m L)
    (q : Fin 2) (c : Fin 16) (h : Fits (A + 8 * c) 32) {v : Sum F} (e : L q c = some v) : m.read q (A + 8 * c) h = v := by
  have := H.entry q c h; rw [e] at this; exact this.2

end Cert.Hand
-- ==== Proof.Rules.lean ====
/- What each piece of an expert's share does to the state of the matrix units, as a pure function, and that the piece
   runs to it: the weights, scales and activations are only read. -/
module

public import proofs.«01_k».proof.Proof.Expert
public import proofs.«01_k».proof.Proof.Unit
public import proofs.«01_k».proof.Proof.Gen.KernelIdeal.Frame
public import Idealize.ShloMosaic.Lib.Transfers
public import Idealize.ShloMosaic.Lib.Pipeline.Routed
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

variable {F : FTy → Type} [FloatOps F]
variable [Facts]
open Facts₀ Facts

local notation "𝕄" => MT nD τ sig Unit (Elt F) ℕ (UC sig nD τ) ℕ

variable (b : Bufs) (p : At) (hp : p.Ok)

/-! ## The rectangles -/

abbrev At.Ok.rW {p : At} (hp : p.Ok) (k : Fin 11) (col : Nat) (hc : col ≤ 2560) : Rect S3x1408x2816 :=
  Rect.unit (s := S3x1408x2816) (offW p.slot k col) S1x128x256.size (hp.inbW k col k.2 hc)
abbrev At.Ok.rS0 {p : At} (hp : p.Ok) (k : Fin 11) (col : Nat) (hc : col ≤ 2560) : Rect S3x22x2816 :=
  Rect.unit (s := S3x22x2816) (offS p.slot (2 * k) col) S1x1x256.size (hp.inbS (2 * k) col (by omega) hc)
abbrev At.Ok.rS1 {p : At} (hp : p.Ok) (k : Fin 11) (col : Nat) (hc : col ≤ 2560) : Rect S3x22x2816 :=
  Rect.unit (s := S3x22x2816) (offS p.slot (2 * k + 1) col) S1x1x256.size (hp.inbS (2 * k + 1) col (by omega) hc)
abbrev At.Ok.rX {p : At} (hp : p.Ok) (c : Fin 16) (k : Fin 11) : Rect S1024x2816 :=
  Rect.unit (s := S1024x2816) (offX p c k) S32x256.size (hp.inbX c k c.2 k.2)
abbrev At.Ok.rY0 {p : At} (hp : p.Ok) (col : Nat) (hc : col ≤ 2560) : Rect S1024x2816 :=
  Rect.unit (s := S1024x2816) (offY p 0 col) S16x256.size (hp.inbY0 col hc)
abbrev At.Ok.rY16 {p : At} (hp : p.Ok) (col : Nat) (hc : col ≤ 2560) : Rect S1024x2816 :=
  Rect.unit (s := S1024x2816) (offY16 p col) S16x256.size (hp.inbY16 col hc)
abbrev At.Ok.rY {p : At} (hp : p.Ok) (c : Fin 16) (col : Nat) (hc : col ≤ 2560) : Rect S1024x2816 :=
  Rect.unit (s := S1024x2816) (offY p c col) S32x256.size (hp.inbY c col c.2 hc)

/-! ## The values read -/

/-- The contents of the three buffers that are only read. -/
structure Input (F : FTy → Type) [FloatOps F] where
  w : Vec F S3x1408x2816 .i8
  s : Vec F S3x22x2816 .f32
  x : Vec F S1024x2816 .bf16

variable (I : Input F)

/-- A weight tile. -/
def tileAt (k : Fin 11) (col : Nat) (hc : col ≤ 2560) : FVec F S256x256 .bf16 :=
  weightTile (View.ld I.w (hp.rW k col hc)) (View.ld I.s (hp.rS0 k col hc)) (View.ld I.s (hp.rS1 k col hc))

/-- A block of activations. -/
def rowsAt (c : Fin 16) (k : Fin 11) : FVec F S32x256 .bf16 := View.ld I.x (hp.rX c k)

/-! ## The pieces as functions -/

def feedM (q : Fin 2) (A : Nat) (hA : A = 0 ∨ A = 128) (k : Fin 11) (t : Mxu.Staged F) : List (Fin 16) → Mxu F → Mxu F
  | [], m => m
  | c :: cs, m => feedM q A hA k t cs (m.accBy q t (A + 8 * c) (rowsAt p hp I c k) (fits A c hA c.2))

def accumulateM (q r : Fin 2) (A : Nat) (hA : A = 0 ∨ A = 128) (k : Fin 11) (col : Nat) (hc : col ≤ 2560) (m : Mxu F) : Mxu F :=
  feedM p hp I q A hA k ⟨.bf16, false, tileAt p hp I k col hc⟩ laterChunks
    ((m.pushed q r false (tileAt p hp I k col hc)).accLhs q r (A + 8 * 0) (rowsAt p hp I 0 k) (fits A 0 hA (by decide)))

def pairLoopM (c0 c1 : Nat) (h0 : c0 ≤ 2560) (h1 : c1 ≤ 2560) : List (Fin 11) → Mxu F → Mxu F
  | [], m => m
  | k :: ks, m => pairLoopM c0 c1 h0 h1 ks
      (accumulateM p hp I 1 (Fin.ofNat 2 k) 0 (.inl rfl) k c1 h1 (accumulateM p hp I 0 (Fin.ofNat 2 k) 0 (.inl rfl) k c0 h0 m))

def lastLoopM : List (Fin 11) → Mxu F → Mxu F
  | [], m => m
  | k :: ks, m => lastLoopM ks (accumulateM p hp I (Fin.ofNat 2 k) (Fin.ofNat 2 (k / 2)) 128 (.inr rfl) k 2560 le_rfl m)

/-! ## What a piece leaves in the table of sums -/

variable {L : Fin 2 → Fin 16 → Option (Cert.Hand.Sum F)} {m : Mxu F}

/-- One pass of a chunk against a weight tile. -/
def passAt (c : Fin 16) (k : Fin 11) (col : Nat) (hc : col ≤ 2560) : Cert.Hand.Sum F :=
  (⟨.bf16, false, tileAt p hp I k col hc⟩ : Mxu.Staged F).pass (rowsAt p hp I c k)

/-- The table after every chunk of one unit took a pass. -/
def bumped (q : Fin 2) (k : Fin 11) (col : Nat) (hc : col ≤ 2560) (L : Fin 2 → Fin 16 → Option (Cert.Hand.Sum F)) :
    Fin 2 → Fin 16 → Option (Cert.Hand.Sum F) :=
  fun q' c => if q' = q then some (deposited (L q' c) (passAt p hp I c k col hc)) else L q' c

/-- The passes into chunks `cs` of one unit. -/
def fedL (q : Fin 2) (g : Fin 16 → Cert.Hand.Sum F) : List (Fin 16) → (Fin 2 → Fin 16 → Option (Cert.Hand.Sum F)) →
    (Fin 2 → Fin 16 → Option (Cert.Hand.Sum F))
  | [], L => L
  | c :: cs, L => fedL q g cs (upd L q c (some (deposited (L q c) (g c))))

theorem fedL_apply (q : Fin 2) (g : Fin 16 → Cert.Hand.Sum F) (cs : List (Fin 16)) (hn : cs.Nodup)
    (L : Fin 2 → Fin 16 → Option (Cert.Hand.Sum F)) (q' : Fin 2) (c : Fin 16) :
    fedL q g cs L q' c = if q' = q ∧ c ∈ cs then some (deposited (L q' c) (g c)) else L q' c := by
  induction cs generalizing L with
  | nil => simp [fedL]
  | cons d cs ih =>
    have hd := (List.nodup_cons.1 hn).1
    rw [fedL, ih (List.nodup_cons.1 hn).2]
    by_cases hq : q' = q
    · subst hq
      by_cases hc : c ∈ cs
      · have : c ≠ d := fun e => hd (e ▸ hc)
        simp [hc, upd, this]
      · by_cases hcd : c = d
        · subst hcd; simp [hc, upd]
        · simp [hc, upd, hcd]
    · simp [hq, upd]

theorem holds_feedM {A : Nat} (H : Holds A m L) (q : Fin 2) (hA : A = 0 ∨ A = 128) (k : Fin 11) (t : Mxu.Staged F) (cs : List (Fin 16)) :
    Holds A (feedM p hp I q A hA k t cs m) (fedL q (fun c => t.pass (rowsAt p hp I c k)) cs L) := by
  induction cs generalizing m L with
  | nil => exact H
  | cons c cs ih => exact ih (H.accBy q c t _ _)

theorem holds_accumulateM {A : Nat} (H : Holds A m L) (q r : Fin 2) (hA : A = 0 ∨ A = 128) (k : Fin 11) (col : Nat) (hc : col ≤ 2560) :
    Holds A (accumulateM p hp I q r A hA k col hc m) (bumped p hp I q k col hc L) := by
  have h := holds_feedM p hp I (H.pushAcc q r 0 (tileAt p hp I k col hc) (rowsAt p hp I 0 k) (fits A 0 hA (by decide))).1
    q hA k ⟨.bf16, false, tileAt p hp I k col hc⟩ laterChunks
  have e : fedL q (fun c => (⟨.bf16, false, tileAt p hp I k col hc⟩ : Mxu.Staged F).pass (rowsAt p hp I c k)) laterChunks
      (upd L q 0 (some (deposited (L q 0) ((⟨.bf16, false, tileAt p hp I k col hc⟩ : Mxu.Staged F).pass (rowsAt p hp I 0 k)))))
      = bumped p hp I q k col hc L := by
    funext q' c
    rw [fedL_apply _ _ _ (by decide)]
    unfold bumped upd passAt
    by_cases hq : q' = q
    · subst hq
      by_cases h0 : c = 0
      · subst h0
        rw [if_neg (by rintro ⟨-, h⟩; revert h; decide), if_pos ⟨rfl, rfl⟩, if_pos rfl]
      · have : c ∈ laterChunks := by revert h0; revert c; decide
        rw [if_pos ⟨rfl, this⟩, if_neg (fun h => h0 h.2), if_pos rfl]
    · rw [if_neg (fun h => hq h.1), if_neg (fun h => hq h.1), if_neg hq]
  rw [e] at h; exact h

/-- The sums after the contraction tiles `ks`, unit 0 on columns from `c0`, unit 1 on columns from `c1`. -/
theorem holds_pairLoopM (c0 c1 : Nat) (h0 : c0 ≤ 2560) (h1 : c1 ≤ 2560) (ks : List (Fin 11)) (H : Holds 0 m L) :
    Holds 0 (pairLoopM p hp I c0 c1 h0 h1 ks m) (fun q c =>
      if q = 0 then accum (L q c) (ks.map fun k => passAt p hp I c k c0 h0) else accum (L q c) (ks.map fun k => passAt p hp I c k c1 h1)) := by
  induction ks generalizing m L with
  | nil => simpa [pairLoopM] using H
  | cons k ks ih =>
    have := ih (holds_accumulateM p hp I (holds_accumulateM p hp I H 0 (Fin.ofNat 2 k) (.inl rfl) k c0 h0) 1 (Fin.ofNat 2 k) (.inl rfl) k c1 h1)
    rw [pairLoopM]
    convert this using 1
    funext q c
    fin_cases q <;> simp [bumped]

/-- The sums after the contraction tiles `ks` of the last column block: each unit has its parity's tiles. -/
theorem holds_lastLoopM (ks : List (Fin 11)) (H : Holds 128 m L) :
    Holds 128 (lastLoopM p hp I ks m) (fun q c =>
      accum (L q c) ((ks.filter fun k => Fin.ofNat 2 k.val = q).map fun k => passAt p hp I c k 2560 le_rfl)) := by
  induction ks generalizing m L with
  | nil => simpa [lastLoopM] using H
  | cons k ks ih =>
    have := ih (holds_accumulateM p hp I H (Fin.ofNat 2 k) (Fin.ofNat 2 (k / 2)) (.inr rfl) k 2560 le_rfl)
    rw [lastLoopM]
    convert this using 1
    funext q c
    by_cases hq : Fin.ofNat 2 k.val = q
    · subst hq; simp [bumped]
    · rw [List.filter_cons_of_neg (by simpa using hq)]
      simp only [bumped, if_neg (Ne.symm hq)]

/-! ## The pieces run -/

variable (c : Dev nD) (E : Set ℕ) {α : Type} (Q : α → sProp (MT nD τ sig Unit (Elt F) ℕ (UC sig nD τ) ℕ))

/-- The three read-only buffers: of the weights' and scales' rings only the elements `Sw` and `Ss`. -/
def reads (Sw : Finset (Idx (b.w.view.loc (c : Thread nD τ)))) (Ss : Finset (Idx (b.s.view.loc (c : Thread nD τ))))
    (fw : Buf (Elt F) (b.w.view.loc (c : Thread nD τ))) (fs : Buf (Elt F) (b.s.view.loc (c : Thread nD τ)))
    (fx : Buf (Elt F) (b.xs.view.loc (c : Thread nD τ))) : sProp 𝕄 :=
  iprop((b.w.view.loc (c : Thread nD τ) ↦[Sw]{fullShare} fw) ∗ (b.s.view.loc (c : Thread nD τ) ↦[Ss]{fullShare} fs)
    ∗ (b.xs.view.loc (c : Thread nD τ) ↦{fullShare} fx))

/-- The slot's elements are among those held. -/
structure Covers (Sw : Finset (Idx (b.w.view.loc (c : Thread nD τ)))) (Ss : Finset (Idx (b.s.view.loc (c : Thread nD τ)))) : Prop where
  w : ∀ k col hc, (b.w.access (hp.rW k col hc)).set ⊆ Sw
  s0 : ∀ k col hc, (b.s.access (hp.rS0 k col hc)).set ⊆ Ss
  s1 : ∀ k col hc, (b.s.access (hp.rS1 k col hc)).set ⊆ Ss

/-- What the three buffers read as. -/
abbrev inputOf (fw : Buf (Elt F) (b.w.view.loc (c : Thread nD τ))) (fs : Buf (Elt F) (b.s.view.loc (c : Thread nD τ)))
    (fx : Buf (Elt F) (b.xs.view.loc (c : Thread nD τ))) : Input F :=
  ⟨b.w.view.read (Elt F) fw, b.s.view.read (Elt F) fs, b.xs.view.read (Elt F) fx⟩

variable {Sw : Finset (Idx (b.w.view.loc (c : Thread nD τ)))} {Ss : Finset (Idx (b.s.view.loc (c : Thread nD τ)))}
  {fw : Buf (Elt F) (b.w.view.loc (c : Thread nD τ))} {fs : Buf (Elt F) (b.s.view.loc (c : Thread nD τ))}
  {fx : Buf (Elt F) (b.xs.view.loc (c : Thread nD τ))} (hS : Covers b p hp c Sw Ss)
include hS

theorem wp_readWeights (k : Fin 11) (col : Nat) (hc : col ≤ 2560) (K : FVec F S256x256 .bf16 → Prg F α) :
    reads b c Sw Ss fw fs fx
      ⊢ iprop((reads b c Sw Ss fw fs fx -∗ wp frame (wpE (defs₀ (F := F)) Variants.none c none) E (K (tileAt p hp (inputOf b c fw fs fx) k col hc)) Q)
        -∗ wp frame (wpE (defs₀ (F := F)) Variants.none c none) E (readWeights b p hp k col hc >>= K) Q) := by
  unfold readWeights reads
  simp only [Prog.lift, Prog.bind_op, Prog.bind_ret, Prog.pure_eq_ret]
  iintro ⟨Hw, Hs, Hx⟩ HK
  iapply (wp_load_rect (c := (c : Thread nD τ)) Variants.none none E (hS.w k col hc)) $$ Hw
  iintro Hw
  iapply (wp_load_rect (c := (c : Thread nD τ)) Variants.none none E (hS.s0 k col hc)) $$ Hs
  iintro Hs
  iapply (wp_load_rect (c := (c : Thread nD τ)) Variants.none none E (hS.s1 k col hc)) $$ Hs
  iintro Hs
  iapply HK
  isplitl [Hw]; · iexact Hw
  isplitl [Hs]; · iexact Hs
  iexact Hx

theorem wp_readRows (ch : Fin 16) (k : Fin 11) (K : Vec F S32x256 .bf16 → Prg F α) :
    reads b c Sw Ss fw fs fx
      ⊢ iprop((reads b c Sw Ss fw fs fx -∗ wp frame (wpE (defs₀ (F := F)) Variants.none c none) E (K (rowsAt p hp (inputOf b c fw fs fx) ch k)) Q)
        -∗ wp frame (wpE (defs₀ (F := F)) Variants.none c none) E (readRows b p hp ch k >>= K) Q) := by
  unfold readRows reads
  simp only [Prog.lift, Prog.bind_op, Prog.bind_ret, Prog.pure_eq_ret]
  iintro ⟨Hw, Hs, Hx⟩ HK
  iapply (wp_load_rect (c := (c : Thread nD τ)) Variants.none none E (m := b.xs) (r := hp.rX ch k) (Finset.subset_univ _)) $$ Hx
  iintro Hx
  iapply HK
  isplitl [Hw]; · iexact Hw
  isplitl [Hs]; · iexact Hs
  iexact Hx

theorem wp_feed (q : Fin 2) (A : Nat) (hA : A = 0 ∨ A = 128) (k : Fin 11) (t : Mxu.Staged F) (cs : List (Fin 16)) (m : Mxu F)
    (ht : m.gmr q = some t) (K : Mxu F → Prg F α) :
    reads b c Sw Ss fw fs fx
      ⊢ iprop((reads b c Sw Ss fw fs fx -∗ wp frame (wpE (defs₀ (F := F)) Variants.none c none) E
            (K (feedM p hp (inputOf b c fw fs fx) q A hA k t cs m)) Q)
        -∗ wp frame (wpE (defs₀ (F := F)) Variants.none c none) E (feed b p hp q A hA k cs m >>= K) Q) := by
  induction cs generalizing m with
  | nil =>
    simp only [feed, feedM, Prog.pure_eq_ret, Prog.bind_ret]
    iintro H HK
    iapply HK
    iexact H
  | cons d cs ih =>
    rw [feed, feedM, bind_assoc]
    iintro H HK
    iapply (wp_readRows b p hp c E Q hS d k _) $$ H
    iintro H
    rw [bind_assoc]
    iapply (Mxu.wp_accLhsLoaded (c := (c : Thread nD τ)) (𝒱 := Variants.none) (bd := none) _ (fits A d hA d.2) ht)
    iapply (ih (m.accBy q t (A + 8 * d) (rowsAt p hp (inputOf b c fw fs fx) d k) (fits A d hA d.2)) ht) $$ H
    iexact HK

theorem wp_accumulate (q r : Fin 2) (A : Nat) (hA : A = 0 ∨ A = 128) (k : Fin 11) (col : Nat) (hc : col ≤ 2560) (m : Mxu F)
    {L : Fin 2 → Fin 16 → Option (Cert.Hand.Sum F)} (H : Holds A m L) (K : Mxu F → Prg F α) :
    reads b c Sw Ss fw fs fx
      ⊢ iprop((reads b c Sw Ss fw fs fx -∗ wp frame (wpE (defs₀ (F := F)) Variants.none c none) E
            (K (accumulateM p hp (inputOf b c fw fs fx) q r A hA k col hc m)) Q)
        -∗ wp frame (wpE (defs₀ (F := F)) Variants.none c none) E (accumulate b p hp q r A hA k col hc m >>= K) Q) := by
  unfold accumulate accumulateM
  rw [bind_assoc]
  iintro H HK
  iapply (wp_readWeights b p hp c E Q hS k col hc _) $$ H
  iintro H
  rw [bind_assoc]
  iapply (Mxu.wp_pushRhs (c := (c : Thread nD τ)) (𝒱 := Variants.none) (bd := none) _ (Mxu.pushOk_of_none _ _ _ _ (H.reg q r)))
  rw [bind_assoc]
  iapply (wp_readRows b p hp c E Q hS 0 k _) $$ H
  iintro H
  iapply (wp_feed b p hp c E Q hS q A hA k _ laterChunks _ (H.pushAcc q r 0 _ _ (fits A 0 hA (by decide))).2 K) $$ H
  iexact HK

theorem wp_pairLoop (c0 c1 : Nat) (h0 : c0 ≤ 2560) (h1 : c1 ≤ 2560) (ks : List (Fin 11)) (m : Mxu F)
    {L : Fin 2 → Fin 16 → Option (Cert.Hand.Sum F)} (H : Holds 0 m L) (K : Mxu F → Prg F α) :
    reads b c Sw Ss fw fs fx
      ⊢ iprop((reads b c Sw Ss fw fs fx -∗ wp frame (wpE (defs₀ (F := F)) Variants.none c none) E
            (K (pairLoopM p hp (inputOf b c fw fs fx) c0 c1 h0 h1 ks m)) Q)
        -∗ wp frame (wpE (defs₀ (F := F)) Variants.none c none) E (pairLoop b p hp c0 c1 h0 h1 ks m >>= K) Q) := by
  induction ks generalizing m L with
  | nil =>
    simp only [pairLoop, pairLoopM, Prog.pure_eq_ret, Prog.bind_ret]
    iintro H HK
    iapply HK
    iexact H
  | cons k ks ih =>
    rw [pairLoop, pairLoopM, bind_assoc]
    have H1 := holds_accumulateM p hp (inputOf b c fw fs fx) H 0 (Fin.ofNat 2 k) (.inl rfl) k c0 h0
    have H2 := holds_accumulateM p hp (inputOf b c fw fs fx) H1 1 (Fin.ofNat 2 k) (.inl rfl) k c1 h1
    iintro HR HK
    iapply (wp_accumulate b p hp c E Q hS 0 (Fin.ofNat 2 k) 0 (.inl rfl) k c0 h0 m H _) $$ HR
    iintro HR
    rw [bind_assoc]
    iapply (wp_accumulate b p hp c E Q hS 1 (Fin.ofNat 2 k) 0 (.inl rfl) k c1 h1 _ H1 _) $$ HR
    iintro HR
    iapply (ih _ H2) $$ HR
    iexact HK

theorem wp_lastLoop (ks : List (Fin 11)) (m : Mxu F)
    {L : Fin 2 → Fin 16 → Option (Cert.Hand.Sum F)} (H : Holds 128 m L) (K : Mxu F → Prg F α) :
    reads b c Sw Ss fw fs fx
      ⊢ iprop((reads b c Sw Ss fw fs fx -∗ wp frame (wpE (defs₀ (F := F)) Variants.none c none) E
            (K (lastLoopM p hp (inputOf b c fw fs fx) ks m)) Q)
        -∗ wp frame (wpE (defs₀ (F := F)) Variants.none c none) E (lastLoop b p hp ks m >>= K) Q) := by
  induction ks generalizing m L with
  | nil =>
    simp only [lastLoop, lastLoopM, Prog.pure_eq_ret, Prog.bind_ret]
    iintro H HK
    iapply HK
    iexact H
  | cons k ks ih =>
    rw [lastLoop, lastLoopM, bind_assoc]
    have H1 := holds_accumulateM p hp (inputOf b c fw fs fx) H (Fin.ofNat 2 k) (Fin.ofNat 2 (k / 2)) (.inr rfl) k 2560 le_rfl
    iintro HR HK
    iapply (wp_accumulate b p hp c E Q hS (Fin.ofNat 2 k) (Fin.ofNat 2 (k / 2)) 128 (.inr rfl) k 2560 le_rfl m H _) $$ HR
    iintro HR
    iapply (ih _ H1) $$ HR
    iexact HK

end Cert.KernelIdeal.Hand
-- ==== Proof.Tables.lean ====
/- The two tables in scalar memory (the listed experts and where their rows start) and the group sizes, held as functions
   of a position: reading a word, writing one. -/
module

public import proofs.«01_k».proof.Proof.Stages
public import proofs.«01_k».proof.Proof.Rules
public import Idealize.ShloMosaic.Lib.WritesUnit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

variable {F : FTy → Type} [FloatOps F]
variable [Facts]
open Facts₀ Facts

local notation "𝕄" => MT nD τ sig Unit (Elt F) ℕ (UC sig nD τ) ℕ

/-- A table holding `T` at its positions. -/
def holdsT (m : Memref sig .tc .smem S33 .i32) (c : Dev nD) (T : ℕ → BitVec 32) : sProp (MT nD τ sig Unit (Elt F) ℕ (UC sig nD τ) ℕ) :=
  iprop(∃ f : Buf (Elt F) (m.view.loc (c : Thread nD τ)), ⌜∀ x : S33.Idx, m.view.read (Elt F) f x = T (x 0).val⌝ ∗ (m.view.loc (c : Thread nD τ) ↦{fullShare} f))

theorem emb33 (o : Fin 1 → Nat) (h : ∀ a, o a + S1.size a ≤ S33.size a) (x : S1.Idx) (i : ℕ) (ho : o = ![i]) :
    (((Rect.unit (s := S33) o S1.size h).emb x) 0).val = i := by
  subst ho
  have : (x 0).val < 1 := (x 0).isLt
  show i + 1 * (x 0).val = i
  omega

variable {α : Type} (c : Dev nD) (Q : α → sProp (MT nD τ sig Unit (Elt F) ℕ (UC sig nD τ) ℕ))

/-- Read word `i` of a table. -/
theorem wp_look (E : Set ℕ) {m : Memref sig .tc .smem S33 .i32} {o : Fin 1 → Nat} {h : ∀ a, o a + S1.size a ≤ S33.size a} (i : ℕ) (ho : o = ![i]) (T : ℕ → BitVec 32)
    (K : Elt F .i32 → Prg F α) :
    holdsT (F := F) m c T ⊢ iprop((holdsT (F := F) m c T -∗ wp frame (wpE (defs₀ (F := F)) Variants.none (c : Thread nD τ) none) E (K (T i)) Q)
      -∗ wp frame (wpE (defs₀ (F := F)) Variants.none (c : Thread nD τ) none) E (look m o h >>= K) Q) := by
  unfold look smemLoad smemLoadElt holdsT
  simp only [Prog.bind_op, Prog.bind_ret]
  iintro ⟨%f, %hf, Hm⟩ HK
  iapply (wp_load_rect (c := (c : Thread nD τ)) Variants.none none E (m := m) (r := Rect.unit (s := S33) o S1.size h) (Finset.subset_univ _)) $$ Hm
  iintro Hm
  have hv : (m.access (Rect.unit (s := S33) o S1.size h)).read (Elt F) f (Shape.Idx.first (numel1_S1.symm ▸ Nat.one_pos)) = T i :=
    (hf ((Rect.unit (s := S33) o S1.size h).emb (Shape.Idx.first (numel1_S1.symm ▸ Nat.one_pos)))).trans (congrArg T (emb33 o h _ i ho))
  rw [hv]
  iapply HK
  iexists f
  isplitr
  · ipureintro; exact hf
  iexact Hm

/-- Write word `i` of a table. -/
theorem wp_put (E : Set ℕ) {m : Memref sig .tc .smem S33 .i32} {o : Fin 1 → Nat} {h : ∀ a, o a + S1.size a ≤ S33.size a} (i : ℕ) (ho : o = ![i]) (T : ℕ → BitVec 32)
    (v : BitVec 32) (K : PUnit → Prg F α) :
    holdsT (F := F) m c T ⊢ iprop((holdsT (F := F) m c (Function.update T i v) -∗ wp frame (wpE (defs₀ (F := F)) Variants.none (c : Thread nD τ) none) E (K ⟨⟩) Q)
      -∗ wp frame (wpE (defs₀ (F := F)) Variants.none (c : Thread nD τ) none) E (put m o h v >>= K) Q) := by
  unfold put holdsT
  simp only [Prog.lift, Prog.bind_op, Prog.bind_ret]
  iintro ⟨%f, %hf, Hm⟩ HK
  iapply (wp_store_writes₀ (c := (c : Thread nD τ)) Variants.none none E (m := m) (r := Rect.unit (s := S33) o S1.size h) (Finset.subset_univ _)) $$ Hm
  iintro Hm
  iapply HK
  iexists _
  isplitr
  swap
  · iexact Hm
  ipureintro
  intro x
  subst ho
  rw [View.read_writes_cons_unit _ _ _ _ _ _ rfl]
  by_cases hx : (x 0).val = i
  · rw [dif_pos, hx, Function.update_self]
    intro a
    obtain rfl : a = 0 := Subsingleton.elim _ _
    show i ≤ (x 0).val ∧ (x 0).val < i + 1
    omega
  · rw [dif_neg, Function.update_of_ne hx]
    · exact hf x
    intro h
    have := h 0
    change i ≤ (x 0).val ∧ (x 0).val < i + 1 at this
    omega

/-- The group sizes, `G i` at expert `i`. -/
def holdsG (m : Memref sig .tc .smem S32 .i32) (c : Dev nD) (f : Buf (Elt F) (m.view.loc (c : Thread nD τ))) : sProp (MT nD τ sig Unit (Elt F) ℕ (UC sig nD τ) ℕ) :=
  iprop(m.view.loc (c : Thread nD τ) ↦{fullShare} f)

/-- Read the size of group `i`. -/
theorem wp_size (E : Set ℕ) {m : Memref sig .tc .smem S32 .i32} {o : Fin 1 → Nat} {h : ∀ a, o a + S1.size a ≤ S32.size a} (i : ℕ) (ho : o = ![i])
    (f : Buf (Elt F) (m.view.loc (c : Thread nD τ))) (G : ℕ → BitVec 32) (hG : ∀ x : S32.Idx, m.view.read (Elt F) f x = G (x 0).val) (K : Elt F .i32 → Prg F α) :
    holdsG m c f ⊢ iprop((holdsG m c f -∗ wp frame (wpE (defs₀ (F := F)) Variants.none (c : Thread nD τ) none) E (K (G i)) Q)
      -∗ wp frame (wpE (defs₀ (F := F)) Variants.none (c : Thread nD τ) none) E (smemLoad m (Rect.unit (s := S32) o S1.size h) numel1_S1 rfl >>= K) Q) := by
  unfold smemLoad smemLoadElt holdsG
  simp only [Prog.bind_op, Prog.bind_ret]
  iintro Hm HK
  iapply (wp_load_rect (c := (c : Thread nD τ)) Variants.none none E (m := m) (r := Rect.unit (s := S32) o S1.size h) (Finset.subset_univ _)) $$ Hm
  iintro Hm
  have he : (((Rect.unit (s := S32) o S1.size h).emb (Shape.Idx.first (numel1_S1.symm ▸ Nat.one_pos) : S1.Idx)) 0).val = i := by
    subst ho
    have : ((Shape.Idx.first (numel1_S1.symm ▸ Nat.one_pos) : S1.Idx) 0).val < 1 := Fin.isLt _
    show i + 1 * ((Shape.Idx.first (numel1_S1.symm ▸ Nat.one_pos) : S1.Idx) 0).val = i
    omega
  have hv : (m.access (Rect.unit (s := S32) o S1.size h)).read (Elt F) f (Shape.Idx.first (numel1_S1.symm ▸ Nat.one_pos)) = G i :=
    (hG ((Rect.unit (s := S32) o S1.size h).emb (Shape.Idx.first (numel1_S1.symm ▸ Nat.one_pos)))).trans (congrArg G he)
  rw [hv]
  iapply HK
  iexact Hm

end Cert.KernelIdeal.Hand

end
-- ==== Proof.Store.lean ====
/- What an expert's share writes: each chunk of rows of a column block, the first chunk keeping the rows that belong to
   the expert before. -/
module

public import proofs.«01_k».proof.Proof.Rules
public import Idealize.ShloMosaic.Lib.WritesUnit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

variable {F : FTy → Type} [FloatOps F]
variable [Facts]
open Facts₀ Facts

/-! ## The words as numbers -/

/-- The ranges of a place's words. -/
structure At.Is (p : At) : Prop where
  slot : p.slot.toNat < 3
  row0 : p.row0.toNat ≤ 512
  row16 : p.row0.toNat % 16 = 0
  skip : p.skip.toNat < 16

theorem At.Is.rowW {p : At} (h : p.Is) {c : Nat} (hc : c < 16) : (Scalar.indexCast (p.rowW c) : Index).toNat = p.row0.toNat + 32 * c := by
  have := h.row0
  show (p.row0 + BitVec.ofNat 32 (32 * c)).toNat = _
  rw [BitVec.toNat_add, BitVec.toNat_ofNat]; omega

theorem At.Is.rowW16 {p : At} (h : p.Is) : (Scalar.indexCast (Scalar.addi (p.rowW 0) 16#32) : Index).toNat = p.row0.toNat + 16 := by
  have := h.row0
  show (p.row0 + BitVec.ofNat 32 (32 * 0) + 16#32).toNat = _
  simp only [BitVec.toNat_add, BitVec.toNat_ofNat]; omega

/-- In range, every access is inside its buffer and on whole words. -/
theorem At.Is.ok {p : At} (h : p.Is) : p.Ok := by
  have h1 := h.slot; have h2 := h.row0; have h3 := h.row16
  have hs : (Scalar.indexCast p.slot : Index).toNat = p.slot.toNat := rfl
  refine ⟨?_, ?_, ?_, ?_, ?_, ?_, ?_, ?_, ?_⟩
  · intro k col hk hc a; fin_cases a <;> simp [offW, hs] <;> omega
  · intro k col hk hc a; fin_cases a <;> simp [offS, hs] <;> omega
  · intro c k hc hk a; fin_cases a <;> simp [offX, h.rowW hc] <;> omega
  · intro c col hc hk a; fin_cases a <;> simp [offY, h.rowW hc] <;> omega
  · intro col hk a; fin_cases a <;> simp [offY, h.rowW (c := 0) (by omega)] <;> omega
  · intro col hk a; fin_cases a <;> simp [offY16, h.rowW16] <;> omega
  · intro c col hc hm hi
    refine .inr ⟨le_rfl, rfl, .inl ⟨?_, ?_⟩⟩
    · show 2 ∣ (Scalar.indexCast (p.rowW c) : Index).toNat
      rw [h.rowW hc]; omega
    · show 2 ∣ 32; decide
  · intro col hm hi
    refine .inr ⟨le_rfl, rfl, .inl ⟨?_, ?_⟩⟩
    · show 2 ∣ (Scalar.indexCast (p.rowW 0) : Index).toNat
      rw [h.rowW (by omega)]; omega
    · show 2 ∣ 16; decide
  · intro col hm hi
    refine .inr ⟨le_rfl, rfl, .inl ⟨?_, ?_⟩⟩
    · show 2 ∣ (Scalar.indexCast (Scalar.addi (p.rowW 0) 16#32) : Index).toNat
      rw [h.rowW16]; omega
    · show 2 ∣ 16; decide

/-! ## What the stores write -/

/-- The result array's contents. -/
abbrev YArr (F : FTy → Type) [FloatOps F] := Vec F S1024x2816 .bf16

def tr (x : F .f32) : F .bf16 := FloatOps.truncf .bf16 bitsLt_bf16_f32 x
def ex (x : F .bf16) : F .f32 := FloatOps.extf .f32 bitsLt_bf16_f32 x

/-- A position in a chunk. -/
def pt (r c : Nat) : S32x256.Idx := Mxu.ix (Fin.ofNat 32 r) (Fin.ofNat 256 c)

/-- Inside the columns of a block. -/
abbrev inCol (col : Nat) (i : S1024x2816.Idx) : Prop := col ≤ (i 1).val ∧ (i 1).val < col + 256

/-- The first chunk's store. -/
def putFirst (r0 sk col : Nat) (x : FVec F S32x256 .f32) (Y : YArr F) : YArr F := fun i =>
  if (r0 ≤ (i 0).val ∧ (i 0).val < r0 + 32) ∧ inCol col i then
    if (i 0).val < r0 + 16 then
      tr (if sk ≤ (i 0).val - r0 then ex (tr (x (pt ((i 0).val - r0) ((i 1).val - col)))) else ex (Y i))
    else tr (x (pt ((i 0).val - r0) ((i 1).val - col)))
  else Y i

/-- A later chunk's store. -/
def putLater (r0 col : Nat) (c : Fin 16) (x : FVec F S32x256 .f32) (Y : YArr F) : YArr F := fun i =>
  if (r0 + 32 * c ≤ (i 0).val ∧ (i 0).val < r0 + 32 * c + 32) ∧ inCol col i then
    tr (x (pt ((i 0).val - r0) ((i 1).val - col)))
  else Y i

/-- A whole column block's stores, from each chunk's sums. -/
def putCol (r0 sk col : Nat) (v : Fin 16 → FVec F S32x256 .f32) (Y : YArr F) : YArr F := fun i =>
  if (r0 ≤ (i 0).val ∧ (i 0).val < r0 + 512) ∧ inCol col i then
    if (i 0).val < r0 + 16 then
      tr (if sk ≤ (i 0).val - r0 then ex (tr (v 0 (pt ((i 0).val - r0) ((i 1).val - col)))) else ex (Y i))
    else tr (v (Fin.ofNat 16 (((i 0).val - r0) / 32)) (pt ((i 0).val - r0) ((i 1).val - col)))
  else Y i

/-- The later chunks one after another. -/
def putRest (r0 col : Nat) (v : Fin 16 → FVec F S32x256 .f32) (cs : List (Fin 16)) (Y : YArr F) : YArr F :=
  cs.foldl (fun Y c => putLater r0 col c (v c) Y) Y

theorem putRest_apply (r0 col : Nat) (v : Fin 16 → FVec F S32x256 .f32) (cs : List (Fin 16)) (Y : YArr F) (i : S1024x2816.Idx) :
    putRest r0 col v cs Y i = if (r0 ≤ (i 0).val ∧ (i 0).val < r0 + 512) ∧ inCol col i ∧ Fin.ofNat 16 (((i 0).val - r0) / 32) ∈ cs then
      tr (v (Fin.ofNat 16 (((i 0).val - r0) / 32)) (pt ((i 0).val - r0) ((i 1).val - col))) else Y i := by
  induction cs generalizing Y with
  | nil => simp [putRest]
  | cons c cs ih =>
    show putRest r0 col v cs (putLater r0 col c (v c) Y) i = _
    rw [ih]
    by_cases hin : (r0 ≤ (i 0).val ∧ (i 0).val < r0 + 512) ∧ inCol col i
    · by_cases hm : Fin.ofNat 16 (((i 0).val - r0) / 32) ∈ cs
      · rw [if_pos ⟨hin.1, hin.2, hm⟩, if_pos ⟨hin.1, hin.2, List.mem_cons_of_mem _ hm⟩]
      · rw [if_neg (fun h => hm h.2.2)]
        by_cases hc : Fin.ofNat 16 (((i 0).val - r0) / 32) = c
        · have hv : ((i 0).val - r0) / 32 = c.val := by
            rw [← hc]; simp [Fin.ofNat]; omega
          rw [if_pos ⟨hin.1, hin.2, by rw [hc]; exact List.mem_cons_self⟩, hc]
          unfold putLater
          rw [if_pos ⟨by omega, hin.2⟩]
        · have hv : ((i 0).val - r0) / 32 ≠ c.val := fun e => hc (Fin.ext (by simp [Fin.ofNat, e]))
          rw [if_neg (fun h => (List.mem_cons.1 h.2.2).elim hc hm)]
          unfold putLater
          rw [if_neg (by rintro ⟨h1, h2⟩; omega)]
    · rw [if_neg (fun h => hin ⟨h.1, h.2.1⟩), if_neg (fun h => hin ⟨h.1, h.2.1⟩)]
      unfold putLater
      rw [if_neg (by rintro ⟨h1, h2⟩; exact hin ⟨by omega, h2⟩)]

theorem putRest_first (r0 sk col : Nat) (v : Fin 16 → FVec F S32x256 .f32) (Y : YArr F) :
    putRest r0 col v laterChunks (putFirst r0 sk col (v 0) Y) = putCol r0 sk col v Y := by
  funext i
  rw [putRest_apply]
  have hl : ∀ c : Fin 16, c ∈ laterChunks ↔ c ≠ 0 := by decide
  unfold putCol
  by_cases hin : (r0 ≤ (i 0).val ∧ (i 0).val < r0 + 512) ∧ inCol col i
  · rw [if_pos hin]
    by_cases h0 : (i 0).val < r0 + 32
    · have hz : Fin.ofNat 16 (((i 0).val - r0) / 32) = 0 := Fin.ext (by simp [Fin.ofNat]; omega)
      rw [if_neg (by rw [hl, hz]; simp), hz]
      unfold putFirst
      rw [if_pos ⟨by omega, hin.2⟩]
    · have hz : Fin.ofNat 16 (((i 0).val - r0) / 32) ≠ 0 := fun e => by
        have := congrArg Fin.val e; simp [Fin.ofNat] at this; omega
      rw [if_pos ⟨hin.1, hin.2, (hl _).2 hz⟩, if_neg (by omega)]
  · rw [if_neg (fun h => hin ⟨h.1, h.2.1⟩), if_neg hin]
    unfold putFirst
    rw [if_neg (by rintro ⟨h1, h2⟩; exact hin ⟨by omega, h2⟩)]

/-! ## The stores run -/

variable (b : Bufs) (p : At) (hi : p.Is)

abbrev pos (r c : Nat) (hr : r < 32) (hc : c < 256) : S32x256.Idx := Mxu.ix ⟨r, hr⟩ ⟨c, hc⟩

theorem pt_eq {r c : Nat} (hc : c < 256) : pt r c = Mxu.ix ⟨r % 32, Nat.mod_lt _ (by decide)⟩ ⟨c, hc⟩ := by
  unfold pt; congr 1; exact Fin.ext (Nat.mod_eq_of_lt hc)

theorem shapeCast_same {s : Shape} {α : Type} (x : s.Idx → α) (h : s.ShapeCasts s) : shapeCast s x h = x := by
  funext j
  unfold shapeCast
  congr 1
  exact Shape.reshapeEquiv_self h j

theorem idx2 {m n : Nat} (i j : (⟨2, ![m, n]⟩ : Shape).Idx) (h0 : (i 0).val = (j 0).val) (h1 : (i 1).val = (j 1).val) : i = j := by
  funext a; match a with | 0 => exact Fin.ext h0 | 1 => exact Fin.ext h1

include hi in
/-- A later chunk's store, read back. -/
theorem read_storeLater (f : b.y.view.ty.Contents (Elt F)) (c : Fin 16) (col : Nat) (hc : col ≤ 2560) (v : FVec F S32x256 .f32) :
    b.y.view.read (Elt F) (b.y.view.writes (Elt F) f [⟨hi.ok.rY c col hc, shapeCast S32x256 (truncf .bf16 v bitsLt_bf16_f32) shapeCasts_S32x256_S32x256⟩])
      = putLater p.row0.toNat col c v (b.y.view.read (Elt F) f) := by
  funext i
  have ho : offY p c col = ![p.row0.toNat + 32 * c, col] := by rw [offY, hi.rowW c.2]
  rw [View.read_writes_cons_unit _ _ _ _ _ _ ho]
  unfold putLater
  by_cases h : (p.row0.toNat + 32 * c ≤ (i 0).val ∧ (i 0).val < p.row0.toNat + 32 * c + 32) ∧ inCol col i
  · have h' : ∀ a, (![p.row0.toNat + 32 * c, col] : Fin 2 → ℕ) a ≤ (i a).val ∧ (i a).val < (![p.row0.toNat + 32 * c, col] : Fin 2 → ℕ) a + S32x256.size a :=
      Fin.forall_fin_two.2 h
    rw [dif_pos h', if_pos h, shapeCast_same]
    show tr (v _) = tr (v _)
    congr 2
    obtain ⟨⟨h1, h2⟩, h3, h4⟩ := h
    refine idx2 (m := 32) (n := 256) _ _ ?_ ?_
    · show (i 0).val - (p.row0.toNat + 32 * c) = ((i 0).val - p.row0.toNat) % 32
      omega
    · show (i 1).val - col = ((i 1).val - col) % 256
      omega
  · rw [dif_neg (fun h' => h (Fin.forall_fin_two.1 h')), if_neg h]
    rfl

/-- The value the first chunk's first sixteen rows take. -/
def firstHalf (skip : BitVec 32) (v : FVec F S32x256 .f32) (y : Vec F S16x256 .bf16) : FVec F S16x256 .bf16 :=
  shapeCast S16x256 (truncf .bf16
    (select (cmpi .sge (iota .tc S16x256 32 [0] iota_S16x256_d0_w32) (broadcast S16x256 skip))
      (extf .f32 (extractStridedSlice S16x256 ![0, 0] (truncf .bf16 v bitsLt_bf16_f32) slices_S32x256_o0_0_S16x256) bitsLt_bf16_f32)
      (extf .f32 y bitsLt_bf16_f32)) bitsLt_bf16_f32) shapeCasts_S16x256_S16x256

/-- The value its last sixteen rows take. -/
def secondHalf (v : FVec F S32x256 .f32) : FVec F S16x256 .bf16 :=
  shapeCast S16x256 (extractStridedSlice S16x256 ![16, 0] (truncf .bf16 v bitsLt_bf16_f32) slices_S32x256_o16_0_S16x256) shapeCasts_S16x256_S16x256

theorem sge_iff {sk : BitVec 32} (hs : sk.toNat < 16) {n : Nat} (hn : n < 16) :
    IntOp.cmpi .sge (BitVec.ofNat 32 n) sk = 1#1 ↔ sk.toNat ≤ n := by
  show BitVec.ofBool (sk.sle (BitVec.ofNat 32 n)) = 1#1 ↔ _
  have h1 : sk.toInt = sk.toNat := BitVec.toInt_eq_toNat_of_lt (by omega)
  have h2 : (BitVec.ofNat 32 n).toInt = n := by
    rw [BitVec.toInt_eq_toNat_of_lt (by rw [BitVec.toNat_ofNat]; omega), BitVec.toNat_ofNat]; omega
  rw [BitVec.sle, h1, h2]
  by_cases h : sk.toNat ≤ n
  · simp [h]
  · simp [h]

theorem firstHalf_apply (skip : BitVec 32) (hs : skip.toNat < 16) (v : FVec F S32x256 .f32) (y : Vec F S16x256 .bf16) (j : S16x256.Idx) :
    firstHalf skip v y j = tr (if skip.toNat ≤ (j 0).val then ex (tr (v (pt (j 0).val (j 1).val))) else ex (y j)) := by
  unfold firstHalf
  rw [shapeCast_same]
  have hj : (j 0).val < 16 := (j 0).isLt
  have hj1 : (j 1).val < 256 := (j 1).isLt
  show tr (if IntOp.cmpi .sge (BitVec.ofNat 32 (0 * 16 + (j 0).val)) skip = 1#1 then ex (tr (v _)) else ex (y j)) = _
  rw [show 0 * 16 + (j 0).val = (j 0).val by omega]
  have e : (fun a => ⟨(![0, 0] : Fin 2 → Nat) a + (j a).val, Nat.lt_of_lt_of_le (Nat.add_lt_add_left (j a).isLt _) (slices_S32x256_o0_0_S16x256.2 a)⟩ : S32x256.Idx)
      = pt (j 0).val (j 1).val := by
    refine idx2 _ _ ?_ ?_
    · show 0 + (j 0).val = (j 0).val % 32
      omega
    · show 0 + (j 1).val = (j 1).val % 256
      omega
  by_cases h : skip.toNat ≤ (j 0).val
  · rw [if_pos h, if_pos ((sge_iff hs hj).2 h)]
    exact congrArg (fun z => tr (ex (tr (v z)))) e
  · rw [if_neg h, if_neg (fun h' => h ((sge_iff hs hj).1 h'))]

theorem secondHalf_apply (v : FVec F S32x256 .f32) (j : S16x256.Idx) :
    secondHalf v j = tr (v (pt (16 + (j 0).val) (j 1).val)) := by
  unfold secondHalf
  rw [shapeCast_same]
  have hj : (j 0).val < 16 := (j 0).isLt
  have hj1 : (j 1).val < 256 := (j 1).isLt
  show tr (v _) = _
  congr 2
  refine idx2 _ _ ?_ ?_
  · show 16 + (j 0).val = (16 + (j 0).val) % 32
    omega
  · show 0 + (j 1).val = (j 1).val % 256
    omega

/-- What the first chunk's two stores leave. -/
abbrev firstF (f : b.y.view.ty.Contents (Elt F)) (col : Nat) (hc : col ≤ 2560) (v : FVec F S32x256 .f32) : b.y.view.ty.Contents (Elt F) :=
  b.y.view.writes (Elt F) (b.y.view.writes (Elt F) f
    [⟨hi.ok.rY0 col hc, firstHalf p.skip v (View.ld (b.y.view.read (Elt F) f) (hi.ok.rY0 col hc))⟩]) [⟨hi.ok.rY16 col hc, secondHalf v⟩]

theorem read_storeFirst (f : b.y.view.ty.Contents (Elt F)) (col : Nat) (hc : col ≤ 2560) (v : FVec F S32x256 .f32) :
    b.y.view.read (Elt F) (firstF b p hi f col hc v) = putFirst p.row0.toNat p.skip.toNat col v (b.y.view.read (Elt F) f) := by
  funext i
  have h0 : offY p 0 col = ![p.row0.toNat, col] := by rw [offY, hi.rowW (c := 0) (by omega)]; rfl
  have h16 : offY16 p col = ![p.row0.toNat + 16, col] := by rw [offY16, hi.rowW16]
  unfold firstF
  rw [View.read_writes_cons_unit _ _ _ _ _ _ h16]
  unfold putFirst
  by_cases h : (p.row0.toNat + 16 ≤ (i 0).val ∧ (i 0).val < p.row0.toNat + 16 + 16) ∧ inCol col i
  · have h' : ∀ a, (![p.row0.toNat + 16, col] : Fin 2 → ℕ) a ≤ (i a).val ∧ (i a).val < (![p.row0.toNat + 16, col] : Fin 2 → ℕ) a + S16x256.size a :=
      Fin.forall_fin_two.2 h
    rw [dif_pos h', if_pos ⟨by omega, h.2⟩, if_neg (by omega), secondHalf_apply]
    obtain ⟨⟨h1, h2⟩, h3, h4⟩ := h
    congr 2
    refine idx2 _ _ ?_ ?_
    · show (16 + ((i 0).val - (p.row0.toNat + 16))) % 32 = ((i 0).val - p.row0.toNat) % 32
      congr 1; omega
    · rfl
  · rw [dif_neg (fun h' => h (Fin.forall_fin_two.1 h')), View.writes_nil, View.read_writes_cons_unit _ _ _ _ _ _ h0]
    by_cases hh : (p.row0.toNat ≤ (i 0).val ∧ (i 0).val < p.row0.toNat + 16) ∧ inCol col i
    · have h' : ∀ a, (![p.row0.toNat, col] : Fin 2 → ℕ) a ≤ (i a).val ∧ (i a).val < (![p.row0.toNat, col] : Fin 2 → ℕ) a + S16x256.size a :=
        Fin.forall_fin_two.2 hh
      rw [dif_pos h', if_pos ⟨by omega, hh.2⟩, if_pos (by omega), firstHalf_apply _ hi.skip]
      have e : (hi.ok.rY0 col hc).emb (Rect.unitLocal (s := S1024x2816) (off := ![p.row0.toNat, col]) (size := S16x256.size) i h') = i := by
        obtain ⟨⟨h1, h2⟩, h3, h4⟩ := hh
        refine idx2 _ _ ?_ ?_
        · show offY p 0 col 0 + 1 * ((i 0).val - p.row0.toNat) = (i 0).val
          rw [h0]; show p.row0.toNat + _ = _; omega
        · show offY p 0 col 1 + 1 * ((i 1).val - col) = (i 1).val
          rw [h0]; show col + _ = _; omega
      show tr (if p.skip.toNat ≤ (i 0).val - p.row0.toNat then ex (tr (v (pt ((i 0).val - p.row0.toNat) ((i 1).val - col))))
        else ex (b.y.view.read (Elt F) f ((hi.ok.rY0 col hc).emb (Rect.unitLocal (s := S1024x2816) (off := ![p.row0.toNat, col]) (size := S16x256.size) i h')))) = _
      rw [e]
    · rw [dif_neg (fun h' => hh (Fin.forall_fin_two.1 h')), if_neg (by rintro ⟨h1, h2⟩; omega)]
      rfl

variable (c : Dev nD) (E : Set ℕ) {α : Type} (Q : α → sProp (MT nD τ sig Unit (Elt F) ℕ (UC sig nD τ) ℕ))

/-- The result's buffer reads as `Y`. -/
def holdsY (Y : YArr F) : sProp (MT nD τ sig Unit (Elt F) ℕ (UC sig nD τ) ℕ) :=
  iprop(∃ f : Buf (Elt F) (b.y.view.loc (c : Thread nD τ)), ⌜b.y.view.read (Elt F) f = Y⌝ ∗ (b.y.view.loc (c : Thread nD τ) ↦{fullShare} f))

theorem wp_storeLater (ch : Fin 16) (col : Nat) (hc : col ≤ 2560) (hm : col % 128 = 0) (v : FVec F S32x256 .f32) (Y : YArr F) (K : PUnit → Prg F α) :
    holdsY b c Y
      ⊢ iprop((holdsY b c (putLater p.row0.toNat col ch v Y) -∗ wp frame (wpE (defs₀ (F := F)) Variants.none c none) E (K ⟨⟩) Q)
        -∗ wp frame (wpE (defs₀ (F := F)) Variants.none c none) E (storeLater b p hi.ok ch col hc hm v >>= K) Q) := by
  unfold storeLater holdsY
  simp only [Prog.lift, Prog.bind_op, Prog.bind_ret, Prog.pure_eq_ret]
  iintro ⟨%f, %hf, Hy⟩ HK
  iapply (wp_load_rect (c := (c : Thread nD τ)) Variants.none none E (m := b.y) (r := hi.ok.rY ch col hc) (Finset.subset_univ _)) $$ Hy
  iintro Hy
  iapply (wp_store_writes₀ (c := (c : Thread nD τ)) Variants.none none E (m := b.y) (r := hi.ok.rY ch col hc) (Finset.subset_univ _)) $$ Hy
  iintro Hy
  iapply HK
  iexists _
  isplitr
  swap
  · iexact Hy
  ipureintro
  rw [← hf]
  exact read_storeLater b p hi f ch col hc v

theorem wp_storeFirst (col : Nat) (hc : col ≤ 2560) (hm : col % 128 = 0) (v : FVec F S32x256 .f32) (Y : YArr F) (K : PUnit → Prg F α) :
    holdsY b c Y
      ⊢ iprop((holdsY b c (putFirst p.row0.toNat p.skip.toNat col v Y) -∗ wp frame (wpE (defs₀ (F := F)) Variants.none c none) E (K ⟨⟩) Q)
        -∗ wp frame (wpE (defs₀ (F := F)) Variants.none c none) E (storeFirst b p hi.ok col hc hm v >>= K) Q) := by
  unfold storeFirst holdsY
  simp only [Prog.lift, Prog.bind_op, Prog.bind_ret, Prog.pure_eq_ret]
  iintro ⟨%f, %hf, Hy⟩ HK
  iapply (wp_load_rect (c := (c : Thread nD τ)) Variants.none none E (m := b.y) (r := hi.ok.rY0 col hc) (Finset.subset_univ _)) $$ Hy
  iintro Hy
  iapply (wp_load_rect (c := (c : Thread nD τ)) Variants.none none E (m := b.y) (r := hi.ok.rY0 col hc) (Finset.subset_univ _)) $$ Hy
  iintro Hy
  iapply (wp_store_writes₀ (c := (c : Thread nD τ)) Variants.none none E (m := b.y) (r := hi.ok.rY0 col hc) (Finset.subset_univ _)) $$ Hy
  iintro Hy
  iapply (wp_load_rect (c := (c : Thread nD τ)) Variants.none none E (m := b.y) (r := hi.ok.rY16 col hc) (Finset.subset_univ _)) $$ Hy
  iintro Hy
  iapply (wp_store_writes₀ (c := (c : Thread nD τ)) Variants.none none E (m := b.y) (r := hi.ok.rY16 col hc) (Finset.subset_univ _)) $$ Hy
  iintro Hy
  iapply HK
  iexists _
  isplitr
  swap
  · iexact Hy
  ipureintro
  rw [← hf]
  exact read_storeFirst b p hi f col hc v

end Cert.KernelIdeal.Hand
-- ==== Proof.Checks.lean ====
/- The runtime checks of the program hold, and its offsets and conditions in plain numbers. -/
module

public import proofs.«01_k».proof.Proof.Store
public import proofs.«01_k».proof.Proof.Printed

@[expose] public section

set_option maxRecDepth 16384

noncomputable section

namespace Cert.KernelIdeal.Hand

open Idealize.ShloMosaic Idealize.SL.Sem
open Cert.KernelIdeal

/-- At most 32 experts have rows, so the main loop's accesses are inside their buffers. -/
theorem chk4_fin : ∀ n : Fin 33, k0_chk4 (BitVec.ofNat 32 n.val) := by decide +kernel

theorem chk5_fin : ∀ e : Fin 32, k0_chk5 (BitVec.ofNat 32 e.val) := by decide +kernel

theorem trips_fin : ∀ n : Fin 33, (k0_t3_loop (BitVec.ofNat 32 n.val)).trips = n.val ∧ (k0_t5_loop (BitVec.ofNat 32 n.val)).trips = 0 := by
  decide +kernel

/-- The offsets of one trip of the main loop. -/
structure TripNums (n : BitVec 32) (t : Fin (k0_t3_loop n).trips) : Prop where
  o18 : k0_off18 n t = ![t.val]
  o19 : k0_off19 n t = ![t.val % 3]
  o20 : k0_off20 n t = ![t.val % 3, 0, 0]
  o22 : k0_off22 n t = ![t.val % 3]
  o23 : k0_off23 n t = ![t.val % 3, 0, 0]
  o25 : k0_off25 n t = ![t.val + 2]
  o26 : k0_off26 n t = ![(t.val + 2) % 3]
  o27 : k0_off27 n t = ![(t.val + 2) % 3, 0, 0]
  o29 : k0_off29 n t = ![(t.val + 2) % 3]
  o30 : k0_off30 n t = ![(t.val + 2) % 3, 0, 0]
  o32 : k0_off32 n t = ![t.val]
  o33 : k0_off33 n t = ![t.val + 1]
  c4 : k0_cond4 n t = 1#1 ↔ t.val + 2 < n.toNat
  slot : (slotW n t).toNat = t.val % 3

theorem trip_fin : ∀ n : Fin 33, ∀ t : Fin (k0_t3_loop (BitVec.ofNat 32 n.val)).trips,
    k0_off18 (BitVec.ofNat 32 n.val) t = ![t.val] ∧ k0_off19 (BitVec.ofNat 32 n.val) t = ![t.val % 3] ∧
    k0_off20 (BitVec.ofNat 32 n.val) t = ![t.val % 3, 0, 0] ∧ k0_off22 (BitVec.ofNat 32 n.val) t = ![t.val % 3] ∧
    k0_off23 (BitVec.ofNat 32 n.val) t = ![t.val % 3, 0, 0] ∧ k0_off25 (BitVec.ofNat 32 n.val) t = ![t.val + 2] ∧
    k0_off26 (BitVec.ofNat 32 n.val) t = ![(t.val + 2) % 3] ∧ k0_off27 (BitVec.ofNat 32 n.val) t = ![(t.val + 2) % 3, 0, 0] ∧
    k0_off29 (BitVec.ofNat 32 n.val) t = ![(t.val + 2) % 3] ∧ k0_off30 (BitVec.ofNat 32 n.val) t = ![(t.val + 2) % 3, 0, 0] ∧
    k0_off32 (BitVec.ofNat 32 n.val) t = ![t.val] ∧ k0_off33 (BitVec.ofNat 32 n.val) t = ![t.val + 1] ∧
    (k0_cond4 (BitVec.ofNat 32 n.val) t = 1#1 ↔ t.val + 2 < (BitVec.ofNat 32 n.val).toNat) ∧
    (slotW (BitVec.ofNat 32 n.val) t).toNat = t.val % 3 := by decide +kernel

/-- A word that is at most 32 is one of 33. -/
theorem word_fin {k : Nat} {n : BitVec 32} (h : n.toNat < k) : ∃ i : Fin k, n = BitVec.ofNat 32 i.val :=
  ⟨⟨n.toNat, h⟩, by simp⟩

theorem chk4_ok {n : BitVec 32} (h : n.toNat ≤ 32) : k0_chk4 n := by
  obtain ⟨i, rfl⟩ := word_fin (Nat.lt_succ_of_le h); exact chk4_fin i

theorem chk5_ok {e : BitVec 32} (h : e.toNat < 32) : k0_chk5 e := by
  obtain ⟨i, rfl⟩ := word_fin h; exact chk5_fin i

theorem chk2_ok (n : BitVec 32) {e : BitVec 32} (h : e.toNat < 32) : k0_chk2 n e :=
  ⟨fun _ => (chk5_ok h).1, fun _ => (chk5_ok h).2.1, fun _ => (chk5_ok h).2.2⟩

theorem chk3_ok (n : BitVec 32) {e : BitVec 32} (h : e.toNat < 32) : k0_chk3 n e :=
  ⟨fun _ => (chk5_ok h).1, fun _ => (chk5_ok h).2.1, fun _ => (chk5_ok h).2.2⟩

theorem chk6_ok (n : BitVec 32) (t : Fin (k0_t3_loop n).trips) {e : BitVec 32} (h : e.toNat < 32) : k0_chk6 n t e :=
  ⟨fun _ => (chk5_ok h).1, fun _ => (chk5_ok h).2.1, fun _ => (chk5_ok h).2.2⟩

theorem trips_t3 {n : BitVec 32} (h : n.toNat ≤ 32) : (k0_t3_loop n).trips = n.toNat := by
  obtain ⟨i, rfl⟩ := word_fin (Nat.lt_succ_of_le h)
  rw [(trips_fin i).1]; simp [BitVec.toNat_ofNat]; omega

theorem trips_t5 {n : BitVec 32} (h : n.toNat ≤ 32) : (k0_t5_loop n).trips = 0 := by
  obtain ⟨i, rfl⟩ := word_fin (Nat.lt_succ_of_le h)
  exact (trips_fin i).2

theorem tripNums {n : BitVec 32} (h : n.toNat ≤ 32) (t : Fin (k0_t3_loop n).trips) : TripNums n t := by
  obtain ⟨i, rfl⟩ := word_fin (Nat.lt_succ_of_le h)
  obtain ⟨h1, h2, h3, h4, h5, h6, h7, h8, h9, h10, h11, h12, h13, h14⟩ := trip_fin i t
  exact ⟨h1, h2, h3, h4, h5, h6, h7, h8, h9, h10, h11, h12, h13, h14⟩

theorem cond2_fin : ∀ n : Fin 33, (k0_cond2 (BitVec.ofNat 32 n.val) = 1#1 ↔ 0 < (BitVec.ofNat 32 n.val).toNat)
    ∧ (k0_cond3 (BitVec.ofNat 32 n.val) = 1#1 ↔ 1 < (BitVec.ofNat 32 n.val).toNat) := by decide +kernel

theorem cond2_iff {n : BitVec 32} (h : n.toNat ≤ 32) : k0_cond2 n = 1#1 ↔ 0 < n.toNat := by
  obtain ⟨i, rfl⟩ := word_fin (Nat.lt_succ_of_le h); exact (cond2_fin i).1
theorem cond3_iff {n : BitVec 32} (h : n.toNat ≤ 32) : k0_cond3 n = 1#1 ↔ 1 < n.toNat := by
  obtain ⟨i, rfl⟩ := word_fin (Nat.lt_succ_of_le h); exact (cond2_fin i).2

/-- The scan's count stays inside the tables. -/
theorem chk1_fin : ∀ n : Fin 32, ∀ v : Fin 513, k0_chk1 (BitVec.ofNat 32 n.val) (BitVec.ofNat 32 v.val) := by decide +kernel

theorem chk1_ok {n v : BitVec 32} (hn : n.toNat < 32) (hv : v.toNat ≤ 512) : k0_chk1 n v := by
  obtain ⟨i, rfl⟩ := word_fin hn
  obtain ⟨j, rfl⟩ := word_fin (Nat.lt_succ_of_le hv)
  exact chk1_fin i j

theorem scan_fin : ∀ v : Fin 513, (k0_cond1 (BitVec.ofNat 32 v.val) = 1#1 ↔ 0 < v.val)
    ∧ (Scalar.extui (Scalar.cmpi .sgt (BitVec.ofNat 32 v.val) 0#32) : BitVec 32) = BitVec.ofNat 32 (if 0 < v.val then 1 else 0) := by decide +kernel

/-- A row index rounded down to a multiple of 16, and the remainder. -/
theorem row_fin : ∀ r : Fin 513, (Scalar.subi (BitVec.ofNat 32 r.val) (Scalar.remsi (BitVec.ofNat 32 r.val) 16#32)).toNat = r.val - r.val % 16
    ∧ (Scalar.remsi (BitVec.ofNat 32 r.val) 16#32).toNat = r.val % 16 := by decide +kernel

theorem chk7_fin : ∀ r : Fin 513, k0_chk7 (BitVec.ofNat 32 r.val) := by decide +kernel
theorem chk7_ok {r : BitVec 32} (h : r.toNat ≤ 512) : k0_chk7 r := by
  obtain ⟨i, rfl⟩ := word_fin (Nat.lt_succ_of_le h); exact chk7_fin i

theorem place_is {n : BitVec 32} (hn : n.toNat ≤ 32) (t : Fin (k0_t3_loop n).trips) {r : BitVec 32} (hr : r.toNat ≤ 512) :
    (place n t r).Is := by
  obtain ⟨i, rfl⟩ := word_fin (Nat.lt_succ_of_le hr)
  have h := row_fin i
  refine ⟨?_, ?_, ?_, ?_⟩
  · show (slotW n t).toNat < 3
    rw [(tripNums hn t).slot]; omega
  · show (Scalar.subi (BitVec.ofNat 32 i.val) (Scalar.remsi (BitVec.ofNat 32 i.val) 16#32)).toNat ≤ 512
    rw [h.1]; omega
  · show (Scalar.subi (BitVec.ofNat 32 i.val) (Scalar.remsi (BitVec.ofNat 32 i.val) 16#32)).toNat % 16 = 0
    rw [h.1]; omega
  · show (Scalar.remsi (BitVec.ofNat 32 i.val) 16#32).toNat < 16
    rw [h.2]; omega

/-- Every access of one expert's share is inside its buffer, whatever the row its rows start at. -/
theorem bW {s x y : Nat} (hs : s < 3) (hx : x + 128 ≤ 1408) (hy : y + 256 ≤ 2816) :
    ∀ a, (![s, x, y] : Fin 3 → Nat) a + S1x128x256.size a ≤ S3x1408x2816.size a
  | 0 => hs | 1 => hx | 2 => hy

theorem bS {s x y : Nat} (hs : s < 3) (hx : x < 22) (hy : y + 256 ≤ 2816) :
    ∀ a, (![s, x, y] : Fin 3 → Nat) a + S1x1x256.size a ≤ S3x22x2816.size a
  | 0 => hs | 1 => hx | 2 => hy

theorem bY {x y : Nat} (hx : x + 32 ≤ 1024 ∧ x % 2 = 0) (hy : y + 256 ≤ 2816) :
    ∀ a, (![x, y] : Fin 2 → Nat) a + S32x256.size a ≤ S1024x2816.size a
  | 0 => hx.1 | 1 => hy

theorem bY16 {x y : Nat} (hx : x + 16 ≤ 1024 ∧ x % 2 = 0) (hy : y + 256 ≤ 2816) :
    ∀ a, (![x, y] : Fin 2 → Nat) a + S16x256.size a ≤ S1024x2816.size a
  | 0 => hx.1 | 1 => hy

theorem pY {x y : Nat} (hx : x + 32 ≤ 1024 ∧ x % 2 = 0) (hinb : ∀ a, (![x, y] : Fin 2 → Nat) a + S32x256.size a ≤ S1024x2816.size a) :
    (Rect.unit (s := S1024x2816) ![x, y] S32x256.size hinb).PackedRows (EltTy.packing .bf16) :=
  .inr ⟨le_rfl, rfl, .inl ⟨Nat.dvd_of_mod_eq_zero hx.2, ⟨16, rfl⟩⟩⟩

theorem pY16 {x y : Nat} (hx : x + 16 ≤ 1024 ∧ x % 2 = 0) (hinb : ∀ a, (![x, y] : Fin 2 → Nat) a + S16x256.size a ≤ S1024x2816.size a) :
    (Rect.unit (s := S1024x2816) ![x, y] S16x256.size hinb).PackedRows (EltTy.packing .bf16) :=
  .inr ⟨le_rfl, rfl, .inl ⟨Nat.dvd_of_mod_eq_zero hx.2, ⟨8, rfl⟩⟩⟩

theorem col_fin : ∀ t4 : Fin k0_t4_loop.trips, ∀ r : Fin 2, (Scalar.addi (k0_mult3 t4) (BitVec.ofNat 32 (256 * r.val))).toNat + 256 ≤ 2816 := by
  decide +kernel

/-- The rounded-down first row of an expert whose rows start at `r`. -/
abbrev down (r : BitVec 32) : BitVec 32 := Scalar.subi r (Scalar.remsi r 16#32)

theorem rows_fin : ∀ v : Fin 513,
    (∀ r : Fin 16, (Scalar.addi (down (BitVec.ofNat 32 v.val)) (BitVec.ofNat 32 (32 * r.val))).toNat + 32 ≤ 1024
      ∧ (Scalar.addi (down (BitVec.ofNat 32 v.val)) (BitVec.ofNat 32 (32 * r.val))).toNat % 2 = 0) ∧
    (∀ r : Fin 15, (Scalar.addi (down (BitVec.ofNat 32 v.val)) (BitVec.ofNat 32 (32 + 32 * r.val))).toNat + 32 ≤ 1024
      ∧ (Scalar.addi (down (BitVec.ofNat 32 v.val)) (BitVec.ofNat 32 (32 + 32 * r.val))).toNat % 2 = 0) ∧
    ((Scalar.addi (down (BitVec.ofNat 32 v.val)) 0#32).toNat + 16 ≤ 1024
      ∧ (Scalar.addi (down (BitVec.ofNat 32 v.val)) 0#32).toNat % 2 = 0) ∧
    ((Scalar.addi (Scalar.addi (down (BitVec.ofNat 32 v.val)) 0#32) 16#32).toNat + 16 ≤ 1024
      ∧ (Scalar.addi (Scalar.addi (down (BitVec.ofNat 32 v.val)) 0#32) 16#32).toNat % 2 = 0) := by decide +kernel

set_option maxHeartbeats 4000000 in
theorem chk8_ok {n : BitVec 32} (hn : n.toNat ≤ 32) (t : Fin (k0_t3_loop n).trips) {v51 : BitVec 32} (hv : v51.toNat ≤ 512)
    (v54 : BitVec 32) : k0_chk8 n t v51 v54 := by
  obtain ⟨i, rfl⟩ := word_fin (Nat.lt_succ_of_le hv)
  obtain ⟨hr, hr', h0, h16⟩ := rows_fin i
  have hs : (slotW n t).toNat < 3 := by rw [(tripNums hn t).slot]; omega
  unfold k0_chk8 k0_chk8_0 k0_chk8_1 k0_chk8_2 k0_chk8_3
  repeat' apply And.intro
  all_goals first
    | exact fun t4 _ r => bW hs (by decide) (col_fin t4 r)
    | exact fun t4 _ r => bS hs (by decide) (col_fin t4 r)
    | exact fun _ => bW hs (by decide) (by decide)
    | exact fun _ => bS hs (by decide) (by decide)
    | exact fun _ r => bY (hr r) (by decide)
    | exact fun t4 _ r r2 => bY (hr' r) (col_fin t4 r2)
    | exact fun t4 _ r r2 hinb => pY (hr' r) hinb
    | exact fun t4 _ r => bY16 h0 (col_fin t4 r)
    | exact fun t4 _ r => bY16 h16 (col_fin t4 r)
    | exact fun t4 _ r hinb => pY16 h0 hinb
    | exact fun t4 _ r hinb => pY16 h16 hinb
    | exact fun _ => bY16 h0 (by decide)
    | exact fun _ => bY16 h16 (by decide)
    | exact fun _ hinb => pY16 h0 hinb
    | exact fun _ hinb => pY16 h16 hinb
    | exact fun _ r hinb => pY (hr r) hinb

end Cert.KernelIdeal.Hand
-- ==== Proof.Scan.lean ====
/- The scan of the group sizes: what it leaves in the two tables, as a recursion, and that it runs to it. -/
module

public import proofs.«01_k».proof.Proof.Tables
public import proofs.«01_k».proof.Proof.Checks

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

/-- The state of the scan: the number of groups listed, the rows so far, the two tables. -/
structure Scan where
  n : BitVec 32
  off : BitVec 32
  E : ℕ → BitVec 32
  R : ℕ → BitVec 32

/-- One more group, of `v` rows. -/
def Scan.next (s : Scan) (t : ℕ) (v : BitVec 32) : Scan where
  n := Scalar.addi s.n (Scalar.extui (Scalar.cmpi .sgt v 0#32))
  off := Scalar.addi s.off v
  E := if k0_cond1 v = 1#1 then Function.update s.E s.n.toNat (Scf.iv 0#32 1#32 t) else s.E
  R := Function.update (if k0_cond1 v = 1#1 then Function.update s.R s.n.toNat s.off else s.R)
    (Scalar.addi s.n (Scalar.extui (Scalar.cmpi .sgt v 0#32)) : BitVec 32).toNat (Scalar.addi s.off v)

/-- The scan of the first `t` groups. -/
def Scan.run (G : ℕ → BitVec 32) (E R : ℕ → BitVec 32) : ℕ → Scan
  | 0 => ⟨0#32, 0#32, E, R⟩
  | t + 1 => (Scan.run G E R t).next t (G t)

/-- The rows of the first `t` groups. -/
def rowsUpTo (G : ℕ → BitVec 32) : ℕ → ℕ
  | 0 => 0
  | t + 1 => rowsUpTo G t + (G t).toNat

/-- The group sizes are at most 512 each and together. -/
structure Fits (G : ℕ → BitVec 32) : Prop where
  each : ∀ i < 32, (G i).toNat ≤ 512
  all : rowsUpTo G 32 ≤ 512

theorem rowsUpTo_le (G : ℕ → BitVec 32) {s t : ℕ} (h : s ≤ t) : rowsUpTo G s ≤ rowsUpTo G t := by
  induction t with
  | zero => obtain rfl : s = 0 := by omega
            exact le_rfl
  | succ t ih =>
    by_cases hs : s = t + 1
    · rw [hs]
    · exact (ih (by omega)).trans (Nat.le_add_right _ _)

/-- What is known of the scan after `t` groups. -/
structure Scan.Good (G : ℕ → BitVec 32) (s : Scan) (t : ℕ) : Prop where
  n : s.n.toNat ≤ t
  off : s.off.toNat = rowsUpTo G t
  E : ∀ i < s.n.toNat, (s.E i).toNat < 32
  R : 0 < t → ∀ i ≤ s.n.toNat, (s.R i).toNat ≤ 512
  R0 : t = 0 → s.n.toNat = 0

theorem scan_word {v : BitVec 32} (h : v.toNat ≤ 512) : (k0_cond1 v = 1#1 ↔ 0 < v.toNat)
    ∧ (Scalar.extui (Scalar.cmpi .sgt v 0#32) : BitVec 32) = BitVec.ofNat 32 (if 0 < v.toNat then 1 else 0) := by
  obtain ⟨i, rfl⟩ := word_fin (Nat.lt_succ_of_le h)
  have e : (BitVec.ofNat 32 i.val).toNat = i.val := by have := i.2; simp [BitVec.toNat_ofNat]; omega
  rw [e]
  exact scan_fin i

theorem iv_toNat {t : ℕ} (h : t < 32) : (Scf.iv 0#32 1#32 t).toNat = t := by
  have : ∀ t : Fin 32, (Scf.iv 0#32 1#32 t.val).toNat = t.val := by decide +kernel
  exact this ⟨t, h⟩

theorem addi_toNat {a b : BitVec 32} (h : a.toNat + b.toNat < 2 ^ 32) : (Scalar.addi a b).toNat = a.toNat + b.toNat := by
  show (a + b).toNat = _
  rw [BitVec.toNat_add, Nat.mod_eq_of_lt h]

theorem Scan.Good.next {G : ℕ → BitVec 32} (hG : Fits G) {s : Scan} {t : ℕ} (ht : t < 32) (h : s.Good G t) : (s.next t (G t)).Good G (t + 1) := by
  have hg := hG.each t ht
  obtain ⟨hc, hx⟩ := scan_word hg
  have hn := h.n
  have hsum : rowsUpTo G (t + 1) ≤ 512 := (rowsUpTo_le G (by omega)).trans hG.all
  have hoff : (Scalar.addi s.off (G t)).toNat = rowsUpTo G (t + 1) := by
    rw [addi_toNat (by rw [h.off]; have : rowsUpTo G t ≤ rowsUpTo G (t+1) := rowsUpTo_le G (by omega); omega), h.off]; rfl
  have hn' : (Scalar.addi s.n (Scalar.extui (Scalar.cmpi .sgt (G t) 0#32)) : BitVec 32).toNat = s.n.toNat + (if 0 < (G t).toNat then 1 else 0) := by
    rw [hx, addi_toNat]
    · congr 1
      split <;> rfl
    · have : (BitVec.ofNat 32 (if 0 < (G t).toNat then 1 else 0)).toNat ≤ 1 := by split <;> decide
      omega
  refine ⟨?_, hoff, ?_, ?_, fun h => absurd h (by omega)⟩
  · show (Scalar.addi s.n (Scalar.extui (Scalar.cmpi .sgt (G t) 0#32)) : BitVec 32).toNat ≤ t + 1
    rw [hn']; split <;> omega
  · intro i hi
    change i < (Scalar.addi s.n (Scalar.extui (Scalar.cmpi .sgt (G t) 0#32)) : BitVec 32).toNat at hi
    rw [hn'] at hi
    show ((if k0_cond1 (G t) = 1#1 then Function.update s.E s.n.toNat (Scf.iv 0#32 1#32 t) else s.E) i).toNat < 32
    by_cases hp : 0 < (G t).toNat
    · rw [if_pos (hc.2 hp)]
      rw [if_pos hp] at hi
      by_cases hi' : i = s.n.toNat
      · rw [hi', Function.update_self, iv_toNat ht]; exact ht
      · rw [Function.update_of_ne hi']; exact h.E i (by omega)
    · rw [if_neg (fun h => hp (hc.1 h))]
      rw [if_neg hp] at hi
      exact h.E i (by omega)
  · intro _ i hi
    change i ≤ (Scalar.addi s.n (Scalar.extui (Scalar.cmpi .sgt (G t) 0#32)) : BitVec 32).toNat at hi
    show ((Function.update (if k0_cond1 (G t) = 1#1 then Function.update s.R s.n.toNat s.off else s.R)
      (Scalar.addi s.n (Scalar.extui (Scalar.cmpi .sgt (G t) 0#32)) : BitVec 32).toNat (Scalar.addi s.off (G t))) i).toNat ≤ 512
    rw [hn'] at hi ⊢
    by_cases hi' : i = s.n.toNat + (if 0 < (G t).toNat then 1 else 0)
    · rw [← hi', Function.update_self, hoff]; exact hsum
    · rw [Function.update_of_ne hi']
      by_cases hp : 0 < (G t).toNat
      · rw [if_pos (hc.2 hp)]
        rw [if_pos hp] at hi hi'
        by_cases hi2 : i = s.n.toNat
        · rw [hi2, Function.update_self, h.off]
          exact (rowsUpTo_le G (by omega)).trans hG.all
        · rw [Function.update_of_ne hi2]
          exact h.R (by by_contra h0; have := h.R0 (by omega); omega) i (by omega)
      · rw [if_neg (fun h => hp (hc.1 h))]
        rw [if_neg hp] at hi hi'
        exact h.R (by by_contra h0; have := h.R0 (by omega); omega) i (by omega)

theorem Scan.run_good {G : ℕ → BitVec 32} (hG : Fits G) (E R : ℕ → BitVec 32) {t : ℕ} (ht : t ≤ 32) : (Scan.run G E R t).Good G t := by
  induction t with
  | zero => exact ⟨Nat.le_refl 0, rfl, fun i hi => absurd hi (Nat.not_lt_zero _), fun h => absurd h (by omega), fun _ => rfl⟩
  | succ t ih => exact (ih (by omega)).next hG (by omega)

theorem off1_eq : ∀ t : Fin k0_t1_loop.trips, k0_off1 t = ![t.val] ∧ t.val < 32 := by decide +kernel
theorem trips_t1 : k0_t1_loop.trips = 32 := by decide +kernel

variable {F : FTy → Type} [FloatOps F]
variable [Facts]
open Facts₀ Facts

local notation "𝕄" => MT nD τ sig Unit (Elt F) ℕ (UC sig nD τ) ℕ

variable {α : Type} (c : Dev nD) (Q : α → sProp (MT nD τ sig Unit (Elt F) ℕ (UC sig nD τ) ℕ))

/-- What the scan holds. -/
def scanHolds (gs : Memref sig .tc .smem S32 .i32) (c : Dev nD) (f : Buf (Elt F) (gs.view.loc (c : Thread nD τ))) (s : Scan) : sProp (MT nD τ sig Unit (Elt F) ℕ (UC sig nD τ) ℕ) :=
  iprop(holdsG gs c f ∗ holdsT (F := F) eTab c s.E ∗ holdsT (F := F) rTab c s.R)

theorem wp_scanStep (E : Set ℕ) {gs : Memref sig .tc .smem S32 .i32} (f : Buf (Elt F) (gs.view.loc (c : Thread nD τ))) (G : ℕ → BitVec 32)
    (hf : ∀ x : S32.Idx, gs.view.read (Elt F) f x = G (x 0).val) (hG : Fits G) (t : Fin k0_t1_loop.trips) (s : Scan) (hs : s.Good G t.val)
    (K : BitVec 32 × BitVec 32 → Prg F α) :
    scanHolds gs c f s ⊢ iprop((scanHolds gs c f (s.next t.val (G t.val)) -∗ wp frame (wpE (defs₀ (F := F)) Variants.none (c : Thread nD τ) none) E
          (K ((s.next t.val (G t.val)).n, (s.next t.val (G t.val)).off)) Q)
      -∗ wp frame (wpE (defs₀ (F := F)) Variants.none (c : Thread nD τ) none) E (scanStep gs t (s.n, s.off) >>= K) Q) := by
  obtain ⟨ho, ht⟩ := off1_eq t
  have hn := hs.n
  unfold scanStep scanHolds
  simp only [bind_assoc]
  iintro ⟨HG, HE, HR⟩ HK
  iapply (wp_size c Q E t.val ho f G hf _) $$ HG
  iintro HG
  rw [Prog.bind_lift]
  iapply (wp_assume Variants.none (c : Thread nD τ) none E (chk1_ok (by omega) (hG.each _ ht)))
  dsimp only
  by_cases hc : k0_cond1 (G t.val) = 1#1
  · rw [dif_pos hc]
    simp only [bind_assoc]
    iapply (wp_look c Q E s.n.toNat rfl s.E _) $$ HE
    iintro HE
    iapply (wp_put c Q E s.n.toNat rfl s.E _ _) $$ HE
    iintro HE
    iapply (wp_look c Q E s.n.toNat rfl s.R _) $$ HR
    iintro HR
    iapply (wp_put c Q E s.n.toNat rfl s.R _ _) $$ HR
    iintro HR
    simp only [Prog.pure_eq_ret, Prog.bind_ret]
    iapply (wp_look c Q E _ rfl _ _) $$ HR
    iintro HR
    iapply (wp_put c Q E _ rfl _ _ _) $$ HR
    iintro HR
    iapply HK
    unfold Scan.next
    simp only [if_pos hc]
    isplitl [HG]; · iexact HG
    isplitl [HE]; · iexact HE
    iexact HR
  · rw [dif_neg hc]
    simp only [bind_assoc, Prog.pure_eq_ret, Prog.bind_ret]
    iapply (wp_look c Q E _ rfl _ _) $$ HR
    iintro HR
    iapply (wp_put c Q E _ rfl _ _ _) $$ HR
    iintro HR
    iapply HK
    unfold Scan.next
    simp only [if_neg hc]
    isplitl [HG]; · iexact HG
    isplitl [HE]; · iexact HE
    iexact HR

/-- The whole scan. -/
theorem wp_scan (E : Set ℕ) {gs : Memref sig .tc .smem S32 .i32} (f : Buf (Elt F) (gs.view.loc (c : Thread nD τ))) (G : ℕ → BitVec 32)
    (hf : ∀ x : S32.Idx, gs.view.read (Elt F) f x = G (x 0).val) (hG : Fits G) (E₀ R₀ : ℕ → BitVec 32)
    (K : BitVec 32 × BitVec 32 → Prg F α) :
    scanHolds gs c f ⟨0#32, 0#32, E₀, R₀⟩ ⊢ iprop((scanHolds gs c f (Scan.run G E₀ R₀ 32) -∗ wp frame (wpE (defs₀ (F := F)) Variants.none (c : Thread nD τ) none) E
          (K ((Scan.run G E₀ R₀ 32).n, (Scan.run G E₀ R₀ 32).off)) Q)
      -∗ wp frame (wpE (defs₀ (F := F)) Variants.none (c : Thread nD τ) none) E
        (Scf.Loop.for k0_t1_loop k0_t1_ok ((0#32, 0#32) : BitVec 32 × BitVec 32) (fun t a => scanStep gs t a) >>= K) Q) := by
  iintro H HK
  iapply (Scf.wp_for_bind frame (wpE (defs₀ (F := F)) Variants.none (c : Thread nD τ) none) E _ _ _ k0_t1_ok _ _
    (fun t a => iprop(⌜a = ((Scan.run G E₀ R₀ t).n, (Scan.run G E₀ R₀ t).off)⌝ ∗ scanHolds gs c f (Scan.run G E₀ R₀ t)))
    (fun t a => ?_)) $$ [H]
  · iintro ⟨%ha, H⟩
    subst ha
    rw [← Prog.bind_pure (scanStep gs t _)]
    have ht : t.val < 32 := by have := t.2; have e := trips_t1; unfold Scf.Loop.trips at e; omega
    iapply (wp_scanStep c _ E f G hf hG t (Scan.run G E₀ R₀ t) (Scan.run_good hG E₀ R₀ (by omega)) pure) $$ H
    iintro H
    rw [Prog.pure_eq_ret]
    iapply (le_wp_ret _ _ _ _ _)
    isplitr
    · ipureintro; rfl
    iexact H
  · isplitr
    · ipureintro; rfl
    iexact H
  · iintro %a ⟨%ha, H⟩
    subst ha
    iapply HK
    iexact H

end Cert.KernelIdeal.Hand

end
-- ==== Proof.Copies.lean ====
/- One copy in flight, the three slots of the ring, and the rules for starting and awaiting the copies of a slot. -/
module

public import proofs.«01_k».proof.Proof.Scan
public import Idealize.ShloMosaic.Lib.Ring

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

variable {F : FTy → Type} [FloatOps F]
variable [Facts]
open Facts₀ Facts

local notation "𝕄" => MT nD τ sig Unit (Elt F) ℕ (UC sig nD τ) ℕ

theorem eq_entails {P Q : sProp (MT nD τ sig Unit (Elt F) ℕ (UC sig nD τ) ℕ)} (e : P = Q) : P ⊢ Q := e ▸ .rfl

/-- The rest of a source of which one window is being copied, and the copy. -/
def airborne {sp sp' : Space} {s : Shape} {e : EltTy} (c : Dev nD) (src : Memref sig .tc sp s e) (dst : Memref sig .tc sp' s e) (sm : DmaSem sig)
    (q : PosShare TreeShare) (fs : Buf (Elt F) (src.view.loc (c : Thread nD τ))) : sProp (MT nD τ sig Unit (Elt F) ℕ (UC sig nD τ) ℕ) :=
  iprop(∃ fd : Buf (Elt F) (dst.view.loc (c : Thread nD τ)),
    Transfers.Flight countersEmb (c : Thread nD τ) (.dma sm) () dst.view.dmaCredit
      iprop((dst.view.loc (c : Thread nD τ) ↦[dst.view.set]{fullShare} dst.view.write (Elt F) fd (src.view.read (Elt F) fs) Finset.univ)
        ∗ (src.view.loc (c : Thread nD τ) ↦[src.view.set]{q} fs))
    ∗ (src.view.loc (c : Thread nD τ) ↦[Finset.univ \ src.view.set]{q} fs))

/-- A window holding a copy of another. -/
def copied {sp sp' : Space} {s : Shape} {e : EltTy} (c : Dev nD) (src : Memref sig .tc sp s e) (dst : Memref sig .tc sp' s e)
    (fs : Buf (Elt F) (src.view.loc (c : Thread nD τ))) : sProp (MT nD τ sig Unit (Elt F) ℕ (UC sig nD τ) ℕ) :=
  iprop(∃ f : Buf (Elt F) (dst.view.loc (c : Thread nD τ)), ⌜dst.view.read (Elt F) f = src.view.read (Elt F) fs⌝
    ∗ (dst.view.loc (c : Thread nD τ) ↦[dst.view.set]{fullShare} f))

variable {α : Type} (c : Dev nD) (Q : α → sProp (MT nD τ sig Unit (Elt F) ℕ (UC sig nD τ) ℕ))

theorem wp_start {sp sp' : Space} {s : Shape} {e : EltTy} {src : Memref sig .tc sp s e} {dst : Memref sig .tc sp' s e} {sm : DmaSem sig}
    {hsrc : src.view.WordExact} {hdst : dst.view.WordExact} {hsem : (DmaTarget.here dst : DmaTarget nD τ sig (Proc.tc : Proc τ) sp' s e).Typed sp (.dma sm)}
    (hs : 0 < s.numel) (q : PosShare TreeShare) (fs : Buf (Elt F) (src.view.loc (c : Thread nD τ))) (fd : Buf (Elt F) (dst.view.loc (c : Thread nD τ)))
    (K : PUnit → Prg F α) :
    iprop((src.view.loc (c : Thread nD τ) ↦{q} fs) ∗ (dst.view.loc (c : Thread nD τ) ↦[dst.view.set]{fullShare} fd) ∗ semVal ((c : Thread nD τ), .dma sm) 0)
      ⊢ iprop((airborne c src dst sm q fs -∗ wp frame (wpE (defs₀ (F := F)) Variants.none (c : Thread nD τ) none) Set.univ (K ⟨⟩) Q)
        -∗ wp frame (wpE (defs₀ (F := F)) Variants.none (c : Thread nD τ) none) Set.univ
          (.op (.enqueueDma src (.here dst) (.dma sm) hsrc hdst hsem) K) Q) := by
  iintro ⟨Hs, Hd, Hv⟩ HK
  ihave H2 := (pointsTo_split_subset (q := q) (f := fs) (Finset.subset_univ src.view.set)).1 $$ Hs
  icases H2 with ⟨Hs, Hr⟩
  iapply (Transfers.wp_dmaLocal countersEmb Variants.none (c : Thread nD τ) none (src := src) (via := ReadAs.same) (dst := dst) (sm := .dma sm) (fs := fs) (fd := fd) () dst.view.dmaCredit rfl
    (View.dmaCredit_pos _ hs) (Finset.Subset.refl _)) $$ [Hs Hd Hv]
  · isplitl [Hs]; · iexact Hs
    isplitl [Hd]; · iexact Hd
    iexact Hv
  iintro HF
  iapply HK
  unfold airborne
  iexists fd
  isplitl [HF]; · iexact HF
  iexact Hr

theorem wp_await {sp sp' : Space} {s : Shape} {e : EltTy} {src : Memref sig .tc sp s e} {dst : Memref sig .tc sp' s e} {sm : DmaSem sig}
    {sp2 : Space} {src2 : Memref sig .tc sp2 s e}
    {hsrc : src2.view.WordExact} {hdst : dst.view.WordExact} (q : PosShare TreeShare) (fs : Buf (Elt F) (src.view.loc (c : Thread nD τ)))
    (K : PUnit → Prg F α) :
    iprop(airborne c src dst sm q fs ∗ (∃ W, owes (c : Thread nD τ) 0 W))
      ⊢ iprop((copied c src dst fs -∗ (src.view.loc (c : Thread nD τ) ↦{q} fs) -∗ semVal ((c : Thread nD τ), .dma sm) 0
          -∗ (∃ W, owes (c : Thread nD τ) 0 W)
          -∗ wp frame (wpE (defs₀ (F := F)) Variants.none (c : Thread nD τ) none) Set.univ (K ⟨⟩) Q)
        -∗ wp frame (wpE (defs₀ (F := F)) Variants.none (c : Thread nD τ) none) Set.univ (.op (.waitDma2 sm src2 dst hsrc hdst) K) Q) := by
  unfold airborne copied
  iintro ⟨⟨%fd, HF, Hr⟩, ⟨%W, HO⟩⟩ HK
  iapply (Transfers.wp_waitLocal countersEmb Variants.none (c : Thread nD τ) none () rfl) $$ [HF HO]
  · isplitl [HF]; · iexact HF
    iexact HO
  iintro ⟨⟨Hd, Hs⟩, Hv, HO⟩
  ihave Hs := (pointsTo_split_subset (q := q) (f := fs) (Finset.subset_univ src.view.set)).2 $$ [Hs Hr]
  · isplitl [Hs]; · iexact Hs
    iexact Hr
  iapply HK $$ [Hd] [Hs] [Hv] [HO]
  · iexists _
    isplitr
    swap
    · iexact Hd
    ipureintro
    exact View.read_write_univ _ _
  · iexact Hs
  · iexact Hv
  · iexists _
    iexact HO

/-! ## The slots -/

theorem inbW3 (k : Fin 3) : ∀ a, (![k.val, 0, 0] : Fin 3 → Nat) a + S1x1408x2816.size a ≤ S3x1408x2816.size a
  | 0 => k.2 | 1 => le_rfl | 2 => le_rfl
theorem inbS3 (k : Fin 3) : ∀ a, (![k.val, 0, 0] : Fin 3 → Nat) a + S1x22x2816.size a ≤ S3x22x2816.size a
  | 0 => k.2 | 1 => le_rfl | 2 => le_rfl
theorem inbW32 (e : Fin 32) : ∀ a, (![e.val, 0, 0] : Fin 3 → Nat) a + S1x1408x2816.size a ≤ S32x1408x2816.size a
  | 0 => e.2 | 1 => le_rfl | 2 => le_rfl
theorem inbS32 (e : Fin 32) : ∀ a, (![e.val, 0, 0] : Fin 3 → Nat) a + S1x22x2816.size a ≤ S32x22x2816.size a
  | 0 => e.2 | 1 => le_rfl | 2 => le_rfl
theorem inb3 (k : Fin 3) : ∀ a, (![k.val] : Fin 1 → Nat) a + S1.size a ≤ S3.size a
  | 0 => k.2

abbrev slotW3 (k : Fin 3) := slotMemW ![k.val, 0, 0] (inbW3 k)
abbrev slotS3 (k : Fin 3) := slotMemS ![k.val, 0, 0] (inbS3 k)
abbrev homeW32 (e : Fin 32) := homeW ![e.val, 0, 0] (inbW32 e)
abbrev homeS32 (e : Fin 32) := homeS ![e.val, 0, 0] (inbS32 e)
abbrev semW3 (k : Fin 3) := semW ![k.val] (inb3 k)
abbrev semS3 (k : Fin 3) := semS ![k.val] (inb3 k)

/-- Where a slot stands: nothing asked of it, an expert on its way, an expert in it. -/
inductive Slot where
  | free
  | air (e : Fin 32)
  | full (e : Fin 32)

/-- The place in the array of all experts of a place in a slot. -/
def ix3 (e : Fin 32) (i : S3x1408x2816.Idx) : S32x1408x2816.Idx
  | 0 => e | 1 => i 1 | 2 => i 2
def ix3s (e : Fin 32) (i : S3x22x2816.Idx) : S32x22x2816.Idx
  | 0 => e | 1 => i 1 | 2 => i 2

theorem home_eqW (e : Fin 32) (k : Fin 3) (x : S1408x2816.Idx) : (homeW32 e).view.emb x = ix3 e ((slotW3 k).view.emb x) := by
  funext a
  apply Fin.ext
  have h0 : ((Shape.reshapeEquiv (s := S1x1408x2816) (s' := S1408x2816) (by decide) x) 0).val < 1 := Fin.isLt _
  match a with
  | 0 =>
    show e.val + 1 * ((Shape.reshapeEquiv (s := S1x1408x2816) (s' := S1408x2816) (by decide) x) 0).val = e.val
    omega
  | 1 => rfl
  | 2 => rfl

theorem home_eqS (e : Fin 32) (k : Fin 3) (x : S22x2816.Idx) : (homeS32 e).view.emb x = ix3s e ((slotS3 k).view.emb x) := by
  funext a
  apply Fin.ext
  have h0 : ((Shape.reshapeEquiv (s := S1x22x2816) (s' := S22x2816) (by decide) x) 0).val < 1 := Fin.isLt _
  match a with
  | 0 =>
    show e.val + 1 * ((Shape.reshapeEquiv (s := S1x22x2816) (s' := S22x2816) (by decide) x) 0).val = e.val
    omega
  | 1 => rfl
  | 2 => rfl

section Ring

variable (fw : Buf (Elt F) (wIn.view.loc (c : Thread nD τ))) (fv : Buf (Elt F) (sIn.view.loc (c : Thread nD τ)))

/-- The ring of weights with one expert's in every slot. -/
def expertW (e : Fin 32) : Buf (Elt F) (wBuf.view.loc (c : Thread nD τ)) := fun (i : S3x1408x2816.Idx) => fw (ix3 e i)
/-- The ring of scales with one expert's in every slot. -/
def expertS (e : Fin 32) : Buf (Elt F) (sBuf.view.loc (c : Thread nD τ)) := fun (i : S3x22x2816.Idx) => fv (ix3s e i)

theorem copiedW (k : Fin 3) (e : Fin 32) : copied c (homeW32 e) (slotW3 k) fw
    ⊢ ((slotW3 k).view.loc (c : Thread nD τ) ↦[(slotW3 k).view.set]{fullShare} expertW c fw e) := by
  unfold copied
  iintro ⟨%f, %hf, H⟩
  iapply (eq_entails (pointsTo_congr (fun i hi => ?_))) $$ H
  obtain ⟨x, -, rfl⟩ := Finset.mem_map.mp hi
  refine (congrFun hf x).trans (congrArg fw ?_)
  exact home_eqW e k x

theorem copiedS (k : Fin 3) (e : Fin 32) : copied c (homeS32 e) (slotS3 k) fv
    ⊢ ((slotS3 k).view.loc (c : Thread nD τ) ↦[(slotS3 k).view.set]{fullShare} expertS c fv e) := by
  unfold copied
  iintro ⟨%f, %hf, H⟩
  iapply (eq_entails (pointsTo_congr (fun i hi => ?_))) $$ H
  obtain ⟨x, -, rfl⟩ := Finset.mem_map.mp hi
  refine (congrFun hf x).trans (congrArg fv ?_)
  exact home_eqS e k x

abbrev tokOf (k : Fin 3) : PosShare TreeShare := Transfers.shareTok fullShare 3 k

/-- The slot's semaphores at rest and its shares of the two arrays. -/
def atRest (k : Fin 3) : sProp (MT nD τ sig Unit (Elt F) ℕ (UC sig nD τ) ℕ) :=
  iprop(semVal ((c : Thread nD τ), .dma (semW3 k)) 0 ∗ semVal ((c : Thread nD τ), .dma (semS3 k)) 0
    ∗ (wIn.view.loc (c : Thread nD τ) ↦{tokOf k} fw) ∗ (sIn.view.loc (c : Thread nD τ) ↦{tokOf k} fv))

/-- A slot in its state. -/
def slotIn (k : Fin 3) : Slot → sProp (MT nD τ sig Unit (Elt F) ℕ (UC sig nD τ) ℕ)
  | .free => iprop((∃ f, (slotW3 k).view.loc (c : Thread nD τ) ↦[(slotW3 k).view.set]{fullShare} f)
      ∗ (∃ f, (slotS3 k).view.loc (c : Thread nD τ) ↦[(slotS3 k).view.set]{fullShare} f) ∗ atRest c fw fv k)
  | .air e => iprop(airborne c (homeW32 e) (slotW3 k) (semW3 k) (tokOf k) fw ∗ airborne c (homeS32 e) (slotS3 k) (semS3 k) (tokOf k) fv)
  | .full e => iprop(((slotW3 k).view.loc (c : Thread nD τ) ↦[(slotW3 k).view.set]{fullShare} expertW c fw e)
      ∗ ((slotS3 k).view.loc (c : Thread nD τ) ↦[(slotS3 k).view.set]{fullShare} expertS c fv e) ∗ atRest c fw fv k)

theorem wp_fetch {oW oV : Fin 1 → Nat} {dW dV eW eV : Fin 3 → Nat} (hoW : ∀ a, oW a + S1.size a ≤ S3.size a) (hoV : ∀ a, oV a + S1.size a ≤ S3.size a)
    (hdW : ∀ a, dW a + S1x1408x2816.size a ≤ S3x1408x2816.size a) (hdV : ∀ a, dV a + S1x22x2816.size a ≤ S3x22x2816.size a)
    (heW : ∀ a, eW a + S1x1408x2816.size a ≤ S32x1408x2816.size a) (heV : ∀ a, eV a + S1x22x2816.size a ≤ S32x22x2816.size a)
    (x1 : (homeW eW heW).view.WordExact) (x2 : (slotMemW dW hdW).view.WordExact) (k : Fin 3) (e : Fin 32)
    (h1 : oW = ![k.val]) (h2 : oV = ![k.val]) (h3 : dW = ![k.val, 0, 0]) (h4 : dV = ![k.val, 0, 0]) (h5 : eW = ![e.val, 0, 0]) (h6 : eV = ![e.val, 0, 0])
    (K : PUnit → Prg F α) :
    slotIn c fw fv k .free ⊢ iprop((slotIn c fw fv k (.air e) -∗ wp frame (wpE (defs₀ (F := F)) Variants.none (c : Thread nD τ) none) Set.univ (K ⟨⟩) Q)
      -∗ wp frame (wpE (defs₀ (F := F)) Variants.none (c : Thread nD τ) none) Set.univ (fetch hoW hoV hdW hdV heW heV x1 x2 >>= K) Q) := by
  subst h1 h2 h3 h4 h5 h6
  unfold fetch
  simp only [Prog.bind_op, Prog.bind_ret]
  unfold slotIn atRest
  iintro ⟨⟨%f, Hf⟩, ⟨%g, Hg⟩, Hv1, Hv2, Hw, Hs⟩ HK
  iapply (wp_start c Q (src := homeW32 e) (dst := slotW3 k) (sm := semW3 k) (by decide) (tokOf k) fw f _) $$ [Hw Hf Hv1]
  · isplitl [Hw]; · iexact Hw
    isplitl [Hf]; · iexact Hf
    iexact Hv1
  iintro H1
  iapply (wp_start c Q (src := homeS32 e) (dst := slotS3 k) (sm := semS3 k) (by decide) (tokOf k) fv g _) $$ [Hs Hg Hv2]
  · isplitl [Hs]; · iexact Hs
    isplitl [Hg]; · iexact Hg
    iexact Hv2
  iintro H2
  iapply HK
  isplitl [H1]; · iexact H1
  iexact H2

theorem wp_collect {oW oV : Fin 1 → Nat} {dW dV eW eV : Fin 3 → Nat} (hoW : ∀ a, oW a + S1.size a ≤ S3.size a) (hoV : ∀ a, oV a + S1.size a ≤ S3.size a)
    (hdW : ∀ a, dW a + S1x1408x2816.size a ≤ S3x1408x2816.size a) (hdV : ∀ a, dV a + S1x22x2816.size a ≤ S3x22x2816.size a)
    (heW : ∀ a, eW a + S1x1408x2816.size a ≤ S32x1408x2816.size a) (heV : ∀ a, eV a + S1x22x2816.size a ≤ S32x22x2816.size a)
    (x1 : (homeW eW heW).view.WordExact) (x2 : (slotMemW dW hdW).view.WordExact) (k : Fin 3) (e : Fin 32)
    (h1 : oW = ![k.val]) (h2 : oV = ![k.val]) (h3 : dW = ![k.val, 0, 0]) (h4 : dV = ![k.val, 0, 0])
    (K : PUnit → Prg F α) :
    iprop(slotIn c fw fv k (.air e) ∗ (∃ W, owes (c : Thread nD τ) 0 W))
      ⊢ iprop((slotIn c fw fv k (.full e) -∗ (∃ W, owes (c : Thread nD τ) 0 W)
        -∗ wp frame (wpE (defs₀ (F := F)) Variants.none (c : Thread nD τ) none) Set.univ (K ⟨⟩) Q)
      -∗ wp frame (wpE (defs₀ (F := F)) Variants.none (c : Thread nD τ) none) Set.univ (collect hoW hoV hdW hdV heW heV x1 x2 >>= K) Q) := by
  subst h1 h2 h3 h4
  unfold collect
  simp only [Prog.bind_op, Prog.bind_ret]
  unfold slotIn atRest
  iintro ⟨⟨H1, H2⟩, HO⟩ HK
  iapply (wp_await c Q (src := homeW32 e) (dst := slotW3 k) (sm := semW3 k) (tokOf k) fw _) $$ [H1 HO]
  · isplitl [H1]; · iexact H1
    iexact HO
  iintro Hf Hw Hv1 HO
  iapply (wp_await c Q (src := homeS32 e) (dst := slotS3 k) (sm := semS3 k) (tokOf k) fv _) $$ [H2 HO]
  · isplitl [H2]; · iexact H2
    iexact HO
  iintro Hg Hs Hv2 HO
  iapply HK $$ [Hf Hg Hv1 Hv2 Hw Hs] HO
  isplitl [Hf]; · iapply (copiedW c fw k e); iexact Hf
  isplitl [Hg]; · iapply (copiedS c fv k e); iexact Hg
  isplitl [Hv1]; · iexact Hv1
  isplitl [Hv2]; · iexact Hv2
  isplitl [Hw]; · iexact Hw
  iexact Hs

/-- A full slot may be used again. -/
theorem slotIn_reuse (k : Fin 3) (e : Fin 32) : slotIn c fw fv k (.full e) ⊢ slotIn c fw fv k .free := by
  unfold slotIn
  iintro ⟨Hf, Hg, H⟩
  isplitl [Hf]; · iexists _; iexact Hf
  isplitl [Hg]; · iexists _; iexact Hg
  iexact H

/-- The experts of the slots before trip `t`: its own and the next on their way, the third slot free. -/
def slotsAt (n : ℕ) (E : ℕ → Fin 32) (t : ℕ) (k : Fin 3) : Slot :=
  if k.val = t % 3 ∧ t < n then .air (E t) else if k.val = (t + 1) % 3 ∧ t + 1 < n then .air (E (t + 1)) else .free

abbrev ring (st : Fin 3 → Slot) : sProp (MT nD τ sig Unit (Elt F) ℕ (UC sig nD τ) ℕ) := Ring.AtW (σ := fun _ => Slot) (slotIn c fw fv) st

end Ring

end Cert.KernelIdeal.Hand

end
-- ==== Proof.Share.lean ====
/- One expert's whole share runs: from drained matrix units to drained matrix units, and the result's rows from its first
   row on take its product. -/
module

public import proofs.«01_k».proof.Proof.Store
public import proofs.«01_k».proof.Proof.Printed

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

variable {F : FTy → Type} [FloatOps F]
variable [Facts]
open Facts₀ Facts

/-! ## The sums -/

variable (p : At) (hp : p.Ok) (I : Input F)

theorem accum_some (e : Cert.Hand.Sum F) (xs : List (Cert.Hand.Sum F)) : accum (some e) xs = some (xs.foldl addf e) := by
  induction xs generalizing e with
  | nil => rfl
  | cons x xs ih => exact ih (addf e x)

/-- A chunk's product with 256 columns, tile by tile in order. -/
def blockSum (col : Nat) (hc : col ≤ 2560) (c : Fin 16) : FVec F S32x256 .f32 :=
  ([1, 2, 3, 4, 5, 6, 7, 8, 9, 10].map fun k => passAt p hp I c k col hc).foldl addf (passAt p hp I c 0 col hc)

/-- The last columns' product: the even tiles' sum and the odd tiles' sum. -/
def lastSum (c : Fin 16) : FVec F S32x256 .f32 :=
  addf (([2, 4, 6, 8, 10].map fun k => passAt p hp I c k 2560 le_rfl).foldl addf (passAt p hp I c 0 2560 le_rfl))
    (([3, 5, 7, 9].map fun k => passAt p hp I c k 2560 le_rfl).foldl addf (passAt p hp I c 1 2560 le_rfl))

theorem accum_tiles (col : Nat) (hc : col ≤ 2560) (c : Fin 16) :
    accum none (tiles.map fun k => passAt p hp I c k col hc) = some (blockSum p hp I col hc c) :=
  accum_some _ _

theorem accum_even (c : Fin 16) : accum none ((tiles.filter fun k => Fin.ofNat 2 k.val = 0).map fun k => passAt p hp I c k 2560 le_rfl)
    = some (([2, 4, 6, 8, 10].map fun k => passAt p hp I c k 2560 le_rfl).foldl addf (passAt p hp I c 0 2560 le_rfl)) := by
  rw [show tiles.filter (fun k => Fin.ofNat 2 k.val = 0) = [0, 2, 4, 6, 8, 10] by decide]
  exact accum_some _ _

theorem accum_odd (c : Fin 16) : accum none ((tiles.filter fun k => Fin.ofNat 2 k.val = 1).map fun k => passAt p hp I c k 2560 le_rfl)
    = some (([3, 5, 7, 9].map fun k => passAt p hp I c k 2560 le_rfl).foldl addf (passAt p hp I c 1 2560 le_rfl)) := by
  rw [show tiles.filter (fun k => Fin.ofNat 2 k.val = 1) = [1, 3, 5, 7, 9] by decide]
  exact accum_some _ _

/-- A column block's sums. -/
def colSum (cb : Nat) (c : Fin 16) : FVec F S32x256 .f32 :=
  if h : cb < 10 then blockSum p hp I (256 * cb) (by omega) c else lastSum p hp I c

theorem blockSum_eq {col cb : Nat} (hc : col ≤ 2560) (e : col = 256 * cb) (h : cb < 10) : blockSum p hp I col hc = colSum p hp I cb := by
  subst e; funext c; rw [colSum, dif_pos h]

theorem lastSum_eq : lastSum p hp I = colSum p hp I 10 := by funext c; rw [colSum, dif_neg (by omega)]

/-- The result after `n` column blocks of a share. -/
def shareUpTo (r0 sk : Nat) (V : Nat → Fin 16 → FVec F S32x256 .f32) (Y : YArr F) : Nat → YArr F
  | 0 => Y
  | n + 1 => putCol r0 sk (256 * n) (V n) (shareUpTo r0 sk V Y n)

/-- The result after the whole share: the rows from the share's first on are its own. -/
def shareOf (r0 sk : Nat) (V : Nat → Fin 16 → FVec F S32x256 .f32) (Y : YArr F) : YArr F := fun i =>
  if r0 ≤ (i 0).val ∧ (i 0).val < r0 + 512 then
    if (i 0).val < r0 + 16 then
      tr (if sk ≤ (i 0).val - r0 then ex (tr (V ((i 1).val / 256) 0 (pt ((i 0).val - r0) (i 1).val))) else ex (Y i))
    else tr (V ((i 1).val / 256) (Fin.ofNat 16 (((i 0).val - r0) / 32)) (pt ((i 0).val - r0) (i 1).val))
  else Y i

theorem pt_mod (r c n : Nat) (h : 256 * n ≤ c) : pt r (c - 256 * n) = pt r c := by
  refine idx2 (m := 32) (n := 256) _ _ rfl ?_
  show (c - 256 * n) % 256 = c % 256
  omega

theorem shareUpTo_apply (r0 sk : Nat) (V : Nat → Fin 16 → FVec F S32x256 .f32) (Y : YArr F) (n : Nat) (i : S1024x2816.Idx) :
    shareUpTo r0 sk V Y n i = if (i 1).val < 256 * n then shareOf r0 sk V Y i else Y i := by
  induction n with
  | zero => simp [shareUpTo]
  | succ n ih =>
    rw [shareUpTo, putCol]
    by_cases hc : inCol (256 * n) i
    · have hd : (i 1).val / 256 = n := by obtain ⟨h1, h2⟩ := hc; omega
      rw [if_pos (show (i 1).val < 256 * (n + 1) by obtain ⟨h1, h2⟩ := hc; omega)]
      have ih' : shareUpTo r0 sk V Y n i = Y i := by rw [ih, if_neg (by obtain ⟨h1, h2⟩ := hc; omega)]
      unfold shareOf
      rw [hd, ih', pt_mod _ _ _ hc.1]
      by_cases hr : r0 ≤ (i 0).val ∧ (i 0).val < r0 + 512
      · rw [if_pos ⟨hr, hc⟩, if_pos hr]
      · rw [if_neg (fun h => hr h.1), if_neg hr]
    · rw [if_neg (fun h => hc h.2), ih]
      by_cases h : (i 1).val < 256 * n
      · rw [if_pos h, if_pos (by omega)]
      · rw [if_neg h, if_neg (fun h' => hc ⟨by omega, by omega⟩)]

theorem shareUpTo_all (r0 sk : Nat) (V : Nat → Fin 16 → FVec F S32x256 .f32) (Y : YArr F) : shareUpTo r0 sk V Y 11 = shareOf r0 sk V Y := by
  funext i
  rw [shareUpTo_apply, if_pos]
  exact (i 1).isLt

/-! ## The drains run -/

variable (b : Bufs) (hi : p.Is)
variable (c : Dev nD) (E : Set ℕ) {α : Type} (Q : α → sProp (MT nD τ sig Unit (Elt F) ℕ (UC sig nD τ) ℕ))

theorem wp_drainLater (q : Fin 2) (col : Nat) (hc : col ≤ 2560) (hm : col % 128 = 0) (v : Fin 16 → FVec F S32x256 .f32) (cs : List (Fin 16))
    (hn : cs.Nodup) (m : Mxu F) (L : Fin 2 → Fin 16 → Option (Cert.Hand.Sum F)) (H : Holds 0 m L) (hv : ∀ d ∈ cs, L q d = some (v d))
    (Y : YArr F) (K : Mxu F → Prg F α) :
    holdsY b c Y
      ⊢ iprop((∀ m', ⌜Holds 0 m' (fun q' d => if q' = q ∧ d ∈ cs then none else L q' d)⌝ -∗ holdsY b c (putRest p.row0.toNat col v cs Y)
            -∗ wp frame (wpE (defs₀ (F := F)) Variants.none c none) E (K m') Q)
        -∗ wp frame (wpE (defs₀ (F := F)) Variants.none c none) E (drainLater b p hi.ok q col hc hm cs m >>= K) Q) := by
  induction cs generalizing m L Y with
  | nil =>
    simp only [drainLater, Prog.pure_eq_ret, Prog.bind_ret, List.not_mem_nil, and_false, if_false]
    iintro HY HK
    iapply HK $$ [] [HY]
    · ipureintro; exact H
    · iexact HY
  | cons d cs ih =>
    have hd := List.nodup_cons.1 hn
    rw [drainLater, bind_assoc]
    rw [H.read q d (fits 0 d (.inl rfl) d.2) (hv d List.mem_cons_self)]
    iintro HY HK
    iapply (wp_storeLater b p hi c E Q d col hc hm (v d) Y _) $$ HY
    iintro HY
    have hL : ∀ d' ∈ cs, upd L q d none q d' = some (v d') := fun d' hd' => by
      unfold upd
      rw [if_neg (fun h : q = q ∧ d' = d => hd.1 (h.2 ▸ hd'))]
      exact hv d' (List.mem_cons_of_mem _ hd')
    iapply (ih hd.2 _ _ (H.pop q d (fits 0 d (.inl rfl) d.2)) hL (putLater p.row0.toNat col d (v d) Y)) $$ HY
    iintro %m' %Hm' HY
    iapply HK $$ [] [HY]
    · ipureintro
      have e : (fun q' d' => if q' = q ∧ d' ∈ cs then none else upd L q d none q' d')
          = (fun q' d' => if q' = q ∧ d' ∈ d :: cs then none else L q' d') := by
        funext q' d'
        unfold upd
        by_cases hq : q' = q
        · by_cases h1 : d' = d
          · simp [hq, h1]
          · by_cases h2 : d' ∈ cs <;> simp [hq, h1, h2]
        · simp [hq]
      exact e ▸ Hm'
    · iexact HY

theorem wp_drain (q : Fin 2) (col : Nat) (hc : col ≤ 2560) (hm : col % 128 = 0) (v : Fin 16 → FVec F S32x256 .f32)
    (m : Mxu F) (L : Fin 2 → Fin 16 → Option (Cert.Hand.Sum F)) (H : Holds 0 m L) (hv : ∀ d, L q d = some (v d))
    (Y : YArr F) (K : Mxu F → Prg F α) :
    holdsY b c Y
      ⊢ iprop((∀ m', ⌜Holds 0 m' (fun q' d => if q' = q then none else L q' d)⌝ -∗ holdsY b c (putCol p.row0.toNat p.skip.toNat col v Y)
            -∗ wp frame (wpE (defs₀ (F := F)) Variants.none c none) E (K m') Q)
        -∗ wp frame (wpE (defs₀ (F := F)) Variants.none c none) E (drain b p hi.ok q col hc hm m >>= K) Q) := by
  rw [drain, bind_assoc]
  rw [show m.read q (0 + 8 * 0) (fits 0 0 (.inl rfl) (by decide)) = v 0 from H.read q 0 (fits 0 0 (.inl rfl) (by decide)) (hv 0)]
  iintro HY HK
  iapply (wp_storeFirst b p hi c E Q col hc hm (v 0) Y _) $$ HY
  iintro HY
  have hL : ∀ d ∈ laterChunks, upd L q 0 none q d = some (v d) := fun d hd => by
    unfold upd
    rw [if_neg (fun h : q = q ∧ d = 0 => by rw [h.2] at hd; revert hd; decide)]
    exact hv d
  iapply (wp_drainLater p b hi c E Q q col hc hm v laterChunks (by decide) _ _ (H.pop q 0 (fits 0 0 (.inl rfl) (by decide))) hL _ K) $$ HY
  iintro %m' %Hm' HY
  iapply HK $$ [] [HY]
  · ipureintro
    have e : (fun q' d' => if q' = q ∧ d' ∈ laterChunks then none else upd L q 0 none q' d')
        = (fun q' d' => if q' = q then none else L q' d') := by
      have hl : ∀ c : Fin 16, c ∈ laterChunks ↔ c ≠ 0 := by decide
      funext q' d'
      unfold upd
      simp only [hl]
      by_cases hq : q' = q
      · by_cases h1 : d' = 0 <;> simp [hq, h1]
      · simp [hq]
    exact e ▸ Hm'
  · rw [putRest_first]
    iexact HY

/-- The last column's sums are read and popped in both units. -/
theorem wp_lastDrainLater (v0 v1 : Fin 16 → FVec F S32x256 .f32) (cs : List (Fin 16))
    (hn : cs.Nodup) (m : Mxu F) (L : Fin 2 → Fin 16 → Option (Cert.Hand.Sum F)) (H : Holds 128 m L)
    (h0 : ∀ d ∈ cs, L 0 d = some (v0 d)) (h1 : ∀ d ∈ cs, L 1 d = some (v1 d))
    (Y : YArr F) (K : Mxu F → Prg F α) :
    holdsY b c Y
      ⊢ iprop((∀ m', ⌜Holds 128 m' (fun q' d => if d ∈ cs then none else L q' d)⌝
            -∗ holdsY b c (putRest p.row0.toNat 2560 (fun d => addf (v0 d) (v1 d)) cs Y)
            -∗ wp frame (wpE (defs₀ (F := F)) Variants.none c none) E (K m') Q)
        -∗ wp frame (wpE (defs₀ (F := F)) Variants.none c none) E (lastDrainLater b p hi.ok cs m >>= K) Q) := by
  induction cs generalizing m L Y with
  | nil =>
    simp only [lastDrainLater, Prog.pure_eq_ret, Prog.bind_ret, List.not_mem_nil, if_false]
    iintro HY HK
    iapply HK $$ [] [HY]
    · ipureintro; exact H
    · iexact HY
  | cons d cs ih =>
    have hd := List.nodup_cons.1 hn
    have hf := fits 128 d (.inr rfl) d.2
    have hP0 := H.pop 0 d hf
    have hP1 := hP0.pop 1 d hf
    have e0 : m.read 0 (128 + 8 * d) hf = v0 d := H.read 0 d hf (h0 d List.mem_cons_self)
    have e1 : (m.pop 0 (128 + 8 * d) 32 hf).read 1 (128 + 8 * d) hf = v1 d := hP0.read 1 d hf (by
      exact (if_neg (by rintro ⟨h, -⟩; exact absurd h (by decide))).trans (h1 d List.mem_cons_self))
    rw [lastDrainLater, bind_assoc, show readBoth d m = addf (v0 d) (v1 d) by rw [readBoth, e0, e1]]
    iintro HY HK
    iapply (wp_storeLater b p hi c E Q d 2560 le_rfl _ (addf (v0 d) (v1 d)) Y _) $$ HY
    iintro HY
    have hU : ∀ q d', upd (upd L 0 d none) 1 d none q d' = if d' = d then none else L q d' := fun q d' => by
      unfold upd
      by_cases h : d' = d
      · subst h; fin_cases q <;> simp
      · simp [h]
    have hL : ∀ (q : Fin 2) (d' : Fin 16), d' ∈ cs → upd (upd L 0 d none) 1 d none q d' = L q d' := fun q d' hd' => by
      rw [hU, if_neg (fun h : d' = d => hd.1 (h ▸ hd'))]
    iapply (ih hd.2 _ _ hP1 (fun d' hd' => (hL 0 d' hd').trans (h0 d' (List.mem_cons_of_mem _ hd')))
      (fun d' hd' => (hL 1 d' hd').trans (h1 d' (List.mem_cons_of_mem _ hd')))
      (putLater p.row0.toNat 2560 d (addf (v0 d) (v1 d)) Y)) $$ HY
    iintro %m' %Hm' HY
    iapply HK $$ [] [HY]
    · ipureintro
      have e : (fun q' d' => if d' ∈ cs then none else upd (upd L 0 d none) 1 d none q' d')
          = (fun q' d' => if d' ∈ d :: cs then none else L q' d') := by
        funext q' d'
        rw [hU]
        by_cases h1 : d' = d
        · simp [h1]
        · by_cases h2 : d' ∈ cs <;> simp [h1, h2]
      exact e ▸ Hm'
    · iexact HY

/-! ## The pair of column blocks, the last column block, the share -/

section
variable {Sw : Finset (Idx (b.w.view.loc (c : Thread nD τ)))} {Ss : Finset (Idx (b.s.view.loc (c : Thread nD τ)))}
  {fw : Buf (Elt F) (b.w.view.loc (c : Thread nD τ))} {fs : Buf (Elt F) (b.s.view.loc (c : Thread nD τ))}
  {fx : Buf (Elt F) (b.xs.view.loc (c : Thread nD τ))} (hS : Covers b p hi.ok c Sw Ss)
include hS

theorem wp_pairBody (c0 c1 : Nat) (h0 : c0 ≤ 2560) (h1 : c1 ≤ 2560) (m0 : c0 % 128 = 0) (m1 : c1 % 128 = 0)
    (m : Mxu F) (H : m.Drained) (Y : YArr F) (K : Mxu F → Prg F α) :
    iprop(reads b c Sw Ss fw fs fx ∗ holdsY b c Y)
      ⊢ iprop((∀ m', ⌜m'.Drained⌝ -∗ reads b c Sw Ss fw fs fx
            -∗ holdsY b c (putCol p.row0.toNat p.skip.toNat c1 (blockSum p hi.ok (inputOf b c fw fs fx) c1 h1)
                (putCol p.row0.toNat p.skip.toNat c0 (blockSum p hi.ok (inputOf b c fw fs fx) c0 h0) Y))
            -∗ wp frame (wpE (defs₀ (F := F)) Variants.none c none) E (K m') Q)
        -∗ wp frame (wpE (defs₀ (F := F)) Variants.none c none) E (pairBody b p hi.ok c0 c1 h0 h1 m0 m1 m >>= K) Q) := by
  rw [pairBody, bind_assoc]
  have H0 : Holds 0 m noSums := holds_of_drained H 0
  have H1 := holds_pairLoopM p hi.ok (inputOf b c fw fs fx) c0 c1 h0 h1 tiles H0
  iintro ⟨HR, HY⟩ HK
  iapply (wp_pairLoop b p hi.ok c E Q hS c0 c1 h0 h1 tiles m H0 _) $$ HR
  iintro HR
  rw [bind_assoc]
  iapply (wp_drain p b hi c E Q 0 c0 h0 m0 (blockSum p hi.ok (inputOf b c fw fs fx) c0 h0) _ _ H1
    (fun d => by rw [if_pos rfl]; exact accum_tiles p hi.ok _ c0 h0 d) Y _) $$ HY
  iintro %ma %Hm1 HY
  iapply (wp_drain p b hi c E Q 1 c1 h1 m1 (blockSum p hi.ok (inputOf b c fw fs fx) c1 h1) _ _ Hm1
    (fun d => by
      rw [if_neg (by decide), if_neg (by decide)]; exact accum_tiles p hi.ok _ c1 h1 d) _ _) $$ HY
  iintro %m2 %Hm2 HY
  iapply HK $$ [] [HR] [HY]
  · ipureintro
    refine drained_of_holds (A := 0) (.inl rfl) ?_
    have e : (fun q' d => if q' = 1 then none else if q' = 0 then none else if q' = 0 then
          accum (noSums q' d) (tiles.map fun k => passAt p hi.ok (inputOf b c fw fs fx) d k c0 h0) else
          accum (noSums q' d) (tiles.map fun k => passAt p hi.ok (inputOf b c fw fs fx) d k c1 h1)) = (noSums : Fin 2 → Fin 16 → Option (Cert.Hand.Sum F)) := by
      funext q' d
      fin_cases q' <;> simp [noSums]
    exact e ▸ Hm2
  · iexact HR
  · iexact HY

theorem wp_lastColumn (m : Mxu F) (H : m.Drained) (Y : YArr F) (K : Mxu F → Prg F α) :
    iprop(reads b c Sw Ss fw fs fx ∗ holdsY b c Y)
      ⊢ iprop((∀ m', ⌜m'.Drained⌝ -∗ reads b c Sw Ss fw fs fx
            -∗ holdsY b c (putCol p.row0.toNat p.skip.toNat 2560 (lastSum p hi.ok (inputOf b c fw fs fx)) Y)
            -∗ wp frame (wpE (defs₀ (F := F)) Variants.none c none) E (K m') Q)
        -∗ wp frame (wpE (defs₀ (F := F)) Variants.none c none) E (lastColumn b p hi.ok m >>= K) Q) := by
  rw [lastColumn, bind_assoc]
  have H0 : Holds 128 m noSums := holds_of_drained H 128
  have H1 := holds_lastLoopM p hi.ok (inputOf b c fw fs fx) tiles H0
  have hf := fits 128 0 (.inr rfl) (by decide)
  have hP0 := H1.pop 0 0 hf
  have hP1 := hP0.pop 1 0 hf
  have e0 := H1.read 0 0 hf (accum_even p hi.ok (inputOf b c fw fs fx) 0)
  have e1 := hP0.read 1 0 hf (by
    exact (if_neg (by rintro ⟨h, -⟩; exact absurd h (by decide))).trans (accum_odd p hi.ok (inputOf b c fw fs fx) 0))
  iintro ⟨HR, HY⟩ HK
  iapply (wp_lastLoop b p hi.ok c E Q hS tiles m H0 _) $$ HR
  iintro HR
  rw [bind_assoc, show readBoth 0 (lastLoopM p hi.ok (inputOf b c fw fs fx) tiles m) = lastSum p hi.ok (inputOf b c fw fs fx) 0 from
    (congrArg₂ addf e0 e1)]
  iapply (wp_storeFirst b p hi c E Q 2560 le_rfl _ _ Y _) $$ HY
  iintro HY
  have hU : ∀ (L : Fin 2 → Fin 16 → Option (Cert.Hand.Sum F)) q d', upd (upd L 0 0 none) 1 0 none q d' = if d' = 0 then none else L q d' := fun L q d' => by
    unfold upd
    by_cases h : d' = 0
    · subst h; fin_cases q <;> simp
    · simp [h]
  have hl : ∀ c : Fin 16, c ∈ laterChunks ↔ c ≠ 0 := by decide
  iapply (wp_lastDrainLater p b hi c E Q _ _ laterChunks (by decide) _ _ hP1
    (fun d hd => by rw [hU, if_neg ((hl d).1 hd)]; exact accum_even p hi.ok _ d)
    (fun d hd => by rw [hU, if_neg ((hl d).1 hd)]; exact accum_odd p hi.ok _ d) _ K) $$ HY
  iintro %m2 %Hm2 HY
  iapply HK $$ [] [HR] [HY]
  · ipureintro
    refine drained_of_holds (A := 128) (.inr rfl) ?_
    have e : ∀ L : Fin 2 → Fin 16 → Option (Cert.Hand.Sum F), (fun q' d => if d ∈ laterChunks then none else upd (upd L 0 0 none) 1 0 none q' d) = noSums := fun L => by
      funext q' d
      rw [hU]
      simp only [hl, noSums]
      by_cases h : d = 0 <;> simp [h]
    rw [e] at Hm2
    exact Hm2
  · iexact HR
  · have e := putRest_first p.row0.toNat p.skip.toNat 2560 (lastSum p hi.ok (inputOf b c fw fs fx)) Y
    rw [← e]
    iexact HY

/-- One expert's whole share. -/
theorem wp_expert (m : Mxu F) (H : m.Drained) (Y : YArr F) (K : Mxu F → Prg F α) :
    iprop(reads b c Sw Ss fw fs fx ∗ holdsY b c Y)
      ⊢ iprop((∀ m', ⌜m'.Drained⌝ -∗ reads b c Sw Ss fw fs fx
            -∗ holdsY b c (shareOf p.row0.toNat p.skip.toNat (colSum p hi.ok (inputOf b c fw fs fx)) Y)
            -∗ wp frame (wpE (defs₀ (F := F)) Variants.none c none) E (K m') Q)
        -∗ wp frame (wpE (defs₀ (F := F)) Variants.none c none) E (expert b p hi.ok m >>= K) Q) := by
  rw [expert, bind_assoc]
  let V := colSum p hi.ok (inputOf b c fw fs fx)
  iintro H1 HK
  iapply (Scf.wp_for_bind frame (wpE (defs₀ (F := F)) Variants.none c none) E _ _ _ k0_t4_ok m _
    (fun t m' => iprop(⌜m'.Drained⌝ ∗ reads b c Sw Ss fw fs fx ∗ holdsY b c (shareUpTo p.row0.toNat p.skip.toNat V Y (2 * t))))
    (fun t m' => ?_)) $$ [H1]
  · iintro ⟨%Hd, HR⟩
    rw [← Prog.bind_pure (pairBody _ _ _ _ _ _ _ _ _ _)]
    iapply (wp_pairBody p b hi c E _ hS _ _ (col0_le t) (col1_le t) (col0_mod t) (col1_mod t) m' Hd _ _) $$ HR
    iintro %m2 %Hm2 HR HY
    obtain ⟨ec0, ec1, ht⟩ := colW_spec t
    rw [blockSum_eq p hi.ok _ (cb := 2 * t.val) (col0_le t) (by omega) (by omega), blockSum_eq p hi.ok _ (cb := 2 * t.val + 1) (col1_le t) (by omega) (by omega), Prog.pure_eq_ret]
    iapply (le_wp_ret _ _ _ _ _)
    isplitr
    · ipureintro; exact Hm2
    isplitl [HR]
    · iexact HR
    · rw [show colW t 0#32 = 256 * (2 * t.val) by omega, show colW t 256#32 = 256 * (2 * t.val + 1) by omega]
      iexact HY
  · icases H1 with ⟨HR, HY⟩
    isplitr
    · ipureintro; exact H
    isplitl [HR]
    · iexact HR
    · iexact HY
  · iintro %m2 ⟨%Hd, HR⟩
    iapply (wp_lastColumn p b hi c E Q hS m2 Hd _ K) $$ HR
    iintro %m3 %Hm3 HR HY
    iapply HK $$ [] [HR] [HY]
    · ipureintro; exact Hm3
    · iexact HR
    · rw [← shareUpTo_all, lastSum_eq]
      iexact HY

end

end Cert.KernelIdeal.Hand
-- ==== Proof.Turn.lean ====
/- One trip of the loop over the listed experts: it awaits the expert's weights, starts the next but one's, and adds the
   expert's share to the result. -/
module

public import proofs.«01_k».proof.Proof.Copies
public import proofs.«01_k».proof.Proof.Share

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

variable {F : FTy → Type} [FloatOps F]
variable [Facts]
open Facts₀ Facts

local notation "𝕄" => MT nD τ sig Unit (Elt F) ℕ (UC sig nD τ) ℕ

/-- The buffers of the launch. -/
abbrev theBufs : Bufs := bufs qBuf yBuf yBuf_whole wBuf sBuf

/-! ## The slot's elements -/

theorem set_slotW3 (k : Fin 3) : (slotW3 k).view.set = (Rect.unit (s := S3x1408x2816) ![k.val, 0, 0] S1x1408x2816.size (inbW3 k)).set :=
  (View.set_reshape _ _).trans (View.set_slice_whole _ _)
theorem set_slotS3 (k : Fin 3) : (slotS3 k).view.set = (Rect.unit (s := S3x22x2816) ![k.val, 0, 0] S1x22x2816.size (inbS3 k)).set :=
  (View.set_reshape _ _).trans (View.set_slice_whole _ _)

theorem covers_slot (p : At) (hp : p.Ok) (c : Dev nD) (k : Fin 3) (hk : p.slot.toNat = k.val) :
    Covers theBufs p hp c (slotW3 k).view.set (slotS3 k).view.set := by
  refine ⟨fun j col hc => ?_, fun j col hc => ?_, fun j col hc => ?_⟩
  · rw [set_slotW3]
    have e : (theBufs.w.access (hp.rW j col hc)).set = (hp.rW j col hc).set := View.set_slice_whole _ _
    rw [e]
    intro i hi
    have h := Rect.mem_set_unit.mp hi
    refine Rect.mem_set_unit.mpr fun a => ?_
    match a with
    | 0 =>
      have h0 := h 0
      change p.slot.toNat ≤ (i 0).val ∧ (i 0).val < p.slot.toNat + 1 at h0
      show k.val ≤ (i 0).val ∧ (i 0).val < k.val + 1
      omega
    | 1 => exact ⟨Nat.zero_le _, by have := (i 1).isLt; show (i 1).val < 0 + 1408; exact this⟩
    | 2 => exact ⟨Nat.zero_le _, by have := (i 2).isLt; show (i 2).val < 0 + 2816; exact this⟩
  · rw [set_slotS3]
    have e : (theBufs.s.access (hp.rS0 j col hc)).set = (hp.rS0 j col hc).set := View.set_slice_whole _ _
    rw [e]
    intro i hi
    have h := Rect.mem_set_unit.mp hi
    refine Rect.mem_set_unit.mpr fun a => ?_
    match a with
    | 0 =>
      have h0 := h 0
      change p.slot.toNat ≤ (i 0).val ∧ (i 0).val < p.slot.toNat + 1 at h0
      show k.val ≤ (i 0).val ∧ (i 0).val < k.val + 1
      omega
    | 1 => exact ⟨Nat.zero_le _, by have := (i 1).isLt; show (i 1).val < 0 + 22; exact this⟩
    | 2 => exact ⟨Nat.zero_le _, by have := (i 2).isLt; show (i 2).val < 0 + 2816; exact this⟩
  · rw [set_slotS3]
    have e : (theBufs.s.access (hp.rS1 j col hc)).set = (hp.rS1 j col hc).set := View.set_slice_whole _ _
    rw [e]
    intro i hi
    have h := Rect.mem_set_unit.mp hi
    refine Rect.mem_set_unit.mpr fun a => ?_
    match a with
    | 0 =>
      have h0 := h 0
      change p.slot.toNat ≤ (i 0).val ∧ (i 0).val < p.slot.toNat + 1 at h0
      show k.val ≤ (i 0).val ∧ (i 0).val < k.val + 1
      omega
    | 1 => exact ⟨Nat.zero_le _, by have := (i 1).isLt; show (i 1).val < 0 + 22; exact this⟩
    | 2 => exact ⟨Nat.zero_le _, by have := (i 2).isLt; show (i 2).val < 0 + 2816; exact this⟩

/-! ## The result so far -/

/-- The expert a word names. -/
def expertOf (e : BitVec 32) : Fin 32 := if h : e.toNat < 32 then ⟨e.toNat, h⟩ else 0

theorem expertOf_val {e : BitVec 32} (h : e.toNat < 32) : (expertOf e).val = e.toNat := by unfold expertOf; rw [dif_pos h]

variable (c : Dev nD) (fw : Buf (Elt F) (wIn.view.loc (c : Thread nD τ))) (fv : Buf (Elt F) (sIn.view.loc (c : Thread nD τ)))
  (fx : Buf (Elt F) (qBuf.view.loc (c : Thread nD τ))) (n : BitVec 32) (E R : ℕ → BitVec 32)

/-- What an expert's share is computed from. -/
abbrev expertInput (e : Fin 32) : Input F := inputOf theBufs c (expertW c fw e) (expertS c fv e) fx

open Classical in
/-- The result after a trip whose expert is `e`, whose rows start at `r` and the next expert's at `r'`. -/
def stepWith (t : Fin (k0_t3_loop n).trips) (e r r' : BitVec 32) (Y : YArr F) : YArr F :=
  if h : (place n t r).Is then
    if k0_cond5 r r' = 1#1 then
      shareOf (place n t r).row0.toNat (place n t r).skip.toNat (colSum (place n t r) h.ok (expertInput c fw fv fx (expertOf e))) Y
    else Y
  else Y

/-- The result after trip `t`. -/
def stepY (t : Fin (k0_t3_loop n).trips) (Y : YArr F) : YArr F := stepWith c fw fv fx n t (E t) (R t) (R (t + 1)) Y

/-- The result after `t` trips. -/
def yAfter (Y : YArr F) : ℕ → YArr F
  | 0 => Y
  | t + 1 => if h : t < (k0_t3_loop n).trips then stepY c fw fv fx n E R ⟨t, h⟩ (yAfter Y t) else yAfter Y t

/-- What the loop holds before trip `t`. -/
def turnHolds (t : ℕ) (Y : YArr F) : sProp (MT nD τ sig Unit (Elt F) ℕ (UC sig nD τ) ℕ) :=
  iprop(holdsT (F := F) eTab c E ∗ holdsT (F := F) rTab c R ∗ (qBuf.view.loc (c : Thread nD τ) ↦{fullShare} fx)
    ∗ holdsY theBufs c Y ∗ ring c fw fv (slotsAt n.toNat (fun i => expertOf (E i)) t) ∗ (∃ W, owes (c : Thread nD τ) 0 W))

theorem nextFetch_bind {α β : Type} (hn : k0_chk4 n) (t : Fin (k0_t3_loop n).trips) (K : Prg F α) (g : α → Prg F β) :
    nextFetch n hn t K >>= g = nextFetch n hn t (K >>= g) := by
  unfold nextFetch; split <;> simp only [bind_assoc]

theorem expertText_eq (gs : Memref sig .tc .smem S32 .i32) (hgs : gs.IsWhole) (t : Fin (k0_t3_loop n).trips) (m : Mxu F) (v51 v54 : BitVec 32)
    (hw8 : k0_chk8 n t v51 v54) (h5 : k0_cond5 v51 v54 = 1#1) (hp : (place n t v51).Ok) {α : Type} (K : Mxu F → Prg F α) :
    expertText gs hgs n t m v51 v54 hw8 h5 K = expert theBufs (place n t v51) hp m >>= K := by
  have e := expert_printed (F := F) gs hgs xIn xIn_whole wIn wIn_whole sIn sIn_whole yOut yOut_whole xBuf xBuf_whole qBuf qBuf_whole yBuf yBuf_whole
    wBuf wBuf_whole sBuf sBuf_whole eTab eTab_whole rTab rTab_whole cc0_scratch7 cc0_scratch8 cc0_scratch9 cc0_scratch10 n t m v51 v54 hw8 h5 hp
  show _ = expert (bufs qBuf yBuf yBuf_whole wBuf sBuf) (place n t v51) hp m >>= K
  rw [← e, bind_assoc]
  rfl

/-! ## The slots from one trip to the next -/

theorem slots_next (N : ℕ) (X : ℕ → Fin 32) (t : ℕ) (ht : t < N) (k j : Fin 3) (hk : k.val = t % 3) (hj : j.val = (t + 2) % 3) (s : Slot)
    (hs : s = if t + 2 < N then .air (X (t + 2)) else .free) :
    Function.update (Function.update (Function.update (slotsAt N X t) k (.full (X t))) j s) k .free = slotsAt N X (t + 1) := by
  funext i
  have hi := i.isLt
  subst hs
  unfold slotsAt
  by_cases h1 : i = k
  · subst h1
    rw [Function.update_self, if_neg (by omega), if_neg (by omega)]
  · rw [Function.update_of_ne h1]
    have h1' : i.val ≠ k.val := fun e => h1 (Fin.ext e)
    by_cases h2 : i = j
    · subst h2
      rw [Function.update_self]
      by_cases h : t + 2 < N
      · rw [if_pos h, if_neg (by omega), if_pos (by omega)]
      · rw [if_neg h, if_neg (by omega), if_neg (by omega)]
    · rw [Function.update_of_ne h2, Function.update_of_ne h1]
      have h2' : i.val ≠ j.val := fun e => h2 (Fin.ext e)
      rw [if_neg (by omega)]
      by_cases h : t + 1 < N
      · rw [if_pos (by omega), if_pos (by omega)]
      · rw [if_neg (by omega), if_neg (by omega), if_neg (by omega)]

theorem slots_mid (N : ℕ) (X : ℕ → Fin 32) (t : ℕ) (ht : t < N) (k j : Fin 3) (hk : k.val = t % 3) (hj : j.val = (t + 2) % 3) :
    slotsAt N X t k = .air (X t) ∧ Function.update (slotsAt N X t) k (.full (X t)) j = .free := by
  have hjk : j ≠ k := fun e => by have := congrArg Fin.val e; omega
  refine ⟨if_pos ⟨hk, ht⟩, ?_⟩
  rw [Function.update_of_ne hjk]
  unfold slotsAt
  rw [if_neg (by omega), if_neg (by omega)]

variable {α : Type} (Q : α → sProp (MT nD τ sig Unit (Elt F) ℕ (UC sig nD τ) ℕ))

/-- The start of the next but one's copies. -/
theorem wp_nextFetch (hn : k0_chk4 n) (hn32 : n.toNat ≤ 32) (hE : ∀ i < n.toNat, (E i).toNat < 32) (t : Fin (k0_t3_loop n).trips)
    (j : Fin 3) (hj : j.val = (t.val + 2) % 3) (st : Fin 3 → Slot) (hst : st j = .free) (K : Prg F α) :
    iprop(holdsT (F := F) eTab c E ∗ ring c fw fv st)
      ⊢ iprop((holdsT (F := F) eTab c E -∗ ring c fw fv (Function.update st j (if t.val + 2 < n.toNat then .air (expertOf (E (t.val + 2))) else .free))
          -∗ wp frame (wpE (defs₀ (F := F)) Variants.none (c : Thread nD τ) none) Set.univ K Q)
        -∗ wp frame (wpE (defs₀ (F := F)) Variants.none (c : Thread nD τ) none) Set.univ (nextFetch n hn t K) Q) := by
  have T := tripNums hn32 t
  unfold nextFetch
  by_cases h : k0_cond4 n t = 1#1
  · have ht := T.c4.1 h
    rw [dif_pos h, if_pos ht]
    iintro ⟨HE, HS⟩ HK
    iapply (wp_look c Q Set.univ (t.val + 2) T.o25 E _) $$ HE
    iintro HE
    rw [Prog.bind_lift]
    have he := hE _ ht
    iapply (wp_assume Variants.none (c : Thread nD τ) none Set.univ (chk6_ok n t he))
    dsimp only
    ihave HS := (eq_entails (Ring.AtW_focus (σ := fun _ => Slot) (slotIn c fw fv) st j)) $$ HS
    rw [hst]
    icases HS with ⟨Hj, Hr⟩
    iapply (wp_fetch c Q fw fv _ _ _ _ _ _ _ _ j (expertOf (E (t.val + 2))) (by rw [T.o26, hj]) (by rw [T.o29, hj]) (by rw [T.o27, hj]) (by rw [T.o30, hj])
      (by rw [expertOf_val he]; rfl) (by rw [expertOf_val he]; rfl) (fun _ => K)) $$ Hj
    iintro Hj
    iapply HK $$ HE
    iapply (Ring.AtW_update (σ := fun _ => Slot) (slotIn c fw fv) st j _)
    isplitl [Hj]; · iexact Hj
    iexact Hr
  · have ht : ¬ t.val + 2 < n.toNat := fun h' => h (T.c4.2 h')
    rw [dif_neg h, if_neg ht]
    iintro ⟨HE, HS⟩ HK
    iapply HK $$ HE
    rw [← hst, Function.update_eq_self]
    iexact HS

theorem wp_turn (gs : Memref sig .tc .smem S32 .i32) (hgs : gs.IsWhole) (hn : k0_chk4 n) (hn32 : n.toNat ≤ 32) (hE : ∀ i < n.toNat, (E i).toNat < 32) (hR : ∀ i ≤ n.toNat, (R i).toNat ≤ 512)
    (t : Fin (k0_t3_loop n).trips) (Y : YArr F) (m : Mxu F) (Hd : m.Drained) (K : Mxu F → Prg F α) :
    turnHolds c fw fv fx n E R t.val Y
      ⊢ iprop((∀ m', ⌜m'.Drained⌝ -∗ turnHolds c fw fv fx n E R (t.val + 1) (stepY c fw fv fx n E R t Y)
          -∗ wp frame (wpE (defs₀ (F := F)) Variants.none (c : Thread nD τ) none) Set.univ (K m') Q)
        -∗ wp frame (wpE (defs₀ (F := F)) Variants.none (c : Thread nD τ) none) Set.univ (turn gs hgs n hn t m >>= K) Q) := by
  have T := tripNums hn32 t
  have ht : t.val < n.toNat := Nat.lt_of_lt_of_eq t.2 (trips_t3 hn32)
  have he := hE t.val ht
  have hr := hR t.val (by omega)
  have hi : (place n t (R t.val)).Is := place_is hn32 t hr
  obtain ⟨k, hk⟩ : ∃ k : Fin 3, k.val = t.val % 3 := ⟨⟨t.val % 3, by omega⟩, rfl⟩
  obtain ⟨j, hj⟩ : ∃ j : Fin 3, j.val = (t.val + 2) % 3 := ⟨⟨(t.val + 2) % 3, by omega⟩, rfl⟩
  obtain ⟨hs1, hs2⟩ := slots_mid n.toNat (fun i => expertOf (E i)) t.val ht k j hk hj
  have hkj : k ≠ j := fun e => by have := congrArg Fin.val e; omega
  unfold turn turnHolds
  simp only [bind_assoc, nextFetch_bind]
  iintro ⟨HE, HR, Hx, HY, HS, HO⟩ HK
  iapply (wp_look c Q Set.univ t.val T.o18 E _) $$ HE
  iintro HE
  rw [Prog.bind_lift]
  iapply (wp_assume Variants.none (c : Thread nD τ) none Set.univ (chk5_ok he))
  dsimp only
  ihave HS := (eq_entails (Ring.AtW_focus (σ := fun _ => Slot) (slotIn c fw fv) (slotsAt n.toNat (fun i => expertOf (E i)) t.val) k)) $$ HS
  rw [hs1]
  icases HS with ⟨Hk, Hr⟩
  iapply (wp_collect c Q fw fv _ _ _ _ _ _ _ _ k (expertOf (E t.val)) (by rw [T.o19, hk]) (by rw [T.o22, hk]) (by rw [T.o20, hk]) (by rw [T.o23, hk]) _) $$ [Hk HO]
  · isplitl [Hk]; · iexact Hk
    iexact HO
  iintro Hk HO
  ihave HS := (Ring.AtW_update (σ := fun _ => Slot) (slotIn c fw fv) (slotsAt n.toNat (fun i => expertOf (E i)) t.val) k (.full (expertOf (E t.val)))) $$ [Hk Hr]
  · isplitl [Hk]; · iexact Hk
    iexact Hr
  iapply (wp_nextFetch c fw fv n E Q hn hn32 hE t j hj _ hs2 _) $$ [HE HS]
  · isplitl [HE]; · iexact HE
    iexact HS
  iintro HE HS
  iapply (wp_look c Q Set.univ t.val T.o32 R _) $$ HR
  iintro HR
  rw [Prog.bind_lift]
  iapply (wp_assume Variants.none (c : Thread nD τ) none Set.univ (chk7_ok hr))
  dsimp only
  iapply (wp_look c Q Set.univ (t.val + 1) T.o33 R _) $$ HR
  iintro HR
  rw [Prog.bind_lift]
  iapply (wp_assume Variants.none (c : Thread nD τ) none Set.univ (chk8_ok hn32 t hr (R (t.val + 1))))
  dsimp only
  ihave HS := (eq_entails (Ring.AtW_focus (σ := fun _ => Slot) (slotIn c fw fv) (Function.update (Function.update (slotsAt n.toNat (fun i => expertOf (E i)) t.val) k (.full (expertOf (E t.val)))) j (if t.val + 2 < n.toNat then .air (expertOf (E (t.val + 2))) else .free)) k)) $$ HS
  rw [Function.update_of_ne hkj, Function.update_self]
  icases HS with ⟨Hk, Hr⟩
  by_cases h5 : k0_cond5 (R t.val) (R (t.val + 1)) = 1#1
  · rw [dif_pos h5, expertText_eq n gs hgs t m _ _ _ h5 hi.ok, bind_assoc]
    unfold slotIn
    icases Hk with ⟨Hw, Hs, Hk⟩
    have hc : Covers theBufs (place n t (R t.val)) hi.ok c (slotW3 k).view.set (slotS3 k).view.set :=
      covers_slot _ _ c k (by rw [hk]; exact T.slot)
    iapply (wp_expert (place n t (R t.val)) theBufs hi c Set.univ Q hc (fw := expertW c fw (expertOf (E t.val))) (fs := expertS c fv (expertOf (E t.val))) (fx := fx) m Hd Y _) $$ [Hw Hs Hx HY]
    · unfold reads
      isplitl [Hw Hs Hx]
      · isplitl [Hw]; · iexact Hw
        isplitl [Hs]; · iexact Hs
        iexact Hx
      iexact HY
    iintro %m' %Hm' Hreads HY
    unfold reads
    icases Hreads with ⟨Hw, Hs, Hx⟩
    rw [Prog.pure_eq_ret, Prog.bind_ret]
    iapply HK $$ [] [HE HR Hx HY HO Hw Hs Hk Hr]
    · ipureintro; exact Hm'
    isplitl [HE]; · iexact HE
    isplitl [HR]; · iexact HR
    isplitl [Hx]; · iexact Hx
    isplitl [HY]
    · unfold stepY stepWith
      rw [dif_pos hi, if_pos h5]
      iexact HY
    isplitl [Hw Hs Hk Hr]
    · rw [← slots_next n.toNat (fun i => expertOf (E i)) t.val ht k j hk hj _ rfl]
      iapply (Ring.AtW_update (σ := fun _ => Slot) (slotIn c fw fv) _ k .free)
      isplitl [Hw Hs Hk]
      · iapply (slotIn_reuse c fw fv k (expertOf (E t.val)))
        unfold slotIn
        isplitl [Hw]; · iexact Hw
        isplitl [Hs]; · iexact Hs
        iexact Hk
      iexact Hr
    iexact HO
  · rw [dif_neg h5, Prog.pure_eq_ret, Prog.bind_ret]
    iapply HK $$ [] [HE HR Hx HY HO Hk Hr]
    · ipureintro; exact Hd
    isplitl [HE]; · iexact HE
    isplitl [HR]; · iexact HR
    isplitl [Hx]; · iexact Hx
    isplitl [HY]
    · unfold stepY stepWith
      rw [dif_pos hi, if_neg h5]
      iexact HY
    isplitl [Hk Hr]
    · rw [← slots_next n.toNat (fun i => expertOf (E i)) t.val ht k j hk hj _ rfl]
      iapply (Ring.AtW_update (σ := fun _ => Slot) (slotIn c fw fv) _ k .free)
      isplitl [Hk]
      · iapply (slotIn_reuse c fw fv k (expertOf (E t.val)))
        iexact Hk
      iexact Hr
    iexact HO

end Cert.KernelIdeal.Hand

end
-- ==== Proof.Opening.lean ====
/- The body up to the loop over the listed experts: the copy of the activations, the scan, the first two fetches, the
   quantising of the activations row block by row block, and the zeros. -/
module

public import proofs.«01_k».proof.Proof.Turn

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

variable {F : FTy → Type} [FloatOps F]
variable [Facts]
open Facts₀ Facts

local notation "𝕄" => MT nD τ sig Unit (Elt F) ℕ (UC sig nD τ) ℕ

/-! ## The quantised activations -/

/-- Row `y` of row block `b`. -/
def rowIx (b : Fin 32) (y : S16x2816.Idx) : S512x2816.Idx
  | 0 => ⟨16 * b.val + (y 0).val, by have h : (y 0).val < 16 := (y 0).isLt; have := b.2; show _ < 512; omega⟩
  | 1 => y 1

/-- A place inside its row block. -/
def inBlock (i : S1024x2816.Idx) : S16x2816.Idx
  | 0 => ⟨(i 0).val % 16, Nat.mod_lt _ (by decide)⟩
  | 1 => i 1

/-- The rows the kernel multiplies: the activations quantised sixteen rows at a time, then zeros. -/
def codesOf (X : Vec F S512x2816 .bf16) : Vec F S1024x2816 .bf16 := fun i =>
  if h : (i 0).val < 512 then rowCodes (fun y => X (rowIx ⟨(i 0).val / 16, by omega⟩ y)) (inBlock i) else (Scalar.ofBits .bf16 0x0000#16 : F .bf16)

/-- A result of zeros. -/
def zeroY : YArr F := fun _ => (Scalar.ofBits .bf16 0x0000#16 : F .bf16)

theorem off16_eq : ∀ t : Fin k0_t2_loop.trips, k0_off16 t = ![16 * t.val, 0] ∧ k0_off17 t = ![16 * t.val, 0] ∧ t.val < 32 := by decide +kernel
theorem trips_t2 : k0_t2_loop.trips = 32 := by decide +kernel

variable (c : Dev nD) {α : Type} (Q : α → sProp (MT nD τ sig Unit (Elt F) ℕ (UC sig nD τ) ℕ))

/-- The activations' buffer reads as `X`. -/
def holdsX (X : Vec F S512x2816 .bf16) : sProp (MT nD τ sig Unit (Elt F) ℕ (UC sig nD τ) ℕ) :=
  iprop(∃ f : Buf (Elt F) (xBuf.view.loc (c : Thread nD τ)), ⌜xBuf.view.read (Elt F) f = X⌝ ∗ (xBuf.view.loc (c : Thread nD τ) ↦{fullShare} f))

/-- The first `16 t` rows of the quantised activations are in place. -/
def holdsQ (X : Vec F S512x2816 .bf16) (t : ℕ) : sProp (MT nD τ sig Unit (Elt F) ℕ (UC sig nD τ) ℕ) :=
  iprop(∃ f : Buf (Elt F) (qBuf.view.loc (c : Thread nD τ)), ⌜∀ i : S1024x2816.Idx, (i 0).val < 16 * t → qBuf.view.read (Elt F) f i = codesOf X i⌝
    ∗ (qBuf.view.loc (c : Thread nD τ) ↦{fullShare} f))

theorem wp_quantStep (X : Vec F S512x2816 .bf16) (t : Fin k0_t2_loop.trips) (K : PUnit → Prg F α) :
    iprop(holdsX c X ∗ holdsQ c X t.val)
      ⊢ iprop((holdsX c X -∗ holdsQ c X (t.val + 1) -∗ wp frame (wpE (defs₀ (F := F)) Variants.none (c : Thread nD τ) none) Set.univ (K ⟨⟩) Q)
        -∗ wp frame (wpE (defs₀ (F := F)) Variants.none (c : Thread nD τ) none) Set.univ (quantStep t >>= K) Q) := by
  obtain ⟨h16, h17, ht⟩ := off16_eq t
  unfold quantStep holdsX holdsQ
  simp only [Prog.bind_op, Prog.bind_ret]
  iintro ⟨⟨%fx, %hx, Hx⟩, ⟨%f, %hf, Hq⟩⟩ HK
  iapply (wp_load_rect (c := (c : Thread nD τ)) Variants.none none Set.univ (m := xBuf) (r := rectX t) (Finset.subset_univ _)) $$ Hx
  iintro Hx
  iapply (wp_load_rect (c := (c : Thread nD τ)) Variants.none none Set.univ (m := qBuf) (r := rectQ t) (Finset.subset_univ _)) $$ Hq
  iintro Hq
  iapply (wp_store_writes₀ (c := (c : Thread nD τ)) Variants.none none Set.univ (m := qBuf) (r := rectQ t) (Finset.subset_univ _)) $$ Hq
  iintro Hq
  iapply HK $$ [Hx]
  · iexists fx
    isplitr; · ipureintro; exact hx
    iexact Hx
  iexists _
  isplitr
  swap
  · iexact Hq
  ipureintro
  intro i hi
  rw [View.read_writes_cons_unit _ _ _ _ _ _ h17]
  by_cases h : 16 * t.val ≤ (i 0).val
  · have hi1 : (i 1).val < 2816 := (i 1).isLt
    rw [dif_pos]
    · rw [shapeCast_same]
      have hlt : (i 0).val < 512 := by omega
      unfold codesOf
      rw [dif_pos hlt]
      congr 1
      · congr 1
        funext y
        rw [← hx]
        show xBuf.view.read (Elt F) fx ((rectX t).emb y) = xBuf.view.read (Elt F) fx _
        congr 1
        have e0 : k0_off16 t 0 = 16 * t.val := by rw [h16]; rfl
        have e1 : k0_off16 t 1 = 0 := by rw [h16]; rfl
        refine idx2 (m := 512) (n := 2816) _ _ ?_ ?_
        · show k0_off16 t 0 + 1 * (y 0).val = 16 * ((i 0).val / 16) + (y 0).val
          rw [e0]; omega
        · show k0_off16 t 1 + 1 * (y 1).val = (y 1).val
          rw [e1]; omega
      · refine idx2 (m := 16) (n := 2816) _ _ ?_ ?_
        · show (i 0).val - 16 * t.val = (i 0).val % 16
          omega
        · show (i 1).val - 0 = (i 1).val
          omega
    · intro a
      match a with
      | 0 => show 16 * t.val ≤ (i 0).val ∧ (i 0).val < 16 * t.val + 16; omega
      | 1 => show 0 ≤ (i 1).val ∧ (i 1).val < 0 + 2816; omega
  · rw [dif_neg]
    · exact hf i (by omega)
    · intro hh
      exact h (hh 0).1

theorem wp_quantise (X : Vec F S512x2816 .bf16) (K : PUnit → Prg F α) :
    iprop(holdsX c X ∗ holdsQ c X 0)
      ⊢ iprop((holdsX c X -∗ holdsQ c X 32 -∗ wp frame (wpE (defs₀ (F := F)) Variants.none (c : Thread nD τ) none) Set.univ (K ⟨⟩) Q)
        -∗ wp frame (wpE (defs₀ (F := F)) Variants.none (c : Thread nD τ) none) Set.univ
          (Scf.Loop.for k0_t2_loop k0_t2_ok (⟨⟩ : PUnit) (fun t (_ : PUnit) => quantStep t) >>= K) Q) := by
  iintro H HK
  iapply (Scf.wp_for_bind frame (wpE (defs₀ (F := F)) Variants.none (c : Thread nD τ) none) Set.univ _ _ _ k0_t2_ok _ _
    (fun t (_ : PUnit) => iprop(holdsX c X ∗ holdsQ c X t))
    (fun t a => ?_)) $$ [H]
  · iintro H
    rw [← Prog.bind_pure (quantStep t)]
    iapply (wp_quantStep c _ X t pure) $$ H
    iintro Hx Hq
    rw [Prog.pure_eq_ret]
    iapply (le_wp_ret _ _ _ _ _)
    isplitl [Hx]; · iexact Hx
    iexact Hq
  · iexact H
  · iintro %a ⟨Hx, Hq⟩
    have e : Scf.trips (0#32) (32#32) (1#32) = 32 := trips_t2
    iapply HK $$ Hx
    iexact Hq

/-- The quantised activations as the buffer's contents. -/
abbrev codesBuf (X : Vec F S512x2816 .bf16) : Buf (Elt F) (qBuf.view.loc (c : Thread nD τ)) := codesOf X

theorem read_low (m : Memref sig .tc .vmem S1024x2816 .bf16) (f : m.view.ty.Contents (Elt F)) (X : Vec F S512x2816 .bf16)
    (hf : ∀ i : S1024x2816.Idx, (i 0).val < 512 → m.view.read (Elt F) f i = codesOf X i) (i : S1024x2816.Idx) :
    m.view.read (Elt F) (m.view.writes (Elt F) f [⟨rectLow, shapeCast S512x2816 (broadcast S512x2816 (Scalar.ofBits .bf16 0x0000#16 : F .bf16)) shapeCasts_S512x2816_S512x2816⟩]) i = codesOf X i := by
  have hi0 : (i 0).val < 1024 := (i 0).isLt
  have hi1 : (i 1).val < 2816 := (i 1).isLt
  rw [View.read_writes_cons_unit _ _ _ _ _ _ rfl, shapeCast_same]
  by_cases h : 512 ≤ (i 0).val
  · rw [dif_pos (Fin.forall_fin_two.2 ⟨⟨h, hi0⟩, Nat.zero_le _, by show _ < 0 + 2816; omega⟩)]
    unfold codesOf
    rw [dif_neg (Nat.not_lt.2 h)]
    rfl
  · rw [dif_neg (fun hh => h (hh 0).1)]
    exact hf i (Nat.not_le.1 h)

theorem read_zero (m : Memref sig .tc .vmem S1024x2816 .bf16) (f : m.view.ty.Contents (Elt F)) (i : S1024x2816.Idx) :
    m.view.read (Elt F) (m.view.writes (Elt F) f [⟨rectAll, shapeCast S1024x2816 (broadcast S1024x2816 (Scalar.ofBits .bf16 0x0000#16 : F .bf16)) shapeCasts_S1024x2816_S1024x2816⟩]) i = zeroY i := by
  have hi0 : (i 0).val < 1024 := (i 0).isLt
  have hi1 : (i 1).val < 2816 := (i 1).isLt
  rw [View.read_writes_cons_unit _ _ _ _ _ _ rfl, shapeCast_same]
  rw [dif_pos (Fin.forall_fin_two.2 ⟨⟨Nat.zero_le _, by show _ < 0 + 1024; omega⟩, Nat.zero_le _, by show _ < 0 + 2816; omega⟩)]
  rfl

theorem qBuf_read (g : Buf (Elt F) (qBuf.view.loc (c : Thread nD τ))) : qBuf.view.read (Elt F) g = g := rfl

theorem low_eq (f : Buf (Elt F) (qBuf.view.loc (c : Thread nD τ))) (X : Vec F S512x2816 .bf16)
    (hf : ∀ i : S1024x2816.Idx, (i 0).val < 512 → qBuf.view.read (Elt F) f i = codesOf X i) :
    qBuf.view.writes (Elt F) f [⟨rectLow, shapeCast S512x2816 (broadcast S512x2816 (Scalar.ofBits .bf16 0x0000#16 : F .bf16)) shapeCasts_S512x2816_S512x2816⟩] = codesBuf c X :=
  (qBuf_read c _).symm.trans (funext fun i => read_low qBuf f X hf i)

theorem wp_zeros (X : Vec F S512x2816 .bf16) (K : PUnit → Prg F α) :
    iprop(holdsQ c X 32 ∗ (∃ f : Buf (Elt F) (yBuf.view.loc (c : Thread nD τ)), yBuf.view.loc (c : Thread nD τ) ↦{fullShare} f))
      ⊢ iprop(((qBuf.view.loc (c : Thread nD τ) ↦{fullShare} codesBuf c X) -∗ holdsY theBufs c zeroY
          -∗ wp frame (wpE (defs₀ (F := F)) Variants.none (c : Thread nD τ) none) Set.univ (K ⟨⟩) Q)
        -∗ wp frame (wpE (defs₀ (F := F)) Variants.none (c : Thread nD τ) none) Set.univ (zeros >>= K) Q) := by
  unfold zeros holdsQ holdsY
  simp only [Prog.bind_op, Prog.bind_ret]
  iintro ⟨⟨%f, %hf, Hq⟩, ⟨%g, Hy⟩⟩ HK
  iapply (wp_load_rect (c := (c : Thread nD τ)) Variants.none none Set.univ (m := qBuf) (r := rectLow) (Finset.subset_univ _)) $$ Hq
  iintro Hq
  iapply (wp_store_writes₀ (c := (c : Thread nD τ)) Variants.none none Set.univ (m := qBuf) (r := rectLow) (Finset.subset_univ _)) $$ Hq
  iintro Hq
  iapply (wp_load_rect (c := (c : Thread nD τ)) Variants.none none Set.univ (m := yBuf) (r := rectAll) (Finset.subset_univ _)) $$ Hy
  iintro Hy
  iapply (wp_store_writes₀ (c := (c : Thread nD τ)) Variants.none none Set.univ (m := yBuf) (r := rectAll) (Finset.subset_univ _)) $$ Hy
  iintro Hy
  iapply HK $$ [Hq]
  · rw [← low_eq c f X (fun i hi => hf i (Nat.lt_of_lt_of_le hi (by decide)))]
    iexact Hq
  · iexists _
    isplitr
    swap
    · iexact Hy
    ipureintro
    funext i
    exact read_zero yBuf g i

/-! ## The first two fetches -/

variable (fw : Buf (Elt F) (wIn.view.loc (c : Thread nD τ))) (fv : Buf (Elt F) (sIn.view.loc (c : Thread nD τ)))
  (n : BitVec 32) (E : ℕ → BitVec 32)

theorem wp_fetch0 (hn32 : n.toNat ≤ 32) (hE : ∀ i < n.toNat, (E i).toNat < 32) (st : Fin 3 → Slot) (hst : st 0 = .free) (K : Prg F α) :
    iprop(holdsT (F := F) eTab c E ∗ ring c fw fv st)
      ⊢ iprop((holdsT (F := F) eTab c E -∗ ring c fw fv (Function.update st 0 (if 0 < n.toNat then .air (expertOf (E 0)) else .free))
          -∗ wp frame (wpE (defs₀ (F := F)) Variants.none (c : Thread nD τ) none) Set.univ K Q)
        -∗ wp frame (wpE (defs₀ (F := F)) Variants.none (c : Thread nD τ) none) Set.univ (fetch0 n K) Q) := by
  unfold fetch0
  by_cases h : k0_cond2 n = 1#1
  · have ht := (cond2_iff hn32).1 h
    rw [dif_pos h, if_pos ht]
    iintro ⟨HE, HS⟩ HK
    iapply (wp_look c Q Set.univ 0 rfl E _) $$ HE
    iintro HE
    rw [Prog.bind_lift]
    have he := hE _ ht
    iapply (wp_assume Variants.none (c : Thread nD τ) none Set.univ (chk2_ok n he))
    dsimp only
    ihave HS := (eq_entails (Ring.AtW_focus (σ := fun _ => Slot) (slotIn c fw fv) st 0)) $$ HS
    rw [hst]
    icases HS with ⟨Hj, Hr⟩
    iapply (wp_fetch c Q fw fv _ _ _ _ _ _ _ _ 0 (expertOf (E 0)) rfl rfl rfl rfl
      (by rw [expertOf_val he]; rfl) (by rw [expertOf_val he]; rfl) (fun _ => K)) $$ Hj
    iintro Hj
    iapply HK $$ HE
    iapply (Ring.AtW_update (σ := fun _ => Slot) (slotIn c fw fv) st 0 _)
    isplitl [Hj]; · iexact Hj
    iexact Hr
  · have ht : ¬ 0 < n.toNat := fun h' => h ((cond2_iff hn32).2 h')
    rw [dif_neg h, if_neg ht]
    iintro ⟨HE, HS⟩ HK
    iapply HK $$ HE
    rw [← hst, Function.update_eq_self]
    iexact HS

theorem wp_fetch1 (hn32 : n.toNat ≤ 32) (hE : ∀ i < n.toNat, (E i).toNat < 32) (st : Fin 3 → Slot) (hst : st 1 = .free) (K : Prg F α) :
    iprop(holdsT (F := F) eTab c E ∗ ring c fw fv st)
      ⊢ iprop((holdsT (F := F) eTab c E -∗ ring c fw fv (Function.update st 1 (if 1 < n.toNat then .air (expertOf (E 1)) else .free))
          -∗ wp frame (wpE (defs₀ (F := F)) Variants.none (c : Thread nD τ) none) Set.univ K Q)
        -∗ wp frame (wpE (defs₀ (F := F)) Variants.none (c : Thread nD τ) none) Set.univ (fetch1 n K) Q) := by
  unfold fetch1
  by_cases h : k0_cond3 n = 1#1
  · have ht := (cond3_iff hn32).1 h
    rw [dif_pos h, if_pos ht]
    iintro ⟨HE, HS⟩ HK
    iapply (wp_look c Q Set.univ 1 rfl E _) $$ HE
    iintro HE
    rw [Prog.bind_lift]
    have he := hE _ ht
    iapply (wp_assume Variants.none (c : Thread nD τ) none Set.univ (chk3_ok n he))
    dsimp only
    ihave HS := (eq_entails (Ring.AtW_focus (σ := fun _ => Slot) (slotIn c fw fv) st 1)) $$ HS
    rw [hst]
    icases HS with ⟨Hj, Hr⟩
    iapply (wp_fetch c Q fw fv _ _ _ _ _ _ _ _ 1 (expertOf (E 1)) rfl rfl rfl rfl
      (by rw [expertOf_val he]; rfl) (by rw [expertOf_val he]; rfl) (fun _ => K)) $$ Hj
    iintro Hj
    iapply HK $$ HE
    iapply (Ring.AtW_update (σ := fun _ => Slot) (slotIn c fw fv) st 1 _)
    isplitl [Hj]; · iexact Hj
    iexact Hr
  · have ht : ¬ 1 < n.toNat := fun h' => h ((cond3_iff hn32).2 h')
    rw [dif_neg h, if_neg ht]
    iintro ⟨HE, HS⟩ HK
    iapply HK $$ HE
    rw [← hst, Function.update_eq_self]
    iexact HS

theorem slots_first (N : ℕ) (X : ℕ → Fin 32) :
    Function.update (Function.update (fun _ : Fin 3 => Slot.free) 0 (if 0 < N then .air (X 0) else .free)) 1 (if 1 < N then .air (X 1) else .free)
      = slotsAt N X 0 := by
  funext i
  unfold slotsAt
  match i with
  | 0 =>
    rw [Function.update_of_ne (by decide), Function.update_self]
    by_cases h : 0 < N
    · rw [if_pos h, if_pos ⟨rfl, h⟩]
    · rw [if_neg h, if_neg (by rintro ⟨-, hh⟩; exact h hh), if_neg (by rintro ⟨hh, -⟩; exact absurd hh (by decide))]
  | 1 =>
    rw [Function.update_self]
    by_cases h : 1 < N
    · rw [if_pos h, if_neg (by rintro ⟨hh, -⟩; exact absurd hh (by decide)), if_pos ⟨rfl, h⟩]
    · rw [if_neg h, if_neg (by rintro ⟨hh, -⟩; exact absurd hh (by decide)), if_neg (by rintro ⟨-, hh⟩; exact h hh)]
  | 2 =>
    rw [Function.update_of_ne (by decide), Function.update_of_ne (by decide), if_neg (by rintro ⟨hh, -⟩; exact absurd hh (by decide)),
      if_neg (by rintro ⟨hh, -⟩; exact absurd hh (by decide))]

/-! ## The opening -/

theorem wp_opening {gs : Memref sig .tc .smem S32 .i32} (f : Buf (Elt F) (gs.view.loc (c : Thread nD τ))) (G : ℕ → BitVec 32)
    (hf : ∀ x : S32.Idx, gs.view.read (Elt F) f x = G (x 0).val) (hG : Fits G) (E₀ R₀ : ℕ → BitVec 32)
    (fX : Buf (Elt F) (xIn.view.loc (c : Thread nD τ))) (K : (n : BitVec 32) → k0_chk4 n → Prg F α) :
    iprop((xIn.view.loc (c : Thread nD τ) ↦{fullShare} fX) ∗ (∃ g : Buf (Elt F) (xBuf.view.loc (c : Thread nD τ)), xBuf.view.loc (c : Thread nD τ) ↦{fullShare} g)
        ∗ semVal ((c : Thread nD τ), .dma cc0_scratch7.sem) 0
        ∗ scanHolds gs c f ⟨0#32, 0#32, E₀, R₀⟩ ∗ (∃ g : Buf (Elt F) (qBuf.view.loc (c : Thread nD τ)), qBuf.view.loc (c : Thread nD τ) ↦{fullShare} g)
        ∗ (∃ g : Buf (Elt F) (yBuf.view.loc (c : Thread nD τ)), yBuf.view.loc (c : Thread nD τ) ↦{fullShare} g) ∗ ring c fw fv (fun _ => .free)
        ∗ (∃ W, owes (c : Thread nD τ) 0 W))
      ⊢ iprop((∀ hn, holdsG gs c f -∗ (xIn.view.loc (c : Thread nD τ) ↦{fullShare} fX) -∗ holdsX c (xIn.view.read (Elt F) fX)
          -∗ semVal ((c : Thread nD τ), .dma cc0_scratch7.sem) 0
          -∗ turnHolds c fw fv (codesBuf c (xIn.view.read (Elt F) fX)) (Scan.run G E₀ R₀ 32).n (Scan.run G E₀ R₀ 32).E (Scan.run G E₀ R₀ 32).R 0 zeroY
          -∗ wp frame (wpE (defs₀ (F := F)) Variants.none (c : Thread nD τ) none) Set.univ (K (Scan.run G E₀ R₀ 32).n hn) Q)
        -∗ wp frame (wpE (defs₀ (F := F)) Variants.none (c : Thread nD τ) none) Set.univ (opening gs K) Q) := by
  have good := Scan.run_good hG E₀ R₀ (t := 32) le_rfl
  unfold opening
  iintro ⟨HX, ⟨%gx, Hx⟩, Hv, HT, Hq, Hy, HS, HO⟩ HK
  iapply (wp_start c Q (src := xIn) (dst := xBuf) (sm := cc0_scratch7.sem) (by decide) fullShare fX gx _) $$ [HX Hx Hv]
  · isplitl [HX]; · iexact HX
    isplitl [Hx]
    · rw [show xBuf.view.set = Finset.univ from View.set_whole _]
      iexact Hx
    iexact Hv
  iintro HA
  iapply (wp_scan c Q Set.univ f G hf hG E₀ R₀ _) $$ HT
  iintro HT
  rw [Prog.bind_lift]
  iapply (wp_assume Variants.none (c : Thread nD τ) none Set.univ (chk4_ok good.n))
  dsimp only
  unfold scanHolds
  icases HT with ⟨HG, HE, HR⟩
  iapply (wp_fetch0 c Q fw fv _ _ good.n good.E (fun _ => .free) rfl _) $$ [HE HS]
  · isplitl [HE]; · iexact HE
    iexact HS
  iintro HE HS
  iapply (wp_fetch1 c Q fw fv _ _ good.n good.E (Function.update (fun _ : Fin 3 => Slot.free) 0 (if 0 < (Scan.run G E₀ R₀ 32).n.toNat then .air (expertOf ((Scan.run G E₀ R₀ 32).E 0)) else .free)) (Function.update_of_ne (show (1 : Fin 3) ≠ 0 by decide) _ _) _) $$ [HE HS]
  · isplitl [HE]; · iexact HE
    iexact HS
  iintro HE HS
  rw [slots_first _ (fun i => expertOf ((Scan.run G E₀ R₀ 32).E i))]
  rw [Prog.bind_lift]
  iapply (wp_await c Q (src := xIn) (dst := xBuf) (sm := cc0_scratch7.sem) fullShare fX _) $$ [HA HO]
  · isplitl [HA]; · iexact HA
    iexact HO
  iintro Hc HX Hv HO
  unfold copied
  icases Hc with ⟨%g, %hg, Hx⟩
  iapply (wp_quantise c Q (xIn.view.read (Elt F) fX) _) $$ [Hx Hq]
  · isplitl [Hx]
    · unfold holdsX
      iexists g
      isplitr; · ipureintro; exact hg
      rw [show xBuf.view.set = Finset.univ from View.set_whole _]
      iexact Hx
    · icases Hq with ⟨%q, Hq⟩
      unfold holdsQ
      iexists q
      isplitr; · ipureintro; exact fun i hi => absurd hi (by omega)
      iexact Hq
  iintro Hx Hq
  iapply (wp_zeros c Q (xIn.view.read (Elt F) fX) _) $$ [Hq Hy]
  · isplitl [Hq]; · iexact Hq
    iexact Hy
  iintro Hq Hy
  iapply HK $$ HG HX Hx Hv
  unfold turnHolds
  isplitl [HE]; · iexact HE
  isplitl [HR]; · iexact HR
  isplitl [Hq]; · iexact Hq
  isplitl [Hy]; · iexact Hy
  isplitl [HS]; · iexact HS
  iexact HO

end Cert.KernelIdeal.Hand

end
-- ==== Proof.Closing.lean ====
/- The loop over the listed experts and the copy out of the result. -/
module

public import proofs.«01_k».proof.Proof.Opening

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

variable {F : FTy → Type} [FloatOps F]
variable [Facts]
open Facts₀ Facts

local notation "𝕄" => MT nD τ sig Unit (Elt F) ℕ (UC sig nD τ) ℕ

/-- The first 512 rows of the result's buffer. -/
def topOf (Y : YArr F) : Vec F S512x2816 .bf16 := fun i =>
  Y ((Rect.unit (s := S1024x2816) ![0, 0] S512x2816.size inb_S1024x2816_S512x2816_0_0).emb i)

variable (c : Dev nD) (fw : Buf (Elt F) (wIn.view.loc (c : Thread nD τ))) (fv : Buf (Elt F) (sIn.view.loc (c : Thread nD τ)))
  (fx : Buf (Elt F) (qBuf.view.loc (c : Thread nD τ))) (n : BitVec 32) (E R : ℕ → BitVec 32)
variable {α : Type} (Q : α → sProp (MT nD τ sig Unit (Elt F) ℕ (UC sig nD τ) ℕ))

theorem wp_turns (gs : Memref sig .tc .smem S32 .i32) (hgs : gs.IsWhole) (hn : k0_chk4 n) (hn32 : n.toNat ≤ 32) (hE : ∀ i < n.toNat, (E i).toNat < 32)
    (hR : ∀ i ≤ n.toNat, (R i).toNat ≤ 512) (Y : YArr F) (K : Mxu F → Prg F α) :
    turnHolds c fw fv fx n E R 0 Y
      ⊢ iprop((∀ m', ⌜m'.Drained⌝ -∗ turnHolds c fw fv fx n E R n.toNat (yAfter c fw fv fx n E R Y n.toNat)
          -∗ wp frame (wpE (defs₀ (F := F)) Variants.none (c : Thread nD τ) none) Set.univ (K m') Q)
        -∗ wp frame (wpE (defs₀ (F := F)) Variants.none (c : Thread nD τ) none) Set.univ
          (Scf.Loop.for (k0_t3_loop n) (k0_t3_ok n hn) Mxu.init (fun t m => turn gs hgs n hn t m) >>= K) Q) := by
  have htr := trips_t3 hn32
  iintro H HK
  iapply (Scf.wp_for_bind frame (wpE (defs₀ (F := F)) Variants.none (c : Thread nD τ) none) Set.univ _ _ _ (k0_t3_ok n hn) _ _
    (fun t (m : Mxu F) => iprop(⌜m.Drained⌝ ∗ turnHolds c fw fv fx n E R t (yAfter c fw fv fx n E R Y t)))
    (fun t a => ?_)) $$ [H]
  · iintro ⟨%Hd, H⟩
    rw [← Prog.bind_pure (turn gs hgs n hn t a)]
    iapply (wp_turn c fw fv fx n E R _ gs hgs hn hn32 hE hR t (yAfter c fw fv fx n E R Y t.val) a Hd pure) $$ H
    iintro %m' %Hm' H
    rw [Prog.pure_eq_ret]
    iapply (le_wp_ret _ _ _ _ _)
    isplitr; · ipureintro; exact Hm'
    rw [show yAfter c fw fv fx n E R Y (t.val + 1) = stepY c fw fv fx n E R t (yAfter c fw fv fx n E R Y t.val) from dif_pos t.2]
    iexact H
  · isplitr; · ipureintro; exact ⟨fun _ _ => rfl, fun _ _ => rfl⟩
    iexact H
  · iintro %a ⟨%Ha, H⟩
    unfold Scf.Loop.trips at htr
    rw [htr]
    iapply HK $$ [] H
    ipureintro; exact Ha

theorem wp_closing (gs : Memref sig .tc .smem S32 .i32) (hgs : gs.IsWhole) (hn : k0_chk4 n) (hn32 : n.toNat ≤ 32) (hE : ∀ i < n.toNat, (E i).toNat < 32)
    (hR : ∀ i ≤ n.toNat, (R i).toNat ≤ 512) (Y : YArr F) (Q : PUnit → sProp (MT nD τ sig Unit (Elt F) ℕ (UC sig nD τ) ℕ)) :
    iprop(turnHolds c fw fv fx n E R 0 Y ∗ (∃ g : Buf (Elt F) (yOut.view.loc (c : Thread nD τ)), yOut.view.loc (c : Thread nD τ) ↦{fullShare} g)
        ∗ semVal ((c : Thread nD τ), .dma cc0_scratch8.sem) 0)
      ⊢ iprop((turnHolds c fw fv fx n E R n.toNat (yAfter c fw fv fx n E R Y n.toNat)
          -∗ (∃ g : Buf (Elt F) (yOut.view.loc (c : Thread nD τ)), ⌜yOut.view.read (Elt F) g = topOf (yAfter c fw fv fx n E R Y n.toNat)⌝
            ∗ (yOut.view.loc (c : Thread nD τ) ↦{fullShare} g))
          -∗ semVal ((c : Thread nD τ), .dma cc0_scratch8.sem) 0 -∗ Q ⟨⟩)
        -∗ wp frame (wpE (defs₀ (F := F)) Variants.none (c : Thread nD τ) none) Set.univ (closing gs hgs n hn) Q) := by
  unfold closing
  iintro ⟨H, ⟨%g, Ho⟩, Hv⟩ HK
  iapply (wp_turns c fw fv fx n E R Q gs hgs hn hn32 hE hR Y _) $$ H
  iintro %m %Hm H
  iapply (Scf.wp_for0_bind' frame (wpE (defs₀ (F := F)) Variants.none (c : Thread nD τ) none) Set.univ _ _ _ (k0_t5_ok n hn) m _ (trips_t5 hn32) _ Q _ .rfl)
  unfold copyOut turnHolds holdsY
  icases H with ⟨HE, HR, Hx, ⟨%fy, %hy, Hy⟩, HS, HO⟩
  iapply (wp_start c Q (src := yTop) (dst := yOut) (sm := cc0_scratch8.sem) (by decide) fullShare fy g _) $$ [Hy Ho Hv]
  · isplitl [Hy]; · iexact Hy
    isplitl [Ho]
    · rw [show yOut.view.set = Finset.univ from View.set_whole _]
      iexact Ho
    iexact Hv
  iintro HA
  iapply (wp_await c Q (src := yTop) (dst := yOut) (sm := cc0_scratch8.sem) fullShare fy _) $$ [HA HO]
  · isplitl [HA]; · iexact HA
    iexact HO
  iintro Hc Hy Hv HO
  iapply (Mxu.wp_exit (c := (c : Thread nD τ)) (𝒱 := Variants.none) (bd := none) Hm)
  rw [Prog.pure_eq_ret]
  iapply (le_wp_ret _ _ _ _ _)
  unfold copied
  icases Hc with ⟨%g', %hg, Hc⟩
  iapply HK $$ [HE HR Hx Hy HS HO] [Hc] Hv
  · isplitl [HE]; · iexact HE
    isplitl [HR]; · iexact HR
    isplitl [Hx]; · iexact Hx
    isplitl [Hy]
    · iexists fy
      isplitr; · ipureintro; exact hy
      iexact Hy
    isplitl [HS]; · iexact HS
    iexact HO
  · iexists g'
    isplitr
    · ipureintro
      rw [hg, ← hy]
      rfl
    rw [show yOut.view.set = Finset.univ from View.set_whole _]
    iexact Hc

theorem slots_last (N : ℕ) (X : ℕ → Fin 32) : slotsAt N X N = fun _ => .free := by
  funext i
  unfold slotsAt
  rw [if_neg (by omega), if_neg (by omega)]

end Cert.KernelIdeal.Hand

end
-- ==== Proof.Body.lean ====
/- The whole body: the ring made of its buffers, semaphores and shares of the arrays and taken apart again, and that
   what the tables held before the scan does not matter. -/
module

public import proofs.«01_k».proof.Proof.Closing

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC)
open Cert.KernelIdeal Cert.Hand

/-! ## The tables before the scan -/

/-- Two scans of the same sizes agree on all they list. -/
structure Scan.Same (s s' : Scan) (t : ℕ) : Prop where
  n : s.n = s'.n
  off : s.off = s'.off
  E : ∀ i < s.n.toNat, s.E i = s'.E i
  R : 0 < t → ∀ i ≤ s.n.toNat, s.R i = s'.R i

theorem Scan.run_same {G : ℕ → BitVec 32} (hG : Fits G) (E R E' R' : ℕ → BitVec 32) {t : ℕ} (ht : t ≤ 32) :
    (Scan.run G E R t).Same (Scan.run G E' R' t) t := by
  induction t with
  | zero => exact ⟨rfl, rfl, fun i hi => absurd hi (Nat.not_lt_zero _), fun h => absurd h (by omega)⟩
  | succ t ih =>
    have S := ih (by omega)
    have good := Scan.run_good hG E R (t := t) (by omega)
    obtain ⟨hc, hx⟩ := scan_word (hG.each t (by omega))
    have hn := good.n
    have hn' : (Scalar.addi (Scan.run G E R t).n (Scalar.extui (Scalar.cmpi .sgt (G t) 0#32)) : BitVec 32).toNat
        = (Scan.run G E R t).n.toNat + (if 0 < (G t).toNat then 1 else 0) := by
      rw [hx, addi_toNat]
      · congr 1
        split <;> rfl
      · have : (BitVec.ofNat 32 (if 0 < (G t).toNat then 1 else 0)).toNat ≤ 1 := by split <;> decide
        omega
    have hg0 := good.R0
    generalize hs : Scan.run G E R t = s at *
    generalize hs' : Scan.run G E' R' t = s' at *
    show ((Scan.run G E R t).next t (G t)).Same ((Scan.run G E' R' t).next t (G t)) (t + 1)
    rw [hs, hs']
    obtain ⟨n, off, E1, R1⟩ := s
    obtain ⟨n', off', E2, R2⟩ := s'
    obtain ⟨h1, h2, h3, h4⟩ := S
    dsimp only at h1 h2 h3 h4 hn' hn hg0
    subst h1 h2
    unfold Scan.next
    refine ⟨rfl, rfl, ?_, ?_⟩ <;> dsimp only
    · intro i hi
      rw [hn'] at hi
      by_cases hp : 0 < (G t).toNat
      · rw [if_pos (hc.2 hp), if_pos (hc.2 hp)]
        rw [if_pos hp] at hi
        by_cases hi' : i = n.toNat
        · rw [hi', Function.update_self, Function.update_self]
        · rw [Function.update_of_ne hi', Function.update_of_ne hi']; exact h3 i (by omega)
      · rw [if_neg (fun h => hp (hc.1 h)), if_neg (fun h => hp (hc.1 h))]
        rw [if_neg hp] at hi
        exact h3 i (by omega)
    · intro _ i hi
      rw [hn'] at hi ⊢
      by_cases hi' : i = n.toNat + (if 0 < (G t).toNat then 1 else 0)
      · rw [← hi', Function.update_self, Function.update_self]
      · rw [Function.update_of_ne hi', Function.update_of_ne hi']
        by_cases hp : 0 < (G t).toNat
        · rw [if_pos (hc.2 hp), if_pos (hc.2 hp)]
          rw [if_pos hp] at hi hi'
          by_cases hi2 : i = n.toNat
          · rw [hi2, Function.update_self, Function.update_self]
          · rw [Function.update_of_ne hi2, Function.update_of_ne hi2]
            exact h4 (by by_contra h0; have := hg0 (by omega); omega) i (by omega)
        · rw [if_neg (fun h => hp (hc.1 h)), if_neg (fun h => hp (hc.1 h))]
          rw [if_neg hp] at hi hi'
          exact h4 (by by_contra h0; have := hg0 (by omega); omega) i (by omega)

variable {F : FTy → Type} [FloatOps F]
variable [Facts]
open Facts₀ Facts

local notation "𝕄" => MT nD τ sig Unit (Elt F) ℕ (UC sig nD τ) ℕ

section

variable (c : Dev nD) (fw : Buf (Elt F) (wIn.view.loc (c : Thread nD τ))) (fv : Buf (Elt F) (sIn.view.loc (c : Thread nD τ)))
  (fx : Buf (Elt F) (qBuf.view.loc (c : Thread nD τ)))

theorem yAfter_same (n : BitVec 32) (hn : n.toNat ≤ 32) {E E' R R' : ℕ → BitVec 32} (hE : ∀ i < n.toNat, E i = E' i) (hR : ∀ i ≤ n.toNat, R i = R' i)
    (Y : YArr F) (t : ℕ) (ht : t ≤ n.toNat) : yAfter c fw fv fx n E R Y t = yAfter c fw fv fx n E' R' Y t := by
  induction t with
  | zero => rfl
  | succ t ih =>
    have h : t < (k0_t3_loop n).trips := Nat.lt_of_lt_of_eq (by omega) (trips_t3 hn).symm
    unfold yAfter
    rw [dif_pos h, dif_pos h, ih (by omega)]
    unfold stepY
    dsimp only
    rw [hE t (by omega), hR t (by omega), hR (t + 1) (by omega)]

/-- The result's buffer after the launch, from the group sizes, the arrays and the activations. -/
def finalY (G : ℕ → BitVec 32) (X : Vec F S512x2816 .bf16) : YArr F :=
  yAfter c fw fv (codesBuf c X) (Scan.run G (fun _ => 0#32) (fun _ => 0#32) 32).n (Scan.run G (fun _ => 0#32) (fun _ => 0#32) 32).E
    (Scan.run G (fun _ => 0#32) (fun _ => 0#32) 32).R zeroY (Scan.run G (fun _ => 0#32) (fun _ => 0#32) 32).n.toNat

theorem finalY_eq {G : ℕ → BitVec 32} (hG : Fits G) (X : Vec F S512x2816 .bf16) (E R : ℕ → BitVec 32) :
    yAfter c fw fv (codesBuf c X) (Scan.run G E R 32).n (Scan.run G E R 32).E (Scan.run G E R 32).R zeroY (Scan.run G E R 32).n.toNat
      = finalY c fw fv G X := by
  have S := Scan.run_same hG E R (fun _ => 0#32) (fun _ => 0#32) (t := 32) le_rfl
  have good := Scan.run_good hG E R (t := 32) le_rfl
  unfold finalY
  rw [← S.n]
  exact yAfter_same c fw fv _ _ good.n S.E (S.R (by decide)) _ _ le_rfl

/-! ## The ring from its parts -/

/-- The elements of slot `k`. -/
def setW (k : Fin 3) : Finset S3x1408x2816.Idx := (Rect.unit (s := S3x1408x2816) ![k.val, 0, 0] S1x1408x2816.size (inbW3 k)).set

theorem discW : ∀ s s' : Fin 3, s ≠ s' → Disjoint (setW s) (setW s') := fun s s' h =>
  Ring.lead_disjoint (NB := 3) (s := S3x1408x2816) 0 1 (fun k => ![k.val, 0, 0]) S1x1408x2816.size inbW3 (fun b => (Nat.one_mul _).symm) rfl s s' h

theorem covW : Finset.univ.biUnion setW = Finset.univ :=
  Ring.lead_cover (NB := 3) (s := S3x1408x2816) 0 1 (fun k => ![k.val, 0, 0]) S1x1408x2816.size inbW3 (fun b => (Nat.one_mul _).symm)
    (fun b a ha => match a with | 0 => absurd rfl ha | 1 => rfl | 2 => rfl) rfl (fun a ha => match a with | 0 => absurd rfl ha | 1 => rfl | 2 => rfl) rfl

/-- The elements of slot `k`. -/
def setS (k : Fin 3) : Finset S3x22x2816.Idx := (Rect.unit (s := S3x22x2816) ![k.val, 0, 0] S1x22x2816.size (inbS3 k)).set

theorem discS : ∀ s s' : Fin 3, s ≠ s' → Disjoint (setS s) (setS s') := fun s s' h =>
  Ring.lead_disjoint (NB := 3) (s := S3x22x2816) 0 1 (fun k => ![k.val, 0, 0]) S1x22x2816.size inbS3 (fun b => (Nat.one_mul _).symm) rfl s s' h

theorem covS : Finset.univ.biUnion setS = Finset.univ :=
  Ring.lead_cover (NB := 3) (s := S3x22x2816) 0 1 (fun k => ![k.val, 0, 0]) S1x22x2816.size inbS3 (fun b => (Nat.one_mul _).symm)
    (fun b a ha => match a with | 0 => absurd rfl ha | 1 => rfl | 2 => rfl) rfl (fun a ha => match a with | 0 => absurd rfl ha | 1 => rfl | 2 => rfl) rfl

abbrev wSlot (k : Fin 3) (f : Buf (Elt F) (wBuf.view.loc (c : Thread nD τ))) : sProp (MT nD τ sig Unit (Elt F) ℕ (UC sig nD τ) ℕ) :=
  iprop(wBuf.view.loc (c : Thread nD τ) ↦[(slotW3 k).view.set]{fullShare} f)
abbrev sSlot (k : Fin 3) (f : Buf (Elt F) (sBuf.view.loc (c : Thread nD τ))) : sProp (MT nD τ sig Unit (Elt F) ℕ (UC sig nD τ) ℕ) :=
  iprop(sBuf.view.loc (c : Thread nD τ) ↦[(slotS3 k).view.set]{fullShare} f)

theorem wSlot_eq (k : Fin 3) (f : Buf (Elt F) (wBuf.view.loc (c : Thread nD τ))) :
    wSlot c k f = (wBuf.view.loc (c : Thread nD τ) ↦[setW k]{fullShare} f : sProp (MT nD τ sig Unit (Elt F) ℕ (UC sig nD τ) ℕ)) :=
  congrArg (fun J : Finset S3x1408x2816.Idx => (wBuf.view.loc (c : Thread nD τ) ↦[J]{fullShare} f : sProp (MT nD τ sig Unit (Elt F) ℕ (UC sig nD τ) ℕ))) (set_slotW3 k)
theorem sSlot_eq (k : Fin 3) (f : Buf (Elt F) (sBuf.view.loc (c : Thread nD τ))) :
    sSlot c k f = (sBuf.view.loc (c : Thread nD τ) ↦[setS k]{fullShare} f : sProp (MT nD τ sig Unit (Elt F) ℕ (UC sig nD τ) ℕ)) :=
  congrArg (fun J : Finset S3x22x2816.Idx => (sBuf.view.loc (c : Thread nD τ) ↦[J]{fullShare} f : sProp (MT nD τ sig Unit (Elt F) ℕ (UC sig nD τ) ℕ))) (set_slotS3 k)

/-- The six semaphores of the ring at rest. -/
def ringSems : sProp (MT nD τ sig Unit (Elt F) ℕ (UC sig nD τ) ℕ) :=
  iprop(semVal ((c : Thread nD τ), .dma (semW3 0)) 0 ∗ semVal ((c : Thread nD τ), .dma (semW3 1)) 0 ∗ semVal ((c : Thread nD τ), .dma (semW3 2)) 0
    ∗ semVal ((c : Thread nD τ), .dma (semS3 0)) 0 ∗ semVal ((c : Thread nD τ), .dma (semS3 1)) 0 ∗ semVal ((c : Thread nD τ), .dma (semS3 2)) 0)

/-- What is left of the two arrays beside the slots' shares. -/
def ringRest : sProp (MT nD τ sig Unit (Elt F) ℕ (UC sig nD τ) ℕ) :=
  iprop((wIn.view.loc (c : Thread nD τ) ↦{Transfers.shareDrop fullShare 3} fw) ∗ (sIn.view.loc (c : Thread nD τ) ↦{Transfers.shareDrop fullShare 3} fv))

/-- The parts of the ring. -/
def ringParts : sProp (MT nD τ sig Unit (Elt F) ℕ (UC sig nD τ) ℕ) :=
  iprop((∃ f : Buf (Elt F) (wBuf.view.loc (c : Thread nD τ)), wBuf.view.loc (c : Thread nD τ) ↦{fullShare} f)
    ∗ (∃ f : Buf (Elt F) (sBuf.view.loc (c : Thread nD τ)), sBuf.view.loc (c : Thread nD τ) ↦{fullShare} f) ∗ ringSems (F := F) c
    ∗ (wIn.view.loc (c : Thread nD τ) ↦{fullShare} fw) ∗ (sIn.view.loc (c : Thread nD τ) ↦{fullShare} fv))

theorem ring_open : ringParts c fw fv ⊢ iprop(ring c fw fv (fun _ => .free) ∗ ringRest c fw fv) := by
  unfold ringParts ringSems ringRest ring Ring.AtW
  rw [Ring.bigSep_fin3]
  unfold slotIn atRest
  iintro ⟨Hw, Hs, ⟨V0, V1, V2, U0, U1, U2⟩, HW, HV⟩
  ihave Hw := (Ring.slots3_split (ℓ := wBuf.view.loc (c : Thread nD τ)) (q := fullShare) setW discW covW (wSlot c 0) (wSlot c 1) (wSlot c 2) (wSlot_eq c 0) (wSlot_eq c 1) (wSlot_eq c 2)) $$ Hw
  ihave Hs := (Ring.slots3_split (ℓ := sBuf.view.loc (c : Thread nD τ)) (q := fullShare) setS discS covS (sSlot c 0) (sSlot c 1) (sSlot c 2) (sSlot_eq c 0) (sSlot_eq c 1) (sSlot_eq c 2)) $$ Hs
  ihave HW := (Transfers.pointsTo_toks_split fullShare 3) $$ HW
  ihave HV := (Transfers.pointsTo_toks_split fullShare 3) $$ HV
  rw [Ring.bigSep_fin3, Ring.bigSep_fin3]
  icases Hw with ⟨A0, A1, A2⟩
  icases Hs with ⟨B0, B1, B2⟩
  icases HW with ⟨HW, C0, C1, C2⟩
  icases HV with ⟨HV, D0, D1, D2⟩
  isplitr [HW HV]
  · isplitl [A0 B0 V0 U0 C0 D0]
    · isplitl [A0]; · iexact A0
      isplitl [B0]; · iexact B0
      isplitl [V0]; · iexact V0
      isplitl [U0]; · iexact U0
      isplitl [C0]; · iexact C0
      iexact D0
    isplitl [A1 B1 V1 U1 C1 D1]
    · isplitl [A1]; · iexact A1
      isplitl [B1]; · iexact B1
      isplitl [V1]; · iexact V1
      isplitl [U1]; · iexact U1
      isplitl [C1]; · iexact C1
      iexact D1
    isplitl [A2]; · iexact A2
    isplitl [B2]; · iexact B2
    isplitl [V2]; · iexact V2
    isplitl [U2]; · iexact U2
    isplitl [C2]; · iexact C2
    iexact D2
  isplitl [HW]; · iexact HW
  iexact HV

theorem ring_close : iprop(ring c fw fv (fun _ => .free) ∗ ringRest c fw fv) ⊢ ringParts c fw fv := by
  unfold ringParts ringSems ringRest ring Ring.AtW
  rw [Ring.bigSep_fin3]
  unfold slotIn atRest
  iintro ⟨⟨⟨A0, B0, V0, U0, C0, D0⟩, ⟨A1, B1, V1, U1, C1, D1⟩, ⟨A2, B2, V2, U2, C2, D2⟩⟩, HW, HV⟩
  ihave Hw := (Ring.slots3_join (ℓ := wBuf.view.loc (c : Thread nD τ)) (q := fullShare) setW discW covW (wSlot c 0) (wSlot c 1) (wSlot c 2) (wSlot_eq c 0) (wSlot_eq c 1) (wSlot_eq c 2)) $$ [A0 A1 A2]
  · isplitl [A0]; · iexact A0
    isplitl [A1]; · iexact A1
    iexact A2
  ihave Hs := (Ring.slots3_join (ℓ := sBuf.view.loc (c : Thread nD τ)) (q := fullShare) setS discS covS (sSlot c 0) (sSlot c 1) (sSlot c 2) (sSlot_eq c 0) (sSlot_eq c 1) (sSlot_eq c 2)) $$ [B0 B1 B2]
  · isplitl [B0]; · iexact B0
    isplitl [B1]; · iexact B1
    iexact B2
  ihave HW := (Transfers.pointsTo_toks_join fullShare 3) $$ [HW C0 C1 C2]
  · isplitl [HW]; · iexact HW
    rw [Ring.bigSep_fin3]
    isplitl [C0]; · iexact C0
    isplitl [C1]; · iexact C1
    iexact C2
  ihave HV := (Transfers.pointsTo_toks_join fullShare 3) $$ [HV D0 D1 D2]
  · isplitl [HV]; · iexact HV
    rw [Ring.bigSep_fin3]
    isplitl [D0]; · iexact D0
    isplitl [D1]; · iexact D1
    iexact D2
  isplitl [Hw]; · iexact Hw
  isplitl [Hs]; · iexact Hs
  isplitl [V0 V1 V2 U0 U1 U2]
  · isplitl [V0]; · iexact V0
    isplitl [V1]; · iexact V1
    isplitl [V2]; · iexact V2
    isplitl [U0]; · iexact U0
    isplitl [U1]; · iexact U1
    iexact U2
  isplitl [HW]; · iexact HW
  iexact HV

/-! ## The body -/

/-- A table at some contents. -/
theorem holdsT_of (m : Memref sig .tc .smem S33 .i32) (f : Buf (Elt F) (m.view.loc (c : Thread nD τ))) :
    (m.view.loc (c : Thread nD τ) ↦{fullShare} f) ⊢ iprop(∃ T, holdsT (F := F) m c T) := by
  iintro H
  iexists (fun i => m.view.read (Elt F) f (fun a => ⟨i % 33, by obtain rfl : a = 0 := Subsingleton.elim _ _; exact Nat.mod_lt _ (by decide)⟩))
  unfold holdsT
  iexists f
  isplitr
  · ipureintro
    intro x
    congr 1
    funext a
    obtain rfl : a = 0 := Subsingleton.elim _ _
    exact Fin.ext (Nat.mod_eq_of_lt (x 0).isLt).symm
  iexact H

/-- What the body is given beside the group sizes, `fy` in the result's array. -/
def bodyHolds (fX : Buf (Elt F) (xIn.view.loc (c : Thread nD τ))) (fy : Buf (Elt F) (yOut.view.loc (c : Thread nD τ))) : sProp (MT nD τ sig Unit (Elt F) ℕ (UC sig nD τ) ℕ) :=
  iprop((xIn.view.loc (c : Thread nD τ) ↦{fullShare} fX) ∗ (yOut.view.loc (c : Thread nD τ) ↦{fullShare} fy)
    ∗ semVal ((c : Thread nD τ), .dma cc0_scratch7.sem) 0 ∗ semVal ((c : Thread nD τ), .dma cc0_scratch8.sem) 0
    ∗ ringParts c fw fv
    ∗ (∃ g : Buf (Elt F) (xBuf.view.loc (c : Thread nD τ)), xBuf.view.loc (c : Thread nD τ) ↦{fullShare} g)
    ∗ (∃ g : Buf (Elt F) (qBuf.view.loc (c : Thread nD τ)), qBuf.view.loc (c : Thread nD τ) ↦{fullShare} g)
    ∗ (∃ g : Buf (Elt F) (yBuf.view.loc (c : Thread nD τ)), yBuf.view.loc (c : Thread nD τ) ↦{fullShare} g)
    ∗ (∃ g : Buf (Elt F) (eTab.view.loc (c : Thread nD τ)), eTab.view.loc (c : Thread nD τ) ↦{fullShare} g)
    ∗ (∃ g : Buf (Elt F) (rTab.view.loc (c : Thread nD τ)), rTab.view.loc (c : Thread nD τ) ↦{fullShare} g)
    ∗ (∃ W, owes (c : Thread nD τ) 0 W))

/-- The result's array after the launch. -/
abbrev resultBuf (fX : Buf (Elt F) (xIn.view.loc (c : Thread nD τ))) (G : ℕ → BitVec 32) : Buf (Elt F) (yOut.view.loc (c : Thread nD τ)) :=
  topOf (finalY c fw fv G (xIn.view.read (Elt F) fX))

theorem yOut_read (g : Buf (Elt F) (yOut.view.loc (c : Thread nD τ))) : yOut.view.read (Elt F) g = g := rfl

theorem wp_body {gs : Memref sig .tc .smem S32 .i32} (hgs : gs.IsWhole) (f : Buf (Elt F) (gs.view.loc (c : Thread nD τ))) (G : ℕ → BitVec 32)
    (hf : ∀ x : S32.Idx, gs.view.read (Elt F) f x = G (x 0).val) (hG : Fits G)
    (fX : Buf (Elt F) (xIn.view.loc (c : Thread nD τ))) (fy : Buf (Elt F) (yOut.view.loc (c : Thread nD τ)))
    (Q : PUnit → sProp (MT nD τ sig Unit (Elt F) ℕ (UC sig nD τ) ℕ)) :
    iprop(holdsG gs c f ∗ bodyHolds c fw fv fX fy)
      ⊢ iprop((holdsG gs c f -∗ bodyHolds c fw fv fX (resultBuf c fw fv fX G) -∗ Q ⟨⟩)
        -∗ wp frame (wpE (defs₀ (F := F)) Variants.none (c : Thread nD τ) none) Set.univ (opening gs (closing gs hgs)) Q) := by
  unfold bodyHolds
  iintro ⟨HG, HX, Hy, Hv7, Hv8, HP, Hx, Hq, Hb, ⟨%ge, HE⟩, ⟨%gr, HR⟩, HO⟩ HK
  ihave HP := (ring_open c fw fv) $$ HP
  icases HP with ⟨HS, Hrest⟩
  ihave HE := (holdsT_of c eTab ge) $$ HE
  ihave HR := (holdsT_of c rTab gr) $$ HR
  icases HE with ⟨%E₀, HE⟩
  icases HR with ⟨%R₀, HR⟩
  have good := Scan.run_good hG E₀ R₀ (t := 32) le_rfl
  iapply (wp_opening c Q fw fv f G hf hG E₀ R₀ fX (closing gs hgs)) $$ [HG HX Hv7 HS Hx Hq Hb HE HR HO]
  · isplitl [HX]; · iexact HX
    isplitl [Hx]; · iexact Hx
    isplitl [Hv7]; · iexact Hv7
    isplitl [HG HE HR]
    · unfold scanHolds
      isplitl [HG]; · iexact HG
      isplitl [HE]; · iexact HE
      iexact HR
    isplitl [Hq]; · iexact Hq
    isplitl [Hb]; · iexact Hb
    isplitl [HS]; · iexact HS
    iexact HO
  iintro %hn HG HX Hx Hv7 HT
  iapply (wp_closing c fw fv (codesBuf c (xIn.view.read (Elt F) fX)) _ _ _ gs hgs hn good.n good.E (good.R (by decide)) zeroY Q) $$ [HT Hy Hv8]
  · isplitl [HT]; · iexact HT
    isplitl [Hy]; · iexists fy; iexact Hy
    iexact Hv8
  iintro HT ⟨%g, %hg, Hy⟩ Hv8
  rw [finalY_eq c fw fv hG] at hg
  unfold turnHolds holdsT holdsY holdsX
  rw [slots_last, show g = resultBuf c fw fv fX G from (yOut_read c g).symm.trans hg]
  icases HT with ⟨⟨%ge', -, HE⟩, ⟨%gr', -, HR⟩, Hq, ⟨%gy, -, Hb⟩, HS, HO⟩
  icases Hx with ⟨%gx, -, Hx⟩
  ihave HP := (ring_close c fw fv) $$ [HS Hrest]
  · isplitl [HS]; · iexact HS
    iexact Hrest
  iapply HK $$ HG
  isplitl [HX]; · iexact HX
  isplitl [Hy]; · iexact Hy
  isplitl [Hv7]; · iexact Hv7
  isplitl [Hv8]; · iexact Hv8
  isplitl [HP]; · iexact HP
  isplitl [Hx]; · iexists gx; iexact Hx
  isplitl [Hq]; · iexists _; iexact Hq
  isplitl [Hb]; · iexists gy; iexact Hb
  isplitl [HE]; · iexists ge'; iexact HE
  isplitl [HR]; · iexists gr'; iexact HR
  iexact HO

end

end Cert.KernelIdeal.Hand

end
-- ==== Proof.Launch.lean ====
/- The launch: from any memory whose group sizes fit, every run of @main ends, the four arguments unchanged, every
   counter at zero and the result's array at `resultBuf` of the arguments. -/
module

public import proofs.«01_k».proof.Proof.Body
public import proofs.«01_k».proof.Proof.Gen.KernelIdeal.Frame
public import Idealize.ShloMosaic.Lib.Pipeline.Routed
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UC Dat Cfg Window BodyObligation Ends)
open Cert.KernelIdeal Cert.KernelIdeal.Gen Cert.Hand

variable {F : FTy → Type} [FloatOps F]

/-- The algebra of this proof. -/
local notation "𝕄" => MT nD τ sig Unit (Elt F) ℕ (UC sig nD τ) ℕ

variable (m : (ℓ : Loc nD τ sig) → Buf (Elt F) ℓ) (ρ : Dev nD → PrngReg)

/-! ## What the run is about -/

/-- The index of group `i`'s size. -/
def sizeIx (i : ℕ) : S32.Idx := fun a => ⟨i % 32, by obtain rfl : a = 0 := Subsingleton.elim _ _; exact Nat.mod_lt _ (by decide)⟩

/-- The sizes the group size array holds. -/
def sizesOf (g : Vec F S32 .i32) (i : ℕ) : BitVec 32 := g (sizeIx i)

theorem sizesOf_val (g : Vec F S32 .i32) (x : S32.Idx) : g x = sizesOf g (x 0).val := by
  unfold sizesOf
  congr 1
  funext a
  obtain rfl : a = 0 := Subsingleton.elim _ _
  exact Fin.ext (Nat.mod_eq_of_lt (x 0).isLt).symm

/-- The group sizes of a memory. -/
def sizes (c : Dev nD) : ℕ → BitVec 32 := sizesOf (F := F) (iblk m c 0 t0_0)

/-- The result of a memory. -/
def result (c : Dev nD) : Buf (Elt F) (yOut.view.loc (c : Thread nD τ)) :=
  resultBuf c (V m c main_arg2) (V m c main_arg3) (V m c main_arg0) (sizes m c)

/-- The buffers the body moves, after it. -/
def Y (c : Dev nD) : (b : Ref sig .tc) → Buf (Elt F) ((c : Thread nD τ).loc b) :=
  Function.update (V m c) main_v0 (result m c)

theorem Y_v0 (c : Dev nD) : Y m c main_v0 = result m c := Function.update_self ..
theorem Y_arg0 (c : Dev nD) : Y m c main_arg0 = V m c main_arg0 := Function.update_of_ne (by decide) ..
theorem Y_arg2 (c : Dev nD) : Y m c main_arg2 = V m c main_arg2 := Function.update_of_ne (by decide) ..
theorem Y_arg3 (c : Dev nD) : Y m c main_arg3 = V m c main_arg3 := Function.update_of_ne (by decide) ..

/-! ## The kernel's own semaphores -/

/-- The body's semaphores: the two copies' and the ring's. -/
def osem0 : Fin 8 → SemLoc sig := fun j =>
  (![SemLoc.dma 1, SemLoc.dma 2, SemLoc.dma 3, SemLoc.dma 4, SemLoc.dma 5, SemLoc.dma 6, SemLoc.dma 7, SemLoc.dma 8] : Fin 8 → SemLoc sig) j

theorem ownSems : Pipeline.OwnSemFacts spec0 osem0 := by decide

theorem ownSems0_eq (c : Dev nD) : (Pipeline.ownSems0 osem0 c : sProp 𝕄)
    = iprop(semVal ((c : Thread nD τ), .dma cc0_scratch7.sem) 0 ∗ semVal ((c : Thread nD τ), .dma cc0_scratch8.sem) 0 ∗ ringSems c) := by
  rw [Pipeline.ownSems0_eq_of_list c osem0 [0, 1, 2, 3, 4, 5, 6, 7] (by decide) (by decide)]; rfl

/-! ## The region's ends -/

/-- The buffers the body moves. -/
abbrev moved : Finset (Ref sig .tc) := Pipeline.restRefs sig spec0

theorem routed_eq (c : Dev nD) (W : (b : Ref sig .tc) → Buf (Elt F) ((c : Thread nD τ).loc b)) :
    (Pipeline.routed moved c W : sProp 𝕄)
      = iprop((((c : Thread nD τ).loc main_arg0) ↦{fullShare} W main_arg0) ∗ (((c : Thread nD τ).loc main_arg2) ↦{fullShare} W main_arg2) ∗ (((c : Thread nD τ).loc main_arg3) ↦{fullShare} W main_arg3) ∗ (((c : Thread nD τ).loc main_v0) ↦{fullShare} W main_v0)) :=
  unscopedRest0_eq c W

/-- What the region's ends hold at the contents `W`. -/
theorem ends_eq (c : Dev nD) (W : (b : Ref sig .tc) → Buf (Elt F) ((c : Thread nD τ).loc b)) :
    (Ends spec0 osem0 moved c W : sProp 𝕄)
      = iprop(((((c : Thread nD τ).loc main_arg0) ↦{fullShare} W main_arg0) ∗ (((c : Thread nD τ).loc main_arg2) ↦{fullShare} W main_arg2) ∗ (((c : Thread nD τ).loc main_arg3) ↦{fullShare} W main_arg3) ∗ (((c : Thread nD τ).loc main_v0) ↦{fullShare} W main_v0))
        ∗ (semVal ((c : Thread nD τ), .dma cc0_scratch7.sem) 0 ∗ semVal ((c : Thread nD τ), .dma cc0_scratch8.sem) 0 ∗ ringSems c)
        ∗ ((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f))
        ∗ ∃ r, prngReg c r) := by
  unfold Ends
  rw [routed_eq, ownSems0_eq, scopedRest0_eq]

theorem ends_open (c : Dev nD) (W : (b : Ref sig .tc) → Buf (Elt F) ((c : Thread nD τ).loc b)) :
    iprop(Ends spec0 osem0 moved c W ∗ ∃ O, owes (c : Thread nD τ) 0 O)
      ⊢ (iprop(bodyHolds c (W main_arg2) (W main_arg3) (W main_arg0) (W main_v0) ∗ ∃ r, prngReg c r) : sProp 𝕄) := by
  rw [ends_eq]
  unfold bodyHolds ringParts
  iintro ⟨⟨⟨H0, H2, H3, Hv⟩, ⟨H7, H8, HS⟩, ⟨S0, S1, S2, S3, S4, S5, S6⟩, HP⟩, HO⟩
  isplitr [HP]
  swap; · iexact HP
  isplitl [H0]; · iexact H0
  isplitl [Hv]; · iexact Hv
  isplitl [H7]; · iexact H7
  isplitl [H8]; · iexact H8
  isplitl [S3 S4 HS H2 H3]
  · isplitl [S3]; · iexact S3
    isplitl [S4]; · iexact S4
    isplitl [HS]; · iexact HS
    isplitl [H2]; · iexact H2
    iexact H3
  isplitl [S0]; · iexact S0
  isplitl [S1]; · iexact S1
  isplitl [S2]; · iexact S2
  isplitl [S5]; · iexact S5
  isplitl [S6]; · iexact S6
  iexact HO

theorem ends_close (c : Dev nD) (W : (b : Ref sig .tc) → Buf (Elt F) ((c : Thread nD τ).loc b)) :
    (iprop(bodyHolds c (W main_arg2) (W main_arg3) (W main_arg0) (W main_v0) ∗ ∃ r, prngReg c r) : sProp 𝕄)
      ⊢ iprop(Ends spec0 osem0 moved c W ∗ ∃ O, owes (c : Thread nD τ) 0 O) := by
  rw [ends_eq]
  unfold bodyHolds ringParts
  iintro ⟨⟨H0, Hv, H7, H8, ⟨S3, S4, HS, H2, H3⟩, S0, S1, S2, S5, S6, HO⟩, HP⟩
  isplitr [HO]
  swap; · iexact HO
  isplitl [H0 H2 H3 Hv]
  · isplitl [H0]; · iexact H0
    isplitl [H2]; · iexact H2
    isplitl [H3]; · iexact H3
    iexact Hv
  isplitl [H7 H8 HS]
  · isplitl [H7]; · iexact H7
    isplitl [H8]; · iexact H8
    iexact HS
  isplitr [HP]
  swap; · iexact HP
  isplitl [S0]; · iexact S0
  isplitl [S1]; · iexact S1
  isplitl [S2]; · iexact S2
  isplitl [S3]; · iexact S3
  isplitl [S4]; · iexact S4
  isplitl [S5]; · iexact S5
  iexact S6

/-! ## The pipeline's proof data -/

/-- The proof data: the group sizes stay in their buffer; the invariant is the region's entry before the one point and its
    exit after it. -/
def dats (_ : Fin 1) (c : Dev nD) : Dat τ (Elt F) Unit ℕ (UC sig nD τ) ℕ cfg0 c where
  A w := V m c (Pipeline.arrRef spec0 w)
  after w t := match w with
    | ⟨0, _⟩ => iblk m c 0 t
  Φ t := Ends spec0 osem0 moved c (if t.val = 0 then V m c else Y m c)
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]

theorem before_of {c : Dev nD} (dat : Dat τ (Elt F) Unit ℕ (UC sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before_of m (dats m 0 c) (A_eq m c 0) (after0_0 m c) t d

theorem Φ_first (c : Dev nD) (t : Fin (cfg0.N + 1)) (h : t.val = 0) : (dats m 0 c).Φ t = Ends spec0 osem0 moved c (V m c) := by
  dsimp only [dats]; rw [if_pos h]

theorem Φ_last (c : Dev nD) (t : Fin (cfg0.N + 1)) (h : t.val ≠ 0) : (dats m 0 c).Φ t = Ends spec0 osem0 moved c (Y m c) := by
  dsimp only [dats]; rw [if_neg h]

/-! ## The body obligation -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

theorem owns_whole_iff {gs : Memref sig .tc .smem S32 .i32} (hgs : gs.IsWhole) (c : Dev nD) (f : Buf (Elt F) (gs.view.loc (c : Thread nD τ))) :
    (iprop(gs.view.loc (c : Thread nD τ) ↦[gs.view.set]{fullShare} f) : sProp 𝕄) = holdsG gs c f := by
  unfold holdsG
  rw [hgs.set_eq_univ]

/-- The body on any whole staging memref that holds the sizes. -/
theorem sound_kernel (c : Dev nD) (hG : Fits (sizes m c)) {gs : Memref sig .tc .smem S32 .i32} (hgs : gs.IsWhole)
    (K : PUnit → sProp 𝕄) :
    iprop(Ends spec0 osem0 moved c (V m c) ∗ (∃ O, owes (c : Thread nD τ) 0 O)
        ∗ owns (c : Thread nD τ) gs fullShare (iblk m c 0 t0_0 : Vec F S32 .i32)
        ∗ (iprop(Ends spec0 osem0 moved c (Y m c) ∗ (∃ O, owes (c : Thread nD τ) 0 O)
            ∗ owns (c : Thread nD τ) gs fullShare (iblk m c 0 t0_0 : Vec F S32 .i32)) -∗ K ⟨⟩))
      ⊢ wp frame (wpE (defs₀ (F := F)) Variants.none (c : Thread nD τ) none) Set.univ (opening gs (closing gs hgs)) K := by
  unfold owns
  iintro ⟨HE, HO, ⟨%f, %hf, HG⟩, HK⟩
  ihave HB := (ends_open c (V m c)) $$ [HE HO]
  · isplitl [HE]; · iexact HE
    iexact HO
  icases HB with ⟨HB, HP⟩
  ihave HG := (eq_entails (owns_whole_iff hgs c f)) $$ HG
  iapply (wp_body c (V m c main_arg2) (V m c main_arg3) hgs f (sizes m c)
    (fun x => (congrFun hf x).trans (sizesOf_val _ x)) hG (V m c main_arg0) (V m c main_v0) K) $$ [HG HB]
  · isplitl [HG]; · iexact HG
    iexact HB
  iintro HG HB
  iapply HK
  have e : (bodyHolds c (V m c main_arg2) (V m c main_arg3) (V m c main_arg0)
      (resultBuf c (V m c main_arg2) (V m c main_arg3) (V m c main_arg0) (sizes m c)) : sProp 𝕄)
      = bodyHolds c (Y m c main_arg2) (Y m c main_arg3) (Y m c main_arg0) (Y m c main_v0) := by
    rw [Y_arg2, Y_arg3, Y_arg0, Y_v0]; rfl
  ihave HB := (eq_entails e) $$ HB
  ihave HB := (ends_close c (Y m c)) $$ [HB HP]
  · isplitl [HB]; · iexact HB
    iexact HP
  icases HB with ⟨HE, HO⟩
  isplitl [HE]; · iexact HE
  isplitl [HO]; · iexact HO
  iexists f
  isplitr
  · ipureintro; exact hf
  iapply (eq_entails (owns_whole_iff hgs c f).symm)
  iexact HG

theorem sound_body (hG : ∀ c, Fits (sizes m c)) (c : Dev nD) (t : Fin cfg0.N) :
    bodyPre m c t ⊢ wp frame (wpE (defs₀ (F := F)) Variants.none (c : Thread nD τ) none) Set.univ (bodyAt0 t) (fun _ => bodyPost m c t) := by
  obtain rfl : t = t0_0 := fin_N0 t
  unfold bodyPre bodyPost bodyAt0
  simp only [before0_0]
  rw [Φ_first m c _ rfl, Φ_last m c _ (by decide), after0_0, printed]
  unfold Dat.owesAt Pipeline.owesWithin
  iintro ⟨HE, ⟨%W, -, HO⟩, ⟨%d, HG⟩⟩
  iapply (sound_kernel m c (hG c) (hstage0_0 0) _)
  isplitl [HE]; · iexact HE
  isplitl [HO]; · iexists W; iexact HO
  isplitl [HG]; · iexact HG
  iintro ⟨HE, ⟨%W', HO⟩, HG⟩
  isplitl [HE]; · iexact HE
  isplitl [HO]
  · iexists W'
    isplitr
    · ipureintro; exact fun _ _ => Or.inl trivial
    iexact HO
  iexact HG

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (hG : ∀ c, Fits (sizes m c)) (c : Dev nD) : BodyObligation (dats (F := F) m 0 c) (defs₀ (F := F)) Variants.none () Set.univ := fun t => by
  rw [bigSep_W0, bigSep_W0, defs₀_row]
  exact triple_restated (sound_body m hG c t) rfl .rfl fun _ => .rfl

/-! ## The run -/

set_option maxHeartbeats 800000 in
/-- @main up to the region: the region alone. -/
theorem hmain (𝒱₀ : Variants) : Pipeline.HMain (Ix := Unit) (Name := ℕ) (U := UC sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
/-- The launch. -/
theorem run_main (hG : ∀ c, Fits (sizes m c)) : θ_run defs (onTc (τ := τ) (main (F := F))) (s₀ m ρ)
    (fun r => Pipeline.RoutedPost cfgs (dats m) 0 moved (V m) (Y m) r ∧ r.2.sem = fun _ => 0) :=
  Pipeline.θ_run_frame_routed cfgs (dats m) (0 : Fin 1) launch0 ownSems defs₀ Variants.none m ρ main
    (fun c => (body_obligation m hG c).loose) (fun c => (dats m 0 c).share_full fun _ => rfl) (fun _ _ => rfl) (V m)
    (hmain m Variants.none) (A_eq m) moved (Finset.Subset.refl _) (Y m)
    (fun c => eq_entails (Φ_first m c _ rfl).symm) (fun c => eq_entails (Φ_last m c _ (by decide))) (Q' := _) (fun _ h => h)

/-- The run's post at the arguments, the result and the counters. -/
theorem run_post (hG : ∀ c, Fits (sizes m c)) : θ_run defs (onTc (τ := τ) (main (F := F))) ⟨m, fun _ => 0, ρ⟩ (fun r =>
    ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
    ∧ ∀ c : Dev nD, r.2.mem ((c.tc : Thread nD τ).loc main_v0) = result m c) :=
  (θ_run defs _ _).mono (fun _ h => ⟨⟨fun c =>
    ⟨((h.1 c).2.1 main_arg0 (Pipeline.mem_restRefs_of main_arg0 (by decide) (by decide))).trans (Y_arg0 m c),
      ((h.1 c).1 0).trans (((dats m 0 c).arrAt_in 0 rfl _).trans (A_eq m c 0)),
      ((h.1 c).2.1 main_arg2 (Pipeline.mem_restRefs_of main_arg2 (by decide) (by decide))).trans (Y_arg2 m c),
      ((h.1 c).2.1 main_arg3 (Pipeline.mem_restRefs_of main_arg3 (by decide) (by decide))).trans (Y_arg3 m c)⟩, h.2⟩,
    fun c => ((h.1 c).2.1 main_v0 (Pipeline.mem_restRefs_of main_v0 (by decide) (by decide))).trans (Y_v0 m c)⟩)
    (run_main m ρ hG)

/-- The sizes the run reads are the argument's. -/
theorem sizes_eq (c : Dev nD) : sizes m c = sizesOf (F := F) (m ((c.tc : Thread nD τ).loc main_arg1)) := by
  funext i
  unfold sizes sizesOf iblk
  rw [View.read_apply]
  show V m c main_arg1 _ = m _ _
  congr 1
  refine funext fun (a : Fin 1) => Fin.ext ?_
  show (((win0 0).rect t0_0).emb (sizeIx i) a).val = (sizeIx i a).val
  rw [Rect.emb_apply]
  have h0 : ((win0 0).rect t0_0).off a = 0 := by revert a; decide
  have h1 : ((win0 0).rect t0_0).stride a = 1 := by revert a; decide
  rw [h0, h1, Nat.zero_add, Nat.one_mul]

end Cert.KernelIdeal.Hand

end
-- ==== Proof.FitsOf.lean ====
/- That the printed precondition on the group sizes gives what the launch asks of them. -/
module

public import proofs.«01_k».proof.Proof.Launch
public import proofs.«01_k».proof.Proof.Gen.Pre_group_sizes_fit
public import Idealize.ShloMosaic.Lib.ReduceAll

@[expose] public section

set_option maxRecDepth 16384

noncomputable section

namespace Cert.KernelIdeal.Hand

open Idealize.ShloMosaic

variable {F : FTy → Type} [FloatOps F]

/-! ## A sum of words -/

/-- A sum of words that does not wrap. -/
theorem fold_addi {ι : Type} (f : ι → BitVec 32) (s : Finset ι) (h : ∑ i ∈ s, (f i).toNat < 2 ^ 32) :
    (s.fold IntOp.addi 0#32 f).toNat = ∑ i ∈ s, (f i).toNat := by
  induction s using Finset.cons_induction with
  | empty => rfl
  | cons a s ha ih =>
    rw [Finset.sum_cons] at h
    rw [Finset.fold_cons, Finset.sum_cons]
    show (f a + s.fold IntOp.addi 0#32 f).toNat = _
    rw [BitVec.toNat_add, ih (by omega)]
    exact Nat.mod_eq_of_lt h

theorem rowsUpTo_sum (G : ℕ → BitVec 32) (t : ℕ) : rowsUpTo G t = ∑ i ∈ Finset.range t, (G i).toNat := by
  induction t with
  | zero => rfl
  | succ t ih => rw [Finset.sum_range_succ, ← ih]; rfl

/-- The indices of the sizes are the groups. -/
def sizeEquiv : S32.Idx ≃ Fin 32 where
  toFun x := x 0
  invFun i := sizeIx i.val
  left_inv x := by
    funext a
    obtain rfl : a = 0 := Subsingleton.elim _ _
    exact Fin.ext (Nat.mod_eq_of_lt (x 0).isLt)
  right_inv i := Fin.ext (Nat.mod_eq_of_lt i.isLt)

theorem sum_sizes (g : Vec F S32 .i32) : ∑ x : S32.Idx, (g x).toNat = rowsUpTo (sizesOf (F := F) g) 32 := by
  rw [rowsUpTo_sum, ← Fin.sum_univ_eq_sum_range (fun i => (sizesOf (F := F) g i).toNat) 32]
  exact Fintype.sum_equiv sizeEquiv _ _ fun x => by rw [sizesOf_val (F := F) g x]; rfl

/-- The host's sum of the sizes. -/
theorem host_sum (g : Vec F S32 .i32) {t u : Shape} [Subsingleton t.Idx] (h' : S32.ReducesTo [0] t) (hu : 0 < u.numel) (j : t.Idx)
    (hG : ∀ x, (g x).toNat ≤ 512) :
    (Host.reduce IntOp.addi g (constantI u 32 0#32) h' hu j).toNat = rowsUpTo (sizesOf (F := F) g) 32
      ∧ rowsUpTo (sizesOf (F := F) g) 32 ≤ 512 * 32 := by
  have hb : rowsUpTo (sizesOf (F := F) g) 32 ≤ 512 * 32 := by
    rw [rowsUpTo_sum]
    exact (Finset.sum_le_card_nsmul _ _ 512 fun i _ => hG _).trans (by rw [Finset.card_range]; decide)
  refine ⟨?_, hb⟩
  rw [Host.reduce_eq_fold, Finset.filter_true_of_mem fun i _ => Subsingleton.elim _ _]
  rw [← sum_sizes] at hb ⊢
  exact fold_addi (fun x => g x) _ (by omega)

theorem toNat_of_signed {v : BitVec 32} (h0 : 0 ≤ v.toInt) (h1 : v.toInt ≤ 512) : v.toNat ≤ 512 := by
  rw [BitVec.toInt_eq_toNat_cond] at h0 h1
  have := v.isLt
  split at h0 <;> omega

/-- From the precondition to what the launch asks. -/
theorem fits_of (a : FVec F Cert.Pre_group_sizes_fit.S512x2816 .bf16) (g : Vec F S32 .i32) (w : IVec Cert.Pre_group_sizes_fit.S32x1408x2816 8)
    (s : FVec F Cert.Pre_group_sizes_fit.S32x22x2816 .f32)
    (h : Cert.Pre_group_sizes_fit.fn (F := F) a g w s = fun _ => 1#1) : Fits (sizesOf (F := F) g) := by
  have h' := congrFun h default
  unfold Cert.Pre_group_sizes_fit.fn at h'
  obtain ⟨h12, h3⟩ := IntOp.andi_eq_one.1 h'
  obtain ⟨h1, h2⟩ := IntOp.andi_eq_one.1 h12
  have e : ∀ x, (g x).toNat ≤ 512 := fun x =>
    toNat_of_signed (IntOp.cmpi_sge.1 (Host.reduce_andi_all _ _ _ _ _ h1 x)) (IntOp.cmpi_sle.1 (Host.reduce_andi_all _ _ _ _ _ h2 x))
  refine ⟨fun i _ => e _, ?_⟩
  have h4 := IntOp.cmpi_sle.1 h3
  obtain ⟨e1, e2⟩ := host_sum (F := F) g Cert.Pre_group_sizes_fit.Gen.reducesTo_S32_S_d0 Cert.Pre_group_sizes_fit.Gen.h_S_ default e
  generalize hr : Host.reduce IntOp.addi g (constantI Cert.Pre_group_sizes_fit.S_ 32 0#32) Cert.Pre_group_sizes_fit.Gen.reducesTo_S32_S_d0 Cert.Pre_group_sizes_fit.Gen.h_S_ default = r at e1
  have h5 : r.toInt ≤ 512 := by rw [← hr]; exact h4
  rw [BitVec.toInt_eq_toNat_of_lt (by rw [e1]; omega), e1] at h5
  exact_mod_cast h5

end Cert.KernelIdeal.Hand

end
-- ==== Proof.Scale.lean ====
/- The exponent of a block of activations and the two powers of two it stands for: the words the kernel builds and the
   powers the reference takes are equal over the extended reals. -/
module

public import Idealize.ShloMosaic.Lib.Pointwise

@[expose] public section

set_option maxRecDepth 16384

noncomputable section

namespace Cert.Hand

open Idealize.ShloMosaic

/-- A word whose fraction is zero and whose exponent field is neither zero nor all ones is a power of two. -/
theorem ofBits_exp (b : BitVec 32) (n : ℕ) (hb : b.toNat = n * 2 ^ 23) (h1 : 1 ≤ n) (h2 : n ≤ 254) :
    Ideal.ofBits .f32 b = (((2 : ℝ) ^ ((n : ℤ) - 127) : ℝ) : EReal) := by
  have hneg : (b.extractLsb' (8 + 23) 1 == 1#1) = false := by
    rw [beq_eq_false_iff_ne]
    intro h
    have := congrArg BitVec.toNat h
    rw [BitVec.extractLsb'_toNat, hb, Nat.shiftRight_eq_div_pow] at this
    have e : (1#1 : BitVec 1).toNat = 1 := rfl
    rw [e] at this
    have : n * 2 ^ 23 / 2 ^ (8 + 23) = 0 := by omega
    omega
  have hex : (b.extractLsb' 23 8).toNat = n := by
    rw [BitVec.extractLsb'_toNat, hb, Nat.shiftRight_eq_div_pow]; omega
  have hfr : (b.extractLsb' 0 23).toNat = 0 := by
    rw [BitVec.extractLsb'_toNat, hb, Nat.shiftRight_eq_div_pow]; omega
  show Ideal.ieee 8 23 b = _
  unfold Ideal.ieee
  simp only [hneg, hex, hfr]
  rw [if_neg (by omega), if_neg (by omega)]
  congr 1
  have e : ((n : ℤ) - (2 ^ (8 - 1) - 1) - (23 : ℕ)) = ((n : ℤ) - 127) - 23 := by norm_num
  rw [e, zpow_sub₀ (by norm_num : (2 : ℝ) ≠ 0)]
  norm_num
  ring

theorem ofBits_two : Ideal.ofBits .f32 0x40000000#32 = ((2 : ℝ) : EReal) := by
  rw [ofBits_exp _ 128 (by decide) (by decide) (by decide)]; norm_num

theorem ofBits_128 : Ideal.ofBits .f32 0x43000000#32 = (((128 : ℤ) : ℝ) : EReal) := by
  rw [ofBits_exp _ 134 (by decide) (by decide) (by decide)]; norm_num

theorem ofBits_neg127 : Ideal.ofBits .f32 0xC2FE0000#32 = (((-127 : ℤ) : ℝ) : EReal) := by
  simp [Ideal.ofBits, Ideal.ieee, -EReal.coe_mul, -EReal.coe_neg]; norm_num

theorem ofBits_bot : Ideal.ofBits .f32 0xFF800000#32 = ⊥ := by
  simp [Ideal.ofBits, Ideal.ieee]

/-- The f32 nearest to 1/448. -/
theorem ofBits_inv : Ideal.ofBits .f32 0x3B124925#32 = ((9586981 * (2 : ℝ) ^ (-32 : ℤ) : ℝ) : EReal) := by
  simp [Ideal.ofBits, Ideal.ieee, -EReal.coe_mul]

/-- The words of an exponent between -126 and 126. -/
theorem words_fin : ∀ n : Fin 253,
    (IntOp.shli .vector (IntOp.addi (BitVec.ofInt 32 ((n.val : ℤ) - 126)) 127#32) 23#32).toNat = (n.val + 1) * 2 ^ 23
    ∧ (IntOp.shli .vector (IntOp.subi 127#32 (BitVec.ofInt 32 ((n.val : ℤ) - 126))) 23#32).toNat = (253 - n.val) * 2 ^ 23 := by
  decide +kernel

/-- The same for an integer exponent. -/
theorem words_int (z : ℤ) (h1 : -126 ≤ z) (h2 : z ≤ 126) :
    ∃ p q : ℕ, (p : ℤ) = z + 127 ∧ (q : ℤ) = 127 - z
      ∧ (IntOp.shli .vector (IntOp.addi (BitVec.ofInt 32 z) 127#32) 23#32).toNat = p * 2 ^ 23
      ∧ (IntOp.shli .vector (IntOp.subi 127#32 (BitVec.ofInt 32 z)) 23#32).toNat = q * 2 ^ 23 := by
  obtain ⟨n, rfl⟩ : ∃ n : ℕ, z = (n : ℤ) - 126 := ⟨(z + 126).toNat, by omega⟩
  have hn : n < 253 := by omega
  have hw := words_fin ⟨n, hn⟩
  exact ⟨n + 1, 253 - n, by omega, by omega, hw.1, hw.2⟩

theorem shift_fin : ∀ n : Fin 256, IntOp.subi (IntOp.addi (BitVec.ofInt 32 ((n.val : ℤ) - 127)) 127#32) 126#32 = BitVec.ofInt 32 ((n.val : ℤ) - 127 + 1) := by
  decide +kernel

theorem fptosi_int (k : ℤ) (h1 : -127 ≤ k) (h2 : k ≤ 128) : Ideal.fptosi 32 (((k : ℝ)) : EReal) = BitVec.ofInt 32 k := by
  unfold Ideal.fptosi
  congr 1
  show max _ (min _ (if (0 : ℝ) ≤ (k : ℝ) then ⌊(k : ℝ)⌋ else ⌈(k : ℝ)⌉)) = k
  rw [Int.floor_intCast, Int.ceil_intCast, ite_self]
  norm_num
  omega

/-- The kernel's exponent word of a block whose largest magnitude is `a`. -/
def kExp (a : EReal) : BitVec 32 :=
  if a = 0 then 0#32 else
    IntOp.subi (IntOp.addi (Ideal.fptosi 32 (min (Ideal.ofBits .f32 0x43000000#32) (max (Ideal.ofBits .f32 0xC2FE0000#32)
      (Ideal.liftRound Int.floor (Ideal.div (Ideal.log (a * Ideal.ofBits .f32 0x3B124925#32)) (Ideal.log (Ideal.ofBits .f32 0x40000000#32))))))) 127#32) 126#32

/-- The reference's exponent of a block whose largest magnitude is `a`. -/
def rExp (a : EReal) : EReal :=
  if a = 0 then 0 else
    Ideal.liftRound Int.floor (Ideal.div (Ideal.log (a * Ideal.ofBits .f32 0x3B124925#32)) (Ideal.log (Ideal.ofBits .f32 0x40000000#32))) + 1

theorem coe_max' (x y : ℝ) : ((max x y : ℝ) : EReal) = max (x : EReal) (y : EReal) := EReal.coe_strictMono.monotone.map_max
theorem coe_min' (x y : ℝ) : ((min x y : ℝ) : EReal) = min (x : EReal) (y : EReal) := EReal.coe_strictMono.monotone.map_min

/-- The exponent before the clamps, of a positive real. -/
theorem floor_log (a : ℝ) (h : 0 < a) :
    Ideal.liftRound Int.floor (Ideal.div (Ideal.log ((a : EReal) * Ideal.ofBits .f32 0x3B124925#32)) (Ideal.log (Ideal.ofBits .f32 0x40000000#32)))
      = (((⌊Real.log (a * (9586981 * (2 : ℝ) ^ (-32 : ℤ))) / Real.log 2⌋ : ℤ) : ℝ) : EReal) := by
  have hp : 0 < a * (9586981 * (2 : ℝ) ^ (-32 : ℤ)) := by positivity
  rw [ofBits_inv, ofBits_two, ← EReal.coe_mul]
  show Ideal.liftRound Int.floor (Ideal.div (if a * (9586981 * (2 : ℝ) ^ (-32 : ℤ)) ≤ 0 then ⊥ else ((Real.log _ : ℝ) : EReal)) (if (2 : ℝ) ≤ 0 then ⊥ else ((Real.log 2 : ℝ) : EReal))) = _
  rw [if_neg (not_le.2 hp), if_neg (by norm_num)]
  have hl : Real.log 2 ≠ 0 := (Real.log_pos (by norm_num)).ne'
  unfold Ideal.div
  rw [if_neg (by exact_mod_cast hl), ← EReal.coe_inv, ← EReal.coe_mul, ← div_eq_mul_inv]
  rfl

theorem floor_log_lt (a : ℝ) (h : 0 < a) (hB : a ≤ 340282366920938463463374607431768211456) :
    ⌊Real.log (a * (9586981 * (2 : ℝ) ^ (-32 : ℤ))) / Real.log 2⌋ ≤ 120 := by
  have hp : 0 < a * (9586981 * (2 : ℝ) ^ (-32 : ℤ)) := by positivity
  have hl : 0 < Real.log 2 := Real.log_pos (by norm_num)
  have hlt : Real.log (a * (9586981 * (2 : ℝ) ^ (-32 : ℤ))) / Real.log 2 < 121 := by
    rw [div_lt_iff₀ hl, show (121 : ℝ) * Real.log 2 = Real.log ((2 : ℝ) ^ (121 : ℕ)) by rw [Real.log_pow]; norm_num]
    refine Real.log_lt_log hp ?_
    calc a * (9586981 * (2 : ℝ) ^ (-32 : ℤ)) ≤ 340282366920938463463374607431768211456 * (9586981 * (2 : ℝ) ^ (-32 : ℤ)) := by
          apply mul_le_mul_of_nonneg_right hB; positivity
      _ < _ := by norm_num
  have := Int.floor_lt.2 (show _ < ((121 : ℤ) : ℝ) by push_cast; exact hlt)
  omega

/-- The exponent's power, times 448, is at least the magnitude. -/
theorem le_floor_log (a : ℝ) (h : 0 < a) :
    a ≤ 448 * (2 : ℝ) ^ (⌊Real.log (a * (9586981 * (2 : ℝ) ^ (-32 : ℤ))) / Real.log 2⌋ + 1) := by
  have hp : 0 < a * (9586981 * (2 : ℝ) ^ (-32 : ℤ)) := by positivity
  have hl : 0 < Real.log 2 := Real.log_pos (by norm_num)
  set k := ⌊Real.log (a * (9586981 * (2 : ℝ) ^ (-32 : ℤ))) / Real.log 2⌋ with hk
  have h1 : Real.log (a * (9586981 * (2 : ℝ) ^ (-32 : ℤ))) < Real.log ((2 : ℝ) ^ (k + 1)) := by
    rw [Real.log_zpow, ← div_lt_iff₀ hl]
    have := Int.lt_floor_add_one (Real.log (a * (9586981 * (2 : ℝ) ^ (-32 : ℤ))) / Real.log 2)
    push_cast
    exact this
  have h2 := (Real.log_lt_log_iff hp (by positivity)).1 h1
  have h3 : (1 : ℝ) ≤ 448 * (9586981 * (2 : ℝ) ^ (-32 : ℤ)) := by norm_num
  calc a = a * 1 := (mul_one a).symm
    _ ≤ a * (448 * (9586981 * (2 : ℝ) ^ (-32 : ℤ))) := mul_le_mul_of_nonneg_left h3 h.le
    _ = 448 * (a * (9586981 * (2 : ℝ) ^ (-32 : ℤ))) := by ring
    _ ≤ _ := mul_le_mul_of_nonneg_left h2.le (by norm_num)

/-- The kernel's exponent is an integer whose powers have normal words, and the clip holds no magnitude of the block; -/
theorem exists_kExp (a : EReal) (h0 : 0 ≤ a) (hB : a ≤ ((340282366920938463463374607431768211456 : ℝ) : EReal)) :
    ∃ z : ℤ, -126 ≤ z ∧ z ≤ 126 ∧ kExp a = BitVec.ofInt 32 z ∧ a ≤ ((448 * (2 : ℝ) ^ z : ℝ) : EReal) := by
  by_cases ha : a = 0
  · exact ⟨0, by norm_num, by norm_num, by rw [kExp, if_pos ha]; rfl, by rw [ha]; exact EReal.coe_nonneg.2 (by positivity)⟩
  · induction a with
    | bot => simp at h0
    | top => simp at hB
    | coe a =>
      have h0' : 0 < a := lt_of_le_of_ne (by exact_mod_cast h0) (fun h => ha (by rw [← h]; rfl))
      have hB' : a ≤ 340282366920938463463374607431768211456 := by exact_mod_cast hB
      have hk := floor_log_lt a h0' hB'
      have hm := le_floor_log a h0'
      set k := ⌊Real.log (a * (9586981 * (2 : ℝ) ^ (-32 : ℤ))) / Real.log 2⌋ with hkd
      refine ⟨max (-127) k + 1, by omega, by omega, ?_, ?_⟩
      · rw [kExp, if_neg ha, floor_log a h0', ← hkd, ofBits_128, ofBits_neg127, ← coe_max', ← coe_min', ← Int.cast_max, ← Int.cast_min,
          show min (128 : ℤ) (max (-127) k) = max (-127) k by omega, fptosi_int _ (by omega) (by omega)]
        have := shift_fin ⟨(max (-127) k + 127).toNat, by omega⟩
        simp only at this
        rw [show (((max (-127) k + 127).toNat : ℕ) : ℤ) - 127 = max (-127) k by omega] at this
        exact this
      · refine EReal.coe_le_coe_iff.2 (hm.trans (mul_le_mul_of_nonneg_left ?_ (by norm_num)))
        exact zpow_le_zpow_right₀ (by norm_num) (by omega)

/-- the same of the reference's exponent. -/
theorem exists_rExp (a : EReal) (h0 : 0 ≤ a) (hB : a ≤ ((340282366920938463463374607431768211456 : ℝ) : EReal)) :
    ∃ z : ℤ, rExp a = ((z : ℝ) : EReal) ∧ a ≤ ((448 * (2 : ℝ) ^ z : ℝ) : EReal) := by
  by_cases ha : a = 0
  · exact ⟨0, by rw [rExp, if_pos ha]; norm_num, by rw [ha]; exact EReal.coe_nonneg.2 (by positivity)⟩
  · induction a with
    | bot => simp at h0
    | top => simp at hB
    | coe a =>
      have h0' : 0 < a := lt_of_le_of_ne (by exact_mod_cast h0) (fun h => ha (by rw [← h]; rfl))
      refine ⟨_, ?_, EReal.coe_le_coe_iff.2 (le_floor_log a h0')⟩
      rw [rExp, if_neg ha, floor_log a h0', show (1 : EReal) = ((1 : ℝ) : EReal) by norm_cast, ← EReal.coe_add]
      push_cast
      rfl

theorem pow_two (z : ℤ) : Ideal.pow (Ideal.ofBits .f32 0x40000000#32) ((z : ℝ) : EReal) = (((2 : ℝ) ^ z : ℝ) : EReal) := by
  rw [ofBits_two]
  show ((Real.rpow 2 (z : ℝ) : ℝ) : EReal) = _
  congr 1
  exact Real.rpow_intCast 2 z

theorem ofBits_448 : Ideal.ofBits .f32 1138753536#32 = ((448 : ℝ) : EReal) := by
  simp [Ideal.ofBits, Ideal.ieee, -EReal.coe_mul, -EReal.coe_neg]; norm_num

theorem ofBits_neg448 : Ideal.ofBits .f32 3286237184#32 = ((-448 : ℝ) : EReal) := by
  simp [Ideal.ofBits, Ideal.ieee, -EReal.coe_mul, -EReal.coe_neg]; norm_num

/-- Over the reals, a value the clip does not hold comes back from its code. -/
theorem clip_back (x : EReal) (z : ℤ) (h : max x (-x) ≤ ((448 * (2 : ℝ) ^ z : ℝ) : EReal)) :
    min (Ideal.ofBits .f32 1138753536#32) (max (Ideal.ofBits .f32 3286237184#32) (x * (((2 : ℝ) ^ (-z) : ℝ) : EReal))) * (((2 : ℝ) ^ z : ℝ) : EReal) = x := by
  obtain ⟨h1, h2⟩ := max_le_iff.1 h
  induction x with
  | bot => exact absurd (top_le_iff.1 (by rwa [EReal.neg_bot] at h2)) (EReal.coe_ne_top _)
  | top => exact absurd (top_le_iff.1 h1) (EReal.coe_ne_top _)
  | coe x =>
    have hz : (0 : ℝ) < (2 : ℝ) ^ z := by positivity
    have h1' : x ≤ 448 * (2 : ℝ) ^ z := by exact_mod_cast h1
    have h2' : -x ≤ 448 * (2 : ℝ) ^ z := by rw [← EReal.coe_neg] at h2; exact_mod_cast h2
    have hi : (2 : ℝ) ^ (-z) = ((2 : ℝ) ^ z)⁻¹ := zpow_neg _ _
    have u1 : x * (2 : ℝ) ^ (-z) ≤ 448 := by rw [hi, ← div_eq_mul_inv, div_le_iff₀ hz]; exact h1'
    have u2 : -448 ≤ x * (2 : ℝ) ^ (-z) := by rw [hi, ← div_eq_mul_inv, le_div_iff₀ hz]; linarith
    rw [ofBits_448, ofBits_neg448, ← EReal.coe_mul, max_eq_right (EReal.coe_le_coe_iff.2 u2), min_eq_right (EReal.coe_le_coe_iff.2 u1), ← EReal.coe_mul, hi,
      mul_assoc, inv_mul_cancel₀ hz.ne', mul_one]

/-- The kernel's code of a value of a block, scaled back. -/
theorem kernel_back (a x : EReal) (h0 : 0 ≤ a) (hB : a ≤ ((340282366920938463463374607431768211456 : ℝ) : EReal)) (hx : max x (-x) ≤ a) :
    min (Ideal.ofBits .f32 1138753536#32) (max (Ideal.ofBits .f32 3286237184#32) (x * Ideal.ofBits .f32 (IntOp.shli .vector (IntOp.subi 127#32 (kExp a)) 23#32)))
      * Ideal.ofBits .f32 (IntOp.shli .vector (IntOp.addi (kExp a) 127#32) 23#32) = x := by
  obtain ⟨z, h1, h2, hk, hm⟩ := exists_kExp a h0 hB
  obtain ⟨p, q, hp, hq, hw, hw'⟩ := words_int z h1 h2
  rw [hk, ofBits_exp _ p hw (by omega) (by omega), ofBits_exp _ q hw' (by omega) (by omega), show (p : ℤ) - 127 = z by omega, show (q : ℤ) - 127 = -z by omega]
  exact clip_back x z (hx.trans hm)

/-- The reference's. -/
theorem reference_back (a x : EReal) (h0 : 0 ≤ a) (hB : a ≤ ((340282366920938463463374607431768211456 : ℝ) : EReal)) (hx : max x (-x) ≤ a) :
    min (Ideal.ofBits .f32 1138753536#32) (max (Ideal.ofBits .f32 3286237184#32) (x * Ideal.pow (Ideal.ofBits .f32 1073741824#32) (-rExp a)))
      * Ideal.pow (Ideal.ofBits .f32 1073741824#32) (rExp a) = x := by
  obtain ⟨z, hr, hm⟩ := exists_rExp a h0 hB
  rw [hr, ← EReal.coe_neg, ← Int.cast_neg, pow_two, pow_two]
  exact clip_back x z (hx.trans hm)

/-- The largest magnitude of 128 activations. -/
def peakOf (f : Fin 128 → EReal) : EReal := Finset.fold max (Ideal.ofBits .f32 0xFF800000#32) (fun y => max (f y) (-f y)) Finset.univ

/-- A largest magnitude is not negative, -/
theorem peakOf_nonneg (f : Fin 128 → EReal) : 0 ≤ peakOf f := by
  unfold peakOf
  refine (Finset.le_fold_max (0 : EReal)).2 (.inr ⟨0, Finset.mem_univ _, ?_⟩)
  rcases le_total 0 (f 0) with h | h
  · exact h.trans (le_max_left _ _)
  · exact (EReal.neg_nonneg.2 h).trans (le_max_right _ _)

/-- and at most what bounds every magnitude. -/
theorem peakOf_le (f : Fin 128 → EReal) (B : EReal) (h : ∀ y, max (f y) (-f y) ≤ B) : peakOf f ≤ B := by
  unfold peakOf
  exact (Finset.fold_max_le B).2 ⟨by rw [ofBits_bot]; exact bot_le, fun y _ => h y⟩

/-- Every magnitude is at most the largest. -/
theorem le_peakOf (f : Fin 128 → EReal) (y : Fin 128) : max (f y) (-f y) ≤ peakOf f := by
  unfold peakOf
  exact (Finset.le_fold_max _).2 (.inr ⟨y, Finset.mem_univ _, le_rfl⟩)

/-! ## The nibbles of a byte -/

/-- The reference's signed code of a nibble. -/
def codeOf (nib : BitVec 32) : BitVec 32 := Scalar.select (IntOp.cmpi .sgt nib 7#32) (IntOp.subi nib 16#32) nib

theorem low_fin : ∀ b : Fin 256, IntOp.shrsi .vector (IntOp.shli .vector (BitVec.setWidth 32 (BitVec.ofNat 8 b.val)) (IntOp.subi 28#32 (IntOp.muli 4#32 0#32))) 28#32
      = codeOf (IntOp.andi (BitVec.setWidth 32 (BitVec.ofNat 8 b.val)) 15#32)
    ∧ IntOp.shrsi .vector (IntOp.shli .vector (BitVec.setWidth 32 (BitVec.ofNat 8 b.val)) (IntOp.subi 28#32 (IntOp.muli 4#32 1#32))) 28#32
      = codeOf (IntOp.shrsi .host (BitVec.setWidth 32 (BitVec.ofNat 8 b.val)) 4#32) := by decide +kernel

theorem nibble_low (b : BitVec 8) : IntOp.shrsi .vector (IntOp.shli .vector (BitVec.setWidth 32 b) (IntOp.subi 28#32 (IntOp.muli 4#32 0#32))) 28#32
      = codeOf (IntOp.andi (BitVec.setWidth 32 b) 15#32) := by
  have := (low_fin ⟨b.toNat, b.isLt⟩).1; rwa [BitVec.ofNat_toNat, BitVec.setWidth_eq] at this

theorem nibble_high (b : BitVec 8) : IntOp.shrsi .vector (IntOp.shli .vector (BitVec.setWidth 32 b) (IntOp.subi 28#32 (IntOp.muli 4#32 1#32))) 28#32
      = codeOf (IntOp.shrsi .host (BitVec.setWidth 32 b) 4#32) := by
  have := (low_fin ⟨b.toNat, b.isLt⟩).2; rwa [BitVec.ofNat_toNat, BitVec.setWidth_eq] at this

end Cert.Hand
-- ==== Proof.FitsFinite.lean ====
/- What the precondition of the value claim gives: sizes that fit and fill the rows, and bounded activations. -/
module

public import proofs.«01_k».proof.Proof.FitsOf
public import proofs.«01_k».proof.Pre_group_sizes_fit_and_finite
public import proofs.«01_k».proof.Proof.Scale
public import Idealize.ShloMosaic.Lib.ReduceAll

@[expose] public section

set_option maxRecDepth 16384

noncomputable section

namespace Cert.KernelIdeal.Hand

open Idealize.ShloMosaic
open Cert.Pre_group_sizes_fit_and_finite (S_ S32 S512x2816 S32x1408x2816 S32x22x2816)

/-- The side conditions of the predicate's operations. -/
theorem finite_facts : Cert.Pre_group_sizes_fit_and_finite.Facts where
  bcast_S_S32 := by decide
  reducesTo_S32_S_d0 := by decide
  h_S_ := by decide
  bitsLt_bf16_f32 := by decide
  bcast_S_S512x2816 := by decide
  reducesTo_S512x2816_S_d0_1 := by decide

/-- The largest finite activation is below 2^128. -/
theorem ofBits_largest : Ideal.ofBits .f32 0x7F7F0000#32 ≤ ((340282366920938463463374607431768211456 : ℝ) : EReal) := by
  have e : Ideal.ofBits .f32 0x7F7F0000#32 = (((16711680 : ℝ) * (2 : ℝ) ^ (104 : ℤ) : ℝ) : EReal) := by
    simp [Ideal.ofBits, Ideal.ieee, -EReal.coe_mul]
  rw [e]
  exact EReal.coe_le_coe_iff.2 (by norm_num)

/-- From the precondition. -/
theorem fits_finite (a : FVec Ideal S512x2816 .bf16) (g : IVec S32 32) (w : IVec S32x1408x2816 8) (s : FVec Ideal S32x22x2816 .f32)
    (h : @Cert.Pre_group_sizes_fit_and_finite.fn finite_facts Ideal _ a g w s = fun _ => 1#1) :
    Fits (sizesOf (F := Ideal) g) ∧ rowsUpTo (sizesOf (F := Ideal) g) 32 = 512
      ∧ ∀ i, max (a i : EReal) (-(a i : EReal)) ≤ ((340282366920938463463374607431768211456 : ℝ) : EReal) := by
  have h' := congrFun h default
  unfold Cert.Pre_group_sizes_fit_and_finite.fn at h'
  obtain ⟨h123, h4⟩ := IntOp.andi_eq_one.1 h'
  obtain ⟨h12, h3⟩ := IntOp.andi_eq_one.1 h123
  obtain ⟨h1, h2⟩ := IntOp.andi_eq_one.1 h12
  have e : ∀ x, (g x).toNat ≤ 512 := fun x =>
    toNat_of_signed (IntOp.cmpi_sge.1 (Host.reduce_andi_all _ _ _ _ _ h1 x)) (IntOp.cmpi_sle.1 (Host.reduce_andi_all _ _ _ _ _ h2 x))
  obtain ⟨e1, e2⟩ := host_sum (F := Ideal) g finite_facts.reducesTo_S32_S_d0 finite_facts.h_S_ default e
  have e3 : rowsUpTo (sizesOf (F := Ideal) g) 32 = 512 := by
    have h5 := IntOp.cmpi_eq.1 h3
    rw [← e1]
    exact congrArg BitVec.toNat h5
  refine ⟨⟨fun i _ => e _, e3.le⟩, e3, fun i => ?_⟩
  have h6 : BitVec.ofBool (decide (max (a i : EReal) (-(a i : EReal)) ≤ Ideal.ofBits .f32 0x7F7F0000#32)) = 1#1 := Host.reduce_andi_all _ _ _ _ _ h4 i
  refine le_trans ?_ ofBits_largest
  by_contra hc
  rw [decide_eq_false hc] at h6
  exact absurd h6 (by decide)

end Cert.KernelIdeal.Hand

end
-- ==== Proof.RefParts.lean ====
/- The reference's result in named parts. -/
module

public import proofs.«01_k».proof.ReferenceIdeal
public import Idealize.ShloMosaic.Lib.Pointwise

@[expose] public section

set_option maxRecDepth 16384

noncomputable section

namespace Cert.ReferenceIdeal.Hand

open Idealize.ShloMosaic Idealize.ShloMosaic.TcCoe
open Cert.ReferenceIdeal

variable {F : FTy → Type} [FloatOps F]
variable [Facts]
open Facts₀ Facts

/-- The activations in blocks of 128. -/
def blocks (x : FVec F S512x2816 .bf16) : FVec F S512x22x128 .f32 :=
  shapeCast _ (extf .f32 x bitsLt_bf16_f32) shapeCasts_S512x2816_S512x22x128
/-- Each block's largest magnitude. -/
def peak (x : FVec F S512x2816 .bf16) : FVec F S512x22 .f32 :=
  Host.reduce FloatOps.maximumf (Host.absf (blocks x)) (constant S_ .f32 0xFF800000#32) reducesTo_S512x22x128_S512x22_d2 h_S_
/-- Each block's exponent. -/
def expo (x : FVec F S512x2816 .bf16) : FVec F S512x22 .f32 :=
  select (cmpf .oeq (peak x) (broadcastInDim S512x22 ![] bcast_S_S512x22 (constant S_ .f32 0x00000000#32))) (broadcastInDim S512x22 ![] bcast_S_S512x22 (id (constant S_ .f32 0x00000000#32))) (addf (Host.floor (Host.divf (Host.log (mulf (peak x) (broadcastInDim S512x22 ![] bcast_S_S512x22 (constant S_ .f32 0x3B124925#32)))) (Host.log (broadcastInDim S512x22 ![] bcast_S_S512x22 (constant S_ .f32 0x40000000#32))))) (broadcastInDim S512x22 ![] bcast_S_S512x22 (constant S_ .f32 0x3F800000#32)))
/-- The quantised activations. -/
def codes (x : FVec F S512x2816 .bf16) : FVec F S512x2816 .bf16 :=
  shapeCast _ (mulf (truncf .bf16 (minimumf (broadcastInDim S512x22x128 ![] bcast_S_S512x22x128 (id (constant S_ .f32 0x43E00000#32))) (maximumf (broadcastInDim S512x22x128 ![] bcast_S_S512x22x128 (id (constant S_ .f32 0xC3E00000#32))) (mulf (blocks x) (broadcastInDim S512x22x128 ![0, 1, 2] bcast_S512x22x1_S512x22x128_0_1_2 (broadcastInDim S512x22x1 ![0, 1] bcast_S512x22_S512x22x1_0_1 (Host.powf (broadcastInDim S512x22 ![] bcast_S_S512x22 (constant S_ .f32 0x40000000#32)) (Host.negf (expo x)))))))) bitsLt_bf16_f32) (broadcastInDim S512x22x128 ![0, 1, 2] bcast_S512x22x1_S512x22x128_0_1_2 (broadcastInDim S512x22x1 ![0, 1] bcast_S512x22_S512x22x1_0_1 (truncf .bf16 (Host.powf (broadcastInDim S512x22 ![] bcast_S_S512x22 (constant S_ .f32 0x40000000#32)) (expo x)) bitsLt_bf16_f32)))) shapeCasts_S512x22x128_S512x2816
/-- The row after each group's last. -/
def ends (g : IVec S32 32) : IVec S32 32 :=
  Host.reduce IntOp.addi (select (cmpi .sle (broadcastInDim S32x32 ![0, 1] bcast_S1x32_S32x32_0_1 (broadcastInDim S1x32 ![1] bcast_S32_S1x32_1 (iotaInDim S32 32 0))) (broadcastInDim S32x32 ![0, 1] bcast_S32x1_S32x32_0_1 (broadcastInDim S32x1 ![0] bcast_S32_S32x1_0 (iotaInDim S32 32 0)))) (broadcastInDim S32x32 ![0, 1] bcast_S1x32_S32x32_0_1 (broadcastInDim S1x32 ![1] bcast_S32_S1x32_1 g)) (broadcastInDim S32x32 ![] bcast_S_S32x32 (id (constantI S_ 32 0#32)))) (constantI S_ 32 0#32) reducesTo_S32x32_S32_d1 h_S_
/-- Whether a row lies in a group. -/
def inside (g : IVec S32 32) : IVec S512x32 1 :=
  andi (cmpi .sge (broadcastInDim S512x32 ![0, 1] bcast_S512x1_S512x32_0_1 (broadcastInDim S512x1 ![0] bcast_S512_S512x1_0 (iotaInDim S512 32 0))) (broadcastInDim S512x32 ![0, 1] bcast_S1x32_S512x32_0_1 (broadcastInDim S1x32 ![1] bcast_S32_S1x32_1 (subi (ends g) g)))) (cmpi .slt (broadcastInDim S512x32 ![0, 1] bcast_S512x1_S512x32_0_1 (broadcastInDim S512x1 ![0] bcast_S512_S512x1_0 (iotaInDim S512 32 0))) (broadcastInDim S512x32 ![0, 1] bcast_S1x32_S512x32_0_1 (broadcastInDim S1x32 ![1] bcast_S32_S1x32_1 (ends g))))
/-- The low nibbles. -/
def low (w : IVec S32x1408x2816 8) : IVec S32x1408x2816 32 :=
  andi (extui 32 w natLt_8_32) (broadcastInDim S32x1408x2816 ![] bcast_S_S32x1408x2816 (constantI S_ 32 15#32))
/-- The high nibbles. -/
def high (w : IVec S32x1408x2816 8) : IVec S32x1408x2816 32 :=
  Host.shrsi (extui 32 w natLt_8_32) (broadcastInDim S32x1408x2816 ![] bcast_S_S32x1408x2816 (constantI S_ 32 4#32))
/-- Nibbles as scaled weights. -/
def weights (nib : IVec S32x1408x2816 32) (s : FVec F S32x22x2816 .f32) : FVec F S32x1408x2816 .bf16 :=
  shapeCast _ (mulf (shapeCast _ (sitofp .bf16 (select (cmpi .sgt nib (broadcastInDim S32x1408x2816 ![] bcast_S_S32x1408x2816 (constantI S_ 32 7#32))) (subi nib (broadcastInDim S32x1408x2816 ![] bcast_S_S32x1408x2816 (constantI S_ 32 16#32))) nib)) shapeCasts_S32x1408x2816_S32x22x64x2816) (broadcastInDim S32x22x64x2816 ![0, 1, 2, 3] bcast_S32x22x1x2816_S32x22x64x2816_0_1_2_3 (broadcastInDim S32x22x1x2816 ![0, 1, 3] bcast_S32x22x2816_S32x22x1x2816_0_1_3 (truncf .bf16 s bitsLt_bf16_f32)))) shapeCasts_S32x22x64x2816_S32x1408x2816
/-- Each row times the matrix of its group. -/
def grouped (g : IVec S32 32) (x : FVec F S512x1408 .bf16) (w : FVec F S32x1408x2816 .bf16) : FVec F S512x2816 .f32 :=
  Host.reduceAdd (select (broadcastInDim S512x32x2816 ![0, 1, 2] bcast_S512x32x1_S512x32x2816_0_1_2 (broadcastInDim S512x32x1 ![0, 1] bcast_S512x32_S512x32x1_0_1 (inside g))) (Host.dotGeneral dot_S512x1408_S32x1408x2816_S512x32x2816_1_1_0_02_n_n none x w) (broadcastInDim S512x32x2816 ![] bcast_S_S512x32x2816 (id (constant S_ .f32 0x00000000#32)))) (constant S_ .f32 0x00000000#32) reducesTo_S512x32x2816_S512x2816_d1 h_S_
/-- The even columns, the odd columns. -/
def evens (x : FVec F S512x2816 .bf16) : FVec F S512x1408 .bf16 := Host.slice S512x1408 ![0, 0] ![1, 2] x slicesBy_S512x2816_S512x1408_0s1_0s2
def odds (x : FVec F S512x2816 .bf16) : FVec F S512x1408 .bf16 := Host.slice S512x1408 ![0, 1] ![1, 2] x slicesBy_S512x2816_S512x1408_0s1_1s2

/-- The reference's result. -/
def value (x : FVec F S512x2816 .bf16) (g : IVec S32 32) (w : IVec S32x1408x2816 8) (s : FVec F S32x22x2816 .f32) : FVec F S512x2816 .bf16 :=
  truncf .bf16 (addf (grouped g (evens (codes x)) (weights (low w) s)) (grouped g (odds (codes x)) (weights (high w) s))) bitsLt_bf16_f32

end Cert.ReferenceIdeal.Hand
-- ==== Proof.RefAt.lean ====
/- The reference's parts read at an index, over the extended reals. -/
module

public import proofs.«01_k».proof.Proof.RefParts
public import proofs.«01_k».proof.Proof.Scale

@[expose] public section

set_option maxRecDepth 16384

noncomputable section

namespace Cert.ReferenceIdeal.Hand

open Idealize.ShloMosaic Idealize.ShloMosaic.TcCoe
open Cert.ReferenceIdeal Cert.Hand

variable [Facts]
open Facts₀ Facts

theorem expo_apply (x : FVec Ideal S512x2816 .bf16) (r : Fin 512) (b : Fin 22) :
    expo x (ix2 r b) = rExp (peakOf fun y : Fin 128 => x (ix2 r (⟨b.val * 128 + y.val, by omega⟩ : Fin 2816))) := by
  have h0 : (id (constant S_ .f32 0#32) : FVec Ideal S_ .f32) ix0 = 0 := (constant_apply S_ .f32 0#32 ix0).trans (by exact Ideal.ofBits_zero _)
  unfold rExp peakOf
  pointwise [expo, peak, blocks, h0]
  rfl

theorem codes_apply (x : FVec Ideal S512x2816 .bf16) (r : Fin 512) (k : Fin 2816) :
    codes x (ix2 r k) = min (Ideal.ofBits .f32 1138753536#32) (max (Ideal.ofBits .f32 3286237184#32)
        (x (ix2 r k) * Ideal.pow (Ideal.ofBits .f32 1073741824#32) (-expo x (ix2 r (⟨k.val / 128, by omega⟩ : Fin 22)))))
      * Ideal.pow (Ideal.ofBits .f32 1073741824#32) (expo x (ix2 r (⟨k.val / 128, by omega⟩ : Fin 22))) := by
  pointwise [codes, blocks]
  rfl

theorem weights_apply (nib : IVec S32x1408x2816 32) (s : FVec Ideal S32x22x2816 .f32) (e : Fin 32) (k : Fin 1408) (j : Fin 2816) :
    weights nib s (ix3 e k j) = (FloatOps.sitofp .bf16 (codeOf (nib (ix3 e k j))) : Ideal .bf16) * s (ix3 e (⟨k.val / 64, by omega⟩ : Fin 22) j) := by
  unfold codeOf
  pointwise [weights]

theorem grouped_apply (g : IVec S32 32) (x : FVec Ideal S512x1408 .bf16) (w : FVec Ideal S32x1408x2816 .bf16) (r : Fin 512) (j : Fin 2816) :
    grouped g x w (ix2 r j) = ∑ e : Fin 32, if inside g (ix2 r e) = 1#1 then (∑ k : Fin 1408, x (ix2 r k) * w (ix3 e k j)) else (0 : EReal) := by
  have h0 : (id (constant S_ .f32 0#32) : FVec Ideal S_ .f32) ix0 = 0 := (constant_apply S_ .f32 0#32 ix0).trans (by exact Ideal.ofBits_zero _)
  pointwise [grouped, h0]
  rfl

theorem ends_apply (g : IVec S32 32) (e : Fin 32) :
    ends g (ix1 e) = Finset.fold IntOp.addi 0#32 (fun x : Fin 32 => if x.val ≤ e.val then g (ix1 x) else 0#32) Finset.univ := by
  have hc : ∀ x e : Fin 32, IntOp.cmpi .sle (BitVec.ofNat 32 x.val) (BitVec.ofNat 32 e.val) = if x.val ≤ e.val then 1#1 else 0#1 := by decide +kernel
  pointwise [ends]
  congr 1
  funext x
  rw [hc]
  unfold Scalar.select
  split <;> rfl

theorem inside_apply (g : IVec S32 32) (r : Fin 512) (e : Fin 32) :
    inside g (ix2 r e) = IntOp.andi (IntOp.cmpi .sge (BitVec.ofNat 32 r.val) (IntOp.subi (ends g (ix1 e)) (g (ix1 e)))) (IntOp.cmpi .slt (BitVec.ofNat 32 r.val) (ends g (ix1 e))) := by
  pointwise [inside]

theorem evens_apply (x : FVec Ideal S512x2816 .bf16) (r : Fin 512) (k : Fin 1408) : evens x (ix2 r k) = x (ix2 r (⟨2 * k.val, by omega⟩ : Fin 2816)) := by
  pointwise [evens]

theorem odds_apply (x : FVec Ideal S512x2816 .bf16) (r : Fin 512) (k : Fin 1408) : odds x (ix2 r k) = x (ix2 r (⟨1 + 2 * k.val, by omega⟩ : Fin 2816)) := by
  pointwise [odds]

theorem low_apply (w : IVec S32x1408x2816 8) (i : S32x1408x2816.Idx) : low w i = IntOp.andi (BitVec.setWidth 32 (w i)) 15#32 := rfl
theorem high_apply (w : IVec S32x1408x2816 8) (i : S32x1408x2816.Idx) : high w i = IntOp.shrsi .host (BitVec.setWidth 32 (w i)) 4#32 := rfl

theorem value_apply (x : FVec Ideal S512x2816 .bf16) (g : IVec S32 32) (w : IVec S32x1408x2816 8) (s : FVec Ideal S32x22x2816 .f32) (i : S512x2816.Idx) :
    value x g w s i = (grouped g (evens (codes x)) (weights (low w) s) i : EReal) + grouped g (odds (codes x)) (weights (high w) s) i := rfl

end Cert.ReferenceIdeal.Hand

end
-- ==== Proof.Groups.lean ====
/- The reference's groups: a row lies in exactly one, the one the kernel's scan of the sizes gives it. -/
module

public import proofs.«01_k».proof.Proof.FitsOf
public import proofs.«01_k».proof.Proof.RefAt
public import Idealize.ShloMosaic.Lib.WordCmp

@[expose] public section

set_option maxRecDepth 16384

noncomputable section

namespace Cert.ReferenceIdeal.Hand

open Idealize.ShloMosaic
open Cert.ReferenceIdeal
open Cert.KernelIdeal.Hand (rowsUpTo rowsUpTo_le rowsUpTo_sum sizesOf sizesOf_val Fits fold_addi)

variable [Facts]

theorem size_at (g : IVec S32 32) (e : Fin 32) : g (ix1 e) = sizesOf (F := Ideal) g e.val := sizesOf_val (F := Ideal) g (ix1 e)

/-- The row after a group's last is the kernel's count of rows. -/
theorem ends_toNat (g : IVec S32 32) (hG : Fits (sizesOf (F := Ideal) g)) (e : Fin 32) :
    (ends g (ix1 e)).toNat = rowsUpTo (sizesOf (F := Ideal) g) (e.val + 1) := by
  have hb : rowsUpTo (sizesOf (F := Ideal) g) (e.val + 1) ≤ 512 := (rowsUpTo_le _ (by omega)).trans hG.all
  have hs : ∑ x : Fin 32, (if x.val ≤ e.val then g (ix1 x) else 0#32).toNat = rowsUpTo (sizesOf (F := Ideal) g) (e.val + 1) := by
    have h1 : ∀ x : Fin 32, (if x.val ≤ e.val then g (ix1 x) else 0#32).toNat = if x.val ≤ e.val then (sizesOf (F := Ideal) g x.val).toNat else 0 := fun x => by
      rw [size_at g x]; split <;> rfl
    simp only [h1]
    rw [Fin.sum_univ_eq_sum_range (fun i => if i ≤ e.val then (sizesOf (F := Ideal) g i).toNat else 0) 32, ← Finset.sum_filter, rowsUpTo_sum]
    congr 1
    ext i
    simp only [Finset.mem_filter, Finset.mem_range]
    omega
  rw [ends_apply, fold_addi _ _ (by rw [hs]; omega), hs]

/-- A row is inside a group when it is at or past the rows before it and before the rows up to it. -/
theorem inside_iff (g : IVec S32 32) (hG : Fits (sizesOf (F := Ideal) g)) (r : Fin 512) (e : Fin 32) :
    inside g (ix2 r e) = 1#1 ↔ rowsUpTo (sizesOf (F := Ideal) g) e.val ≤ r.val ∧ r.val < rowsUpTo (sizesOf (F := Ideal) g) (e.val + 1) := by
  have hb : rowsUpTo (sizesOf (F := Ideal) g) (e.val + 1) ≤ 512 := (rowsUpTo_le _ (by omega)).trans hG.all
  have hr := r.isLt
  have hE := ends_toNat g hG e
  have hS : rowsUpTo (sizesOf (F := Ideal) g) (e.val + 1) = rowsUpTo (sizesOf (F := Ideal) g) e.val + (g (ix1 e)).toNat := by rw [size_at g e]; rfl
  have hD : (IntOp.subi (ends g (ix1 e)) (g (ix1 e))).toNat = rowsUpTo (sizesOf (F := Ideal) g) e.val := by
    show (ends g (ix1 e) - g (ix1 e)).toNat = _
    have := (g (ix1 e)).isLt
    rw [BitVec.toNat_sub, hE]; omega
  have hR : (BitVec.ofNat 32 r.val).toNat = r.val := by rw [BitVec.toNat_ofNat]; omega
  rw [inside_apply, IntOp.andi_eq_one, IntOp.cmpi_sge, show IntOp.cmpi .slt (BitVec.ofNat 32 r.val) (ends g (ix1 e)) = BitVec.ofBool (decide ((BitVec.ofNat 32 r.val).toInt < (ends g (ix1 e)).toInt)) from rfl, BitVec.toInt_eq_toNat_of_lt (by rw [hD]; omega), BitVec.toInt_eq_toNat_of_lt (by rw [hR]; omega),
    BitVec.toInt_eq_toNat_of_lt (by rw [hE]; omega), hD, hR, hE]
  refine and_congr (by norm_cast) ?_
  by_cases h : r.val < rowsUpTo (sizesOf (F := Ideal) g) (e.val + 1)
  · simp [h]
  · simp [h]

/-- Every row before the last count lies in a group. -/
theorem exists_group (G : ℕ → BitVec 32) (r t : ℕ) (h : r < rowsUpTo G t) : ∃ e < t, rowsUpTo G e ≤ r ∧ r < rowsUpTo G (e + 1) := by
  induction t with
  | zero => exact absurd h (Nat.not_lt_zero _)
  | succ t ih =>
    by_cases h' : r < rowsUpTo G t
    · obtain ⟨e, he, h2⟩ := ih h'
      exact ⟨e, by omega, h2⟩
    · exact ⟨t, by omega, by omega, h⟩

/-- A row's product is that of its group. -/
theorem grouped_own (g : IVec S32 32) (hG : Fits (sizesOf (F := Ideal) g)) (x : FVec Ideal S512x1408 .bf16) (w : FVec Ideal S32x1408x2816 .bf16) (r : Fin 512) (j : Fin 2816) (e : Fin 32)
    (h1 : rowsUpTo (sizesOf (F := Ideal) g) e.val ≤ r.val) (h2 : r.val < rowsUpTo (sizesOf (F := Ideal) g) (e.val + 1)) :
    (grouped g x w (ix2 r j) : EReal) = ∑ k : Fin 1408, (x (ix2 r k) : EReal) * w (ix3 e k j) := by
  rw [grouped_apply, Finset.sum_eq_single e]
  · rw [if_pos ((inside_iff g hG r e).2 ⟨h1, h2⟩)]
  · intro e' _ hne
    rw [if_neg]
    intro h
    obtain ⟨h3, h4⟩ := (inside_iff g hG r e').1 h
    have hv : e'.val ≠ e.val := fun h => hne (Fin.ext h)
    rcases Nat.lt_or_gt_of_ne hv with h | h
    · have := rowsUpTo_le (sizesOf (F := Ideal) g) (show e'.val + 1 ≤ e.val by omega); omega
    · have := rowsUpTo_le (sizesOf (F := Ideal) g) (show e.val + 1 ≤ e'.val by omega); omega
  · intro h; exact absurd (Finset.mem_univ _) h

end Cert.ReferenceIdeal.Hand

end
-- ==== Proof.Quant.lean ====
/- The quantised activations read at an index, over the extended reals. -/
module

public import proofs.«01_k».proof.Proof.Opening
public import proofs.«01_k».proof.Proof.Scale

@[expose] public section

set_option maxRecDepth 16384

noncomputable section

namespace Cert.KernelIdeal.Hand

open Idealize.ShloMosaic Idealize.ShloMosaic.TcCoe
open Cert.KernelIdeal Cert.Hand

variable [Facts]
open Facts₀ Facts

theorem blockExp_apply (v : FVec Ideal S16x128 .bf16) (r : Fin 16) :
    blockExp v (Idealize.ShloMosaic.ix2 r (0 : Fin 1)) = kExp (peakOf fun y : Fin 128 => v (Idealize.ShloMosaic.ix2 r y)) := by
  unfold kExp peakOf
  pointwise [blockExp]
  rfl

theorem blockCodes_apply (v : FVec Ideal S16x128 .bf16) (r : Fin 16) (l : Fin 128) :
    blockCodes v (Idealize.ShloMosaic.ix2 r l) = min (Ideal.ofBits .f32 1138753536#32) (max (Ideal.ofBits .f32 3286237184#32)
        (v (Idealize.ShloMosaic.ix2 r l) * Ideal.ofBits .f32 (IntOp.shli .vector (IntOp.subi 127#32 (blockExp v (Idealize.ShloMosaic.ix2 r (0 : Fin 1)))) 23#32)))
      * Ideal.ofBits .f32 (IntOp.shli .vector (IntOp.addi (blockExp v (Idealize.ShloMosaic.ix2 r (0 : Fin 1))) 127#32) 23#32) := by
  pointwise [blockCodes]

/-- 128 columns of sixteen rows, from column `o`. -/
def colsFrom {α : Type} (v : S16x2816.Idx → α) (o : ℕ) : S16x128.Idx → α := fun y =>
  v (Idealize.ShloMosaic.ix2 (y 0 : Fin 16) (Fin.ofNat 2816 (o + (y 1).val)))

theorem slice_cols {α : Type} (v : S16x2816.Idx → α) (o : ℕ) (h : S16x2816.Slices ![0, o] S16x128) :
    extractStridedSlice S16x128 ![0, o] v h = colsFrom v o := by
  funext y
  obtain ⟨a, b, rfl⟩ : ∃ (a : Fin 16) (b : Fin 128), y = Idealize.ShloMosaic.ix2 a b := ⟨y 0, y 1, by funext d; fin_cases d <;> rfl⟩
  have hb : o + 128 ≤ 2816 := h.2 1
  have ha := a.isLt
  have hb' := b.isLt
  unfold colsFrom
  pointwise
  congr 1
  funext d
  fin_cases d
  · rfl
  · exact Fin.ext (Nat.mod_eq_of_lt (by show o + b.val < 2816; omega)).symm

/-- Pieces of 128 columns side by side, read at a column. -/
theorem pieces_apply {α : Type} (f : ℕ → S16x128.Idx → α) (j : S16x2816.Idx) (ns : List ℕ)
    (hs : ∀ s' ∈ (ns.map fun n => (⟨S16x128, f n⟩ : (s : Shape) × (s.Idx → α))).map (·.1), s'.FitsOff S16x2816 1) (c : ℕ)
    (hc : c < (axisSizes S16x2816 1 (ns.map fun n => (⟨S16x128, f n⟩ : (s : Shape) × (s.Idx → α)))).sum) (k : ℕ) (hk : k < ns.length) (l : Fin 128)
    (e : c = 128 * k + l.val) :
    concatenateAt S16x2816 1 j (ns.map fun n => (⟨S16x128, f n⟩ : (s : Shape) × (s.Idx → α))) hs c hc = f ns[k] (Idealize.ShloMosaic.ix2 (j 0 : Fin 16) l) := by
  induction ns generalizing c k with
  | nil => exact absurd hk (Nat.not_lt_zero _)
  | cons n ns ih =>
    have hl := l.isLt
    have hix : ∀ (d : ℕ) (hd : d = l.val) (hb : ∀ b : Fin 2, (if b.val = 1 then d else (j b).val) < S16x128.size b),
        (Shape.Idx.norm fun b => ⟨if b.val = 1 then d else (j b).val, hb b⟩ : S16x128.Idx) = Idealize.ShloMosaic.ix2 (j 0 : Fin 16) l := by
      intro d hd hb
      subst hd
      funext b
      fin_cases b <;> rfl
    cases ns with
    | nil =>
      obtain rfl : k = 0 := by simpa using hk
      have step := concatenateAt_singleton (t := S16x2816) (1 : Fin 2) j (f n) hs c hc
      exact step.trans (congrArg (f n) (hix c (by omega) _))
    | cons n' ns =>
      have step := concatenateAt_cons (t := S16x2816) (1 : Fin 2) j (f n) ⟨S16x128, f n'⟩ (ns.map fun n => (⟨S16x128, f n⟩ : (s : Shape) × (s.Idx → α))) hs c hc
      refine step.trans ?_
      by_cases h : c < 128
      · obtain rfl : k = 0 := by omega
        refine (dif_pos h).trans ?_
        exact congrArg (f n) (hix c (by omega) _)
      · obtain ⟨k, rfl⟩ : ∃ k', k = k' + 1 := ⟨k - 1, by omega⟩
        refine (dif_neg h).trans ?_
        exact ih _ (c - 128) _ k (by simpa using hk) (by omega)

/-- A row's codes, block by block. -/
theorem rowCodes_apply (v : FVec Ideal S16x2816 .bf16) (r : Fin 16) (l : Fin 2816) :
    rowCodes v (Idealize.ShloMosaic.ix2 r l)
      = blockCodes (colsFrom v (128 * (l.val / 128))) (Idealize.ShloMosaic.ix2 r (⟨l.val % 128, Nat.mod_lt _ (by decide)⟩ : Fin 128)) := by
  have hl := l.isLt
  unfold rowCodes
  simp only [slice_cols]
  rw [concatenate_apply]
  refine (pieces_apply (fun n => blockCodes (colsFrom v (128 * n))) (Idealize.ShloMosaic.ix2 r l) (List.range 22) _ l.val _ (l.val / 128)
    (by rw [List.length_range]; omega) ⟨l.val % 128, Nat.mod_lt _ (by decide)⟩ (by show l.val = 128 * (l.val / 128) + l.val % 128; omega)).trans ?_
  rw [List.getElem_range]
  rfl

/-- The kernel's row of codes at a column, from its block's largest magnitude. -/
theorem codesOf_apply (X : FVec Ideal S512x2816 .bf16) (i : S1024x2816.Idx) (r : Fin 512) (k : Fin 2816) (hr : (i 0).val = r.val) (hk : (i 1).val = k.val) :
    (codesOf (F := Ideal) X i : Ideal .bf16) = min (Ideal.ofBits .f32 1138753536#32) (max (Ideal.ofBits .f32 3286237184#32)
        (X (Idealize.ShloMosaic.ix2 r k) * Ideal.ofBits .f32 (IntOp.shli .vector (IntOp.subi 127#32 (kExp (peakOf fun y : Fin 128 => X (Idealize.ShloMosaic.ix2 r (⟨k.val / 128 * 128 + y.val, by omega⟩ : Fin 2816))))) 23#32)))
      * Ideal.ofBits .f32 (IntOp.shli .vector (IntOp.addi (kExp (peakOf fun y : Fin 128 => X (Idealize.ShloMosaic.ix2 r (⟨k.val / 128 * 128 + y.val, by omega⟩ : Fin 2816)))) 127#32) 23#32) := by
  have hr' := r.isLt
  have hk' := k.isLt
  unfold codesOf
  rw [dif_pos (by omega)]
  have e : inBlock i = Idealize.ShloMosaic.ix2 (⟨r.val % 16, Nat.mod_lt _ (by decide)⟩ : Fin 16) k := by
    funext a
    apply Fin.ext
    match a with
    | 0 => show (i 0).val % 16 = r.val % 16; rw [hr]
    | 1 => exact hk
  rw [e]
  have ev : ∀ (o : ℕ) (y : Fin 128), o + y.val < 2816 → colsFrom (fun y => X (rowIx ⟨(i 0).val / 16, by omega⟩ y)) o (Idealize.ShloMosaic.ix2 (⟨r.val % 16, Nat.mod_lt _ (by decide)⟩ : Fin 16) y)
      = X (Idealize.ShloMosaic.ix2 r (Fin.ofNat 2816 (o + y.val))) := fun o y ho => by
    unfold colsFrom
    refine congrArg X ?_
    funext a
    apply Fin.ext
    match a with
    | 0 => show 16 * ((i 0).val / 16) + r.val % 16 = r.val; omega
    | 1 => rfl
  rw [rowCodes_apply, blockCodes_apply, blockExp_apply]
  have hf : ∀ y : Fin 128, colsFrom (fun y => X (rowIx ⟨(i 0).val / 16, by omega⟩ y)) (128 * (k.val / 128)) (Idealize.ShloMosaic.ix2 (⟨r.val % 16, Nat.mod_lt _ (by decide)⟩ : Fin 16) y)
      = X (Idealize.ShloMosaic.ix2 r (⟨k.val / 128 * 128 + y.val, by omega⟩ : Fin 2816)) := fun y => by
    rw [ev _ _ (by omega)]
    congr 2
    exact Fin.ext ((Nat.mod_eq_of_lt (by omega)).trans (by show 128 * (k.val / 128) + y.val = k.val / 128 * 128 + y.val; omega))
  simp only [hf]
  have : k = (⟨k.val / 128 * 128 + k.val % 128, by omega⟩ : Fin 2816) := Fin.ext (by show k.val = k.val / 128 * 128 + k.val % 128; omega)
  rw [← this]

end Cert.KernelIdeal.Hand

end
-- ==== Proof.Tile.lean ====
/- The weight tile read at an index, over the extended reals. -/
module

public import proofs.«01_k».proof.Proof.Expert
public import proofs.«01_k».proof.Proof.Scale

@[expose] public section

set_option maxRecDepth 16384

noncomputable section

namespace Cert.KernelIdeal.Hand

open Idealize.ShloMosaic Idealize.ShloMosaic.TcCoe
open Cert.KernelIdeal Cert.Hand

variable [Facts]
open Facts₀ Facts

/-- The kernel's signed code of row `i`'s nibble: the low one of an even row, the high one of an odd row. -/
def tileCode (b : BitVec 8) (i : ℕ) : BitVec 32 :=
  codeOf (if i % 2 = 0 then IntOp.andi (BitVec.setWidth 32 b) 15#32 else IntOp.shrsi .host (BitVec.setWidth 32 b) 4#32)

theorem parity_fin : ∀ i : Fin 256, IntOp.andi (BitVec.ofNat 32 i.val) 1#32 = BitVec.ofNat 32 (i.val % 2) := by decide +kernel

theorem shift_code (b : BitVec 8) (i : ℕ) (hi : i < 256) :
    IntOp.shrsi .vector (IntOp.shli .vector (BitVec.setWidth 32 b) (IntOp.subi 28#32 (IntOp.muli 4#32 (IntOp.andi (BitVec.ofNat 32 i) 1#32)))) 28#32 = tileCode b i := by
  rw [parity_fin ⟨i, hi⟩]
  unfold tileCode
  by_cases h : i % 2 = 0
  · rw [if_pos h]; simp only [h]; exact nibble_low b
  · rw [if_neg h]; have h : i % 2 = 1 := by omega
    simp only [h]; exact nibble_high b

theorem weightTile_apply (p : Vec Ideal S1x128x256 .i8) (s0 s1 : Vec Ideal S1x1x256 .f32) (i b : Fin 256) :
    weightTile p s0 s1 (Idealize.ShloMosaic.ix2 i b)
      = (FloatOps.sitofp .bf16 (tileCode (p (Idealize.ShloMosaic.ix3 (0 : Fin 1) (⟨i.val / 2, by omega⟩ : Fin 128) b)) i.val) : Ideal .bf16)
        * (if i.val < 128 then s0 (Idealize.ShloMosaic.ix3 (0 : Fin 1) (0 : Fin 1) b) else s1 (Idealize.ShloMosaic.ix3 (0 : Fin 1) (0 : Fin 1) b) : EReal) := by
  pointwise [weightTile]
  split
  · rename_i h
    have e : i.val / 16 * 16 + i.val % 16 = i.val := by omega
    simp only [e, shift_code _ i.val i.isLt]
  · rename_i h
    have e : (i.val - 128) / 16 * 16 + (i.val - 128) % 16 = i.val - 128 := by omega
    have e' : (128 + (i.val - 128)) / 2 = i.val / 2 := by omega
    have e2 : 128 + (i.val - 128) = i.val := by omega
    simp only [e, e', e2, shift_code _ i.val i.isLt]

end Cert.KernelIdeal.Hand

end
-- ==== Proof.ColVal.lean ====
/- A column block's sums read at an index, over the extended reals: one sum over the whole contraction. -/
module

public import proofs.«01_k».proof.Proof.Share
public import proofs.«01_k».proof.Proof.Copies
public import proofs.«01_k».proof.Proof.Tile
public import Idealize.ShloMosaic.Lib.MatmulPlain
public import Idealize.ShloMosaic.Lib.Pipeline.ValueKit.Tiles
public import Idealize.ShloMosaic.Lib.Pointwise.Sums

@[expose] public section

set_option maxRecDepth 16384

noncomputable section

namespace Cert.KernelIdeal.Hand

open Idealize.ShloMosaic Idealize.ShloMosaic.TcCoe
open Cert.KernelIdeal Cert.Hand

variable [Facts]
open Facts₀ Facts

/-- One pass of the unit, read at an index. -/
theorem pass_apply (x : FVec Ideal S32x256 .bf16) (w : FVec Ideal S256x256 .bf16) (r : Fin 32) (b : Fin 256) :
    ((⟨.bf16, false, w⟩ : Mxu.Staged Ideal).pass x (Idealize.ShloMosaic.ix2 r b) : Ideal .f32)
      = (∑ k : Fin 256, (x (Idealize.ShloMosaic.ix2 r k) : EReal) * w (Idealize.ShloMosaic.ix2 k b) : EReal) := by
  show Ideal.mxuPass (DotDims.plain 32 256 256) x w (Idealize.ShloMosaic.ix2 r b) = _
  unfold Ideal.mxuPass
  rw [← Equiv.sum_comp (DotDims.plainContr 32 256 256).symm]
  refine Finset.sum_congr rfl fun k _ => ?_
  have hk := Idealize.ShloMosaic.ValueIdx.contrEquiv1_symm_val _ 256 (DotDims.plain_contr_rank 32 256 256) (DotDims.plain_contr_size 32 256 256) k
  have el : (DotDims.plain 32 256 256).lhsIdx (Idealize.ShloMosaic.ix2 r b) ((DotDims.plainContr 32 256 256).symm k) = Idealize.ShloMosaic.ix2 r k := by
    funext a; apply Fin.ext
    match a with
    | ⟨0, _⟩ => rfl
    | ⟨1, _⟩ => exact hk
  have er : (DotDims.plain 32 256 256).rhsIdx (Idealize.ShloMosaic.ix2 r b) ((DotDims.plainContr 32 256 256).symm k) = Idealize.ShloMosaic.ix2 k b := by
    funext a; apply Fin.ext
    match a with
    | ⟨0, _⟩ => exact hk
    | ⟨1, _⟩ => rfl
  rw [el, er]

/-- The weight the kernel multiplies element `K` of the contraction by. -/
def weightAt (w : IVec S32x1408x2816 8) (s : FVec Ideal S32x22x2816 .f32) (e : Fin 32) (j : Fin 2816) (K : Fin 2816) : EReal :=
  (FloatOps.sitofp .bf16 (tileCode (w (Idealize.ShloMosaic.ix3 e (⟨K.val / 2, by omega⟩ : Fin 1408) j)) K.val) : Ideal .bf16)
    * s (Idealize.ShloMosaic.ix3 e (⟨K.val / 128, by omega⟩ : Fin 22) j)

theorem tileCode_mod (b : BitVec 8) {i j : ℕ} (h : i % 2 = j % 2) : tileCode b i = tileCode b j := by unfold tileCode; rw [h]

variable (p : At) (hi : p.Is) (I : Input Ideal) (w : IVec S32x1408x2816 8) (s : FVec Ideal S32x22x2816 .f32) (e : Fin 32)

/-- The slots hold expert `e`. -/
structure HoldsExpert : Prop where
  w : ∀ (n : Fin 3) (k : Fin 1408) (j : Fin 2816), I.w (Idealize.ShloMosaic.ix3 n k j) = w (Idealize.ShloMosaic.ix3 e k j)
  s : ∀ (n : Fin 3) (k : Fin 22) (j : Fin 2816), I.s (Idealize.ShloMosaic.ix3 n k j) = s (Idealize.ShloMosaic.ix3 e k j)

variable {I w s e}

/-- A weight tile, read at an index. -/
theorem tileAt_apply (H : HoldsExpert I w s e) (k : Fin 11) (col : ℕ) (hc : col ≤ 2560) (i b : Fin 256) (j : Fin 2816) (hj : j.val = col + b.val) :
    (tileAt p hi.ok I k col hc (Idealize.ShloMosaic.ix2 i b) : Ideal .bf16) = weightAt w s e j ⟨k.val * 256 + i.val, by omega⟩ := by
  have hs := hi.slot
  unfold tileAt
  rw [weightTile_apply]
  have e1 : View.ld I.w (hi.ok.rW k col hc) (Idealize.ShloMosaic.ix3 (0 : Fin 1) (⟨i.val / 2, by omega⟩ : Fin 128) b)
      = w (Idealize.ShloMosaic.ix3 e (⟨(k.val * 256 + i.val) / 2, by omega⟩ : Fin 1408) j) := by
    refine (View.ld_unit_apply_of I.w _ _ _ _ (Idealize.ShloMosaic.ix3 (⟨p.slot.toNat, hs⟩ : Fin 3) (⟨(k.val * 256 + i.val) / 2, by omega⟩ : Fin 1408) j) fun a => ?_).trans (H.w _ _ _)
    match a with
    | 0 => rfl
    | 1 => show (k.val * 256 + i.val) / 2 = 128 * k.val + i.val / 2; omega
    | 2 => exact hj
  have e2 : View.ld I.s (hi.ok.rS0 k col hc) (Idealize.ShloMosaic.ix3 (0 : Fin 1) (0 : Fin 1) b) = s (Idealize.ShloMosaic.ix3 e (⟨2 * k.val, by omega⟩ : Fin 22) j) := by
    refine (View.ld_unit_apply_of I.s _ _ _ _ (Idealize.ShloMosaic.ix3 (⟨p.slot.toNat, hs⟩ : Fin 3) (⟨2 * k.val, by omega⟩ : Fin 22) j) fun a => ?_).trans (H.s _ _ _)
    match a with
    | 0 => rfl
    | 1 => rfl
    | 2 => exact hj
  have e3 : View.ld I.s (hi.ok.rS1 k col hc) (Idealize.ShloMosaic.ix3 (0 : Fin 1) (0 : Fin 1) b) = s (Idealize.ShloMosaic.ix3 e (⟨2 * k.val + 1, by omega⟩ : Fin 22) j) := by
    refine (View.ld_unit_apply_of I.s _ _ _ _ (Idealize.ShloMosaic.ix3 (⟨p.slot.toNat, hs⟩ : Fin 3) (⟨2 * k.val + 1, by omega⟩ : Fin 22) j) fun a => ?_).trans (H.s _ _ _)
    match a with
    | 0 => rfl
    | 1 => rfl
    | 2 => exact hj
  rw [e1, e2, e3]
  unfold weightAt
  rw [tileCode_mod _ (show i.val % 2 = (k.val * 256 + i.val) % 2 by omega)]
  split
  · rw [show (⟨2 * k.val, by omega⟩ : Fin 22) = ⟨(k.val * 256 + i.val) / 128, by omega⟩ from Fin.ext (by show 2 * k.val = (k.val * 256 + i.val) / 128; omega)]
  · rw [show (⟨2 * k.val + 1, by omega⟩ : Fin 22) = ⟨(k.val * 256 + i.val) / 128, by omega⟩ from Fin.ext (by show 2 * k.val + 1 = (k.val * 256 + i.val) / 128; omega)]

/-- A block of activations, read at an index. -/
theorem rowsAt_apply (c : Fin 16) (k : Fin 11) (r : Fin 32) (i : Fin 256) (R : Fin 1024) (hR : R.val = p.row0.toNat + 32 * c.val + r.val) :
    rowsAt p hi.ok I c k (Idealize.ShloMosaic.ix2 r i) = I.x (Idealize.ShloMosaic.ix2 R (⟨k.val * 256 + i.val, by omega⟩ : Fin 2816)) := by
  unfold rowsAt
  refine View.ld_unit_apply_of I.x _ _ _ _ _ fun a => ?_
  match a with
  | 0 => show R.val = (Scalar.indexCast (p.rowW c) : Index).toNat + r.val; rw [hi.rowW c.2]; exact hR
  | 1 => show k.val * 256 + i.val = 256 * k.val + i.val; omega

/-- One tile's share of the contraction. -/
theorem passAt_apply (H : HoldsExpert I w s e) (c : Fin 16) (k : Fin 11) (col : ℕ) (hc : col ≤ 2560) (r : Fin 32) (b : Fin 256) (R : Fin 1024) (j : Fin 2816)
    (hR : R.val = p.row0.toNat + 32 * c.val + r.val) (hj : j.val = col + b.val) :
    (passAt p hi.ok I c k col hc (Idealize.ShloMosaic.ix2 r b) : Ideal .f32)
      = (∑ i : Fin 256, (I.x (Idealize.ShloMosaic.ix2 R (⟨k.val * 256 + i.val, by omega⟩ : Fin 2816)) : EReal) * weightAt w s e j ⟨k.val * 256 + i.val, by omega⟩ : EReal) := by
  unfold passAt
  rw [pass_apply]
  exact Finset.sum_congr rfl fun i _ => by rw [tileAt_apply p hi H k col hc i b j hj, rowsAt_apply p hi c k r i R hR]

/-- The tiles added in order. -/
theorem blockSum_apply (c : Fin 16) (col : ℕ) (hc : col ≤ 2560) (x : S32x256.Idx) :
    (blockSum p hi.ok I col hc c x : Ideal .f32) = (∑ k : Fin 11, (passAt p hi.ok I c k col hc x : EReal) : EReal) := by
  generalize hf : (fun k : Fin 11 => (passAt p hi.ok I c k col hc x : EReal)) = f
  have h : ∀ k, passAt p hi.ok I c k col hc x = f k := fun k => congrFun hf k
  show ((((((((((passAt p hi.ok I c 0 col hc x + passAt p hi.ok I c 1 col hc x) + passAt p hi.ok I c 2 col hc x) + passAt p hi.ok I c 3 col hc x) + passAt p hi.ok I c 4 col hc x)
    + passAt p hi.ok I c 5 col hc x) + passAt p hi.ok I c 6 col hc x) + passAt p hi.ok I c 7 col hc x) + passAt p hi.ok I c 8 col hc x) + passAt p hi.ok I c 9 col hc x) + passAt p hi.ok I c 10 col hc x : EReal) = _
  simp only [h]
  simp only [Fin.sum_univ_succ, Fin.sum_univ_zero, Fin.succ_zero_eq_one, Fin.reduceSucc]
  abel

/-- The even tiles' sum and the odd tiles' sum. -/
theorem lastSum_apply (c : Fin 16) (x : S32x256.Idx) :
    (lastSum p hi.ok I c x : Ideal .f32) = (∑ k : Fin 11, (passAt p hi.ok I c k 2560 le_rfl x : EReal) : EReal) := by
  generalize hf : (fun k : Fin 11 => (passAt p hi.ok I c k 2560 le_rfl x : EReal)) = f
  have h : ∀ k, passAt p hi.ok I c k 2560 le_rfl x = f k := fun k => congrFun hf k
  show ((((((passAt p hi.ok I c 0 2560 le_rfl x + passAt p hi.ok I c 2 2560 le_rfl x) + passAt p hi.ok I c 4 2560 le_rfl x) + passAt p hi.ok I c 6 2560 le_rfl x) + passAt p hi.ok I c 8 2560 le_rfl x)
    + passAt p hi.ok I c 10 2560 le_rfl x) + ((((passAt p hi.ok I c 1 2560 le_rfl x + passAt p hi.ok I c 3 2560 le_rfl x) + passAt p hi.ok I c 5 2560 le_rfl x) + passAt p hi.ok I c 7 2560 le_rfl x) + passAt p hi.ok I c 9 2560 le_rfl x) : EReal) = _
  simp only [h]
  simp only [Fin.sum_univ_succ, Fin.sum_univ_zero, Fin.succ_zero_eq_one, Fin.reduceSucc]
  abel

/-- A column block's sum: the row times the expert's column. -/
theorem colSum_apply (H : HoldsExpert I w s e) (cb : ℕ) (hcb : cb < 11) (c : Fin 16) (r : Fin 32) (b : Fin 256) (R : Fin 1024) (j : Fin 2816)
    (hR : R.val = p.row0.toNat + 32 * c.val + r.val) (hj : j.val = 256 * cb + b.val) :
    (colSum p hi.ok I cb c (Idealize.ShloMosaic.ix2 r b) : Ideal .f32)
      = (∑ K : Fin 2816, (I.x (Idealize.ShloMosaic.ix2 R K) : EReal) * weightAt w s e j K : EReal) := by
  rw [Fin.sum_univ_tiles 11 256 (by norm_num)]
  unfold colSum
  split
  · rename_i h
    rw [blockSum_apply p hi]
    exact Finset.sum_congr rfl fun k _ => passAt_apply p hi H c k (256 * cb) (by omega) r b R j hR hj
  · rename_i h
    rw [lastSum_apply p hi]
    exact Finset.sum_congr rfl fun k _ => passAt_apply p hi H c k 2560 le_rfl r b R j hR (by omega)

end Cert.KernelIdeal.Hand

end
-- ==== Proof.Listed.lean ====
/- What the scan lists: every group with rows, in order, between its first row and the next group's. -/
module

public import proofs.«01_k».proof.Proof.Scan

@[expose] public section

set_option maxRecDepth 16384

noncomputable section

namespace Cert.KernelIdeal.Hand

open Idealize.ShloMosaic Idealize.ShloMosaic.TcCoe
open Cert.KernelIdeal Cert.Hand

/-- The groups listed after `t` groups: the rows rise, and each group with rows has its place. -/
structure Scan.Lists (G : ℕ → BitVec 32) (s : Scan) (t : ℕ) : Prop where
  good : s.Good G t
  last : 0 < t → (s.R s.n.toNat).toNat = rowsUpTo G t
  rise : ∀ i < s.n.toNat, (s.R i).toNat < (s.R (i + 1)).toNat
  has : ∀ g < t, 0 < (G g).toNat → ∃ k < s.n.toNat, (s.E k).toNat = g ∧ (s.R k).toNat = rowsUpTo G g ∧ (s.R (k + 1)).toNat = rowsUpTo G (g + 1)

/-- The number of groups listed after one more. -/
theorem Scan.next_n {G : ℕ → BitVec 32} (hG : Fits G) {s : Scan} {t : ℕ} (ht : t < 32) (h : s.Good G t) :
    (s.next t (G t)).n.toNat = s.n.toNat + (if 0 < (G t).toNat then 1 else 0) := by
  obtain ⟨hc, hx⟩ := scan_word (hG.each t ht)
  have hn := h.n
  show (Scalar.addi s.n (Scalar.extui (Scalar.cmpi .sgt (G t) 0#32)) : BitVec 32).toNat = _
  rw [hx, addi_toNat]
  · congr 1
    split <;> rfl
  · have : (BitVec.ofNat 32 (if 0 < (G t).toNat then 1 else 0)).toNat ≤ 1 := by split <;> decide
    omega

/-- The last row listed after one more group. -/
theorem Scan.next_last {G : ℕ → BitVec 32} (hG : Fits G) {s : Scan} {t : ℕ} (ht : t < 32) (h : s.Good G t) :
    ((s.next t (G t)).R (s.next t (G t)).n.toNat).toNat = rowsUpTo G (t + 1) := by
  have h2 := (h.next hG ht).off
  show (Function.update (if k0_cond1 (G t) = 1#1 then Function.update s.R s.n.toNat s.off else s.R) (s.next t (G t)).n.toNat (s.next t (G t)).off (s.next t (G t)).n.toNat).toNat = _
  rw [Function.update_self, h2]

/-- The rows listed before stay. -/
theorem Scan.next_keeps {G : ℕ → BitVec 32} (hG : Fits G) {s : Scan} {t : ℕ} (ht : t < 32) (h : s.Lists G t) (h0 : 0 < t) {i : ℕ} (hi : i ≤ s.n.toNat) :
    ((s.next t (G t)).R i).toNat = (s.R i).toNat := by
  obtain ⟨hc, hx⟩ := scan_word (hG.each t ht)
  have hn := Scan.next_n hG ht h.good
  have hl := Scan.next_last hG ht h.good
  by_cases hp : 0 < (G t).toNat
  · rw [if_pos hp] at hn
    show (Function.update (if k0_cond1 (G t) = 1#1 then Function.update s.R s.n.toNat s.off else s.R) (s.next t (G t)).n.toNat (s.next t (G t)).off i).toNat = _
    rw [Function.update_of_ne (by omega), if_pos (hc.2 hp)]
    by_cases hi' : i = s.n.toNat
    · rw [hi', Function.update_self, h.good.off, h.last h0]
    · rw [Function.update_of_ne hi']
  · rw [if_neg hp, Nat.add_zero] at hn
    by_cases hi' : i = s.n.toNat
    · rw [hn] at hl
      rw [hi', hl, h.last h0]
      show rowsUpTo G t + (G t).toNat = _
      omega
    · show (Function.update (if k0_cond1 (G t) = 1#1 then Function.update s.R s.n.toNat s.off else s.R) (s.next t (G t)).n.toNat (s.next t (G t)).off i).toNat = _
      rw [Function.update_of_ne (by omega), if_neg (fun h => hp (hc.1 h))]

theorem Scan.Lists.next {G : ℕ → BitVec 32} (hG : Fits G) {s : Scan} {t : ℕ} (ht : t < 32) (h : s.Lists G t) : (s.next t (G t)).Lists G (t + 1) := by
  obtain ⟨hc, hx⟩ := scan_word (hG.each t ht)
  have hn := Scan.next_n hG ht h.good
  have hl := Scan.next_last hG ht h.good
  have hE : ∀ i < s.n.toNat, (s.next t (G t)).E i = s.E i := fun i hi => by
    show (if k0_cond1 (G t) = 1#1 then Function.update s.E s.n.toNat (Scf.iv 0#32 1#32 t) else s.E) i = _
    split
    · rw [Function.update_of_ne (by omega)]
    · rfl
  have h0 : ∀ i < s.n.toNat, 0 < t := fun i hi => by by_contra h'; have := h.good.R0 (by omega); omega
  have hR : ∀ i ≤ s.n.toNat, 0 < t → ((s.next t (G t)).R i).toNat = (s.R i).toNat := fun i hi ht0 => Scan.next_keeps hG ht h ht0 hi
  have hnew : 0 < (G t).toNat → ((s.next t (G t)).R s.n.toNat).toNat = rowsUpTo G t := fun hp => by
    rw [if_pos hp] at hn
    show (Function.update (if k0_cond1 (G t) = 1#1 then Function.update s.R s.n.toNat s.off else s.R) (s.next t (G t)).n.toNat (s.next t (G t)).off s.n.toNat).toNat = _
    rw [Function.update_of_ne (by omega), if_pos (hc.2 hp), Function.update_self, h.good.off]
  refine ⟨h.good.next hG ht, fun _ => hl, fun i hi => ?_, fun g hg hgp => ?_⟩
  · by_cases hi' : i < s.n.toNat
    · rw [hR i (by omega) (h0 i hi'), hR (i + 1) (by omega) (h0 i hi')]
      exact h.rise i hi'
    · by_cases hp : 0 < (G t).toNat
      · rw [if_pos hp] at hn
        obtain rfl : i = s.n.toNat := by omega
        rw [hnew hp, ← hn, hl]
        show _ < rowsUpTo G t + (G t).toNat
        omega
      · rw [if_neg hp] at hn; omega
  · by_cases hgt : g < t
    · obtain ⟨k, hk, e1, e2, e3⟩ := h.has g hgt hgp
      refine ⟨k, by omega, ?_, ?_, ?_⟩
      · rw [hE k hk]; exact e1
      · rw [hR k (by omega) (by omega)]; exact e2
      · rw [hR (k + 1) (by omega) (by omega)]; exact e3
    · obtain rfl : g = t := by omega
      rw [if_pos hgp] at hn
      refine ⟨s.n.toNat, by omega, ?_, hnew hgp, by rw [← hn]; exact hl⟩
      show ((if k0_cond1 (G g) = 1#1 then Function.update s.E s.n.toNat (Scf.iv 0#32 1#32 g) else s.E) s.n.toNat).toNat = g
      rw [if_pos (hc.2 hgp), Function.update_self, iv_toNat ht]

theorem Scan.run_lists {G : ℕ → BitVec 32} (hG : Fits G) (E R : ℕ → BitVec 32) {t : ℕ} (ht : t ≤ 32) : (Scan.run G E R t).Lists G t := by
  induction t with
  | zero => exact ⟨Scan.run_good hG E R ht, fun h => absurd h (by omega), fun i hi => absurd hi (Nat.not_lt_zero _), fun g hg => absurd hg (by omega)⟩
  | succ t ih => exact (ih (by omega)).next hG (by omega)

/-- The listed rows rise. -/
theorem Scan.Lists.lt {G : ℕ → BitVec 32} {s : Scan} {t : ℕ} (h : s.Lists G t) {i j : ℕ} (hij : i ≤ j) (hj : j ≤ s.n.toNat) : (s.R i).toNat ≤ (s.R j).toNat := by
  induction j with
  | zero => obtain rfl : i = 0 := by omega
            exact le_rfl
  | succ j ih =>
    by_cases e : i = j + 1
    · rw [e]
    · exact (ih (by omega) (by omega)).trans (h.rise j (by omega)).le

/-- A row of a group stands in that group's place, and before every later one. -/
theorem Scan.Lists.row {G : ℕ → BitVec 32} {s : Scan} {t : ℕ} (h : s.Lists G t) {g r : ℕ} (hg : g < t) (h1 : rowsUpTo G g ≤ r) (h2 : r < rowsUpTo G (g + 1)) :
    ∃ k < s.n.toNat, (s.E k).toNat = g ∧ (s.R k).toNat ≤ r ∧ r < (s.R (k + 1)).toNat ∧ ∀ j, k < j → j ≤ s.n.toNat → r < (s.R j).toNat := by
  have hp : 0 < (G g).toNat := by change r < rowsUpTo G g + (G g).toNat at h2; omega
  obtain ⟨k, hk, e1, e2, e3⟩ := h.has g hg hp
  exact ⟨k, hk, e1, by omega, by omega, fun j hj hj' => lt_of_lt_of_le (by omega) (h.lt (show k + 1 ≤ j by omega) hj')⟩

end Cert.KernelIdeal.Hand

end
-- ==== Proof.RowVal.lean ====
/- The result's rows: a row of a group holds the product of that group's expert, over the extended reals, whatever the
   later experts' shares write before and after it. -/
module

public import proofs.«01_k».proof.Proof.Listed
public import proofs.«01_k».proof.Proof.Body
public import Idealize.ShloMosaic.Lib.Pointwise

@[expose] public section

set_option maxRecDepth 16384

noncomputable section

namespace Cert.KernelIdeal.Hand

open Idealize.ShloMosaic Idealize.ShloMosaic.TcCoe
open Cert.KernelIdeal Cert.Hand

variable [Facts]
open Facts₀ Facts

/-- The kernel's test that an expert has rows past its first tile's start. -/
theorem cond5_fin : ∀ d : Fin 1025, 0 < d.val → Scalar.cmpi .ne (Scalar.extui (Scalar.cmpi .sgt (BitVec.ofNat 32 d.val) 0#32) : BitVec 32) 0#32 = 1#1 := by decide +kernel

theorem cond5_pos {a b : BitVec 32} (ha : a.toNat ≤ 512) (hb : b.toNat ≤ 512) (h : a.toNat < b.toNat) : k0_cond5 a b = 1#1 := by
  obtain ⟨i, rfl⟩ := word_fin (Nat.lt_succ_of_le ha)
  have e : (BitVec.ofNat 32 i.val).toNat = i.val := by have := i.2; simp [BitVec.toNat_ofNat]; omega
  rw [e] at ha h
  have hr := (row_fin i).1
  show Scalar.cmpi .ne (Scalar.extui (Scalar.cmpi .sgt (Scalar.subi b (Scalar.subi (BitVec.ofNat 32 i.val) (Scalar.remsi (BitVec.ofNat 32 i.val) 16#32)) : BitVec 32) 0#32) : BitVec 32) 0#32 = 1#1
  generalize Scalar.subi (BitVec.ofNat 32 i.val) (Scalar.remsi (BitVec.ofNat 32 i.val) 16#32) = d at hr
  have hd : (Scalar.subi b d : BitVec 32).toNat = b.toNat - d.toNat := by
    show (b - d).toNat = _
    rw [BitVec.toNat_sub]; omega
  obtain ⟨j, hj⟩ := word_fin (k := 1025) (n := (Scalar.subi b d : BitVec 32)) (by rw [hd]; omega)
  rw [hj] at hd ⊢
  have e' : (BitVec.ofNat 32 j.val).toNat = j.val := by have := j.2; simp [BitVec.toNat_ofNat]; omega
  exact cond5_fin j (by rw [← e', hd]; omega)

/-- Where an expert's rows start. -/
theorem place_rows (n : BitVec 32) (t : Fin (k0_t3_loop n).trips) {r : BitVec 32} (hr : r.toNat ≤ 512) :
    (place n t r).row0.toNat = r.toNat - r.toNat % 16 ∧ (place n t r).skip.toNat = r.toNat % 16 := by
  obtain ⟨i, rfl⟩ := word_fin (Nat.lt_succ_of_le hr)
  have e : (BitVec.ofNat 32 i.val).toNat = i.val := by have := i.2; simp [BitVec.toNat_ofNat]; omega
  rw [e]
  exact row_fin i

/-- A share leaves every row before its own. -/
theorem share_before {r0 sk : ℕ} (V : ℕ → Fin 16 → FVec Ideal S32x256 .f32) (Y : YArr Ideal) (i : S1024x2816.Idx) (hs : sk < 16)
    (h : (i 0).val < r0 + sk) : shareOf r0 sk V Y i = Y i := by
  unfold shareOf
  split
  · rw [if_pos (by omega), if_neg (by omega)]; rfl
  · rfl

/-- A share's own rows hold its values. -/
theorem share_own {r0 sk : ℕ} (V : ℕ → Fin 16 → FVec Ideal S32x256 .f32) (Y : YArr Ideal) (i : S1024x2816.Idx)
    (h : r0 + sk ≤ (i 0).val) (h' : (i 0).val < r0 + 512) :
    shareOf r0 sk V Y i = V ((i 1).val / 256) (Fin.ofNat 16 (((i 0).val - r0) / 32)) (pt ((i 0).val - r0) (i 1).val) := by
  unfold shareOf
  rw [if_pos ⟨by omega, h'⟩]
  split
  · rw [if_pos (by omega), show ((i 0).val - r0) / 32 = 0 by omega]; rfl
  · rfl

variable (c : Dev nD) (fw : Buf (Elt Ideal) (wIn.view.loc (c : Thread nD τ))) (fv : Buf (Elt Ideal) (sIn.view.loc (c : Thread nD τ)))
  (fx : Buf (Elt Ideal) (qBuf.view.loc (c : Thread nD τ))) (n : BitVec 32) (E R : ℕ → BitVec 32)

/-- A later expert's share leaves the row. -/
theorem step_before (t : Fin (k0_t3_loop n).trips) (Y : YArr Ideal) (i : S1024x2816.Idx) (hR : (R t).toNat ≤ 512) (h : (i 0).val < (R t).toNat) :
    stepY c fw fv fx n E R t Y i = Y i := by
  obtain ⟨e1, e2⟩ := place_rows n t hR
  unfold stepY stepWith
  split
  · split
    · exact share_before _ _ _ (by rw [e2]; omega) (by rw [e1, e2]; omega)
    · rfl
  · rfl

/-- The row's own expert's share. -/
theorem step_own (hn : n.toNat ≤ 32) (t : Fin (k0_t3_loop n).trips) (Y : YArr Ideal) (i : S1024x2816.Idx) (hi : (i 0).val < 512)
    (hR : (R t).toNat ≤ 512) (hR' : (R (t + 1)).toNat ≤ 512) (h : (R t).toNat ≤ (i 0).val) (h' : (i 0).val < (R (t + 1)).toNat) :
    stepY c fw fv fx n E R t Y i
      = colSum (place n t (R t)) (place_is hn t hR).ok (expertInput c fw fv fx (expertOf (E t))) ((i 1).val / 256)
          (Fin.ofNat 16 (((i 0).val - (place n t (R t)).row0.toNat) / 32)) (pt ((i 0).val - (place n t (R t)).row0.toNat) (i 1).val) := by
  obtain ⟨e1, e2⟩ := place_rows n t hR
  unfold stepY stepWith
  rw [dif_pos (place_is hn t hR), if_pos (cond5_pos hR hR' (by omega))]
  exact share_own _ _ _ (by rw [e1, e2]; omega) (by rw [e1]; omega)

theorem after_before {k : ℕ} (Y : YArr Ideal) (i : S1024x2816.Idx) (hR : ∀ j ≤ n.toNat, (R j).toNat ≤ 512) (hn : n.toNat ≤ 32)
    (h : ∀ j, k < j → j ≤ n.toNat → (i 0).val < (R j).toNat) {t : ℕ} (ht : k + 1 ≤ t) :
    yAfter c fw fv fx n E R Y t i = yAfter c fw fv fx n E R Y (k + 1) i := by
  induction t with
  | zero => omega
  | succ t ih =>
    by_cases e : t = k
    · rw [e]
    · rw [yAfter, ← ih (by omega)]
      split
      · rename_i htr
        have : t < n.toNat := Nat.lt_of_lt_of_eq htr (trips_t3 hn)
        exact step_before c fw fv fx n E R ⟨t, htr⟩ _ i (hR t (by omega)) (h t (by omega) (by omega))
      · rfl

/-- The value at a row of a group: some place whose slot and rows are in range, at the expert of that group. -/
theorem finalY_row {G : ℕ → BitVec 32} (hG : Fits G) (X : Vec Ideal S512x2816 .bf16) {g : ℕ} (hg : g < 32) (i : S1024x2816.Idx) (hi : (i 0).val < 512)
    (h1 : rowsUpTo G g ≤ (i 0).val) (h2 : (i 0).val < rowsUpTo G (g + 1)) :
    ∃ (p : At) (hp : p.Is), p.row0.toNat ≤ (i 0).val ∧ finalY c fw fv G X i
      = colSum p hp.ok (expertInput c fw fv (codesBuf c X) ⟨g, hg⟩) ((i 1).val / 256) (Fin.ofNat 16 (((i 0).val - p.row0.toNat) / 32))
          (pt ((i 0).val - p.row0.toNat) (i 1).val) := by
  have L := Scan.run_lists hG (fun _ => 0#32) (fun _ => 0#32) (t := 32) le_rfl
  unfold finalY
  generalize Scan.run G (fun _ => 0#32) (fun _ => 0#32) 32 = s at L
  obtain ⟨k, hk, e1, e2, e3, e4⟩ := L.row hg h1 h2
  have hn := L.good.n
  have hR := L.good.R (by decide)
  rw [after_before c fw fv _ s.n s.E s.R zeroY i hR hn e4 (t := s.n.toNat) (by omega), yAfter]
  have htr : k < (k0_t3_loop s.n).trips := by rw [trips_t3 hn]; exact hk
  rw [dif_pos htr, step_own c fw fv _ s.n s.E s.R hn ⟨k, htr⟩ _ i hi (hR k (by omega)) (hR (k + 1) (by omega)) e2 e3]
  have he : expertOf (s.E k) = ⟨g, hg⟩ := Fin.ext ((expertOf_val (by rw [e1]; exact hg)).trans e1)
  refine ⟨place s.n ⟨k, htr⟩ (s.R k), place_is hn ⟨k, htr⟩ (hR k (by omega)), ?_, ?_⟩
  · rw [(place_rows s.n ⟨k, htr⟩ (hR k (by omega))).1]; omega
  · rw [← he]

end Cert.KernelIdeal.Hand

end
-- ==== Proof.Agree.lean ====
/- The kernel's result and the reference's are one, over the extended reals. -/
module

public import proofs.«01_k».proof.Proof.Groups
public import proofs.«01_k».proof.Proof.Quant
public import proofs.«01_k».proof.Proof.ColVal
public import proofs.«01_k».proof.Proof.RowVal

@[expose] public section

set_option maxRecDepth 16384

noncomputable section

namespace Cert.KernelIdeal.Hand

open Idealize.ShloMosaic Idealize.ShloMosaic.TcCoe
open Cert.KernelIdeal Cert.Hand

variable [Facts]
open Facts₀ Facts
variable [Cert.ReferenceIdeal.Facts]

/-- The kernel's codes are the reference's. -/
theorem codes_agree (X : FVec Ideal S512x2816 .bf16) (hX : ∀ i, max (X i : EReal) (-(X i : EReal)) ≤ ((340282366920938463463374607431768211456 : ℝ) : EReal))
    (R : Fin 1024) (r : Fin 512) (hR : R.val = r.val) (k : Fin 2816) :
    (codesOf (F := Ideal) X (Idealize.ShloMosaic.ix2 R k) : Ideal .bf16) = Cert.ReferenceIdeal.Hand.codes X (Idealize.ShloMosaic.ix2 r k) := by
  have hb := peakOf_le (fun y : Fin 128 => X (Idealize.ShloMosaic.ix2 r (⟨k.val / 128 * 128 + y.val, by omega⟩ : Fin 2816))) _ fun y => hX _
  have hx := le_peakOf (fun y : Fin 128 => X (Idealize.ShloMosaic.ix2 r (⟨k.val / 128 * 128 + y.val, by omega⟩ : Fin 2816))) ⟨k.val % 128, Nat.mod_lt _ (by decide)⟩
  simp only [Nat.div_add_mod'] at hx
  rw [codesOf_apply X (Idealize.ShloMosaic.ix2 R k) r k hR rfl, Cert.ReferenceIdeal.Hand.codes_apply, Cert.ReferenceIdeal.Hand.expo_apply,
    kernel_back _ _ (peakOf_nonneg _) hb hx, reference_back _ _ (peakOf_nonneg _) hb hx]

/-- The even columns' product and the odd columns' are one sum. -/
theorem value_own (X : FVec Ideal S512x2816 .bf16) (g : IVec S32 32) (w : IVec S32x1408x2816 8) (s : FVec Ideal S32x22x2816 .f32) (hG : Fits (sizesOf (F := Ideal) g))
    (r : Fin 512) (j : Fin 2816) (e : Fin 32) (h1 : rowsUpTo (sizesOf (F := Ideal) g) e.val ≤ r.val) (h2 : r.val < rowsUpTo (sizesOf (F := Ideal) g) (e.val + 1)) :
    (Cert.ReferenceIdeal.Hand.value X g w s (Idealize.ShloMosaic.ix2 r j) : EReal)
      = ∑ K : Fin 2816, (Cert.ReferenceIdeal.Hand.codes X (Idealize.ShloMosaic.ix2 r K) : EReal) * weightAt w s e j K := by
  rw [Cert.ReferenceIdeal.Hand.value_apply, Cert.ReferenceIdeal.Hand.grouped_own g hG _ _ r j e h1 h2, Cert.ReferenceIdeal.Hand.grouped_own g hG _ _ r j e h1 h2,
    ← Finset.sum_add_distrib, Fin.sum_univ_tiles 1408 2 (show 1408 * 2 = 2816 by norm_num)]
  refine Finset.sum_congr rfl fun k _ => ?_
  have hk := k.isLt
  rw [Fin.sum_univ_two, Cert.ReferenceIdeal.Hand.evens_apply, Cert.ReferenceIdeal.Hand.odds_apply, Cert.ReferenceIdeal.Hand.weights_apply, Cert.ReferenceIdeal.Hand.weights_apply,
    Cert.ReferenceIdeal.Hand.low_apply, Cert.ReferenceIdeal.Hand.high_apply]
  have e0 : (⟨k.val * 2 + (0 : Fin 2).val, by omega⟩ : Fin 2816) = ⟨2 * k.val, by omega⟩ := Fin.ext (by show k.val * 2 + 0 = 2 * k.val; omega)
  have e1 : (⟨k.val * 2 + (1 : Fin 2).val, by omega⟩ : Fin 2816) = ⟨1 + 2 * k.val, by omega⟩ := Fin.ext (by show k.val * 2 + 1 = 1 + 2 * k.val; omega)
  have w0 : weightAt w s e j ⟨2 * k.val, by omega⟩ = (FloatOps.sitofp .bf16 (codeOf (IntOp.andi (BitVec.setWidth 32 (w (Idealize.ShloMosaic.ix3 e k j))) 15#32)) : Ideal .bf16)
      * s (Idealize.ShloMosaic.ix3 e (⟨k.val / 64, by omega⟩ : Fin 22) j) := by
    unfold weightAt tileCode
    rw [if_pos (show (2 * k.val) % 2 = 0 by omega), show (⟨2 * k.val / 2, by omega⟩ : Fin 1408) = k from Fin.ext (by show 2 * k.val / 2 = k.val; omega),
      show (⟨2 * k.val / 128, by omega⟩ : Fin 22) = ⟨k.val / 64, by omega⟩ from Fin.ext (by show 2 * k.val / 128 = k.val / 64; omega)]
  have w1 : weightAt w s e j ⟨1 + 2 * k.val, by omega⟩ = (FloatOps.sitofp .bf16 (codeOf (IntOp.shrsi .host (BitVec.setWidth 32 (w (Idealize.ShloMosaic.ix3 e k j))) 4#32)) : Ideal .bf16)
      * s (Idealize.ShloMosaic.ix3 e (⟨k.val / 64, by omega⟩ : Fin 22) j) := by
    unfold weightAt tileCode
    rw [if_neg (show ¬(1 + 2 * k.val) % 2 = 0 by omega), show (⟨(1 + 2 * k.val) / 2, by omega⟩ : Fin 1408) = k from Fin.ext (by show (1 + 2 * k.val) / 2 = k.val; omega),
      show (⟨(1 + 2 * k.val) / 128, by omega⟩ : Fin 22) = ⟨k.val / 64, by omega⟩ from Fin.ext (by show (1 + 2 * k.val) / 128 = k.val / 64; omega)]
  rw [e0, e1, w0, w1]

variable (c : Dev nD) (fw : Buf (Elt Ideal) (wIn.view.loc (c : Thread nD τ))) (fv : Buf (Elt Ideal) (sIn.view.loc (c : Thread nD τ)))
  (fx : Buf (Elt Ideal) (qBuf.view.loc (c : Thread nD τ)))

/-- Every slot of the ring's reading holds the expert. -/
theorem holds_expert (e : Fin 32) : HoldsExpert (expertInput c fw fv fx e) fw fv e where
  w n k j := congrArg fw (by
    funext a
    match a with
    | 0 => rfl
    | 1 => rfl
    | 2 => rfl)
  s n k j := congrArg fv (by
    funext a
    match a with
    | 0 => rfl
    | 1 => rfl
    | 2 => rfl)

theorem pt_ix2 (r : Fin 32) (b : Fin 256) (n m : ℕ) (hn : n % 32 = r.val) (hm : m % 256 = b.val) : pt n m = Idealize.ShloMosaic.ix2 r b := by
  funext a
  match a with
  | 0 => exact Fin.ext hn
  | 1 => exact Fin.ext hm

/-- The results are equal. -/
theorem result_agree (X : FVec Ideal S512x2816 .bf16) (g : IVec S32 32) (hG : Fits (sizesOf (F := Ideal) g)) (hall : rowsUpTo (sizesOf (F := Ideal) g) 32 = 512)
    (hX : ∀ i, max (X i : EReal) (-(X i : EReal)) ≤ ((340282366920938463463374607431768211456 : ℝ) : EReal)) (i : S512x2816.Idx) :
    (topOf (finalY c fw fv (sizesOf (F := Ideal) g) X) i : Ideal .bf16) = Cert.ReferenceIdeal.Hand.value X g fw fv i := by
  have hi0 : (i 0).val < 512 := (i 0).isLt
  have hi1 : (i 1).val < 2816 := (i 1).isLt
  obtain ⟨e, he, h1, h2⟩ := Cert.ReferenceIdeal.Hand.exists_group (sizesOf (F := Ideal) g) (i 0).val 32 (by rw [hall]; exact hi0)
  have ei : i = Idealize.ShloMosaic.ix2 (⟨(i 0).val, hi0⟩ : Fin 512) (⟨(i 1).val, hi1⟩ : Fin 2816) := by
    funext a
    match a with
    | 0 => rfl
    | 1 => rfl
  obtain ⟨i', hi'⟩ : ∃ i' : S1024x2816.Idx, i' = (Rect.unit (s := S1024x2816) ![0, 0] S512x2816.size inb_S1024x2816_S512x2816_0_0).emb i := ⟨_, rfl⟩
  have v0 : (i' 0).val = (i 0).val := by
    rw [hi', Rect.emb_apply]
    show 0 + 1 * (i 0).val = _
    omega
  have v1 : (i' 1).val = (i 1).val := by
    rw [hi', Rect.emb_apply]
    show 0 + 1 * (i 1).val = _
    omega
  show finalY c fw fv (sizesOf (F := Ideal) g) X ((Rect.unit (s := S1024x2816) ![0, 0] S512x2816.size _).emb i) = _
  rw [← hi']
  obtain ⟨p, hp, hr, hv⟩ := finalY_row c fw fv hG X he i' (by omega) (by omega) (by omega)
  rw [hv]
  have hc : ((i' 0).val - p.row0.toNat) / 32 < 16 := by omega
  have hcv : (Fin.ofNat 16 (((i' 0).val - p.row0.toNat) / 32)).val = ((i' 0).val - p.row0.toNat) / 32 := Nat.mod_eq_of_lt hc
  rw [pt_ix2 (⟨((i' 0).val - p.row0.toNat) % 32, Nat.mod_lt _ (by decide)⟩ : Fin 32) (⟨(i' 1).val % 256, Nat.mod_lt _ (by decide)⟩ : Fin 256) _ _ rfl rfl]
  have hsum := colSum_apply p hp (holds_expert c fw fv (codesBuf c X) ⟨e, he⟩) ((i' 1).val / 256) (by omega) (Fin.ofNat 16 (((i' 0).val - p.row0.toNat) / 32))
    ⟨((i' 0).val - p.row0.toNat) % 32, Nat.mod_lt _ (by decide)⟩ ⟨(i' 1).val % 256, Nat.mod_lt _ (by decide)⟩ (⟨(i 0).val, by omega⟩ : Fin 1024) (⟨(i 1).val, hi1⟩ : Fin 2816)
    (by rw [hcv]; show (i 0).val = p.row0.toNat + 32 * (((i' 0).val - p.row0.toNat) / 32) + ((i' 0).val - p.row0.toNat) % 32; omega)
    (by show (i 1).val = 256 * ((i' 1).val / 256) + (i' 1).val % 256; omega)
  refine hsum.trans ?_
  refine Eq.trans ?_ (congrArg (Cert.ReferenceIdeal.Hand.value X g fw fv) ei).symm
  refine Eq.trans ?_ (value_own X g fw fv hG ⟨(i 0).val, hi0⟩ ⟨(i 1).val, hi1⟩ ⟨e, he⟩ h1 h2).symm
  exact Finset.sum_congr rfl fun K _ => congrArg (· * weightAt fw fv ⟨e, he⟩ ⟨(i 1).val, hi1⟩ K) (codes_agree X hX ⟨(i 0).val, by omega⟩ ⟨(i 0).val, hi0⟩ rfl K)

end Cert.KernelIdeal.Hand

end
-- ==== Proof.RefValue.lean ====
/- The reference's printed result is the named parts. -/
module

public import proofs.«01_k».proof.Proof.RefParts
public import proofs.«01_k».proof.Proof.Gen.ReferenceIdeal
public import proofs.«01_k».proof.Proof.Gen.ReferenceIdeal.Run

@[expose] public section

set_option maxRecDepth 16384

noncomputable section

namespace Cert.ReferenceIdeal.Hand

open Idealize.ShloMosaic Idealize.ShloMosaic.TcCoe
open Cert.ReferenceIdeal

variable {F : FTy → Type} [FloatOps F]

theorem value_eq (m : (ℓ : Loc nD τ sig) → Buf (Elt F) ℓ) (c : Dev nD) :
    Value.res_out0 m c = value (m ((c.tc : Thread nD τ).loc main_arg0)) (m ((c.tc : Thread nD τ).loc main_arg1)) (m ((c.tc : Thread nD τ).loc main_arg2)) (m ((c.tc : Thread nD τ).loc main_arg3)) := rfl

end Cert.ReferenceIdeal.Hand
-- ==== Proof.lean ====
module

public import proofs.«01_k».proof.Defs
public import proofs.«01_k».proof.Proof.FitsOf
public import proofs.«01_k».proof.Proof.FitsFinite
public import proofs.«01_k».proof.Proof.Agree
public import proofs.«01_k».proof.Proof.RefValue
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_group_sizes_fit
public import Idealize.ShloMosaic.Adequacy
public import Idealize.ShloMosaic.Init

@[expose] public section

noncomputable section

namespace Cert.Proof

open Idealize.ShloMosaic Idealize.ShloMosaic.TcCoe Idealize.ShloMosaic.Tactic
open Idealize.SL Idealize.SL.Sem

/-- The frame of the kernel, at any reading of its floats, from any memory whose sizes fit. -/
theorem kernel_frame {F : FTy → Type} [FloatOps F] (m : (ℓ : Loc Cert.KernelIdeal.nD Cert.KernelIdeal.τ Cert.KernelIdeal.sig) → Buf (Elt F) ℓ) (g : Dev Cert.KernelIdeal.nD → PrngReg)
    (h : ∀ c : Dev Cert.KernelIdeal.nD, Cert.KernelIdeal.Hand.Fits (Cert.KernelIdeal.Hand.sizesOf (F := F) (m ((c.tc : Thread Cert.KernelIdeal.nD Cert.KernelIdeal.τ).loc Cert.KernelIdeal.main_arg1)))) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run (Cert.KernelIdeal.defs (F := F)) _ _).mono (fun _ h => h.1)
    (Cert.KernelIdeal.Hand.run_post m g fun c => by
      rw [Cert.KernelIdeal.Hand.sizes_eq]
      exact h c)

/-- `quiescent_Kernel` with the idealized program's text in the place of the program's. -/
def quiescentBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD,
      (Cert.Pre_group_sizes_fit.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two texts are one: the idealization rewrote nothing. -/
theorem quiescent_text : quiescentBits = Cert.quiescent_Kernel (hKernel := Cert.Kernel.Gen.facts) (hPre_group_sizes_fit := Cert.Pre_group_sizes_fit.Gen.facts) := by
  sl_kernel_rfl

/-- The reference's frame: its generated run read at the arguments; it declares no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The value claim: both run, and the kernel's result is the reference's. -/
theorem values : Cert.algebraic_KernelIdeal_ReferenceIdeal_pre_group_sizes_fit_and_finite (hKernelIdeal := Cert.KernelIdeal.Gen.facts)
    (hReferenceIdeal := Cert.ReferenceIdeal.Gen.facts) (hPre_group_sizes_fit_and_finite := Cert.KernelIdeal.Hand.finite_facts) := fun m g m' g' hP hA => by
  have hF := fun c => Cert.KernelIdeal.Hand.fits_finite _ _ _ _ (hP c)
  refine ⟨fun c => Cert.KernelIdeal.Hand.result m c, ?_, ?_⟩
  · exact (θ_run Cert.KernelIdeal.defs _ _).mono (fun _ h c => ⟨h.2 c, h.1.1 c⟩)
      (Cert.KernelIdeal.Hand.run_post m g fun c => by
        rw [Cert.KernelIdeal.Hand.sizes_eq]
        exact (hF c).1)
  · refine (θ_run Cert.ReferenceIdeal.defs _ _).mono (fun r h c => ⟨(h c).1.trans ?_, (h c).2⟩) (Cert.ReferenceIdeal.Value.run (F := Ideal) m' g')
    refine (Cert.ReferenceIdeal.Hand.value_eq m' c).trans ?_
    rw [(hA c).1, (hA c).2.1, (hA c).2.2.1, (hA c).2.2.2]
    unfold Cert.KernelIdeal.Hand.result
    beta_reduce
    rw [Cert.KernelIdeal.Hand.sizes_eq]
    exact (funext fun i => Cert.KernelIdeal.Hand.result_agree c _ _ _ _ (hF c).1 (hF c).2.1 (hF c).2.2 i).symm

theorem claim : Cert.Claim :=
  ⟨Cert.Kernel.Gen.facts, Cert.KernelIdeal.Gen.facts, Cert.ReferenceIdeal.Gen.facts, Cert.Pre_group_sizes_fit.Gen.facts, Cert.KernelIdeal.Hand.finite_facts,
    quiescent_text ▸ (fun m g h => kernel_frame m g fun c => Cert.KernelIdeal.Hand.fits_of (F := Bits) _ _ _ _ (h c) : quiescentBits),
    fun m g h => kernel_frame m g fun c => Cert.KernelIdeal.Hand.fits_of (F := Ideal) _ _ _ _ (h c),
    fun m g h => kernel_frame m g fun c => (Cert.KernelIdeal.Hand.fits_finite _ _ _ _ (h c)).1,
    reference_frame,
    fun m g _ => reference_frame m g trivial,
    trivial,
    values⟩

end Cert.Proof

end
